-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal (hKernelIdeal := hKernelIdeal) (hReferenceIdeal := hReferenceIdeal) (hPre_labels_in_range := hPre_labels_in_range)
-- ==== Pre_labels_in_range.lean ====
abbrev S16384x128 : Shape := ⟨2, ![16384, 128]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x128 .f32) (main_arg1 : FVec F S16384x128 .f32) (main_arg2 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg2 main_v0
  let main_c_0 : IVec S_ 32 := constantI S_ 32 8#32
  let main_v2 : IVec S16384 32 := broadcastInDim S16384 ![] bcast_S_S16384 main_c_0
  let main_v3 : IVec S16384 1 := cmpi .slt main_arg2 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384x128 : Shape := ⟨2, ![16384, 128]⟩
abbrev S16384 : Shape := ⟨1, ![16384]⟩
abbrev S32x272 : Shape := ⟨2, ![32, 272]⟩
abbrev S2x128x128 : Shape := ⟨3, ![2, 128, 128]⟩
abbrev S512 : Shape := ⟨1, ![512]⟩
abbrev S272 : Shape := ⟨1, ![272]⟩
abbrev S_ : Shape := ⟨0, ![]⟩
abbrev S16 : Shape := ⟨1, ![16]⟩
abbrev S1x128x128 : Shape := ⟨3, ![1, 128, 128]⟩
abbrev S128x128 : Shape := ⟨2, ![128, 128]⟩
abbrev S1x1x16 : Shape := ⟨3, ![1, 1, 16]⟩
abbrev S1 : Shape := ⟨1, ![1]⟩
abbrev S1x272 : Shape := ⟨2, ![1, 272]⟩
abbrev S32x17x16 : Shape := ⟨3, ![32, 17, 16]⟩
abbrev S32x1x16 : Shape := ⟨3, ![32, 1, 16]⟩
abbrev S32x16 : Shape := ⟨2, ![32, 16]⟩
abbrev S32x8x16 : Shape := ⟨3, ![32, 8, 16]⟩
abbrev S8 : Shape := ⟨1, ![8]⟩

abbrev nBuf : Table → Nat
  | .hbm => 33
  | .local .scVector .vmem => 4
  | _ => 0

abbrev bufTy : (tb : Table) → Fin (nBuf tb) → BufTy
  | .hbm, ⟨0, _⟩ => ⟨S16384x128, .f32⟩
  | .hbm, ⟨1, _⟩ => ⟨S16384x128, .f32⟩
  | .hbm, ⟨2, _⟩ => ⟨S16384, .i32⟩
  | .hbm, ⟨3, _⟩ => ⟨S32x272, .f32⟩
  | .hbm, ⟨4, _⟩ => ⟨S32x17x16, .f32⟩
  | .hbm, ⟨5, _⟩ => ⟨S32x1x16, .f32⟩
  | .hbm, ⟨6, _⟩ => ⟨S32x16, .f32⟩
  | .hbm, ⟨7, _⟩ => ⟨S_, .f32⟩
  | .hbm, ⟨8, _⟩ => ⟨S_, .f32⟩
  | .hbm, ⟨9, _⟩ => ⟨S32x8x16, .f32⟩
  | .hbm, ⟨10, _⟩ => ⟨S_, .f32⟩
  | .hbm, ⟨11, _⟩ => ⟨S8, .f32⟩
  | .hbm, ⟨12, _⟩ => ⟨S32x8x16, .f32⟩
  | .hbm, ⟨13, _⟩ => ⟨S_, .f32⟩
  | .hbm, ⟨14, _⟩ => ⟨S8, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local .scVector .vmem, ⟨0, _⟩ => ⟨S2x128x128, .f32⟩
  | .local .scVector .vmem, ⟨1, _⟩ => ⟨S2x128x128, .f32⟩
  | .local .scVector .vmem, ⟨2, _⟩ => ⟨S512, .i32⟩
  | .local .scVector .vmem, ⟨3, _⟩ => ⟨S272, .f32⟩
  | _, _ => ⟨S16384x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_cst_7 : Ref sig .tc := ⟨.hbm, 30, rfl⟩
abbrev main_v19 : Ref sig .tc := ⟨.hbm, 31, rfl⟩
abbrev main_v20 : Ref sig .tc := ⟨.hbm, 32, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v26 : BitVec 32 := Scalar.addi v2 c0_i32
  let c0_i32_4 : BitVec 32 := 0#32
  ![v26.toNat, 0]
@[reducible] def k0_t1_loop : Scf.Loop 32 :=
  let c0_i32_42 : BitVec 32 := 0#32
  let c8_i32 : BitVec 32 := 8#32
  let v64 : BitVec 32 := Scalar.addi c0_i32_42 c8_i32
  let c1_i32_43 : BitVec 32 := 1#32
  ⟨c0_i32_42, v64, c1_i32_43⟩
def k0_off3 (k0_t1 : Fin k0_t1_loop.trips) : Fin 1 → Nat :=
  let c0_i32_128 : BitVec 32 := 0#32
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let v143 : BitVec 32 := Scalar.addi c0_i32_128 v142
  let v144 : Index := Scalar.indexCast v143
  ![v144.toNat]

def k0_chk1 (v148 : IVec S16 32) : Prop :=
  (∀ a x, ((![v148] : Fin 1 → IVec S16 32) a x).toNat < S272.size a)
theorem k0_idx1_inb : ∀ (v148 : IVec S16 32) (k0_hw1 : k0_chk1 v148), ∀ a x, ((![v148] : Fin 1 → IVec S16 32) a x).toNat < S272.size a := fun v148 k0_hw1 => k0_hw1
def k0_off4 (k0_t1 : Fin k0_t1_loop.trips) : Fin 3 → Nat :=
  let c0_i32_131 : BitVec 32 := 0#32
  let v150 : Index := Scalar.indexCast c0_i32_131
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c0_i32_130 : BitVec 32 := 0#32
  let v149 : BitVec 32 := Scalar.addi v142 c0_i32_130
  let v151 : Index := Scalar.indexCast v149
  let c0_132 : Index := 0#32
  ![0, v151.toNat, 0]
def k0_off5 (k0_t1 : Fin k0_t1_loop.trips) : Fin 3 → Nat :=
  let c0_i32_133 : BitVec 32 := 0#32
  let v153 : Index := Scalar.indexCast c0_i32_133
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c0_i32_130 : BitVec 32 := 0#32
  let v149 : BitVec 32 := Scalar.addi v142 c0_i32_130
  let v154 : Index := Scalar.indexCast v149
  let c16_134 : Index := 16#32
  ![0, v154.toNat, 16]
def k0_off6 (k0_t1 : Fin k0_t1_loop.trips) : Fin 3 → Nat :=
  let c0_i32_135 : BitVec 32 := 0#32
  let v156 : Index := Scalar.indexCast c0_i32_135
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c0_i32_130 : BitVec 32 := 0#32
  let v149 : BitVec 32 := Scalar.addi v142 c0_i32_130
  let v157 : Index := Scalar.indexCast v149
  let c32_136 : Index := 32#32
  ![0, v157.toNat, 32]
def k0_off7 (k0_t1 : Fin k0_t1_loop.trips) : Fin 3 → Nat :=
  let c0_i32_137 : BitVec 32 := 0#32
  let v159 : Index := Scalar.indexCast c0_i32_137
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c0_i32_130 : BitVec 32 := 0#32
  let v149 : BitVec 32 := Scalar.addi v142 c0_i32_130
  let v160 : Index := Scalar.indexCast v149
  let c48_138 : Index := 48#32
  ![0, v160.toNat, 48]
def k0_off8 (k0_t1 : Fin k0_t1_loop.trips) : Fin 3 → Nat :=
  let c0_i32_139 : BitVec 32 := 0#32
  let v162 : Index := Scalar.indexCast c0_i32_139
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c0_i32_130 : BitVec 32 := 0#32
  let v149 : BitVec 32 := Scalar.addi v142 c0_i32_130
  let v163 : Index := Scalar.indexCast v149
  let c64_140 : Index := 64#32
  ![0, v163.toNat, 64]
def k0_off9 (k0_t1 : Fin k0_t1_loop.trips) : Fin 3 → Nat :=
  let c0_i32_141 : BitVec 32 := 0#32
  let v165 : Index := Scalar.indexCast c0_i32_141
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c0_i32_130 : BitVec 32 := 0#32
  let v149 : BitVec 32 := Scalar.addi v142 c0_i32_130
  let v166 : Index := Scalar.indexCast v149
  let c80_142 : Index := 80#32
  ![0, v166.toNat, 80]
def k0_off10 (k0_t1 : Fin k0_t1_loop.trips) : Fin 3 → Nat :=
  let c0_i32_143 : BitVec 32 := 0#32
  let v168 : Index := Scalar.indexCast c0_i32_143
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c0_i32_130 : BitVec 32 := 0#32
  let v149 : BitVec 32 := Scalar.addi v142 c0_i32_130
  let v169 : Index := Scalar.indexCast v149
  let c96_144 : Index := 96#32
  ![0, v169.toNat, 96]
def k0_off11 (k0_t1 : Fin k0_t1_loop.trips) : Fin 3 → Nat :=
  let c0_i32_145 : BitVec 32 := 0#32
  let v171 : Index := Scalar.indexCast c0_i32_145
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c0_i32_130 : BitVec 32 := 0#32
  let v149 : BitVec 32 := Scalar.addi v142 c0_i32_130
  let v172 : Index := Scalar.indexCast v149
  let c112_146 : Index := 112#32
  ![0, v172.toNat, 112]

def k0_chk2 (v234 : IVec S16 32) : Prop :=
  (∀ a x, ((![v234] : Fin 1 → IVec S16 32) a x).toNat < S272.size a)
theorem k0_idx2_inb : ∀ (v234 : IVec S16 32) (k0_hw2 : k0_chk2 v234), ∀ a x, ((![v234] : Fin 1 → IVec S16 32) a x).toNat < S272.size a := fun v234 k0_hw2 => k0_hw2
def k0_off12 (k0_t1 : Fin k0_t1_loop.trips) : Fin 3 → Nat :=
  let c0_i32_165 : BitVec 32 := 0#32
  let v236 : Index := Scalar.indexCast c0_i32_165
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c1_i32_164 : BitVec 32 := 1#32
  let v235 : BitVec 32 := Scalar.addi v142 c1_i32_164
  let v237 : Index := Scalar.indexCast v235
  let c0_166 : Index := 0#32
  ![0, v237.toNat, 0]
def k0_off13 (k0_t1 : Fin k0_t1_loop.trips) : Fin 3 → Nat :=
  let c0_i32_167 : BitVec 32 := 0#32
  let v239 : Index := Scalar.indexCast c0_i32_167
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c1_i32_164 : BitVec 32 := 1#32
  let v235 : BitVec 32 := Scalar.addi v142 c1_i32_164
  let v240 : Index := Scalar.indexCast v235
  let c16_168 : Index := 16#32
  ![0, v240.toNat, 16]
def k0_off14 (k0_t1 : Fin k0_t1_loop.trips) : Fin 3 → Nat :=
  let c0_i32_169 : BitVec 32 := 0#32
  let v242 : Index := Scalar.indexCast c0_i32_169
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c1_i32_164 : BitVec 32 := 1#32
  let v235 : BitVec 32 := Scalar.addi v142 c1_i32_164
  let v243 : Index := Scalar.indexCast v235
  let c32_170 : Index := 32#32
  ![0, v243.toNat, 32]
def k0_off15 (k0_t1 : Fin k0_t1_loop.trips) : Fin 3 → Nat :=
  let c0_i32_171 : BitVec 32 := 0#32
  let v245 : Index := Scalar.indexCast c0_i32_171
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c1_i32_164 : BitVec 32 := 1#32
  let v235 : BitVec 32 := Scalar.addi v142 c1_i32_164
  let v246 : Index := Scalar.indexCast v235
  let c48_172 : Index := 48#32
  ![0, v246.toNat, 48]
def k0_off16 (k0_t1 : Fin k0_t1_loop.trips) : Fin 3 → Nat :=
  let c0_i32_173 : BitVec 32 := 0#32
  let v248 : Index := Scalar.indexCast c0_i32_173
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c1_i32_164 : BitVec 32 := 1#32
  let v235 : BitVec 32 := Scalar.addi v142 c1_i32_164
  let v249 : Index := Scalar.indexCast v235
  let c64_174 : Index := 64#32
  ![0, v249.toNat, 64]
def k0_off17 (k0_t1 : Fin k0_t1_loop.trips) : Fin 3 → Nat :=
  let c0_i32_175 : BitVec 32 := 0#32
  let v251 : Index := Scalar.indexCast c0_i32_175
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c1_i32_164 : BitVec 32 := 1#32
  let v235 : BitVec 32 := Scalar.addi v142 c1_i32_164
  let v252 : Index := Scalar.indexCast v235
  let c80_176 : Index := 80#32
  ![0, v252.toNat, 80]
def k0_off18 (k0_t1 : Fin k0_t1_loop.trips) : Fin 3 → Nat :=
  let c0_i32_177 : BitVec 32 := 0#32
  let v254 : Index := Scalar.indexCast c0_i32_177
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c1_i32_164 : BitVec 32 := 1#32
  let v235 : BitVec 32 := Scalar.addi v142 c1_i32_164
  let v255 : Index := Scalar.indexCast v235
  let c96_178 : Index := 96#32
  ![0, v255.toNat, 96]
def k0_off19 (k0_t1 : Fin k0_t1_loop.trips) : Fin 3 → Nat :=
  let c0_i32_179 : BitVec 32 := 0#32
  let v257 : Index := Scalar.indexCast c0_i32_179
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c1_i32_164 : BitVec 32 := 1#32
  let v235 : BitVec 32 := Scalar.addi v142 c1_i32_164
  let v258 : Index := Scalar.indexCast v235
  let c112_180 : Index := 112#32
  ![0, v258.toNat, 112]

def k0_chk3 (v320 : IVec S16 32) : Prop :=
  (∀ a x, ((![v320] : Fin 1 → IVec S16 32) a x).toNat < S272.size a)
theorem k0_idx3_inb : ∀ (v320 : IVec S16 32) (k0_hw3 : k0_chk3 v320), ∀ a x, ((![v320] : Fin 1 → IVec S16 32) a x).toNat < S272.size a := fun v320 k0_hw3 => k0_hw3
def k0_off20 (k0_t1 : Fin k0_t1_loop.trips) : Fin 3 → Nat :=
  let c0_i32_199 : BitVec 32 := 0#32
  let v322 : Index := Scalar.indexCast c0_i32_199
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c2_i32_198 : BitVec 32 := 2#32
  let v321 : BitVec 32 := Scalar.addi v142 c2_i32_198
  let v323 : Index := Scalar.indexCast v321
  let c0_200 : Index := 0#32
  ![0, v323.toNat, 0]
def k0_off21 (k0_t1 : Fin k0_t1_loop.trips) : Fin 3 → Nat :=
  let c0_i32_201 : BitVec 32 := 0#32
  let v325 : Index := Scalar.indexCast c0_i32_201
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c2_i32_198 : BitVec 32 := 2#32
  let v321 : BitVec 32 := Scalar.addi v142 c2_i32_198
  let v326 : Index := Scalar.indexCast v321
  let c16_202 : Index := 16#32
  ![0, v326.toNat, 16]
def k0_off22 (k0_t1 : Fin k0_t1_loop.trips) : Fin 3 → Nat :=
  let c0_i32_203 : BitVec 32 := 0#32
  let v328 : Index := Scalar.indexCast c0_i32_203
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c2_i32_198 : BitVec 32 := 2#32
  let v321 : BitVec 32 := Scalar.addi v142 c2_i32_198
  let v329 : Index := Scalar.indexCast v321
  let c32_204 : Index := 32#32
  ![0, v329.toNat, 32]
def k0_off23 (k0_t1 : Fin k0_t1_loop.trips) : Fin 3 → Nat :=
  let c0_i32_205 : BitVec 32 := 0#32
  let v331 : Index := Scalar.indexCast c0_i32_205
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c2_i32_198 : BitVec 32 := 2#32
  let v321 : BitVec 32 := Scalar.addi v142 c2_i32_198
  let v332 : Index := Scalar.indexCast v321
  let c48_206 : Index := 48#32
  ![0, v332.toNat, 48]
def k0_off24 (k0_t1 : Fin k0_t1_loop.trips) : Fin 3 → Nat :=
  let c0_i32_207 : BitVec 32 := 0#32
  let v334 : Index := Scalar.indexCast c0_i32_207
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c2_i32_198 : BitVec 32 := 2#32
  let v321 : BitVec 32 := Scalar.addi v142 c2_i32_198
  let v335 : Index := Scalar.indexCast v321
  let c64_208 : Index := 64#32
  ![0, v335.toNat, 64]
def k0_off25 (k0_t1 : Fin k0_t1_loop.trips) : Fin 3 → Nat :=
  let c0_i32_209 : BitVec 32 := 0#32
  let v337 : Index := Scalar.indexCast c0_i32_209
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c2_i32_198 : BitVec 32 := 2#32
  let v321 : BitVec 32 := Scalar.addi v142 c2_i32_198
  let v338 : Index := Scalar.indexCast v321
  let c80_210 : Index := 80#32
  ![0, v338.toNat, 80]
def k0_off26 (k0_t1 : Fin k0_t1_loop.trips) : Fin 3 → Nat :=
  let c0_i32_211 : BitVec 32 := 0#32
  let v340 : Index := Scalar.indexCast c0_i32_211
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c2_i32_198 : BitVec 32 := 2#32
  let v321 : BitVec 32 := Scalar.addi v142 c2_i32_198
  let v341 : Index := Scalar.indexCast v321
  let c96_212 : Index := 96#32
  ![0, v341.toNat, 96]
def k0_off27 (k0_t1 : Fin k0_t1_loop.trips) : Fin 3 → Nat :=
  let c0_i32_213 : BitVec 32 := 0#32
  let v343 : Index := Scalar.indexCast c0_i32_213
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c2_i32_198 : BitVec 32 := 2#32
  let v321 : BitVec 32 := Scalar.addi v142 c2_i32_198
  let v344 : Index := Scalar.indexCast v321
  let c112_214 : Index := 112#32
  ![0, v344.toNat, 112]

def k0_chk4 (v406 : IVec S16 32) : Prop :=
  (∀ a x, ((![v406] : Fin 1 → IVec S16 32) a x).toNat < S272.size a)
theorem k0_idx4_inb : ∀ (v406 : IVec S16 32) (k0_hw4 : k0_chk4 v406), ∀ a x, ((![v406] : Fin 1 → IVec S16 32) a x).toNat < S272.size a := fun v406 k0_hw4 => k0_hw4
def k0_off28 (k0_t1 : Fin k0_t1_loop.trips) : Fin 3 → Nat :=
  let c0_i32_232 : BitVec 32 := 0#32
  let v408 : Index := Scalar.indexCast c0_i32_232
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c3_i32 : BitVec 32 := 3#32
  let v407 : BitVec 32 := Scalar.addi v142 c3_i32
  let v409 : Index := Scalar.indexCast v407
  let c0_233 : Index := 0#32
  ![0, v409.toNat, 0]
def k0_off29 (k0_t1 : Fin k0_t1_loop.trips) : Fin 3 → Nat :=
  let c0_i32_234 : BitVec 32 := 0#32
  let v411 : Index := Scalar.indexCast c0_i32_234
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c3_i32 : BitVec 32 := 3#32
  let v407 : BitVec 32 := Scalar.addi v142 c3_i32
  let v412 : Index := Scalar.indexCast v407
  let c16_235 : Index := 16#32
  ![0, v412.toNat, 16]
def k0_off30 (k0_t1 : Fin k0_t1_loop.trips) : Fin 3 → Nat :=
  let c0_i32_236 : BitVec 32 := 0#32
  let v414 : Index := Scalar.indexCast c0_i32_236
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c3_i32 : BitVec 32 := 3#32
  let v407 : BitVec 32 := Scalar.addi v142 c3_i32
  let v415 : Index := Scalar.indexCast v407
  let c32_237 : Index := 32#32
  ![0, v415.toNat, 32]
def k0_off31 (k0_t1 : Fin k0_t1_loop.trips) : Fin 3 → Nat :=
  let c0_i32_238 : BitVec 32 := 0#32
  let v417 : Index := Scalar.indexCast c0_i32_238
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c3_i32 : BitVec 32 := 3#32
  let v407 : BitVec 32 := Scalar.addi v142 c3_i32
  let v418 : Index := Scalar.indexCast v407
  let c48_239 : Index := 48#32
  ![0, v418.toNat, 48]
def k0_off32 (k0_t1 : Fin k0_t1_loop.trips) : Fin 3 → Nat :=
  let c0_i32_240 : BitVec 32 := 0#32
  let v420 : Index := Scalar.indexCast c0_i32_240
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c3_i32 : BitVec 32 := 3#32
  let v407 : BitVec 32 := Scalar.addi v142 c3_i32
  let v421 : Index := Scalar.indexCast v407
  let c64_241 : Index := 64#32
  ![0, v421.toNat, 64]
def k0_off33 (k0_t1 : Fin k0_t1_loop.trips) : Fin 3 → Nat :=
  let c0_i32_242 : BitVec 32 := 0#32
  let v423 : Index := Scalar.indexCast c0_i32_242
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c3_i32 : BitVec 32 := 3#32
  let v407 : BitVec 32 := Scalar.addi v142 c3_i32
  let v424 : Index := Scalar.indexCast v407
  let c80_243 : Index := 80#32
  ![0, v424.toNat, 80]
def k0_off34 (k0_t1 : Fin k0_t1_loop.trips) : Fin 3 → Nat :=
  let c0_i32_244 : BitVec 32 := 0#32
  let v426 : Index := Scalar.indexCast c0_i32_244
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c3_i32 : BitVec 32 := 3#32
  let v407 : BitVec 32 := Scalar.addi v142 c3_i32
  let v427 : Index := Scalar.indexCast v407
  let c96_245 : Index := 96#32
  ![0, v427.toNat, 96]
def k0_off35 (k0_t1 : Fin k0_t1_loop.trips) : Fin 3 → Nat :=
  let c0_i32_246 : BitVec 32 := 0#32
  let v429 : Index := Scalar.indexCast c0_i32_246
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c3_i32 : BitVec 32 := 3#32
  let v407 : BitVec 32 := Scalar.addi v142 c3_i32
  let v430 : Index := Scalar.indexCast v407
  let c112_247 : Index := 112#32
  ![0, v430.toNat, 112]

def k0_chk5 (v492 : IVec S16 32) : Prop :=
  (∀ a x, ((![v492] : Fin 1 → IVec S16 32) a x).toNat < S272.size a)
theorem k0_idx5_inb : ∀ (v492 : IVec S16 32) (k0_hw5 : k0_chk5 v492), ∀ a x, ((![v492] : Fin 1 → IVec S16 32) a x).toNat < S272.size a := fun v492 k0_hw5 => k0_hw5
def k0_off36 (k0_t1 : Fin k0_t1_loop.trips) : Fin 3 → Nat :=
  let c0_i32_265 : BitVec 32 := 0#32
  let v494 : Index := Scalar.indexCast c0_i32_265
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c4_i32 : BitVec 32 := 4#32
  let v493 : BitVec 32 := Scalar.addi v142 c4_i32
  let v495 : Index := Scalar.indexCast v493
  let c0_266 : Index := 0#32
  ![0, v495.toNat, 0]
def k0_off37 (k0_t1 : Fin k0_t1_loop.trips) : Fin 3 → Nat :=
  let c0_i32_267 : BitVec 32 := 0#32
  let v497 : Index := Scalar.indexCast c0_i32_267
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c4_i32 : BitVec 32 := 4#32
  let v493 : BitVec 32 := Scalar.addi v142 c4_i32
  let v498 : Index := Scalar.indexCast v493
  let c16_268 : Index := 16#32
  ![0, v498.toNat, 16]
def k0_off38 (k0_t1 : Fin k0_t1_loop.trips) : Fin 3 → Nat :=
  let c0_i32_269 : BitVec 32 := 0#32
  let v500 : Index := Scalar.indexCast c0_i32_269
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c4_i32 : BitVec 32 := 4#32
  let v493 : BitVec 32 := Scalar.addi v142 c4_i32
  let v501 : Index := Scalar.indexCast v493
  let c32_270 : Index := 32#32
  ![0, v501.toNat, 32]
def k0_off39 (k0_t1 : Fin k0_t1_loop.trips) : Fin 3 → Nat :=
  let c0_i32_271 : BitVec 32 := 0#32
  let v503 : Index := Scalar.indexCast c0_i32_271
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c4_i32 : BitVec 32 := 4#32
  let v493 : BitVec 32 := Scalar.addi v142 c4_i32
  let v504 : Index := Scalar.indexCast v493
  let c48_272 : Index := 48#32
  ![0, v504.toNat, 48]
def k0_off40 (k0_t1 : Fin k0_t1_loop.trips) : Fin 3 → Nat :=
  let c0_i32_273 : BitVec 32 := 0#32
  let v506 : Index := Scalar.indexCast c0_i32_273
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c4_i32 : BitVec 32 := 4#32
  let v493 : BitVec 32 := Scalar.addi v142 c4_i32
  let v507 : Index := Scalar.indexCast v493
  let c64_274 : Index := 64#32
  ![0, v507.toNat, 64]
def k0_off41 (k0_t1 : Fin k0_t1_loop.trips) : Fin 3 → Nat :=
  let c0_i32_275 : BitVec 32 := 0#32
  let v509 : Index := Scalar.indexCast c0_i32_275
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c4_i32 : BitVec 32 := 4#32
  let v493 : BitVec 32 := Scalar.addi v142 c4_i32
  let v510 : Index := Scalar.indexCast v493
  let c80_276 : Index := 80#32
  ![0, v510.toNat, 80]
def k0_off42 (k0_t1 : Fin k0_t1_loop.trips) : Fin 3 → Nat :=
  let c0_i32_277 : BitVec 32 := 0#32
  let v512 : Index := Scalar.indexCast c0_i32_277
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c4_i32 : BitVec 32 := 4#32
  let v493 : BitVec 32 := Scalar.addi v142 c4_i32
  let v513 : Index := Scalar.indexCast v493
  let c96_278 : Index := 96#32
  ![0, v513.toNat, 96]
def k0_off43 (k0_t1 : Fin k0_t1_loop.trips) : Fin 3 → Nat :=
  let c0_i32_279 : BitVec 32 := 0#32
  let v515 : Index := Scalar.indexCast c0_i32_279
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c4_i32 : BitVec 32 := 4#32
  let v493 : BitVec 32 := Scalar.addi v142 c4_i32
  let v516 : Index := Scalar.indexCast v493
  let c112_280 : Index := 112#32
  ![0, v516.toNat, 112]

def k0_chk6 (v578 : IVec S16 32) : Prop :=
  (∀ a x, ((![v578] : Fin 1 → IVec S16 32) a x).toNat < S272.size a)
theorem k0_idx6_inb : ∀ (v578 : IVec S16 32) (k0_hw6 : k0_chk6 v578), ∀ a x, ((![v578] : Fin 1 → IVec S16 32) a x).toNat < S272.size a := fun v578 k0_hw6 => k0_hw6
def k0_off44 (k0_t1 : Fin k0_t1_loop.trips) : Fin 3 → Nat :=
  let c0_i32_298 : BitVec 32 := 0#32
  let v580 : Index := Scalar.indexCast c0_i32_298
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c5_i32 : BitVec 32 := 5#32
  let v579 : BitVec 32 := Scalar.addi v142 c5_i32
  let v581 : Index := Scalar.indexCast v579
  let c0_299 : Index := 0#32
  ![0, v581.toNat, 0]
def k0_off45 (k0_t1 : Fin k0_t1_loop.trips) : Fin 3 → Nat :=
  let c0_i32_300 : BitVec 32 := 0#32
  let v583 : Index := Scalar.indexCast c0_i32_300
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c5_i32 : BitVec 32 := 5#32
  let v579 : BitVec 32 := Scalar.addi v142 c5_i32
  let v584 : Index := Scalar.indexCast v579
  let c16_301 : Index := 16#32
  ![0, v584.toNat, 16]
def k0_off46 (k0_t1 : Fin k0_t1_loop.trips) : Fin 3 → Nat :=
  let c0_i32_302 : BitVec 32 := 0#32
  let v586 : Index := Scalar.indexCast c0_i32_302
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c5_i32 : BitVec 32 := 5#32
  let v579 : BitVec 32 := Scalar.addi v142 c5_i32
  let v587 : Index := Scalar.indexCast v579
  let c32_303 : Index := 32#32
  ![0, v587.toNat, 32]
def k0_off47 (k0_t1 : Fin k0_t1_loop.trips) : Fin 3 → Nat :=
  let c0_i32_304 : BitVec 32 := 0#32
  let v589 : Index := Scalar.indexCast c0_i32_304
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c5_i32 : BitVec 32 := 5#32
  let v579 : BitVec 32 := Scalar.addi v142 c5_i32
  let v590 : Index := Scalar.indexCast v579
  let c48_305 : Index := 48#32
  ![0, v590.toNat, 48]
def k0_off48 (k0_t1 : Fin k0_t1_loop.trips) : Fin 3 → Nat :=
  let c0_i32_306 : BitVec 32 := 0#32
  let v592 : Index := Scalar.indexCast c0_i32_306
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c5_i32 : BitVec 32 := 5#32
  let v579 : BitVec 32 := Scalar.addi v142 c5_i32
  let v593 : Index := Scalar.indexCast v579
  let c64_307 : Index := 64#32
  ![0, v593.toNat, 64]
def k0_off49 (k0_t1 : Fin k0_t1_loop.trips) : Fin 3 → Nat :=
  let c0_i32_308 : BitVec 32 := 0#32
  let v595 : Index := Scalar.indexCast c0_i32_308
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c5_i32 : BitVec 32 := 5#32
  let v579 : BitVec 32 := Scalar.addi v142 c5_i32
  let v596 : Index := Scalar.indexCast v579
  let c80_309 : Index := 80#32
  ![0, v596.toNat, 80]
def k0_off50 (k0_t1 : Fin k0_t1_loop.trips) : Fin 3 → Nat :=
  let c0_i32_310 : BitVec 32 := 0#32
  let v598 : Index := Scalar.indexCast c0_i32_310
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c5_i32 : BitVec 32 := 5#32
  let v579 : BitVec 32 := Scalar.addi v142 c5_i32
  let v599 : Index := Scalar.indexCast v579
  let c96_311 : Index := 96#32
  ![0, v599.toNat, 96]
def k0_off51 (k0_t1 : Fin k0_t1_loop.trips) : Fin 3 → Nat :=
  let c0_i32_312 : BitVec 32 := 0#32
  let v601 : Index := Scalar.indexCast c0_i32_312
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c5_i32 : BitVec 32 := 5#32
  let v579 : BitVec 32 := Scalar.addi v142 c5_i32
  let v602 : Index := Scalar.indexCast v579
  let c112_313 : Index := 112#32
  ![0, v602.toNat, 112]

def k0_chk7 (v664 : IVec S16 32) : Prop :=
  (∀ a x, ((![v664] : Fin 1 → IVec S16 32) a x).toNat < S272.size a)
theorem k0_idx7_inb : ∀ (v664 : IVec S16 32) (k0_hw7 : k0_chk7 v664), ∀ a x, ((![v664] : Fin 1 → IVec S16 32) a x).toNat < S272.size a := fun v664 k0_hw7 => k0_hw7
def k0_off52 (k0_t1 : Fin k0_t1_loop.trips) : Fin 3 → Nat :=
  let c0_i32_331 : BitVec 32 := 0#32
  let v666 : Index := Scalar.indexCast c0_i32_331
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c6_i32 : BitVec 32 := 6#32
  let v665 : BitVec 32 := Scalar.addi v142 c6_i32
  let v667 : Index := Scalar.indexCast v665
  let c0_332 : Index := 0#32
  ![0, v667.toNat, 0]
def k0_off53 (k0_t1 : Fin k0_t1_loop.trips) : Fin 3 → Nat :=
  let c0_i32_333 : BitVec 32 := 0#32
  let v669 : Index := Scalar.indexCast c0_i32_333
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c6_i32 : BitVec 32 := 6#32
  let v665 : BitVec 32 := Scalar.addi v142 c6_i32
  let v670 : Index := Scalar.indexCast v665
  let c16_334 : Index := 16#32
  ![0, v670.toNat, 16]
def k0_off54 (k0_t1 : Fin k0_t1_loop.trips) : Fin 3 → Nat :=
  let c0_i32_335 : BitVec 32 := 0#32
  let v672 : Index := Scalar.indexCast c0_i32_335
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c6_i32 : BitVec 32 := 6#32
  let v665 : BitVec 32 := Scalar.addi v142 c6_i32
  let v673 : Index := Scalar.indexCast v665
  let c32_336 : Index := 32#32
  ![0, v673.toNat, 32]
def k0_off55 (k0_t1 : Fin k0_t1_loop.trips) : Fin 3 → Nat :=
  let c0_i32_337 : BitVec 32 := 0#32
  let v675 : Index := Scalar.indexCast c0_i32_337
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c6_i32 : BitVec 32 := 6#32
  let v665 : BitVec 32 := Scalar.addi v142 c6_i32
  let v676 : Index := Scalar.indexCast v665
  let c48_338 : Index := 48#32
  ![0, v676.toNat, 48]
def k0_off56 (k0_t1 : Fin k0_t1_loop.trips) : Fin 3 → Nat :=
  let c0_i32_339 : BitVec 32 := 0#32
  let v678 : Index := Scalar.indexCast c0_i32_339
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c6_i32 : BitVec 32 := 6#32
  let v665 : BitVec 32 := Scalar.addi v142 c6_i32
  let v679 : Index := Scalar.indexCast v665
  let c64_340 : Index := 64#32
  ![0, v679.toNat, 64]
def k0_off57 (k0_t1 : Fin k0_t1_loop.trips) : Fin 3 → Nat :=
  let c0_i32_341 : BitVec 32 := 0#32
  let v681 : Index := Scalar.indexCast c0_i32_341
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c6_i32 : BitVec 32 := 6#32
  let v665 : BitVec 32 := Scalar.addi v142 c6_i32
  let v682 : Index := Scalar.indexCast v665
  let c80_342 : Index := 80#32
  ![0, v682.toNat, 80]
def k0_off58 (k0_t1 : Fin k0_t1_loop.trips) : Fin 3 → Nat :=
  let c0_i32_343 : BitVec 32 := 0#32
  let v684 : Index := Scalar.indexCast c0_i32_343
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c6_i32 : BitVec 32 := 6#32
  let v665 : BitVec 32 := Scalar.addi v142 c6_i32
  let v685 : Index := Scalar.indexCast v665
  let c96_344 : Index := 96#32
  ![0, v685.toNat, 96]
def k0_off59 (k0_t1 : Fin k0_t1_loop.trips) : Fin 3 → Nat :=
  let c0_i32_345 : BitVec 32 := 0#32
  let v687 : Index := Scalar.indexCast c0_i32_345
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c6_i32 : BitVec 32 := 6#32
  let v665 : BitVec 32 := Scalar.addi v142 c6_i32
  let v688 : Index := Scalar.indexCast v665
  let c112_346 : Index := 112#32
  ![0, v688.toNat, 112]

def k0_chk8 (v750 : IVec S16 32) : Prop :=
  (∀ a x, ((![v750] : Fin 1 → IVec S16 32) a x).toNat < S272.size a)
theorem k0_idx8_inb : ∀ (v750 : IVec S16 32) (k0_hw8 : k0_chk8 v750), ∀ a x, ((![v750] : Fin 1 → IVec S16 32) a x).toNat < S272.size a := fun v750 k0_hw8 => k0_hw8
def k0_off60 (k0_t1 : Fin k0_t1_loop.trips) : Fin 3 → Nat :=
  let c0_i32_364 : BitVec 32 := 0#32
  let v752 : Index := Scalar.indexCast c0_i32_364
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c7_i32 : BitVec 32 := 7#32
  let v751 : BitVec 32 := Scalar.addi v142 c7_i32
  let v753 : Index := Scalar.indexCast v751
  let c0_365 : Index := 0#32
  ![0, v753.toNat, 0]
def k0_off61 (k0_t1 : Fin k0_t1_loop.trips) : Fin 3 → Nat :=
  let c0_i32_366 : BitVec 32 := 0#32
  let v755 : Index := Scalar.indexCast c0_i32_366
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c7_i32 : BitVec 32 := 7#32
  let v751 : BitVec 32 := Scalar.addi v142 c7_i32
  let v756 : Index := Scalar.indexCast v751
  let c16_367 : Index := 16#32
  ![0, v756.toNat, 16]
def k0_off62 (k0_t1 : Fin k0_t1_loop.trips) : Fin 3 → Nat :=
  let c0_i32_368 : BitVec 32 := 0#32
  let v758 : Index := Scalar.indexCast c0_i32_368
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c7_i32 : BitVec 32 := 7#32
  let v751 : BitVec 32 := Scalar.addi v142 c7_i32
  let v759 : Index := Scalar.indexCast v751
  let c32_369 : Index := 32#32
  ![0, v759.toNat, 32]
def k0_off63 (k0_t1 : Fin k0_t1_loop.trips) : Fin 3 → Nat :=
  let c0_i32_370 : BitVec 32 := 0#32
  let v761 : Index := Scalar.indexCast c0_i32_370
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c7_i32 : BitVec 32 := 7#32
  let v751 : BitVec 32 := Scalar.addi v142 c7_i32
  let v762 : Index := Scalar.indexCast v751
  let c48_371 : Index := 48#32
  ![0, v762.toNat, 48]
def k0_off64 (k0_t1 : Fin k0_t1_loop.trips) : Fin 3 → Nat :=
  let c0_i32_372 : BitVec 32 := 0#32
  let v764 : Index := Scalar.indexCast c0_i32_372
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c7_i32 : BitVec 32 := 7#32
  let v751 : BitVec 32 := Scalar.addi v142 c7_i32
  let v765 : Index := Scalar.indexCast v751
  let c64_373 : Index := 64#32
  ![0, v765.toNat, 64]
def k0_off65 (k0_t1 : Fin k0_t1_loop.trips) : Fin 3 → Nat :=
  let c0_i32_374 : BitVec 32 := 0#32
  let v767 : Index := Scalar.indexCast c0_i32_374
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c7_i32 : BitVec 32 := 7#32
  let v751 : BitVec 32 := Scalar.addi v142 c7_i32
  let v768 : Index := Scalar.indexCast v751
  let c80_375 : Index := 80#32
  ![0, v768.toNat, 80]
def k0_off66 (k0_t1 : Fin k0_t1_loop.trips) : Fin 3 → Nat :=
  let c0_i32_376 : BitVec 32 := 0#32
  let v770 : Index := Scalar.indexCast c0_i32_376
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c7_i32 : BitVec 32 := 7#32
  let v751 : BitVec 32 := Scalar.addi v142 c7_i32
  let v771 : Index := Scalar.indexCast v751
  let c96_377 : Index := 96#32
  ![0, v771.toNat, 96]
def k0_off67 (k0_t1 : Fin k0_t1_loop.trips) : Fin 3 → Nat :=
  let c0_i32_378 : BitVec 32 := 0#32
  let v773 : Index := Scalar.indexCast c0_i32_378
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c7_i32 : BitVec 32 := 7#32
  let v751 : BitVec 32 := Scalar.addi v142 c7_i32
  let v774 : Index := Scalar.indexCast v751
  let c112_379 : Index := 112#32
  ![0, v774.toNat, 112]

def k0_chk9 (v836 : IVec S16 32) : Prop :=
  (∀ a x, ((![v836] : Fin 1 → IVec S16 32) a x).toNat < S272.size a)
theorem k0_idx9_inb : ∀ (v836 : IVec S16 32) (k0_hw9 : k0_chk9 v836), ∀ a x, ((![v836] : Fin 1 → IVec S16 32) a x).toNat < S272.size a := fun v836 k0_hw9 => k0_hw9
def k0_off68 (k0_t1 : Fin k0_t1_loop.trips) : Fin 3 → Nat :=
  let c0_i32_398 : BitVec 32 := 0#32
  let v838 : Index := Scalar.indexCast c0_i32_398
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c8_i32_397 : BitVec 32 := 8#32
  let v837 : BitVec 32 := Scalar.addi v142 c8_i32_397
  let v839 : Index := Scalar.indexCast v837
  let c0_399 : Index := 0#32
  ![0, v839.toNat, 0]
def k0_off69 (k0_t1 : Fin k0_t1_loop.trips) : Fin 3 → Nat :=
  let c0_i32_400 : BitVec 32 := 0#32
  let v841 : Index := Scalar.indexCast c0_i32_400
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c8_i32_397 : BitVec 32 := 8#32
  let v837 : BitVec 32 := Scalar.addi v142 c8_i32_397
  let v842 : Index := Scalar.indexCast v837
  let c16_401 : Index := 16#32
  ![0, v842.toNat, 16]
def k0_off70 (k0_t1 : Fin k0_t1_loop.trips) : Fin 3 → Nat :=
  let c0_i32_402 : BitVec 32 := 0#32
  let v844 : Index := Scalar.indexCast c0_i32_402
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c8_i32_397 : BitVec 32 := 8#32
  let v837 : BitVec 32 := Scalar.addi v142 c8_i32_397
  let v845 : Index := Scalar.indexCast v837
  let c32_403 : Index := 32#32
  ![0, v845.toNat, 32]
def k0_off71 (k0_t1 : Fin k0_t1_loop.trips) : Fin 3 → Nat :=
  let c0_i32_404 : BitVec 32 := 0#32
  let v847 : Index := Scalar.indexCast c0_i32_404
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c8_i32_397 : BitVec 32 := 8#32
  let v837 : BitVec 32 := Scalar.addi v142 c8_i32_397
  let v848 : Index := Scalar.indexCast v837
  let c48_405 : Index := 48#32
  ![0, v848.toNat, 48]
def k0_off72 (k0_t1 : Fin k0_t1_loop.trips) : Fin 3 → Nat :=
  let c0_i32_406 : BitVec 32 := 0#32
  let v850 : Index := Scalar.indexCast c0_i32_406
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c8_i32_397 : BitVec 32 := 8#32
  let v837 : BitVec 32 := Scalar.addi v142 c8_i32_397
  let v851 : Index := Scalar.indexCast v837
  let c64_407 : Index := 64#32
  ![0, v851.toNat, 64]
def k0_off73 (k0_t1 : Fin k0_t1_loop.trips) : Fin 3 → Nat :=
  let c0_i32_408 : BitVec 32 := 0#32
  let v853 : Index := Scalar.indexCast c0_i32_408
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c8_i32_397 : BitVec 32 := 8#32
  let v837 : BitVec 32 := Scalar.addi v142 c8_i32_397
  let v854 : Index := Scalar.indexCast v837
  let c80_409 : Index := 80#32
  ![0, v854.toNat, 80]
def k0_off74 (k0_t1 : Fin k0_t1_loop.trips) : Fin 3 → Nat :=
  let c0_i32_410 : BitVec 32 := 0#32
  let v856 : Index := Scalar.indexCast c0_i32_410
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c8_i32_397 : BitVec 32 := 8#32
  let v837 : BitVec 32 := Scalar.addi v142 c8_i32_397
  let v857 : Index := Scalar.indexCast v837
  let c96_411 : Index := 96#32
  ![0, v857.toNat, 96]
def k0_off75 (k0_t1 : Fin k0_t1_loop.trips) : Fin 3 → Nat :=
  let c0_i32_412 : BitVec 32 := 0#32
  let v859 : Index := Scalar.indexCast c0_i32_412
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c8_i32_397 : BitVec 32 := 8#32
  let v837 : BitVec 32 := Scalar.addi v142 c8_i32_397
  let v860 : Index := Scalar.indexCast v837
  let c112_413 : Index := 112#32
  ![0, v860.toNat, 112]

def k0_chk10 (v922 : IVec S16 32) : Prop :=
  (∀ a x, ((![v922] : Fin 1 → IVec S16 32) a x).toNat < S272.size a)
theorem k0_idx10_inb : ∀ (v922 : IVec S16 32) (k0_hw10 : k0_chk10 v922), ∀ a x, ((![v922] : Fin 1 → IVec S16 32) a x).toNat < S272.size a := fun v922 k0_hw10 => k0_hw10
def k0_off76 (k0_t1 : Fin k0_t1_loop.trips) : Fin 3 → Nat :=
  let c0_i32_431 : BitVec 32 := 0#32
  let v924 : Index := Scalar.indexCast c0_i32_431
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c9_i32 : BitVec 32 := 9#32
  let v923 : BitVec 32 := Scalar.addi v142 c9_i32
  let v925 : Index := Scalar.indexCast v923
  let c0_432 : Index := 0#32
  ![0, v925.toNat, 0]
def k0_off77 (k0_t1 : Fin k0_t1_loop.trips) : Fin 3 → Nat :=
  let c0_i32_433 : BitVec 32 := 0#32
  let v927 : Index := Scalar.indexCast c0_i32_433
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c9_i32 : BitVec 32 := 9#32
  let v923 : BitVec 32 := Scalar.addi v142 c9_i32
  let v928 : Index := Scalar.indexCast v923
  let c16_434 : Index := 16#32
  ![0, v928.toNat, 16]
def k0_off78 (k0_t1 : Fin k0_t1_loop.trips) : Fin 3 → Nat :=
  let c0_i32_435 : BitVec 32 := 0#32
  let v930 : Index := Scalar.indexCast c0_i32_435
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c9_i32 : BitVec 32 := 9#32
  let v923 : BitVec 32 := Scalar.addi v142 c9_i32
  let v931 : Index := Scalar.indexCast v923
  let c32_436 : Index := 32#32
  ![0, v931.toNat, 32]
def k0_off79 (k0_t1 : Fin k0_t1_loop.trips) : Fin 3 → Nat :=
  let c0_i32_437 : BitVec 32 := 0#32
  let v933 : Index := Scalar.indexCast c0_i32_437
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c9_i32 : BitVec 32 := 9#32
  let v923 : BitVec 32 := Scalar.addi v142 c9_i32
  let v934 : Index := Scalar.indexCast v923
  let c48_438 : Index := 48#32
  ![0, v934.toNat, 48]
def k0_off80 (k0_t1 : Fin k0_t1_loop.trips) : Fin 3 → Nat :=
  let c0_i32_439 : BitVec 32 := 0#32
  let v936 : Index := Scalar.indexCast c0_i32_439
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c9_i32 : BitVec 32 := 9#32
  let v923 : BitVec 32 := Scalar.addi v142 c9_i32
  let v937 : Index := Scalar.indexCast v923
  let c64_440 : Index := 64#32
  ![0, v937.toNat, 64]
def k0_off81 (k0_t1 : Fin k0_t1_loop.trips) : Fin 3 → Nat :=
  let c0_i32_441 : BitVec 32 := 0#32
  let v939 : Index := Scalar.indexCast c0_i32_441
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c9_i32 : BitVec 32 := 9#32
  let v923 : BitVec 32 := Scalar.addi v142 c9_i32
  let v940 : Index := Scalar.indexCast v923
  let c80_442 : Index := 80#32
  ![0, v940.toNat, 80]
def k0_off82 (k0_t1 : Fin k0_t1_loop.trips) : Fin 3 → Nat :=
  let c0_i32_443 : BitVec 32 := 0#32
  let v942 : Index := Scalar.indexCast c0_i32_443
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c9_i32 : BitVec 32 := 9#32
  let v923 : BitVec 32 := Scalar.addi v142 c9_i32
  let v943 : Index := Scalar.indexCast v923
  let c96_444 : Index := 96#32
  ![0, v943.toNat, 96]
def k0_off83 (k0_t1 : Fin k0_t1_loop.trips) : Fin 3 → Nat :=
  let c0_i32_445 : BitVec 32 := 0#32
  let v945 : Index := Scalar.indexCast c0_i32_445
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c9_i32 : BitVec 32 := 9#32
  let v923 : BitVec 32 := Scalar.addi v142 c9_i32
  let v946 : Index := Scalar.indexCast v923
  let c112_446 : Index := 112#32
  ![0, v946.toNat, 112]

def k0_chk11 (v1008 : IVec S16 32) : Prop :=
  (∀ a x, ((![v1008] : Fin 1 → IVec S16 32) a x).toNat < S272.size a)
theorem k0_idx11_inb : ∀ (v1008 : IVec S16 32) (k0_hw11 : k0_chk11 v1008), ∀ a x, ((![v1008] : Fin 1 → IVec S16 32) a x).toNat < S272.size a := fun v1008 k0_hw11 => k0_hw11
def k0_off84 (k0_t1 : Fin k0_t1_loop.trips) : Fin 3 → Nat :=
  let c0_i32_464 : BitVec 32 := 0#32
  let v1010 : Index := Scalar.indexCast c0_i32_464
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c10_i32 : BitVec 32 := 10#32
  let v1009 : BitVec 32 := Scalar.addi v142 c10_i32
  let v1011 : Index := Scalar.indexCast v1009
  let c0_465 : Index := 0#32
  ![0, v1011.toNat, 0]
def k0_off85 (k0_t1 : Fin k0_t1_loop.trips) : Fin 3 → Nat :=
  let c0_i32_466 : BitVec 32 := 0#32
  let v1013 : Index := Scalar.indexCast c0_i32_466
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c10_i32 : BitVec 32 := 10#32
  let v1009 : BitVec 32 := Scalar.addi v142 c10_i32
  let v1014 : Index := Scalar.indexCast v1009
  let c16_467 : Index := 16#32
  ![0, v1014.toNat, 16]
def k0_off86 (k0_t1 : Fin k0_t1_loop.trips) : Fin 3 → Nat :=
  let c0_i32_468 : BitVec 32 := 0#32
  let v1016 : Index := Scalar.indexCast c0_i32_468
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c10_i32 : BitVec 32 := 10#32
  let v1009 : BitVec 32 := Scalar.addi v142 c10_i32
  let v1017 : Index := Scalar.indexCast v1009
  let c32_469 : Index := 32#32
  ![0, v1017.toNat, 32]
def k0_off87 (k0_t1 : Fin k0_t1_loop.trips) : Fin 3 → Nat :=
  let c0_i32_470 : BitVec 32 := 0#32
  let v1019 : Index := Scalar.indexCast c0_i32_470
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c10_i32 : BitVec 32 := 10#32
  let v1009 : BitVec 32 := Scalar.addi v142 c10_i32
  let v1020 : Index := Scalar.indexCast v1009
  let c48_471 : Index := 48#32
  ![0, v1020.toNat, 48]
def k0_off88 (k0_t1 : Fin k0_t1_loop.trips) : Fin 3 → Nat :=
  let c0_i32_472 : BitVec 32 := 0#32
  let v1022 : Index := Scalar.indexCast c0_i32_472
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c10_i32 : BitVec 32 := 10#32
  let v1009 : BitVec 32 := Scalar.addi v142 c10_i32
  let v1023 : Index := Scalar.indexCast v1009
  let c64_473 : Index := 64#32
  ![0, v1023.toNat, 64]
def k0_off89 (k0_t1 : Fin k0_t1_loop.trips) : Fin 3 → Nat :=
  let c0_i32_474 : BitVec 32 := 0#32
  let v1025 : Index := Scalar.indexCast c0_i32_474
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c10_i32 : BitVec 32 := 10#32
  let v1009 : BitVec 32 := Scalar.addi v142 c10_i32
  let v1026 : Index := Scalar.indexCast v1009
  let c80_475 : Index := 80#32
  ![0, v1026.toNat, 80]
def k0_off90 (k0_t1 : Fin k0_t1_loop.trips) : Fin 3 → Nat :=
  let c0_i32_476 : BitVec 32 := 0#32
  let v1028 : Index := Scalar.indexCast c0_i32_476
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c10_i32 : BitVec 32 := 10#32
  let v1009 : BitVec 32 := Scalar.addi v142 c10_i32
  let v1029 : Index := Scalar.indexCast v1009
  let c96_477 : Index := 96#32
  ![0, v1029.toNat, 96]
def k0_off91 (k0_t1 : Fin k0_t1_loop.trips) : Fin 3 → Nat :=
  let c0_i32_478 : BitVec 32 := 0#32
  let v1031 : Index := Scalar.indexCast c0_i32_478
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c10_i32 : BitVec 32 := 10#32
  let v1009 : BitVec 32 := Scalar.addi v142 c10_i32
  let v1032 : Index := Scalar.indexCast v1009
  let c112_479 : Index := 112#32
  ![0, v1032.toNat, 112]

def k0_chk12 (v1094 : IVec S16 32) : Prop :=
  (∀ a x, ((![v1094] : Fin 1 → IVec S16 32) a x).toNat < S272.size a)
theorem k0_idx12_inb : ∀ (v1094 : IVec S16 32) (k0_hw12 : k0_chk12 v1094), ∀ a x, ((![v1094] : Fin 1 → IVec S16 32) a x).toNat < S272.size a := fun v1094 k0_hw12 => k0_hw12
def k0_off92 (k0_t1 : Fin k0_t1_loop.trips) : Fin 3 → Nat :=
  let c0_i32_497 : BitVec 32 := 0#32
  let v1096 : Index := Scalar.indexCast c0_i32_497
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c11_i32 : BitVec 32 := 11#32
  let v1095 : BitVec 32 := Scalar.addi v142 c11_i32
  let v1097 : Index := Scalar.indexCast v1095
  let c0_498 : Index := 0#32
  ![0, v1097.toNat, 0]
def k0_off93 (k0_t1 : Fin k0_t1_loop.trips) : Fin 3 → Nat :=
  let c0_i32_499 : BitVec 32 := 0#32
  let v1099 : Index := Scalar.indexCast c0_i32_499
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c11_i32 : BitVec 32 := 11#32
  let v1095 : BitVec 32 := Scalar.addi v142 c11_i32
  let v1100 : Index := Scalar.indexCast v1095
  let c16_500 : Index := 16#32
  ![0, v1100.toNat, 16]
def k0_off94 (k0_t1 : Fin k0_t1_loop.trips) : Fin 3 → Nat :=
  let c0_i32_501 : BitVec 32 := 0#32
  let v1102 : Index := Scalar.indexCast c0_i32_501
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c11_i32 : BitVec 32 := 11#32
  let v1095 : BitVec 32 := Scalar.addi v142 c11_i32
  let v1103 : Index := Scalar.indexCast v1095
  let c32_502 : Index := 32#32
  ![0, v1103.toNat, 32]
def k0_off95 (k0_t1 : Fin k0_t1_loop.trips) : Fin 3 → Nat :=
  let c0_i32_503 : BitVec 32 := 0#32
  let v1105 : Index := Scalar.indexCast c0_i32_503
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c11_i32 : BitVec 32 := 11#32
  let v1095 : BitVec 32 := Scalar.addi v142 c11_i32
  let v1106 : Index := Scalar.indexCast v1095
  let c48_504 : Index := 48#32
  ![0, v1106.toNat, 48]
def k0_off96 (k0_t1 : Fin k0_t1_loop.trips) : Fin 3 → Nat :=
  let c0_i32_505 : BitVec 32 := 0#32
  let v1108 : Index := Scalar.indexCast c0_i32_505
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c11_i32 : BitVec 32 := 11#32
  let v1095 : BitVec 32 := Scalar.addi v142 c11_i32
  let v1109 : Index := Scalar.indexCast v1095
  let c64_506 : Index := 64#32
  ![0, v1109.toNat, 64]
def k0_off97 (k0_t1 : Fin k0_t1_loop.trips) : Fin 3 → Nat :=
  let c0_i32_507 : BitVec 32 := 0#32
  let v1111 : Index := Scalar.indexCast c0_i32_507
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c11_i32 : BitVec 32 := 11#32
  let v1095 : BitVec 32 := Scalar.addi v142 c11_i32
  let v1112 : Index := Scalar.indexCast v1095
  let c80_508 : Index := 80#32
  ![0, v1112.toNat, 80]
def k0_off98 (k0_t1 : Fin k0_t1_loop.trips) : Fin 3 → Nat :=
  let c0_i32_509 : BitVec 32 := 0#32
  let v1114 : Index := Scalar.indexCast c0_i32_509
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c11_i32 : BitVec 32 := 11#32
  let v1095 : BitVec 32 := Scalar.addi v142 c11_i32
  let v1115 : Index := Scalar.indexCast v1095
  let c96_510 : Index := 96#32
  ![0, v1115.toNat, 96]
def k0_off99 (k0_t1 : Fin k0_t1_loop.trips) : Fin 3 → Nat :=
  let c0_i32_511 : BitVec 32 := 0#32
  let v1117 : Index := Scalar.indexCast c0_i32_511
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c11_i32 : BitVec 32 := 11#32
  let v1095 : BitVec 32 := Scalar.addi v142 c11_i32
  let v1118 : Index := Scalar.indexCast v1095
  let c112_512 : Index := 112#32
  ![0, v1118.toNat, 112]

def k0_chk13 (v1180 : IVec S16 32) : Prop :=
  (∀ a x, ((![v1180] : Fin 1 → IVec S16 32) a x).toNat < S272.size a)
theorem k0_idx13_inb : ∀ (v1180 : IVec S16 32) (k0_hw13 : k0_chk13 v1180), ∀ a x, ((![v1180] : Fin 1 → IVec S16 32) a x).toNat < S272.size a := fun v1180 k0_hw13 => k0_hw13
def k0_off100 (k0_t1 : Fin k0_t1_loop.trips) : Fin 3 → Nat :=
  let c0_i32_530 : BitVec 32 := 0#32
  let v1182 : Index := Scalar.indexCast c0_i32_530
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c12_i32 : BitVec 32 := 12#32
  let v1181 : BitVec 32 := Scalar.addi v142 c12_i32
  let v1183 : Index := Scalar.indexCast v1181
  let c0_531 : Index := 0#32
  ![0, v1183.toNat, 0]
def k0_off101 (k0_t1 : Fin k0_t1_loop.trips) : Fin 3 → Nat :=
  let c0_i32_532 : BitVec 32 := 0#32
  let v1185 : Index := Scalar.indexCast c0_i32_532
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c12_i32 : BitVec 32 := 12#32
  let v1181 : BitVec 32 := Scalar.addi v142 c12_i32
  let v1186 : Index := Scalar.indexCast v1181
  let c16_533 : Index := 16#32
  ![0, v1186.toNat, 16]
def k0_off102 (k0_t1 : Fin k0_t1_loop.trips) : Fin 3 → Nat :=
  let c0_i32_534 : BitVec 32 := 0#32
  let v1188 : Index := Scalar.indexCast c0_i32_534
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c12_i32 : BitVec 32 := 12#32
  let v1181 : BitVec 32 := Scalar.addi v142 c12_i32
  let v1189 : Index := Scalar.indexCast v1181
  let c32_535 : Index := 32#32
  ![0, v1189.toNat, 32]
def k0_off103 (k0_t1 : Fin k0_t1_loop.trips) : Fin 3 → Nat :=
  let c0_i32_536 : BitVec 32 := 0#32
  let v1191 : Index := Scalar.indexCast c0_i32_536
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c12_i32 : BitVec 32 := 12#32
  let v1181 : BitVec 32 := Scalar.addi v142 c12_i32
  let v1192 : Index := Scalar.indexCast v1181
  let c48_537 : Index := 48#32
  ![0, v1192.toNat, 48]
def k0_off104 (k0_t1 : Fin k0_t1_loop.trips) : Fin 3 → Nat :=
  let c0_i32_538 : BitVec 32 := 0#32
  let v1194 : Index := Scalar.indexCast c0_i32_538
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c12_i32 : BitVec 32 := 12#32
  let v1181 : BitVec 32 := Scalar.addi v142 c12_i32
  let v1195 : Index := Scalar.indexCast v1181
  let c64_539 : Index := 64#32
  ![0, v1195.toNat, 64]
def k0_off105 (k0_t1 : Fin k0_t1_loop.trips) : Fin 3 → Nat :=
  let c0_i32_540 : BitVec 32 := 0#32
  let v1197 : Index := Scalar.indexCast c0_i32_540
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c12_i32 : BitVec 32 := 12#32
  let v1181 : BitVec 32 := Scalar.addi v142 c12_i32
  let v1198 : Index := Scalar.indexCast v1181
  let c80_541 : Index := 80#32
  ![0, v1198.toNat, 80]
def k0_off106 (k0_t1 : Fin k0_t1_loop.trips) : Fin 3 → Nat :=
  let c0_i32_542 : BitVec 32 := 0#32
  let v1200 : Index := Scalar.indexCast c0_i32_542
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c12_i32 : BitVec 32 := 12#32
  let v1181 : BitVec 32 := Scalar.addi v142 c12_i32
  let v1201 : Index := Scalar.indexCast v1181
  let c96_543 : Index := 96#32
  ![0, v1201.toNat, 96]
def k0_off107 (k0_t1 : Fin k0_t1_loop.trips) : Fin 3 → Nat :=
  let c0_i32_544 : BitVec 32 := 0#32
  let v1203 : Index := Scalar.indexCast c0_i32_544
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c12_i32 : BitVec 32 := 12#32
  let v1181 : BitVec 32 := Scalar.addi v142 c12_i32
  let v1204 : Index := Scalar.indexCast v1181
  let c112_545 : Index := 112#32
  ![0, v1204.toNat, 112]

def k0_chk14 (v1266 : IVec S16 32) : Prop :=
  (∀ a x, ((![v1266] : Fin 1 → IVec S16 32) a x).toNat < S272.size a)
theorem k0_idx14_inb : ∀ (v1266 : IVec S16 32) (k0_hw14 : k0_chk14 v1266), ∀ a x, ((![v1266] : Fin 1 → IVec S16 32) a x).toNat < S272.size a := fun v1266 k0_hw14 => k0_hw14
def k0_off108 (k0_t1 : Fin k0_t1_loop.trips) : Fin 3 → Nat :=
  let c0_i32_563 : BitVec 32 := 0#32
  let v1268 : Index := Scalar.indexCast c0_i32_563
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c13_i32 : BitVec 32 := 13#32
  let v1267 : BitVec 32 := Scalar.addi v142 c13_i32
  let v1269 : Index := Scalar.indexCast v1267
  let c0_564 : Index := 0#32
  ![0, v1269.toNat, 0]
def k0_off109 (k0_t1 : Fin k0_t1_loop.trips) : Fin 3 → Nat :=
  let c0_i32_565 : BitVec 32 := 0#32
  let v1271 : Index := Scalar.indexCast c0_i32_565
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c13_i32 : BitVec 32 := 13#32
  let v1267 : BitVec 32 := Scalar.addi v142 c13_i32
  let v1272 : Index := Scalar.indexCast v1267
  let c16_566 : Index := 16#32
  ![0, v1272.toNat, 16]
def k0_off110 (k0_t1 : Fin k0_t1_loop.trips) : Fin 3 → Nat :=
  let c0_i32_567 : BitVec 32 := 0#32
  let v1274 : Index := Scalar.indexCast c0_i32_567
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c13_i32 : BitVec 32 := 13#32
  let v1267 : BitVec 32 := Scalar.addi v142 c13_i32
  let v1275 : Index := Scalar.indexCast v1267
  let c32_568 : Index := 32#32
  ![0, v1275.toNat, 32]
def k0_off111 (k0_t1 : Fin k0_t1_loop.trips) : Fin 3 → Nat :=
  let c0_i32_569 : BitVec 32 := 0#32
  let v1277 : Index := Scalar.indexCast c0_i32_569
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c13_i32 : BitVec 32 := 13#32
  let v1267 : BitVec 32 := Scalar.addi v142 c13_i32
  let v1278 : Index := Scalar.indexCast v1267
  let c48_570 : Index := 48#32
  ![0, v1278.toNat, 48]
def k0_off112 (k0_t1 : Fin k0_t1_loop.trips) : Fin 3 → Nat :=
  let c0_i32_571 : BitVec 32 := 0#32
  let v1280 : Index := Scalar.indexCast c0_i32_571
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c13_i32 : BitVec 32 := 13#32
  let v1267 : BitVec 32 := Scalar.addi v142 c13_i32
  let v1281 : Index := Scalar.indexCast v1267
  let c64_572 : Index := 64#32
  ![0, v1281.toNat, 64]
def k0_off113 (k0_t1 : Fin k0_t1_loop.trips) : Fin 3 → Nat :=
  let c0_i32_573 : BitVec 32 := 0#32
  let v1283 : Index := Scalar.indexCast c0_i32_573
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c13_i32 : BitVec 32 := 13#32
  let v1267 : BitVec 32 := Scalar.addi v142 c13_i32
  let v1284 : Index := Scalar.indexCast v1267
  let c80_574 : Index := 80#32
  ![0, v1284.toNat, 80]
def k0_off114 (k0_t1 : Fin k0_t1_loop.trips) : Fin 3 → Nat :=
  let c0_i32_575 : BitVec 32 := 0#32
  let v1286 : Index := Scalar.indexCast c0_i32_575
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c13_i32 : BitVec 32 := 13#32
  let v1267 : BitVec 32 := Scalar.addi v142 c13_i32
  let v1287 : Index := Scalar.indexCast v1267
  let c96_576 : Index := 96#32
  ![0, v1287.toNat, 96]
def k0_off115 (k0_t1 : Fin k0_t1_loop.trips) : Fin 3 → Nat :=
  let c0_i32_577 : BitVec 32 := 0#32
  let v1289 : Index := Scalar.indexCast c0_i32_577
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c13_i32 : BitVec 32 := 13#32
  let v1267 : BitVec 32 := Scalar.addi v142 c13_i32
  let v1290 : Index := Scalar.indexCast v1267
  let c112_578 : Index := 112#32
  ![0, v1290.toNat, 112]

def k0_chk15 (v1352 : IVec S16 32) : Prop :=
  (∀ a x, ((![v1352] : Fin 1 → IVec S16 32) a x).toNat < S272.size a)
theorem k0_idx15_inb : ∀ (v1352 : IVec S16 32) (k0_hw15 : k0_chk15 v1352), ∀ a x, ((![v1352] : Fin 1 → IVec S16 32) a x).toNat < S272.size a := fun v1352 k0_hw15 => k0_hw15
def k0_off116 (k0_t1 : Fin k0_t1_loop.trips) : Fin 3 → Nat :=
  let c0_i32_596 : BitVec 32 := 0#32
  let v1354 : Index := Scalar.indexCast c0_i32_596
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c14_i32 : BitVec 32 := 14#32
  let v1353 : BitVec 32 := Scalar.addi v142 c14_i32
  let v1355 : Index := Scalar.indexCast v1353
  let c0_597 : Index := 0#32
  ![0, v1355.toNat, 0]
def k0_off117 (k0_t1 : Fin k0_t1_loop.trips) : Fin 3 → Nat :=
  let c0_i32_598 : BitVec 32 := 0#32
  let v1357 : Index := Scalar.indexCast c0_i32_598
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c14_i32 : BitVec 32 := 14#32
  let v1353 : BitVec 32 := Scalar.addi v142 c14_i32
  let v1358 : Index := Scalar.indexCast v1353
  let c16_599 : Index := 16#32
  ![0, v1358.toNat, 16]
def k0_off118 (k0_t1 : Fin k0_t1_loop.trips) : Fin 3 → Nat :=
  let c0_i32_600 : BitVec 32 := 0#32
  let v1360 : Index := Scalar.indexCast c0_i32_600
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c14_i32 : BitVec 32 := 14#32
  let v1353 : BitVec 32 := Scalar.addi v142 c14_i32
  let v1361 : Index := Scalar.indexCast v1353
  let c32_601 : Index := 32#32
  ![0, v1361.toNat, 32]
def k0_off119 (k0_t1 : Fin k0_t1_loop.trips) : Fin 3 → Nat :=
  let c0_i32_602 : BitVec 32 := 0#32
  let v1363 : Index := Scalar.indexCast c0_i32_602
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c14_i32 : BitVec 32 := 14#32
  let v1353 : BitVec 32 := Scalar.addi v142 c14_i32
  let v1364 : Index := Scalar.indexCast v1353
  let c48_603 : Index := 48#32
  ![0, v1364.toNat, 48]
def k0_off120 (k0_t1 : Fin k0_t1_loop.trips) : Fin 3 → Nat :=
  let c0_i32_604 : BitVec 32 := 0#32
  let v1366 : Index := Scalar.indexCast c0_i32_604
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c14_i32 : BitVec 32 := 14#32
  let v1353 : BitVec 32 := Scalar.addi v142 c14_i32
  let v1367 : Index := Scalar.indexCast v1353
  let c64_605 : Index := 64#32
  ![0, v1367.toNat, 64]
def k0_off121 (k0_t1 : Fin k0_t1_loop.trips) : Fin 3 → Nat :=
  let c0_i32_606 : BitVec 32 := 0#32
  let v1369 : Index := Scalar.indexCast c0_i32_606
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c14_i32 : BitVec 32 := 14#32
  let v1353 : BitVec 32 := Scalar.addi v142 c14_i32
  let v1370 : Index := Scalar.indexCast v1353
  let c80_607 : Index := 80#32
  ![0, v1370.toNat, 80]
def k0_off122 (k0_t1 : Fin k0_t1_loop.trips) : Fin 3 → Nat :=
  let c0_i32_608 : BitVec 32 := 0#32
  let v1372 : Index := Scalar.indexCast c0_i32_608
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c14_i32 : BitVec 32 := 14#32
  let v1353 : BitVec 32 := Scalar.addi v142 c14_i32
  let v1373 : Index := Scalar.indexCast v1353
  let c96_609 : Index := 96#32
  ![0, v1373.toNat, 96]
def k0_off123 (k0_t1 : Fin k0_t1_loop.trips) : Fin 3 → Nat :=
  let c0_i32_610 : BitVec 32 := 0#32
  let v1375 : Index := Scalar.indexCast c0_i32_610
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c14_i32 : BitVec 32 := 14#32
  let v1353 : BitVec 32 := Scalar.addi v142 c14_i32
  let v1376 : Index := Scalar.indexCast v1353
  let c112_611 : Index := 112#32
  ![0, v1376.toNat, 112]

def k0_chk16 (v1438 : IVec S16 32) : Prop :=
  (∀ a x, ((![v1438] : Fin 1 → IVec S16 32) a x).toNat < S272.size a)
theorem k0_idx16_inb : ∀ (v1438 : IVec S16 32) (k0_hw16 : k0_chk16 v1438), ∀ a x, ((![v1438] : Fin 1 → IVec S16 32) a x).toNat < S272.size a := fun v1438 k0_hw16 => k0_hw16
def k0_off124 (k0_t1 : Fin k0_t1_loop.trips) : Fin 3 → Nat :=
  let c0_i32_629 : BitVec 32 := 0#32
  let v1440 : Index := Scalar.indexCast c0_i32_629
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c15_i32 : BitVec 32 := 15#32
  let v1439 : BitVec 32 := Scalar.addi v142 c15_i32
  let v1441 : Index := Scalar.indexCast v1439
  let c0_630 : Index := 0#32
  ![0, v1441.toNat, 0]
def k0_off125 (k0_t1 : Fin k0_t1_loop.trips) : Fin 3 → Nat :=
  let c0_i32_631 : BitVec 32 := 0#32
  let v1443 : Index := Scalar.indexCast c0_i32_631
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c15_i32 : BitVec 32 := 15#32
  let v1439 : BitVec 32 := Scalar.addi v142 c15_i32
  let v1444 : Index := Scalar.indexCast v1439
  let c16_632 : Index := 16#32
  ![0, v1444.toNat, 16]
def k0_off126 (k0_t1 : Fin k0_t1_loop.trips) : Fin 3 → Nat :=
  let c0_i32_633 : BitVec 32 := 0#32
  let v1446 : Index := Scalar.indexCast c0_i32_633
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c15_i32 : BitVec 32 := 15#32
  let v1439 : BitVec 32 := Scalar.addi v142 c15_i32
  let v1447 : Index := Scalar.indexCast v1439
  let c32_634 : Index := 32#32
  ![0, v1447.toNat, 32]
def k0_off127 (k0_t1 : Fin k0_t1_loop.trips) : Fin 3 → Nat :=
  let c0_i32_635 : BitVec 32 := 0#32
  let v1449 : Index := Scalar.indexCast c0_i32_635
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c15_i32 : BitVec 32 := 15#32
  let v1439 : BitVec 32 := Scalar.addi v142 c15_i32
  let v1450 : Index := Scalar.indexCast v1439
  let c48_636 : Index := 48#32
  ![0, v1450.toNat, 48]
def k0_off128 (k0_t1 : Fin k0_t1_loop.trips) : Fin 3 → Nat :=
  let c0_i32_637 : BitVec 32 := 0#32
  let v1452 : Index := Scalar.indexCast c0_i32_637
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c15_i32 : BitVec 32 := 15#32
  let v1439 : BitVec 32 := Scalar.addi v142 c15_i32
  let v1453 : Index := Scalar.indexCast v1439
  let c64_638 : Index := 64#32
  ![0, v1453.toNat, 64]
def k0_off129 (k0_t1 : Fin k0_t1_loop.trips) : Fin 3 → Nat :=
  let c0_i32_639 : BitVec 32 := 0#32
  let v1455 : Index := Scalar.indexCast c0_i32_639
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c15_i32 : BitVec 32 := 15#32
  let v1439 : BitVec 32 := Scalar.addi v142 c15_i32
  let v1456 : Index := Scalar.indexCast v1439
  let c80_640 : Index := 80#32
  ![0, v1456.toNat, 80]
def k0_off130 (k0_t1 : Fin k0_t1_loop.trips) : Fin 3 → Nat :=
  let c0_i32_641 : BitVec 32 := 0#32
  let v1458 : Index := Scalar.indexCast c0_i32_641
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c15_i32 : BitVec 32 := 15#32
  let v1439 : BitVec 32 := Scalar.addi v142 c15_i32
  let v1459 : Index := Scalar.indexCast v1439
  let c96_642 : Index := 96#32
  ![0, v1459.toNat, 96]
def k0_off131 (k0_t1 : Fin k0_t1_loop.trips) : Fin 3 → Nat :=
  let c0_i32_643 : BitVec 32 := 0#32
  let v1461 : Index := Scalar.indexCast c0_i32_643
  let c0_i32_42 : BitVec 32 := 0#32
  let c1_i32_43 : BitVec 32 := 1#32
  let arg12 : BitVec 32 := Scf.iv c0_i32_42 c1_i32_43 k0_t1
  let c16_i32_127 : BitVec 32 := 16#32
  let v142 : BitVec 32 := Scalar.muli arg12 c16_i32_127
  let c15_i32 : BitVec 32 := 15#32
  let v1439 : BitVec 32 := Scalar.addi v142 c15_i32
  let v1462 : Index := Scalar.indexCast v1439
  let c112_644 : Index := 112#32
  ![0, v1462.toNat, 112]

def k0_chk17 (v1524 : IVec S16 32) : Prop :=
  (∀ a x, ((![v1524] : Fin 1 → IVec S16 32) a x).toNat < S272.size a)
theorem k0_idx17_inb : ∀ (v1524 : IVec S16 32) (k0_hw17 : k0_chk17 v1524), ∀ a x, ((![v1524] : Fin 1 → IVec S16 32) a x).toNat < S272.size a := fun v1524 k0_hw17 => k0_hw17
@[reducible] def k0_t2_loop : Scf.Loop 32 :=
  let c0_i32_73 : BitVec 32 := 0#32
  let c8_i32_74 : BitVec 32 := 8#32
  let v91 : BitVec 32 := Scalar.addi c0_i32_73 c8_i32_74
  let c1_i32_75 : BitVec 32 := 1#32
  ⟨c0_i32_73, v91, c1_i32_75⟩
def k0_off132 (k0_t2 : Fin k0_t2_loop.trips) : Fin 1 → Nat :=
  let c128_i32_128 : BitVec 32 := 128#32
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let v143 : BitVec 32 := Scalar.addi c128_i32_128 v142
  let v144 : Index := Scalar.indexCast v143
  ![v144.toNat]

def k0_chk18 (v148 : IVec S16 32) : Prop :=
  (∀ a x, ((![v148] : Fin 1 → IVec S16 32) a x).toNat < S272.size a)
theorem k0_idx18_inb : ∀ (v148 : IVec S16 32) (k0_hw18 : k0_chk18 v148), ∀ a x, ((![v148] : Fin 1 → IVec S16 32) a x).toNat < S272.size a := fun v148 k0_hw18 => k0_hw18
def k0_off133 (k0_t2 : Fin k0_t2_loop.trips) : Fin 3 → Nat :=
  let c1_i32_131 : BitVec 32 := 1#32
  let v150 : Index := Scalar.indexCast c1_i32_131
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c0_i32_130 : BitVec 32 := 0#32
  let v149 : BitVec 32 := Scalar.addi v142 c0_i32_130
  let v151 : Index := Scalar.indexCast v149
  let c0_132 : Index := 0#32
  ![1, v151.toNat, 0]
def k0_off134 (k0_t2 : Fin k0_t2_loop.trips) : Fin 3 → Nat :=
  let c1_i32_133 : BitVec 32 := 1#32
  let v153 : Index := Scalar.indexCast c1_i32_133
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c0_i32_130 : BitVec 32 := 0#32
  let v149 : BitVec 32 := Scalar.addi v142 c0_i32_130
  let v154 : Index := Scalar.indexCast v149
  let c16_134 : Index := 16#32
  ![1, v154.toNat, 16]
def k0_off135 (k0_t2 : Fin k0_t2_loop.trips) : Fin 3 → Nat :=
  let c1_i32_135 : BitVec 32 := 1#32
  let v156 : Index := Scalar.indexCast c1_i32_135
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c0_i32_130 : BitVec 32 := 0#32
  let v149 : BitVec 32 := Scalar.addi v142 c0_i32_130
  let v157 : Index := Scalar.indexCast v149
  let c32_136 : Index := 32#32
  ![1, v157.toNat, 32]
def k0_off136 (k0_t2 : Fin k0_t2_loop.trips) : Fin 3 → Nat :=
  let c1_i32_137 : BitVec 32 := 1#32
  let v159 : Index := Scalar.indexCast c1_i32_137
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c0_i32_130 : BitVec 32 := 0#32
  let v149 : BitVec 32 := Scalar.addi v142 c0_i32_130
  let v160 : Index := Scalar.indexCast v149
  let c48_138 : Index := 48#32
  ![1, v160.toNat, 48]
def k0_off137 (k0_t2 : Fin k0_t2_loop.trips) : Fin 3 → Nat :=
  let c1_i32_139 : BitVec 32 := 1#32
  let v162 : Index := Scalar.indexCast c1_i32_139
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c0_i32_130 : BitVec 32 := 0#32
  let v149 : BitVec 32 := Scalar.addi v142 c0_i32_130
  let v163 : Index := Scalar.indexCast v149
  let c64_140 : Index := 64#32
  ![1, v163.toNat, 64]
def k0_off138 (k0_t2 : Fin k0_t2_loop.trips) : Fin 3 → Nat :=
  let c1_i32_141 : BitVec 32 := 1#32
  let v165 : Index := Scalar.indexCast c1_i32_141
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c0_i32_130 : BitVec 32 := 0#32
  let v149 : BitVec 32 := Scalar.addi v142 c0_i32_130
  let v166 : Index := Scalar.indexCast v149
  let c80_142 : Index := 80#32
  ![1, v166.toNat, 80]
def k0_off139 (k0_t2 : Fin k0_t2_loop.trips) : Fin 3 → Nat :=
  let c1_i32_143 : BitVec 32 := 1#32
  let v168 : Index := Scalar.indexCast c1_i32_143
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c0_i32_130 : BitVec 32 := 0#32
  let v149 : BitVec 32 := Scalar.addi v142 c0_i32_130
  let v169 : Index := Scalar.indexCast v149
  let c96_144 : Index := 96#32
  ![1, v169.toNat, 96]
def k0_off140 (k0_t2 : Fin k0_t2_loop.trips) : Fin 3 → Nat :=
  let c1_i32_145 : BitVec 32 := 1#32
  let v171 : Index := Scalar.indexCast c1_i32_145
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c0_i32_130 : BitVec 32 := 0#32
  let v149 : BitVec 32 := Scalar.addi v142 c0_i32_130
  let v172 : Index := Scalar.indexCast v149
  let c112_146 : Index := 112#32
  ![1, v172.toNat, 112]

def k0_chk19 (v234 : IVec S16 32) : Prop :=
  (∀ a x, ((![v234] : Fin 1 → IVec S16 32) a x).toNat < S272.size a)
theorem k0_idx19_inb : ∀ (v234 : IVec S16 32) (k0_hw19 : k0_chk19 v234), ∀ a x, ((![v234] : Fin 1 → IVec S16 32) a x).toNat < S272.size a := fun v234 k0_hw19 => k0_hw19
def k0_off141 (k0_t2 : Fin k0_t2_loop.trips) : Fin 3 → Nat :=
  let c1_i32_165 : BitVec 32 := 1#32
  let v236 : Index := Scalar.indexCast c1_i32_165
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c1_i32_164 : BitVec 32 := 1#32
  let v235 : BitVec 32 := Scalar.addi v142 c1_i32_164
  let v237 : Index := Scalar.indexCast v235
  let c0_166 : Index := 0#32
  ![1, v237.toNat, 0]
def k0_off142 (k0_t2 : Fin k0_t2_loop.trips) : Fin 3 → Nat :=
  let c1_i32_167 : BitVec 32 := 1#32
  let v239 : Index := Scalar.indexCast c1_i32_167
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c1_i32_164 : BitVec 32 := 1#32
  let v235 : BitVec 32 := Scalar.addi v142 c1_i32_164
  let v240 : Index := Scalar.indexCast v235
  let c16_168 : Index := 16#32
  ![1, v240.toNat, 16]
def k0_off143 (k0_t2 : Fin k0_t2_loop.trips) : Fin 3 → Nat :=
  let c1_i32_169 : BitVec 32 := 1#32
  let v242 : Index := Scalar.indexCast c1_i32_169
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c1_i32_164 : BitVec 32 := 1#32
  let v235 : BitVec 32 := Scalar.addi v142 c1_i32_164
  let v243 : Index := Scalar.indexCast v235
  let c32_170 : Index := 32#32
  ![1, v243.toNat, 32]
def k0_off144 (k0_t2 : Fin k0_t2_loop.trips) : Fin 3 → Nat :=
  let c1_i32_171 : BitVec 32 := 1#32
  let v245 : Index := Scalar.indexCast c1_i32_171
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c1_i32_164 : BitVec 32 := 1#32
  let v235 : BitVec 32 := Scalar.addi v142 c1_i32_164
  let v246 : Index := Scalar.indexCast v235
  let c48_172 : Index := 48#32
  ![1, v246.toNat, 48]
def k0_off145 (k0_t2 : Fin k0_t2_loop.trips) : Fin 3 → Nat :=
  let c1_i32_173 : BitVec 32 := 1#32
  let v248 : Index := Scalar.indexCast c1_i32_173
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c1_i32_164 : BitVec 32 := 1#32
  let v235 : BitVec 32 := Scalar.addi v142 c1_i32_164
  let v249 : Index := Scalar.indexCast v235
  let c64_174 : Index := 64#32
  ![1, v249.toNat, 64]
def k0_off146 (k0_t2 : Fin k0_t2_loop.trips) : Fin 3 → Nat :=
  let c1_i32_175 : BitVec 32 := 1#32
  let v251 : Index := Scalar.indexCast c1_i32_175
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c1_i32_164 : BitVec 32 := 1#32
  let v235 : BitVec 32 := Scalar.addi v142 c1_i32_164
  let v252 : Index := Scalar.indexCast v235
  let c80_176 : Index := 80#32
  ![1, v252.toNat, 80]
def k0_off147 (k0_t2 : Fin k0_t2_loop.trips) : Fin 3 → Nat :=
  let c1_i32_177 : BitVec 32 := 1#32
  let v254 : Index := Scalar.indexCast c1_i32_177
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c1_i32_164 : BitVec 32 := 1#32
  let v235 : BitVec 32 := Scalar.addi v142 c1_i32_164
  let v255 : Index := Scalar.indexCast v235
  let c96_178 : Index := 96#32
  ![1, v255.toNat, 96]
def k0_off148 (k0_t2 : Fin k0_t2_loop.trips) : Fin 3 → Nat :=
  let c1_i32_179 : BitVec 32 := 1#32
  let v257 : Index := Scalar.indexCast c1_i32_179
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c1_i32_164 : BitVec 32 := 1#32
  let v235 : BitVec 32 := Scalar.addi v142 c1_i32_164
  let v258 : Index := Scalar.indexCast v235
  let c112_180 : Index := 112#32
  ![1, v258.toNat, 112]

def k0_chk20 (v320 : IVec S16 32) : Prop :=
  (∀ a x, ((![v320] : Fin 1 → IVec S16 32) a x).toNat < S272.size a)
theorem k0_idx20_inb : ∀ (v320 : IVec S16 32) (k0_hw20 : k0_chk20 v320), ∀ a x, ((![v320] : Fin 1 → IVec S16 32) a x).toNat < S272.size a := fun v320 k0_hw20 => k0_hw20
def k0_off149 (k0_t2 : Fin k0_t2_loop.trips) : Fin 3 → Nat :=
  let c1_i32_199 : BitVec 32 := 1#32
  let v322 : Index := Scalar.indexCast c1_i32_199
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c2_i32_198 : BitVec 32 := 2#32
  let v321 : BitVec 32 := Scalar.addi v142 c2_i32_198
  let v323 : Index := Scalar.indexCast v321
  let c0_200 : Index := 0#32
  ![1, v323.toNat, 0]
def k0_off150 (k0_t2 : Fin k0_t2_loop.trips) : Fin 3 → Nat :=
  let c1_i32_201 : BitVec 32 := 1#32
  let v325 : Index := Scalar.indexCast c1_i32_201
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c2_i32_198 : BitVec 32 := 2#32
  let v321 : BitVec 32 := Scalar.addi v142 c2_i32_198
  let v326 : Index := Scalar.indexCast v321
  let c16_202 : Index := 16#32
  ![1, v326.toNat, 16]
def k0_off151 (k0_t2 : Fin k0_t2_loop.trips) : Fin 3 → Nat :=
  let c1_i32_203 : BitVec 32 := 1#32
  let v328 : Index := Scalar.indexCast c1_i32_203
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c2_i32_198 : BitVec 32 := 2#32
  let v321 : BitVec 32 := Scalar.addi v142 c2_i32_198
  let v329 : Index := Scalar.indexCast v321
  let c32_204 : Index := 32#32
  ![1, v329.toNat, 32]
def k0_off152 (k0_t2 : Fin k0_t2_loop.trips) : Fin 3 → Nat :=
  let c1_i32_205 : BitVec 32 := 1#32
  let v331 : Index := Scalar.indexCast c1_i32_205
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c2_i32_198 : BitVec 32 := 2#32
  let v321 : BitVec 32 := Scalar.addi v142 c2_i32_198
  let v332 : Index := Scalar.indexCast v321
  let c48_206 : Index := 48#32
  ![1, v332.toNat, 48]
def k0_off153 (k0_t2 : Fin k0_t2_loop.trips) : Fin 3 → Nat :=
  let c1_i32_207 : BitVec 32 := 1#32
  let v334 : Index := Scalar.indexCast c1_i32_207
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c2_i32_198 : BitVec 32 := 2#32
  let v321 : BitVec 32 := Scalar.addi v142 c2_i32_198
  let v335 : Index := Scalar.indexCast v321
  let c64_208 : Index := 64#32
  ![1, v335.toNat, 64]
def k0_off154 (k0_t2 : Fin k0_t2_loop.trips) : Fin 3 → Nat :=
  let c1_i32_209 : BitVec 32 := 1#32
  let v337 : Index := Scalar.indexCast c1_i32_209
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c2_i32_198 : BitVec 32 := 2#32
  let v321 : BitVec 32 := Scalar.addi v142 c2_i32_198
  let v338 : Index := Scalar.indexCast v321
  let c80_210 : Index := 80#32
  ![1, v338.toNat, 80]
def k0_off155 (k0_t2 : Fin k0_t2_loop.trips) : Fin 3 → Nat :=
  let c1_i32_211 : BitVec 32 := 1#32
  let v340 : Index := Scalar.indexCast c1_i32_211
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c2_i32_198 : BitVec 32 := 2#32
  let v321 : BitVec 32 := Scalar.addi v142 c2_i32_198
  let v341 : Index := Scalar.indexCast v321
  let c96_212 : Index := 96#32
  ![1, v341.toNat, 96]
def k0_off156 (k0_t2 : Fin k0_t2_loop.trips) : Fin 3 → Nat :=
  let c1_i32_213 : BitVec 32 := 1#32
  let v343 : Index := Scalar.indexCast c1_i32_213
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c2_i32_198 : BitVec 32 := 2#32
  let v321 : BitVec 32 := Scalar.addi v142 c2_i32_198
  let v344 : Index := Scalar.indexCast v321
  let c112_214 : Index := 112#32
  ![1, v344.toNat, 112]

def k0_chk21 (v406 : IVec S16 32) : Prop :=
  (∀ a x, ((![v406] : Fin 1 → IVec S16 32) a x).toNat < S272.size a)
theorem k0_idx21_inb : ∀ (v406 : IVec S16 32) (k0_hw21 : k0_chk21 v406), ∀ a x, ((![v406] : Fin 1 → IVec S16 32) a x).toNat < S272.size a := fun v406 k0_hw21 => k0_hw21
def k0_off157 (k0_t2 : Fin k0_t2_loop.trips) : Fin 3 → Nat :=
  let c1_i32_232 : BitVec 32 := 1#32
  let v408 : Index := Scalar.indexCast c1_i32_232
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c3_i32 : BitVec 32 := 3#32
  let v407 : BitVec 32 := Scalar.addi v142 c3_i32
  let v409 : Index := Scalar.indexCast v407
  let c0_233 : Index := 0#32
  ![1, v409.toNat, 0]
def k0_off158 (k0_t2 : Fin k0_t2_loop.trips) : Fin 3 → Nat :=
  let c1_i32_234 : BitVec 32 := 1#32
  let v411 : Index := Scalar.indexCast c1_i32_234
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c3_i32 : BitVec 32 := 3#32
  let v407 : BitVec 32 := Scalar.addi v142 c3_i32
  let v412 : Index := Scalar.indexCast v407
  let c16_235 : Index := 16#32
  ![1, v412.toNat, 16]
def k0_off159 (k0_t2 : Fin k0_t2_loop.trips) : Fin 3 → Nat :=
  let c1_i32_236 : BitVec 32 := 1#32
  let v414 : Index := Scalar.indexCast c1_i32_236
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c3_i32 : BitVec 32 := 3#32
  let v407 : BitVec 32 := Scalar.addi v142 c3_i32
  let v415 : Index := Scalar.indexCast v407
  let c32_237 : Index := 32#32
  ![1, v415.toNat, 32]
def k0_off160 (k0_t2 : Fin k0_t2_loop.trips) : Fin 3 → Nat :=
  let c1_i32_238 : BitVec 32 := 1#32
  let v417 : Index := Scalar.indexCast c1_i32_238
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c3_i32 : BitVec 32 := 3#32
  let v407 : BitVec 32 := Scalar.addi v142 c3_i32
  let v418 : Index := Scalar.indexCast v407
  let c48_239 : Index := 48#32
  ![1, v418.toNat, 48]
def k0_off161 (k0_t2 : Fin k0_t2_loop.trips) : Fin 3 → Nat :=
  let c1_i32_240 : BitVec 32 := 1#32
  let v420 : Index := Scalar.indexCast c1_i32_240
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c3_i32 : BitVec 32 := 3#32
  let v407 : BitVec 32 := Scalar.addi v142 c3_i32
  let v421 : Index := Scalar.indexCast v407
  let c64_241 : Index := 64#32
  ![1, v421.toNat, 64]
def k0_off162 (k0_t2 : Fin k0_t2_loop.trips) : Fin 3 → Nat :=
  let c1_i32_242 : BitVec 32 := 1#32
  let v423 : Index := Scalar.indexCast c1_i32_242
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c3_i32 : BitVec 32 := 3#32
  let v407 : BitVec 32 := Scalar.addi v142 c3_i32
  let v424 : Index := Scalar.indexCast v407
  let c80_243 : Index := 80#32
  ![1, v424.toNat, 80]
def k0_off163 (k0_t2 : Fin k0_t2_loop.trips) : Fin 3 → Nat :=
  let c1_i32_244 : BitVec 32 := 1#32
  let v426 : Index := Scalar.indexCast c1_i32_244
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c3_i32 : BitVec 32 := 3#32
  let v407 : BitVec 32 := Scalar.addi v142 c3_i32
  let v427 : Index := Scalar.indexCast v407
  let c96_245 : Index := 96#32
  ![1, v427.toNat, 96]
def k0_off164 (k0_t2 : Fin k0_t2_loop.trips) : Fin 3 → Nat :=
  let c1_i32_246 : BitVec 32 := 1#32
  let v429 : Index := Scalar.indexCast c1_i32_246
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c3_i32 : BitVec 32 := 3#32
  let v407 : BitVec 32 := Scalar.addi v142 c3_i32
  let v430 : Index := Scalar.indexCast v407
  let c112_247 : Index := 112#32
  ![1, v430.toNat, 112]

def k0_chk22 (v492 : IVec S16 32) : Prop :=
  (∀ a x, ((![v492] : Fin 1 → IVec S16 32) a x).toNat < S272.size a)
theorem k0_idx22_inb : ∀ (v492 : IVec S16 32) (k0_hw22 : k0_chk22 v492), ∀ a x, ((![v492] : Fin 1 → IVec S16 32) a x).toNat < S272.size a := fun v492 k0_hw22 => k0_hw22
def k0_off165 (k0_t2 : Fin k0_t2_loop.trips) : Fin 3 → Nat :=
  let c1_i32_265 : BitVec 32 := 1#32
  let v494 : Index := Scalar.indexCast c1_i32_265
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c4_i32 : BitVec 32 := 4#32
  let v493 : BitVec 32 := Scalar.addi v142 c4_i32
  let v495 : Index := Scalar.indexCast v493
  let c0_266 : Index := 0#32
  ![1, v495.toNat, 0]
def k0_off166 (k0_t2 : Fin k0_t2_loop.trips) : Fin 3 → Nat :=
  let c1_i32_267 : BitVec 32 := 1#32
  let v497 : Index := Scalar.indexCast c1_i32_267
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c4_i32 : BitVec 32 := 4#32
  let v493 : BitVec 32 := Scalar.addi v142 c4_i32
  let v498 : Index := Scalar.indexCast v493
  let c16_268 : Index := 16#32
  ![1, v498.toNat, 16]
def k0_off167 (k0_t2 : Fin k0_t2_loop.trips) : Fin 3 → Nat :=
  let c1_i32_269 : BitVec 32 := 1#32
  let v500 : Index := Scalar.indexCast c1_i32_269
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c4_i32 : BitVec 32 := 4#32
  let v493 : BitVec 32 := Scalar.addi v142 c4_i32
  let v501 : Index := Scalar.indexCast v493
  let c32_270 : Index := 32#32
  ![1, v501.toNat, 32]
def k0_off168 (k0_t2 : Fin k0_t2_loop.trips) : Fin 3 → Nat :=
  let c1_i32_271 : BitVec 32 := 1#32
  let v503 : Index := Scalar.indexCast c1_i32_271
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c4_i32 : BitVec 32 := 4#32
  let v493 : BitVec 32 := Scalar.addi v142 c4_i32
  let v504 : Index := Scalar.indexCast v493
  let c48_272 : Index := 48#32
  ![1, v504.toNat, 48]
def k0_off169 (k0_t2 : Fin k0_t2_loop.trips) : Fin 3 → Nat :=
  let c1_i32_273 : BitVec 32 := 1#32
  let v506 : Index := Scalar.indexCast c1_i32_273
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c4_i32 : BitVec 32 := 4#32
  let v493 : BitVec 32 := Scalar.addi v142 c4_i32
  let v507 : Index := Scalar.indexCast v493
  let c64_274 : Index := 64#32
  ![1, v507.toNat, 64]
def k0_off170 (k0_t2 : Fin k0_t2_loop.trips) : Fin 3 → Nat :=
  let c1_i32_275 : BitVec 32 := 1#32
  let v509 : Index := Scalar.indexCast c1_i32_275
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c4_i32 : BitVec 32 := 4#32
  let v493 : BitVec 32 := Scalar.addi v142 c4_i32
  let v510 : Index := Scalar.indexCast v493
  let c80_276 : Index := 80#32
  ![1, v510.toNat, 80]
def k0_off171 (k0_t2 : Fin k0_t2_loop.trips) : Fin 3 → Nat :=
  let c1_i32_277 : BitVec 32 := 1#32
  let v512 : Index := Scalar.indexCast c1_i32_277
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c4_i32 : BitVec 32 := 4#32
  let v493 : BitVec 32 := Scalar.addi v142 c4_i32
  let v513 : Index := Scalar.indexCast v493
  let c96_278 : Index := 96#32
  ![1, v513.toNat, 96]
def k0_off172 (k0_t2 : Fin k0_t2_loop.trips) : Fin 3 → Nat :=
  let c1_i32_279 : BitVec 32 := 1#32
  let v515 : Index := Scalar.indexCast c1_i32_279
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c4_i32 : BitVec 32 := 4#32
  let v493 : BitVec 32 := Scalar.addi v142 c4_i32
  let v516 : Index := Scalar.indexCast v493
  let c112_280 : Index := 112#32
  ![1, v516.toNat, 112]

def k0_chk23 (v578 : IVec S16 32) : Prop :=
  (∀ a x, ((![v578] : Fin 1 → IVec S16 32) a x).toNat < S272.size a)
theorem k0_idx23_inb : ∀ (v578 : IVec S16 32) (k0_hw23 : k0_chk23 v578), ∀ a x, ((![v578] : Fin 1 → IVec S16 32) a x).toNat < S272.size a := fun v578 k0_hw23 => k0_hw23
def k0_off173 (k0_t2 : Fin k0_t2_loop.trips) : Fin 3 → Nat :=
  let c1_i32_298 : BitVec 32 := 1#32
  let v580 : Index := Scalar.indexCast c1_i32_298
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c5_i32 : BitVec 32 := 5#32
  let v579 : BitVec 32 := Scalar.addi v142 c5_i32
  let v581 : Index := Scalar.indexCast v579
  let c0_299 : Index := 0#32
  ![1, v581.toNat, 0]
def k0_off174 (k0_t2 : Fin k0_t2_loop.trips) : Fin 3 → Nat :=
  let c1_i32_300 : BitVec 32 := 1#32
  let v583 : Index := Scalar.indexCast c1_i32_300
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c5_i32 : BitVec 32 := 5#32
  let v579 : BitVec 32 := Scalar.addi v142 c5_i32
  let v584 : Index := Scalar.indexCast v579
  let c16_301 : Index := 16#32
  ![1, v584.toNat, 16]
def k0_off175 (k0_t2 : Fin k0_t2_loop.trips) : Fin 3 → Nat :=
  let c1_i32_302 : BitVec 32 := 1#32
  let v586 : Index := Scalar.indexCast c1_i32_302
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c5_i32 : BitVec 32 := 5#32
  let v579 : BitVec 32 := Scalar.addi v142 c5_i32
  let v587 : Index := Scalar.indexCast v579
  let c32_303 : Index := 32#32
  ![1, v587.toNat, 32]
def k0_off176 (k0_t2 : Fin k0_t2_loop.trips) : Fin 3 → Nat :=
  let c1_i32_304 : BitVec 32 := 1#32
  let v589 : Index := Scalar.indexCast c1_i32_304
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c5_i32 : BitVec 32 := 5#32
  let v579 : BitVec 32 := Scalar.addi v142 c5_i32
  let v590 : Index := Scalar.indexCast v579
  let c48_305 : Index := 48#32
  ![1, v590.toNat, 48]
def k0_off177 (k0_t2 : Fin k0_t2_loop.trips) : Fin 3 → Nat :=
  let c1_i32_306 : BitVec 32 := 1#32
  let v592 : Index := Scalar.indexCast c1_i32_306
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c5_i32 : BitVec 32 := 5#32
  let v579 : BitVec 32 := Scalar.addi v142 c5_i32
  let v593 : Index := Scalar.indexCast v579
  let c64_307 : Index := 64#32
  ![1, v593.toNat, 64]
def k0_off178 (k0_t2 : Fin k0_t2_loop.trips) : Fin 3 → Nat :=
  let c1_i32_308 : BitVec 32 := 1#32
  let v595 : Index := Scalar.indexCast c1_i32_308
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c5_i32 : BitVec 32 := 5#32
  let v579 : BitVec 32 := Scalar.addi v142 c5_i32
  let v596 : Index := Scalar.indexCast v579
  let c80_309 : Index := 80#32
  ![1, v596.toNat, 80]
def k0_off179 (k0_t2 : Fin k0_t2_loop.trips) : Fin 3 → Nat :=
  let c1_i32_310 : BitVec 32 := 1#32
  let v598 : Index := Scalar.indexCast c1_i32_310
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c5_i32 : BitVec 32 := 5#32
  let v579 : BitVec 32 := Scalar.addi v142 c5_i32
  let v599 : Index := Scalar.indexCast v579
  let c96_311 : Index := 96#32
  ![1, v599.toNat, 96]
def k0_off180 (k0_t2 : Fin k0_t2_loop.trips) : Fin 3 → Nat :=
  let c1_i32_312 : BitVec 32 := 1#32
  let v601 : Index := Scalar.indexCast c1_i32_312
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c5_i32 : BitVec 32 := 5#32
  let v579 : BitVec 32 := Scalar.addi v142 c5_i32
  let v602 : Index := Scalar.indexCast v579
  let c112_313 : Index := 112#32
  ![1, v602.toNat, 112]

def k0_chk24 (v664 : IVec S16 32) : Prop :=
  (∀ a x, ((![v664] : Fin 1 → IVec S16 32) a x).toNat < S272.size a)
theorem k0_idx24_inb : ∀ (v664 : IVec S16 32) (k0_hw24 : k0_chk24 v664), ∀ a x, ((![v664] : Fin 1 → IVec S16 32) a x).toNat < S272.size a := fun v664 k0_hw24 => k0_hw24
def k0_off181 (k0_t2 : Fin k0_t2_loop.trips) : Fin 3 → Nat :=
  let c1_i32_331 : BitVec 32 := 1#32
  let v666 : Index := Scalar.indexCast c1_i32_331
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c6_i32 : BitVec 32 := 6#32
  let v665 : BitVec 32 := Scalar.addi v142 c6_i32
  let v667 : Index := Scalar.indexCast v665
  let c0_332 : Index := 0#32
  ![1, v667.toNat, 0]
def k0_off182 (k0_t2 : Fin k0_t2_loop.trips) : Fin 3 → Nat :=
  let c1_i32_333 : BitVec 32 := 1#32
  let v669 : Index := Scalar.indexCast c1_i32_333
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c6_i32 : BitVec 32 := 6#32
  let v665 : BitVec 32 := Scalar.addi v142 c6_i32
  let v670 : Index := Scalar.indexCast v665
  let c16_334 : Index := 16#32
  ![1, v670.toNat, 16]
def k0_off183 (k0_t2 : Fin k0_t2_loop.trips) : Fin 3 → Nat :=
  let c1_i32_335 : BitVec 32 := 1#32
  let v672 : Index := Scalar.indexCast c1_i32_335
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c6_i32 : BitVec 32 := 6#32
  let v665 : BitVec 32 := Scalar.addi v142 c6_i32
  let v673 : Index := Scalar.indexCast v665
  let c32_336 : Index := 32#32
  ![1, v673.toNat, 32]
def k0_off184 (k0_t2 : Fin k0_t2_loop.trips) : Fin 3 → Nat :=
  let c1_i32_337 : BitVec 32 := 1#32
  let v675 : Index := Scalar.indexCast c1_i32_337
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c6_i32 : BitVec 32 := 6#32
  let v665 : BitVec 32 := Scalar.addi v142 c6_i32
  let v676 : Index := Scalar.indexCast v665
  let c48_338 : Index := 48#32
  ![1, v676.toNat, 48]
def k0_off185 (k0_t2 : Fin k0_t2_loop.trips) : Fin 3 → Nat :=
  let c1_i32_339 : BitVec 32 := 1#32
  let v678 : Index := Scalar.indexCast c1_i32_339
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c6_i32 : BitVec 32 := 6#32
  let v665 : BitVec 32 := Scalar.addi v142 c6_i32
  let v679 : Index := Scalar.indexCast v665
  let c64_340 : Index := 64#32
  ![1, v679.toNat, 64]
def k0_off186 (k0_t2 : Fin k0_t2_loop.trips) : Fin 3 → Nat :=
  let c1_i32_341 : BitVec 32 := 1#32
  let v681 : Index := Scalar.indexCast c1_i32_341
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c6_i32 : BitVec 32 := 6#32
  let v665 : BitVec 32 := Scalar.addi v142 c6_i32
  let v682 : Index := Scalar.indexCast v665
  let c80_342 : Index := 80#32
  ![1, v682.toNat, 80]
def k0_off187 (k0_t2 : Fin k0_t2_loop.trips) : Fin 3 → Nat :=
  let c1_i32_343 : BitVec 32 := 1#32
  let v684 : Index := Scalar.indexCast c1_i32_343
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c6_i32 : BitVec 32 := 6#32
  let v665 : BitVec 32 := Scalar.addi v142 c6_i32
  let v685 : Index := Scalar.indexCast v665
  let c96_344 : Index := 96#32
  ![1, v685.toNat, 96]
def k0_off188 (k0_t2 : Fin k0_t2_loop.trips) : Fin 3 → Nat :=
  let c1_i32_345 : BitVec 32 := 1#32
  let v687 : Index := Scalar.indexCast c1_i32_345
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c6_i32 : BitVec 32 := 6#32
  let v665 : BitVec 32 := Scalar.addi v142 c6_i32
  let v688 : Index := Scalar.indexCast v665
  let c112_346 : Index := 112#32
  ![1, v688.toNat, 112]

def k0_chk25 (v750 : IVec S16 32) : Prop :=
  (∀ a x, ((![v750] : Fin 1 → IVec S16 32) a x).toNat < S272.size a)
theorem k0_idx25_inb : ∀ (v750 : IVec S16 32) (k0_hw25 : k0_chk25 v750), ∀ a x, ((![v750] : Fin 1 → IVec S16 32) a x).toNat < S272.size a := fun v750 k0_hw25 => k0_hw25
def k0_off189 (k0_t2 : Fin k0_t2_loop.trips) : Fin 3 → Nat :=
  let c1_i32_364 : BitVec 32 := 1#32
  let v752 : Index := Scalar.indexCast c1_i32_364
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c7_i32 : BitVec 32 := 7#32
  let v751 : BitVec 32 := Scalar.addi v142 c7_i32
  let v753 : Index := Scalar.indexCast v751
  let c0_365 : Index := 0#32
  ![1, v753.toNat, 0]
def k0_off190 (k0_t2 : Fin k0_t2_loop.trips) : Fin 3 → Nat :=
  let c1_i32_366 : BitVec 32 := 1#32
  let v755 : Index := Scalar.indexCast c1_i32_366
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c7_i32 : BitVec 32 := 7#32
  let v751 : BitVec 32 := Scalar.addi v142 c7_i32
  let v756 : Index := Scalar.indexCast v751
  let c16_367 : Index := 16#32
  ![1, v756.toNat, 16]
def k0_off191 (k0_t2 : Fin k0_t2_loop.trips) : Fin 3 → Nat :=
  let c1_i32_368 : BitVec 32 := 1#32
  let v758 : Index := Scalar.indexCast c1_i32_368
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c7_i32 : BitVec 32 := 7#32
  let v751 : BitVec 32 := Scalar.addi v142 c7_i32
  let v759 : Index := Scalar.indexCast v751
  let c32_369 : Index := 32#32
  ![1, v759.toNat, 32]
def k0_off192 (k0_t2 : Fin k0_t2_loop.trips) : Fin 3 → Nat :=
  let c1_i32_370 : BitVec 32 := 1#32
  let v761 : Index := Scalar.indexCast c1_i32_370
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c7_i32 : BitVec 32 := 7#32
  let v751 : BitVec 32 := Scalar.addi v142 c7_i32
  let v762 : Index := Scalar.indexCast v751
  let c48_371 : Index := 48#32
  ![1, v762.toNat, 48]
def k0_off193 (k0_t2 : Fin k0_t2_loop.trips) : Fin 3 → Nat :=
  let c1_i32_372 : BitVec 32 := 1#32
  let v764 : Index := Scalar.indexCast c1_i32_372
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c7_i32 : BitVec 32 := 7#32
  let v751 : BitVec 32 := Scalar.addi v142 c7_i32
  let v765 : Index := Scalar.indexCast v751
  let c64_373 : Index := 64#32
  ![1, v765.toNat, 64]
def k0_off194 (k0_t2 : Fin k0_t2_loop.trips) : Fin 3 → Nat :=
  let c1_i32_374 : BitVec 32 := 1#32
  let v767 : Index := Scalar.indexCast c1_i32_374
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c7_i32 : BitVec 32 := 7#32
  let v751 : BitVec 32 := Scalar.addi v142 c7_i32
  let v768 : Index := Scalar.indexCast v751
  let c80_375 : Index := 80#32
  ![1, v768.toNat, 80]
def k0_off195 (k0_t2 : Fin k0_t2_loop.trips) : Fin 3 → Nat :=
  let c1_i32_376 : BitVec 32 := 1#32
  let v770 : Index := Scalar.indexCast c1_i32_376
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c7_i32 : BitVec 32 := 7#32
  let v751 : BitVec 32 := Scalar.addi v142 c7_i32
  let v771 : Index := Scalar.indexCast v751
  let c96_377 : Index := 96#32
  ![1, v771.toNat, 96]
def k0_off196 (k0_t2 : Fin k0_t2_loop.trips) : Fin 3 → Nat :=
  let c1_i32_378 : BitVec 32 := 1#32
  let v773 : Index := Scalar.indexCast c1_i32_378
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c7_i32 : BitVec 32 := 7#32
  let v751 : BitVec 32 := Scalar.addi v142 c7_i32
  let v774 : Index := Scalar.indexCast v751
  let c112_379 : Index := 112#32
  ![1, v774.toNat, 112]

def k0_chk26 (v836 : IVec S16 32) : Prop :=
  (∀ a x, ((![v836] : Fin 1 → IVec S16 32) a x).toNat < S272.size a)
theorem k0_idx26_inb : ∀ (v836 : IVec S16 32) (k0_hw26 : k0_chk26 v836), ∀ a x, ((![v836] : Fin 1 → IVec S16 32) a x).toNat < S272.size a := fun v836 k0_hw26 => k0_hw26
def k0_off197 (k0_t2 : Fin k0_t2_loop.trips) : Fin 3 → Nat :=
  let c1_i32_398 : BitVec 32 := 1#32
  let v838 : Index := Scalar.indexCast c1_i32_398
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c8_i32_397 : BitVec 32 := 8#32
  let v837 : BitVec 32 := Scalar.addi v142 c8_i32_397
  let v839 : Index := Scalar.indexCast v837
  let c0_399 : Index := 0#32
  ![1, v839.toNat, 0]
def k0_off198 (k0_t2 : Fin k0_t2_loop.trips) : Fin 3 → Nat :=
  let c1_i32_400 : BitVec 32 := 1#32
  let v841 : Index := Scalar.indexCast c1_i32_400
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c8_i32_397 : BitVec 32 := 8#32
  let v837 : BitVec 32 := Scalar.addi v142 c8_i32_397
  let v842 : Index := Scalar.indexCast v837
  let c16_401 : Index := 16#32
  ![1, v842.toNat, 16]
def k0_off199 (k0_t2 : Fin k0_t2_loop.trips) : Fin 3 → Nat :=
  let c1_i32_402 : BitVec 32 := 1#32
  let v844 : Index := Scalar.indexCast c1_i32_402
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c8_i32_397 : BitVec 32 := 8#32
  let v837 : BitVec 32 := Scalar.addi v142 c8_i32_397
  let v845 : Index := Scalar.indexCast v837
  let c32_403 : Index := 32#32
  ![1, v845.toNat, 32]
def k0_off200 (k0_t2 : Fin k0_t2_loop.trips) : Fin 3 → Nat :=
  let c1_i32_404 : BitVec 32 := 1#32
  let v847 : Index := Scalar.indexCast c1_i32_404
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c8_i32_397 : BitVec 32 := 8#32
  let v837 : BitVec 32 := Scalar.addi v142 c8_i32_397
  let v848 : Index := Scalar.indexCast v837
  let c48_405 : Index := 48#32
  ![1, v848.toNat, 48]
def k0_off201 (k0_t2 : Fin k0_t2_loop.trips) : Fin 3 → Nat :=
  let c1_i32_406 : BitVec 32 := 1#32
  let v850 : Index := Scalar.indexCast c1_i32_406
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c8_i32_397 : BitVec 32 := 8#32
  let v837 : BitVec 32 := Scalar.addi v142 c8_i32_397
  let v851 : Index := Scalar.indexCast v837
  let c64_407 : Index := 64#32
  ![1, v851.toNat, 64]
def k0_off202 (k0_t2 : Fin k0_t2_loop.trips) : Fin 3 → Nat :=
  let c1_i32_408 : BitVec 32 := 1#32
  let v853 : Index := Scalar.indexCast c1_i32_408
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c8_i32_397 : BitVec 32 := 8#32
  let v837 : BitVec 32 := Scalar.addi v142 c8_i32_397
  let v854 : Index := Scalar.indexCast v837
  let c80_409 : Index := 80#32
  ![1, v854.toNat, 80]
def k0_off203 (k0_t2 : Fin k0_t2_loop.trips) : Fin 3 → Nat :=
  let c1_i32_410 : BitVec 32 := 1#32
  let v856 : Index := Scalar.indexCast c1_i32_410
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c8_i32_397 : BitVec 32 := 8#32
  let v837 : BitVec 32 := Scalar.addi v142 c8_i32_397
  let v857 : Index := Scalar.indexCast v837
  let c96_411 : Index := 96#32
  ![1, v857.toNat, 96]
def k0_off204 (k0_t2 : Fin k0_t2_loop.trips) : Fin 3 → Nat :=
  let c1_i32_412 : BitVec 32 := 1#32
  let v859 : Index := Scalar.indexCast c1_i32_412
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c8_i32_397 : BitVec 32 := 8#32
  let v837 : BitVec 32 := Scalar.addi v142 c8_i32_397
  let v860 : Index := Scalar.indexCast v837
  let c112_413 : Index := 112#32
  ![1, v860.toNat, 112]

def k0_chk27 (v922 : IVec S16 32) : Prop :=
  (∀ a x, ((![v922] : Fin 1 → IVec S16 32) a x).toNat < S272.size a)
theorem k0_idx27_inb : ∀ (v922 : IVec S16 32) (k0_hw27 : k0_chk27 v922), ∀ a x, ((![v922] : Fin 1 → IVec S16 32) a x).toNat < S272.size a := fun v922 k0_hw27 => k0_hw27
def k0_off205 (k0_t2 : Fin k0_t2_loop.trips) : Fin 3 → Nat :=
  let c1_i32_431 : BitVec 32 := 1#32
  let v924 : Index := Scalar.indexCast c1_i32_431
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c9_i32 : BitVec 32 := 9#32
  let v923 : BitVec 32 := Scalar.addi v142 c9_i32
  let v925 : Index := Scalar.indexCast v923
  let c0_432 : Index := 0#32
  ![1, v925.toNat, 0]
def k0_off206 (k0_t2 : Fin k0_t2_loop.trips) : Fin 3 → Nat :=
  let c1_i32_433 : BitVec 32 := 1#32
  let v927 : Index := Scalar.indexCast c1_i32_433
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c9_i32 : BitVec 32 := 9#32
  let v923 : BitVec 32 := Scalar.addi v142 c9_i32
  let v928 : Index := Scalar.indexCast v923
  let c16_434 : Index := 16#32
  ![1, v928.toNat, 16]
def k0_off207 (k0_t2 : Fin k0_t2_loop.trips) : Fin 3 → Nat :=
  let c1_i32_435 : BitVec 32 := 1#32
  let v930 : Index := Scalar.indexCast c1_i32_435
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c9_i32 : BitVec 32 := 9#32
  let v923 : BitVec 32 := Scalar.addi v142 c9_i32
  let v931 : Index := Scalar.indexCast v923
  let c32_436 : Index := 32#32
  ![1, v931.toNat, 32]
def k0_off208 (k0_t2 : Fin k0_t2_loop.trips) : Fin 3 → Nat :=
  let c1_i32_437 : BitVec 32 := 1#32
  let v933 : Index := Scalar.indexCast c1_i32_437
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c9_i32 : BitVec 32 := 9#32
  let v923 : BitVec 32 := Scalar.addi v142 c9_i32
  let v934 : Index := Scalar.indexCast v923
  let c48_438 : Index := 48#32
  ![1, v934.toNat, 48]
def k0_off209 (k0_t2 : Fin k0_t2_loop.trips) : Fin 3 → Nat :=
  let c1_i32_439 : BitVec 32 := 1#32
  let v936 : Index := Scalar.indexCast c1_i32_439
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c9_i32 : BitVec 32 := 9#32
  let v923 : BitVec 32 := Scalar.addi v142 c9_i32
  let v937 : Index := Scalar.indexCast v923
  let c64_440 : Index := 64#32
  ![1, v937.toNat, 64]
def k0_off210 (k0_t2 : Fin k0_t2_loop.trips) : Fin 3 → Nat :=
  let c1_i32_441 : BitVec 32 := 1#32
  let v939 : Index := Scalar.indexCast c1_i32_441
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c9_i32 : BitVec 32 := 9#32
  let v923 : BitVec 32 := Scalar.addi v142 c9_i32
  let v940 : Index := Scalar.indexCast v923
  let c80_442 : Index := 80#32
  ![1, v940.toNat, 80]
def k0_off211 (k0_t2 : Fin k0_t2_loop.trips) : Fin 3 → Nat :=
  let c1_i32_443 : BitVec 32 := 1#32
  let v942 : Index := Scalar.indexCast c1_i32_443
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c9_i32 : BitVec 32 := 9#32
  let v923 : BitVec 32 := Scalar.addi v142 c9_i32
  let v943 : Index := Scalar.indexCast v923
  let c96_444 : Index := 96#32
  ![1, v943.toNat, 96]
def k0_off212 (k0_t2 : Fin k0_t2_loop.trips) : Fin 3 → Nat :=
  let c1_i32_445 : BitVec 32 := 1#32
  let v945 : Index := Scalar.indexCast c1_i32_445
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c9_i32 : BitVec 32 := 9#32
  let v923 : BitVec 32 := Scalar.addi v142 c9_i32
  let v946 : Index := Scalar.indexCast v923
  let c112_446 : Index := 112#32
  ![1, v946.toNat, 112]

def k0_chk28 (v1008 : IVec S16 32) : Prop :=
  (∀ a x, ((![v1008] : Fin 1 → IVec S16 32) a x).toNat < S272.size a)
theorem k0_idx28_inb : ∀ (v1008 : IVec S16 32) (k0_hw28 : k0_chk28 v1008), ∀ a x, ((![v1008] : Fin 1 → IVec S16 32) a x).toNat < S272.size a := fun v1008 k0_hw28 => k0_hw28
def k0_off213 (k0_t2 : Fin k0_t2_loop.trips) : Fin 3 → Nat :=
  let c1_i32_464 : BitVec 32 := 1#32
  let v1010 : Index := Scalar.indexCast c1_i32_464
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c10_i32 : BitVec 32 := 10#32
  let v1009 : BitVec 32 := Scalar.addi v142 c10_i32
  let v1011 : Index := Scalar.indexCast v1009
  let c0_465 : Index := 0#32
  ![1, v1011.toNat, 0]
def k0_off214 (k0_t2 : Fin k0_t2_loop.trips) : Fin 3 → Nat :=
  let c1_i32_466 : BitVec 32 := 1#32
  let v1013 : Index := Scalar.indexCast c1_i32_466
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c10_i32 : BitVec 32 := 10#32
  let v1009 : BitVec 32 := Scalar.addi v142 c10_i32
  let v1014 : Index := Scalar.indexCast v1009
  let c16_467 : Index := 16#32
  ![1, v1014.toNat, 16]
def k0_off215 (k0_t2 : Fin k0_t2_loop.trips) : Fin 3 → Nat :=
  let c1_i32_468 : BitVec 32 := 1#32
  let v1016 : Index := Scalar.indexCast c1_i32_468
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c10_i32 : BitVec 32 := 10#32
  let v1009 : BitVec 32 := Scalar.addi v142 c10_i32
  let v1017 : Index := Scalar.indexCast v1009
  let c32_469 : Index := 32#32
  ![1, v1017.toNat, 32]
def k0_off216 (k0_t2 : Fin k0_t2_loop.trips) : Fin 3 → Nat :=
  let c1_i32_470 : BitVec 32 := 1#32
  let v1019 : Index := Scalar.indexCast c1_i32_470
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c10_i32 : BitVec 32 := 10#32
  let v1009 : BitVec 32 := Scalar.addi v142 c10_i32
  let v1020 : Index := Scalar.indexCast v1009
  let c48_471 : Index := 48#32
  ![1, v1020.toNat, 48]
def k0_off217 (k0_t2 : Fin k0_t2_loop.trips) : Fin 3 → Nat :=
  let c1_i32_472 : BitVec 32 := 1#32
  let v1022 : Index := Scalar.indexCast c1_i32_472
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c10_i32 : BitVec 32 := 10#32
  let v1009 : BitVec 32 := Scalar.addi v142 c10_i32
  let v1023 : Index := Scalar.indexCast v1009
  let c64_473 : Index := 64#32
  ![1, v1023.toNat, 64]
def k0_off218 (k0_t2 : Fin k0_t2_loop.trips) : Fin 3 → Nat :=
  let c1_i32_474 : BitVec 32 := 1#32
  let v1025 : Index := Scalar.indexCast c1_i32_474
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c10_i32 : BitVec 32 := 10#32
  let v1009 : BitVec 32 := Scalar.addi v142 c10_i32
  let v1026 : Index := Scalar.indexCast v1009
  let c80_475 : Index := 80#32
  ![1, v1026.toNat, 80]
def k0_off219 (k0_t2 : Fin k0_t2_loop.trips) : Fin 3 → Nat :=
  let c1_i32_476 : BitVec 32 := 1#32
  let v1028 : Index := Scalar.indexCast c1_i32_476
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c10_i32 : BitVec 32 := 10#32
  let v1009 : BitVec 32 := Scalar.addi v142 c10_i32
  let v1029 : Index := Scalar.indexCast v1009
  let c96_477 : Index := 96#32
  ![1, v1029.toNat, 96]
def k0_off220 (k0_t2 : Fin k0_t2_loop.trips) : Fin 3 → Nat :=
  let c1_i32_478 : BitVec 32 := 1#32
  let v1031 : Index := Scalar.indexCast c1_i32_478
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c10_i32 : BitVec 32 := 10#32
  let v1009 : BitVec 32 := Scalar.addi v142 c10_i32
  let v1032 : Index := Scalar.indexCast v1009
  let c112_479 : Index := 112#32
  ![1, v1032.toNat, 112]

def k0_chk29 (v1094 : IVec S16 32) : Prop :=
  (∀ a x, ((![v1094] : Fin 1 → IVec S16 32) a x).toNat < S272.size a)
theorem k0_idx29_inb : ∀ (v1094 : IVec S16 32) (k0_hw29 : k0_chk29 v1094), ∀ a x, ((![v1094] : Fin 1 → IVec S16 32) a x).toNat < S272.size a := fun v1094 k0_hw29 => k0_hw29
def k0_off221 (k0_t2 : Fin k0_t2_loop.trips) : Fin 3 → Nat :=
  let c1_i32_497 : BitVec 32 := 1#32
  let v1096 : Index := Scalar.indexCast c1_i32_497
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c11_i32 : BitVec 32 := 11#32
  let v1095 : BitVec 32 := Scalar.addi v142 c11_i32
  let v1097 : Index := Scalar.indexCast v1095
  let c0_498 : Index := 0#32
  ![1, v1097.toNat, 0]
def k0_off222 (k0_t2 : Fin k0_t2_loop.trips) : Fin 3 → Nat :=
  let c1_i32_499 : BitVec 32 := 1#32
  let v1099 : Index := Scalar.indexCast c1_i32_499
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c11_i32 : BitVec 32 := 11#32
  let v1095 : BitVec 32 := Scalar.addi v142 c11_i32
  let v1100 : Index := Scalar.indexCast v1095
  let c16_500 : Index := 16#32
  ![1, v1100.toNat, 16]
def k0_off223 (k0_t2 : Fin k0_t2_loop.trips) : Fin 3 → Nat :=
  let c1_i32_501 : BitVec 32 := 1#32
  let v1102 : Index := Scalar.indexCast c1_i32_501
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c11_i32 : BitVec 32 := 11#32
  let v1095 : BitVec 32 := Scalar.addi v142 c11_i32
  let v1103 : Index := Scalar.indexCast v1095
  let c32_502 : Index := 32#32
  ![1, v1103.toNat, 32]
def k0_off224 (k0_t2 : Fin k0_t2_loop.trips) : Fin 3 → Nat :=
  let c1_i32_503 : BitVec 32 := 1#32
  let v1105 : Index := Scalar.indexCast c1_i32_503
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c11_i32 : BitVec 32 := 11#32
  let v1095 : BitVec 32 := Scalar.addi v142 c11_i32
  let v1106 : Index := Scalar.indexCast v1095
  let c48_504 : Index := 48#32
  ![1, v1106.toNat, 48]
def k0_off225 (k0_t2 : Fin k0_t2_loop.trips) : Fin 3 → Nat :=
  let c1_i32_505 : BitVec 32 := 1#32
  let v1108 : Index := Scalar.indexCast c1_i32_505
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c11_i32 : BitVec 32 := 11#32
  let v1095 : BitVec 32 := Scalar.addi v142 c11_i32
  let v1109 : Index := Scalar.indexCast v1095
  let c64_506 : Index := 64#32
  ![1, v1109.toNat, 64]
def k0_off226 (k0_t2 : Fin k0_t2_loop.trips) : Fin 3 → Nat :=
  let c1_i32_507 : BitVec 32 := 1#32
  let v1111 : Index := Scalar.indexCast c1_i32_507
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c11_i32 : BitVec 32 := 11#32
  let v1095 : BitVec 32 := Scalar.addi v142 c11_i32
  let v1112 : Index := Scalar.indexCast v1095
  let c80_508 : Index := 80#32
  ![1, v1112.toNat, 80]
def k0_off227 (k0_t2 : Fin k0_t2_loop.trips) : Fin 3 → Nat :=
  let c1_i32_509 : BitVec 32 := 1#32
  let v1114 : Index := Scalar.indexCast c1_i32_509
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c11_i32 : BitVec 32 := 11#32
  let v1095 : BitVec 32 := Scalar.addi v142 c11_i32
  let v1115 : Index := Scalar.indexCast v1095
  let c96_510 : Index := 96#32
  ![1, v1115.toNat, 96]
def k0_off228 (k0_t2 : Fin k0_t2_loop.trips) : Fin 3 → Nat :=
  let c1_i32_511 : BitVec 32 := 1#32
  let v1117 : Index := Scalar.indexCast c1_i32_511
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c11_i32 : BitVec 32 := 11#32
  let v1095 : BitVec 32 := Scalar.addi v142 c11_i32
  let v1118 : Index := Scalar.indexCast v1095
  let c112_512 : Index := 112#32
  ![1, v1118.toNat, 112]

def k0_chk30 (v1180 : IVec S16 32) : Prop :=
  (∀ a x, ((![v1180] : Fin 1 → IVec S16 32) a x).toNat < S272.size a)
theorem k0_idx30_inb : ∀ (v1180 : IVec S16 32) (k0_hw30 : k0_chk30 v1180), ∀ a x, ((![v1180] : Fin 1 → IVec S16 32) a x).toNat < S272.size a := fun v1180 k0_hw30 => k0_hw30
def k0_off229 (k0_t2 : Fin k0_t2_loop.trips) : Fin 3 → Nat :=
  let c1_i32_530 : BitVec 32 := 1#32
  let v1182 : Index := Scalar.indexCast c1_i32_530
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c12_i32 : BitVec 32 := 12#32
  let v1181 : BitVec 32 := Scalar.addi v142 c12_i32
  let v1183 : Index := Scalar.indexCast v1181
  let c0_531 : Index := 0#32
  ![1, v1183.toNat, 0]
def k0_off230 (k0_t2 : Fin k0_t2_loop.trips) : Fin 3 → Nat :=
  let c1_i32_532 : BitVec 32 := 1#32
  let v1185 : Index := Scalar.indexCast c1_i32_532
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c12_i32 : BitVec 32 := 12#32
  let v1181 : BitVec 32 := Scalar.addi v142 c12_i32
  let v1186 : Index := Scalar.indexCast v1181
  let c16_533 : Index := 16#32
  ![1, v1186.toNat, 16]
def k0_off231 (k0_t2 : Fin k0_t2_loop.trips) : Fin 3 → Nat :=
  let c1_i32_534 : BitVec 32 := 1#32
  let v1188 : Index := Scalar.indexCast c1_i32_534
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c12_i32 : BitVec 32 := 12#32
  let v1181 : BitVec 32 := Scalar.addi v142 c12_i32
  let v1189 : Index := Scalar.indexCast v1181
  let c32_535 : Index := 32#32
  ![1, v1189.toNat, 32]
def k0_off232 (k0_t2 : Fin k0_t2_loop.trips) : Fin 3 → Nat :=
  let c1_i32_536 : BitVec 32 := 1#32
  let v1191 : Index := Scalar.indexCast c1_i32_536
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c12_i32 : BitVec 32 := 12#32
  let v1181 : BitVec 32 := Scalar.addi v142 c12_i32
  let v1192 : Index := Scalar.indexCast v1181
  let c48_537 : Index := 48#32
  ![1, v1192.toNat, 48]
def k0_off233 (k0_t2 : Fin k0_t2_loop.trips) : Fin 3 → Nat :=
  let c1_i32_538 : BitVec 32 := 1#32
  let v1194 : Index := Scalar.indexCast c1_i32_538
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c12_i32 : BitVec 32 := 12#32
  let v1181 : BitVec 32 := Scalar.addi v142 c12_i32
  let v1195 : Index := Scalar.indexCast v1181
  let c64_539 : Index := 64#32
  ![1, v1195.toNat, 64]
def k0_off234 (k0_t2 : Fin k0_t2_loop.trips) : Fin 3 → Nat :=
  let c1_i32_540 : BitVec 32 := 1#32
  let v1197 : Index := Scalar.indexCast c1_i32_540
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c12_i32 : BitVec 32 := 12#32
  let v1181 : BitVec 32 := Scalar.addi v142 c12_i32
  let v1198 : Index := Scalar.indexCast v1181
  let c80_541 : Index := 80#32
  ![1, v1198.toNat, 80]
def k0_off235 (k0_t2 : Fin k0_t2_loop.trips) : Fin 3 → Nat :=
  let c1_i32_542 : BitVec 32 := 1#32
  let v1200 : Index := Scalar.indexCast c1_i32_542
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c12_i32 : BitVec 32 := 12#32
  let v1181 : BitVec 32 := Scalar.addi v142 c12_i32
  let v1201 : Index := Scalar.indexCast v1181
  let c96_543 : Index := 96#32
  ![1, v1201.toNat, 96]
def k0_off236 (k0_t2 : Fin k0_t2_loop.trips) : Fin 3 → Nat :=
  let c1_i32_544 : BitVec 32 := 1#32
  let v1203 : Index := Scalar.indexCast c1_i32_544
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c12_i32 : BitVec 32 := 12#32
  let v1181 : BitVec 32 := Scalar.addi v142 c12_i32
  let v1204 : Index := Scalar.indexCast v1181
  let c112_545 : Index := 112#32
  ![1, v1204.toNat, 112]

def k0_chk31 (v1266 : IVec S16 32) : Prop :=
  (∀ a x, ((![v1266] : Fin 1 → IVec S16 32) a x).toNat < S272.size a)
theorem k0_idx31_inb : ∀ (v1266 : IVec S16 32) (k0_hw31 : k0_chk31 v1266), ∀ a x, ((![v1266] : Fin 1 → IVec S16 32) a x).toNat < S272.size a := fun v1266 k0_hw31 => k0_hw31
def k0_off237 (k0_t2 : Fin k0_t2_loop.trips) : Fin 3 → Nat :=
  let c1_i32_563 : BitVec 32 := 1#32
  let v1268 : Index := Scalar.indexCast c1_i32_563
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c13_i32 : BitVec 32 := 13#32
  let v1267 : BitVec 32 := Scalar.addi v142 c13_i32
  let v1269 : Index := Scalar.indexCast v1267
  let c0_564 : Index := 0#32
  ![1, v1269.toNat, 0]
def k0_off238 (k0_t2 : Fin k0_t2_loop.trips) : Fin 3 → Nat :=
  let c1_i32_565 : BitVec 32 := 1#32
  let v1271 : Index := Scalar.indexCast c1_i32_565
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c13_i32 : BitVec 32 := 13#32
  let v1267 : BitVec 32 := Scalar.addi v142 c13_i32
  let v1272 : Index := Scalar.indexCast v1267
  let c16_566 : Index := 16#32
  ![1, v1272.toNat, 16]
def k0_off239 (k0_t2 : Fin k0_t2_loop.trips) : Fin 3 → Nat :=
  let c1_i32_567 : BitVec 32 := 1#32
  let v1274 : Index := Scalar.indexCast c1_i32_567
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c13_i32 : BitVec 32 := 13#32
  let v1267 : BitVec 32 := Scalar.addi v142 c13_i32
  let v1275 : Index := Scalar.indexCast v1267
  let c32_568 : Index := 32#32
  ![1, v1275.toNat, 32]
def k0_off240 (k0_t2 : Fin k0_t2_loop.trips) : Fin 3 → Nat :=
  let c1_i32_569 : BitVec 32 := 1#32
  let v1277 : Index := Scalar.indexCast c1_i32_569
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c13_i32 : BitVec 32 := 13#32
  let v1267 : BitVec 32 := Scalar.addi v142 c13_i32
  let v1278 : Index := Scalar.indexCast v1267
  let c48_570 : Index := 48#32
  ![1, v1278.toNat, 48]
def k0_off241 (k0_t2 : Fin k0_t2_loop.trips) : Fin 3 → Nat :=
  let c1_i32_571 : BitVec 32 := 1#32
  let v1280 : Index := Scalar.indexCast c1_i32_571
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c13_i32 : BitVec 32 := 13#32
  let v1267 : BitVec 32 := Scalar.addi v142 c13_i32
  let v1281 : Index := Scalar.indexCast v1267
  let c64_572 : Index := 64#32
  ![1, v1281.toNat, 64]
def k0_off242 (k0_t2 : Fin k0_t2_loop.trips) : Fin 3 → Nat :=
  let c1_i32_573 : BitVec 32 := 1#32
  let v1283 : Index := Scalar.indexCast c1_i32_573
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c13_i32 : BitVec 32 := 13#32
  let v1267 : BitVec 32 := Scalar.addi v142 c13_i32
  let v1284 : Index := Scalar.indexCast v1267
  let c80_574 : Index := 80#32
  ![1, v1284.toNat, 80]
def k0_off243 (k0_t2 : Fin k0_t2_loop.trips) : Fin 3 → Nat :=
  let c1_i32_575 : BitVec 32 := 1#32
  let v1286 : Index := Scalar.indexCast c1_i32_575
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c13_i32 : BitVec 32 := 13#32
  let v1267 : BitVec 32 := Scalar.addi v142 c13_i32
  let v1287 : Index := Scalar.indexCast v1267
  let c96_576 : Index := 96#32
  ![1, v1287.toNat, 96]
def k0_off244 (k0_t2 : Fin k0_t2_loop.trips) : Fin 3 → Nat :=
  let c1_i32_577 : BitVec 32 := 1#32
  let v1289 : Index := Scalar.indexCast c1_i32_577
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c13_i32 : BitVec 32 := 13#32
  let v1267 : BitVec 32 := Scalar.addi v142 c13_i32
  let v1290 : Index := Scalar.indexCast v1267
  let c112_578 : Index := 112#32
  ![1, v1290.toNat, 112]

def k0_chk32 (v1352 : IVec S16 32) : Prop :=
  (∀ a x, ((![v1352] : Fin 1 → IVec S16 32) a x).toNat < S272.size a)
theorem k0_idx32_inb : ∀ (v1352 : IVec S16 32) (k0_hw32 : k0_chk32 v1352), ∀ a x, ((![v1352] : Fin 1 → IVec S16 32) a x).toNat < S272.size a := fun v1352 k0_hw32 => k0_hw32
def k0_off245 (k0_t2 : Fin k0_t2_loop.trips) : Fin 3 → Nat :=
  let c1_i32_596 : BitVec 32 := 1#32
  let v1354 : Index := Scalar.indexCast c1_i32_596
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c14_i32 : BitVec 32 := 14#32
  let v1353 : BitVec 32 := Scalar.addi v142 c14_i32
  let v1355 : Index := Scalar.indexCast v1353
  let c0_597 : Index := 0#32
  ![1, v1355.toNat, 0]
def k0_off246 (k0_t2 : Fin k0_t2_loop.trips) : Fin 3 → Nat :=
  let c1_i32_598 : BitVec 32 := 1#32
  let v1357 : Index := Scalar.indexCast c1_i32_598
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c14_i32 : BitVec 32 := 14#32
  let v1353 : BitVec 32 := Scalar.addi v142 c14_i32
  let v1358 : Index := Scalar.indexCast v1353
  let c16_599 : Index := 16#32
  ![1, v1358.toNat, 16]
def k0_off247 (k0_t2 : Fin k0_t2_loop.trips) : Fin 3 → Nat :=
  let c1_i32_600 : BitVec 32 := 1#32
  let v1360 : Index := Scalar.indexCast c1_i32_600
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c14_i32 : BitVec 32 := 14#32
  let v1353 : BitVec 32 := Scalar.addi v142 c14_i32
  let v1361 : Index := Scalar.indexCast v1353
  let c32_601 : Index := 32#32
  ![1, v1361.toNat, 32]
def k0_off248 (k0_t2 : Fin k0_t2_loop.trips) : Fin 3 → Nat :=
  let c1_i32_602 : BitVec 32 := 1#32
  let v1363 : Index := Scalar.indexCast c1_i32_602
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c14_i32 : BitVec 32 := 14#32
  let v1353 : BitVec 32 := Scalar.addi v142 c14_i32
  let v1364 : Index := Scalar.indexCast v1353
  let c48_603 : Index := 48#32
  ![1, v1364.toNat, 48]
def k0_off249 (k0_t2 : Fin k0_t2_loop.trips) : Fin 3 → Nat :=
  let c1_i32_604 : BitVec 32 := 1#32
  let v1366 : Index := Scalar.indexCast c1_i32_604
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c14_i32 : BitVec 32 := 14#32
  let v1353 : BitVec 32 := Scalar.addi v142 c14_i32
  let v1367 : Index := Scalar.indexCast v1353
  let c64_605 : Index := 64#32
  ![1, v1367.toNat, 64]
def k0_off250 (k0_t2 : Fin k0_t2_loop.trips) : Fin 3 → Nat :=
  let c1_i32_606 : BitVec 32 := 1#32
  let v1369 : Index := Scalar.indexCast c1_i32_606
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c14_i32 : BitVec 32 := 14#32
  let v1353 : BitVec 32 := Scalar.addi v142 c14_i32
  let v1370 : Index := Scalar.indexCast v1353
  let c80_607 : Index := 80#32
  ![1, v1370.toNat, 80]
def k0_off251 (k0_t2 : Fin k0_t2_loop.trips) : Fin 3 → Nat :=
  let c1_i32_608 : BitVec 32 := 1#32
  let v1372 : Index := Scalar.indexCast c1_i32_608
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c14_i32 : BitVec 32 := 14#32
  let v1353 : BitVec 32 := Scalar.addi v142 c14_i32
  let v1373 : Index := Scalar.indexCast v1353
  let c96_609 : Index := 96#32
  ![1, v1373.toNat, 96]
def k0_off252 (k0_t2 : Fin k0_t2_loop.trips) : Fin 3 → Nat :=
  let c1_i32_610 : BitVec 32 := 1#32
  let v1375 : Index := Scalar.indexCast c1_i32_610
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c14_i32 : BitVec 32 := 14#32
  let v1353 : BitVec 32 := Scalar.addi v142 c14_i32
  let v1376 : Index := Scalar.indexCast v1353
  let c112_611 : Index := 112#32
  ![1, v1376.toNat, 112]

def k0_chk33 (v1438 : IVec S16 32) : Prop :=
  (∀ a x, ((![v1438] : Fin 1 → IVec S16 32) a x).toNat < S272.size a)
theorem k0_idx33_inb : ∀ (v1438 : IVec S16 32) (k0_hw33 : k0_chk33 v1438), ∀ a x, ((![v1438] : Fin 1 → IVec S16 32) a x).toNat < S272.size a := fun v1438 k0_hw33 => k0_hw33
def k0_off253 (k0_t2 : Fin k0_t2_loop.trips) : Fin 3 → Nat :=
  let c1_i32_629 : BitVec 32 := 1#32
  let v1440 : Index := Scalar.indexCast c1_i32_629
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c15_i32 : BitVec 32 := 15#32
  let v1439 : BitVec 32 := Scalar.addi v142 c15_i32
  let v1441 : Index := Scalar.indexCast v1439
  let c0_630 : Index := 0#32
  ![1, v1441.toNat, 0]
def k0_off254 (k0_t2 : Fin k0_t2_loop.trips) : Fin 3 → Nat :=
  let c1_i32_631 : BitVec 32 := 1#32
  let v1443 : Index := Scalar.indexCast c1_i32_631
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c15_i32 : BitVec 32 := 15#32
  let v1439 : BitVec 32 := Scalar.addi v142 c15_i32
  let v1444 : Index := Scalar.indexCast v1439
  let c16_632 : Index := 16#32
  ![1, v1444.toNat, 16]
def k0_off255 (k0_t2 : Fin k0_t2_loop.trips) : Fin 3 → Nat :=
  let c1_i32_633 : BitVec 32 := 1#32
  let v1446 : Index := Scalar.indexCast c1_i32_633
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c15_i32 : BitVec 32 := 15#32
  let v1439 : BitVec 32 := Scalar.addi v142 c15_i32
  let v1447 : Index := Scalar.indexCast v1439
  let c32_634 : Index := 32#32
  ![1, v1447.toNat, 32]
def k0_off256 (k0_t2 : Fin k0_t2_loop.trips) : Fin 3 → Nat :=
  let c1_i32_635 : BitVec 32 := 1#32
  let v1449 : Index := Scalar.indexCast c1_i32_635
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c15_i32 : BitVec 32 := 15#32
  let v1439 : BitVec 32 := Scalar.addi v142 c15_i32
  let v1450 : Index := Scalar.indexCast v1439
  let c48_636 : Index := 48#32
  ![1, v1450.toNat, 48]
def k0_off257 (k0_t2 : Fin k0_t2_loop.trips) : Fin 3 → Nat :=
  let c1_i32_637 : BitVec 32 := 1#32
  let v1452 : Index := Scalar.indexCast c1_i32_637
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c15_i32 : BitVec 32 := 15#32
  let v1439 : BitVec 32 := Scalar.addi v142 c15_i32
  let v1453 : Index := Scalar.indexCast v1439
  let c64_638 : Index := 64#32
  ![1, v1453.toNat, 64]
def k0_off258 (k0_t2 : Fin k0_t2_loop.trips) : Fin 3 → Nat :=
  let c1_i32_639 : BitVec 32 := 1#32
  let v1455 : Index := Scalar.indexCast c1_i32_639
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c15_i32 : BitVec 32 := 15#32
  let v1439 : BitVec 32 := Scalar.addi v142 c15_i32
  let v1456 : Index := Scalar.indexCast v1439
  let c80_640 : Index := 80#32
  ![1, v1456.toNat, 80]
def k0_off259 (k0_t2 : Fin k0_t2_loop.trips) : Fin 3 → Nat :=
  let c1_i32_641 : BitVec 32 := 1#32
  let v1458 : Index := Scalar.indexCast c1_i32_641
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c15_i32 : BitVec 32 := 15#32
  let v1439 : BitVec 32 := Scalar.addi v142 c15_i32
  let v1459 : Index := Scalar.indexCast v1439
  let c96_642 : Index := 96#32
  ![1, v1459.toNat, 96]
def k0_off260 (k0_t2 : Fin k0_t2_loop.trips) : Fin 3 → Nat :=
  let c1_i32_643 : BitVec 32 := 1#32
  let v1461 : Index := Scalar.indexCast c1_i32_643
  let c0_i32_73 : BitVec 32 := 0#32
  let c1_i32_75 : BitVec 32 := 1#32
  let arg12 : BitVec 32 := Scf.iv c0_i32_73 c1_i32_75 k0_t2
  let c16_i32_127 : BitVec 32 := 16#32
  let v142 : BitVec 32 := Scalar.muli arg12 c16_i32_127
  let c15_i32 : BitVec 32 := 15#32
  let v1439 : BitVec 32 := Scalar.addi v142 c15_i32
  let v1462 : Index := Scalar.indexCast v1439
  let c112_644 : Index := 112#32
  ![1, v1462.toNat, 112]

def k0_chk34 (v1524 : IVec S16 32) : Prop :=
  (∀ a x, ((![v1524] : Fin 1 → IVec S16 32) a x).toNat < S272.size a)
theorem k0_idx34_inb : ∀ (v1524 : IVec S16 32) (k0_hw34 : k0_chk34 v1524), ∀ a x, ((![v1524] : Fin 1 → IVec S16 32) a x).toNat < S272.size a := fun v1524 k0_hw34 => k0_hw34
@[reducible] def k0_t3_loop : Scf.Loop 32 :=
  let c0_i32_105 : BitVec 32 := 0#32
  let c8_i32_106 : BitVec 32 := 8#32
  let v118 : BitVec 32 := Scalar.addi c0_i32_105 c8_i32_106
  let c1_i32_107 : BitVec 32 := 1#32
  ⟨c0_i32_105, v118, c1_i32_107⟩
def k0_off261 (k0_t3 : Fin k0_t3_loop.trips) : Fin 1 → Nat :=
  let c256_i32_128 : BitVec 32 := 256#32
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let v143 : BitVec 32 := Scalar.addi c256_i32_128 v142
  let v144 : Index := Scalar.indexCast v143
  ![v144.toNat]

def k0_chk35 (v148 : IVec S16 32) : Prop :=
  (∀ a x, ((![v148] : Fin 1 → IVec S16 32) a x).toNat < S272.size a)
theorem k0_idx35_inb : ∀ (v148 : IVec S16 32) (k0_hw35 : k0_chk35 v148), ∀ a x, ((![v148] : Fin 1 → IVec S16 32) a x).toNat < S272.size a := fun v148 k0_hw35 => k0_hw35
def k0_off262 (k0_t3 : Fin k0_t3_loop.trips) : Fin 3 → Nat :=
  let c0_i32_131 : BitVec 32 := 0#32
  let v150 : Index := Scalar.indexCast c0_i32_131
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c0_i32_130 : BitVec 32 := 0#32
  let v149 : BitVec 32 := Scalar.addi v142 c0_i32_130
  let v151 : Index := Scalar.indexCast v149
  let c0_132 : Index := 0#32
  ![0, v151.toNat, 0]
def k0_off263 (k0_t3 : Fin k0_t3_loop.trips) : Fin 3 → Nat :=
  let c0_i32_133 : BitVec 32 := 0#32
  let v153 : Index := Scalar.indexCast c0_i32_133
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c0_i32_130 : BitVec 32 := 0#32
  let v149 : BitVec 32 := Scalar.addi v142 c0_i32_130
  let v154 : Index := Scalar.indexCast v149
  let c16_134 : Index := 16#32
  ![0, v154.toNat, 16]
def k0_off264 (k0_t3 : Fin k0_t3_loop.trips) : Fin 3 → Nat :=
  let c0_i32_135 : BitVec 32 := 0#32
  let v156 : Index := Scalar.indexCast c0_i32_135
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c0_i32_130 : BitVec 32 := 0#32
  let v149 : BitVec 32 := Scalar.addi v142 c0_i32_130
  let v157 : Index := Scalar.indexCast v149
  let c32_136 : Index := 32#32
  ![0, v157.toNat, 32]
def k0_off265 (k0_t3 : Fin k0_t3_loop.trips) : Fin 3 → Nat :=
  let c0_i32_137 : BitVec 32 := 0#32
  let v159 : Index := Scalar.indexCast c0_i32_137
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c0_i32_130 : BitVec 32 := 0#32
  let v149 : BitVec 32 := Scalar.addi v142 c0_i32_130
  let v160 : Index := Scalar.indexCast v149
  let c48_138 : Index := 48#32
  ![0, v160.toNat, 48]
def k0_off266 (k0_t3 : Fin k0_t3_loop.trips) : Fin 3 → Nat :=
  let c0_i32_139 : BitVec 32 := 0#32
  let v162 : Index := Scalar.indexCast c0_i32_139
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c0_i32_130 : BitVec 32 := 0#32
  let v149 : BitVec 32 := Scalar.addi v142 c0_i32_130
  let v163 : Index := Scalar.indexCast v149
  let c64_140 : Index := 64#32
  ![0, v163.toNat, 64]
def k0_off267 (k0_t3 : Fin k0_t3_loop.trips) : Fin 3 → Nat :=
  let c0_i32_141 : BitVec 32 := 0#32
  let v165 : Index := Scalar.indexCast c0_i32_141
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c0_i32_130 : BitVec 32 := 0#32
  let v149 : BitVec 32 := Scalar.addi v142 c0_i32_130
  let v166 : Index := Scalar.indexCast v149
  let c80_142 : Index := 80#32
  ![0, v166.toNat, 80]
def k0_off268 (k0_t3 : Fin k0_t3_loop.trips) : Fin 3 → Nat :=
  let c0_i32_143 : BitVec 32 := 0#32
  let v168 : Index := Scalar.indexCast c0_i32_143
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c0_i32_130 : BitVec 32 := 0#32
  let v149 : BitVec 32 := Scalar.addi v142 c0_i32_130
  let v169 : Index := Scalar.indexCast v149
  let c96_144 : Index := 96#32
  ![0, v169.toNat, 96]
def k0_off269 (k0_t3 : Fin k0_t3_loop.trips) : Fin 3 → Nat :=
  let c0_i32_145 : BitVec 32 := 0#32
  let v171 : Index := Scalar.indexCast c0_i32_145
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c0_i32_130 : BitVec 32 := 0#32
  let v149 : BitVec 32 := Scalar.addi v142 c0_i32_130
  let v172 : Index := Scalar.indexCast v149
  let c112_146 : Index := 112#32
  ![0, v172.toNat, 112]

def k0_chk36 (v234 : IVec S16 32) : Prop :=
  (∀ a x, ((![v234] : Fin 1 → IVec S16 32) a x).toNat < S272.size a)
theorem k0_idx36_inb : ∀ (v234 : IVec S16 32) (k0_hw36 : k0_chk36 v234), ∀ a x, ((![v234] : Fin 1 → IVec S16 32) a x).toNat < S272.size a := fun v234 k0_hw36 => k0_hw36
def k0_off270 (k0_t3 : Fin k0_t3_loop.trips) : Fin 3 → Nat :=
  let c0_i32_165 : BitVec 32 := 0#32
  let v236 : Index := Scalar.indexCast c0_i32_165
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c1_i32_164 : BitVec 32 := 1#32
  let v235 : BitVec 32 := Scalar.addi v142 c1_i32_164
  let v237 : Index := Scalar.indexCast v235
  let c0_166 : Index := 0#32
  ![0, v237.toNat, 0]
def k0_off271 (k0_t3 : Fin k0_t3_loop.trips) : Fin 3 → Nat :=
  let c0_i32_167 : BitVec 32 := 0#32
  let v239 : Index := Scalar.indexCast c0_i32_167
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c1_i32_164 : BitVec 32 := 1#32
  let v235 : BitVec 32 := Scalar.addi v142 c1_i32_164
  let v240 : Index := Scalar.indexCast v235
  let c16_168 : Index := 16#32
  ![0, v240.toNat, 16]
def k0_off272 (k0_t3 : Fin k0_t3_loop.trips) : Fin 3 → Nat :=
  let c0_i32_169 : BitVec 32 := 0#32
  let v242 : Index := Scalar.indexCast c0_i32_169
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c1_i32_164 : BitVec 32 := 1#32
  let v235 : BitVec 32 := Scalar.addi v142 c1_i32_164
  let v243 : Index := Scalar.indexCast v235
  let c32_170 : Index := 32#32
  ![0, v243.toNat, 32]
def k0_off273 (k0_t3 : Fin k0_t3_loop.trips) : Fin 3 → Nat :=
  let c0_i32_171 : BitVec 32 := 0#32
  let v245 : Index := Scalar.indexCast c0_i32_171
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c1_i32_164 : BitVec 32 := 1#32
  let v235 : BitVec 32 := Scalar.addi v142 c1_i32_164
  let v246 : Index := Scalar.indexCast v235
  let c48_172 : Index := 48#32
  ![0, v246.toNat, 48]
def k0_off274 (k0_t3 : Fin k0_t3_loop.trips) : Fin 3 → Nat :=
  let c0_i32_173 : BitVec 32 := 0#32
  let v248 : Index := Scalar.indexCast c0_i32_173
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c1_i32_164 : BitVec 32 := 1#32
  let v235 : BitVec 32 := Scalar.addi v142 c1_i32_164
  let v249 : Index := Scalar.indexCast v235
  let c64_174 : Index := 64#32
  ![0, v249.toNat, 64]
def k0_off275 (k0_t3 : Fin k0_t3_loop.trips) : Fin 3 → Nat :=
  let c0_i32_175 : BitVec 32 := 0#32
  let v251 : Index := Scalar.indexCast c0_i32_175
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c1_i32_164 : BitVec 32 := 1#32
  let v235 : BitVec 32 := Scalar.addi v142 c1_i32_164
  let v252 : Index := Scalar.indexCast v235
  let c80_176 : Index := 80#32
  ![0, v252.toNat, 80]
def k0_off276 (k0_t3 : Fin k0_t3_loop.trips) : Fin 3 → Nat :=
  let c0_i32_177 : BitVec 32 := 0#32
  let v254 : Index := Scalar.indexCast c0_i32_177
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c1_i32_164 : BitVec 32 := 1#32
  let v235 : BitVec 32 := Scalar.addi v142 c1_i32_164
  let v255 : Index := Scalar.indexCast v235
  let c96_178 : Index := 96#32
  ![0, v255.toNat, 96]
def k0_off277 (k0_t3 : Fin k0_t3_loop.trips) : Fin 3 → Nat :=
  let c0_i32_179 : BitVec 32 := 0#32
  let v257 : Index := Scalar.indexCast c0_i32_179
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c1_i32_164 : BitVec 32 := 1#32
  let v235 : BitVec 32 := Scalar.addi v142 c1_i32_164
  let v258 : Index := Scalar.indexCast v235
  let c112_180 : Index := 112#32
  ![0, v258.toNat, 112]

def k0_chk37 (v320 : IVec S16 32) : Prop :=
  (∀ a x, ((![v320] : Fin 1 → IVec S16 32) a x).toNat < S272.size a)
theorem k0_idx37_inb : ∀ (v320 : IVec S16 32) (k0_hw37 : k0_chk37 v320), ∀ a x, ((![v320] : Fin 1 → IVec S16 32) a x).toNat < S272.size a := fun v320 k0_hw37 => k0_hw37
def k0_off278 (k0_t3 : Fin k0_t3_loop.trips) : Fin 3 → Nat :=
  let c0_i32_199 : BitVec 32 := 0#32
  let v322 : Index := Scalar.indexCast c0_i32_199
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c2_i32_198 : BitVec 32 := 2#32
  let v321 : BitVec 32 := Scalar.addi v142 c2_i32_198
  let v323 : Index := Scalar.indexCast v321
  let c0_200 : Index := 0#32
  ![0, v323.toNat, 0]
def k0_off279 (k0_t3 : Fin k0_t3_loop.trips) : Fin 3 → Nat :=
  let c0_i32_201 : BitVec 32 := 0#32
  let v325 : Index := Scalar.indexCast c0_i32_201
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c2_i32_198 : BitVec 32 := 2#32
  let v321 : BitVec 32 := Scalar.addi v142 c2_i32_198
  let v326 : Index := Scalar.indexCast v321
  let c16_202 : Index := 16#32
  ![0, v326.toNat, 16]
def k0_off280 (k0_t3 : Fin k0_t3_loop.trips) : Fin 3 → Nat :=
  let c0_i32_203 : BitVec 32 := 0#32
  let v328 : Index := Scalar.indexCast c0_i32_203
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c2_i32_198 : BitVec 32 := 2#32
  let v321 : BitVec 32 := Scalar.addi v142 c2_i32_198
  let v329 : Index := Scalar.indexCast v321
  let c32_204 : Index := 32#32
  ![0, v329.toNat, 32]
def k0_off281 (k0_t3 : Fin k0_t3_loop.trips) : Fin 3 → Nat :=
  let c0_i32_205 : BitVec 32 := 0#32
  let v331 : Index := Scalar.indexCast c0_i32_205
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c2_i32_198 : BitVec 32 := 2#32
  let v321 : BitVec 32 := Scalar.addi v142 c2_i32_198
  let v332 : Index := Scalar.indexCast v321
  let c48_206 : Index := 48#32
  ![0, v332.toNat, 48]
def k0_off282 (k0_t3 : Fin k0_t3_loop.trips) : Fin 3 → Nat :=
  let c0_i32_207 : BitVec 32 := 0#32
  let v334 : Index := Scalar.indexCast c0_i32_207
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c2_i32_198 : BitVec 32 := 2#32
  let v321 : BitVec 32 := Scalar.addi v142 c2_i32_198
  let v335 : Index := Scalar.indexCast v321
  let c64_208 : Index := 64#32
  ![0, v335.toNat, 64]
def k0_off283 (k0_t3 : Fin k0_t3_loop.trips) : Fin 3 → Nat :=
  let c0_i32_209 : BitVec 32 := 0#32
  let v337 : Index := Scalar.indexCast c0_i32_209
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c2_i32_198 : BitVec 32 := 2#32
  let v321 : BitVec 32 := Scalar.addi v142 c2_i32_198
  let v338 : Index := Scalar.indexCast v321
  let c80_210 : Index := 80#32
  ![0, v338.toNat, 80]
def k0_off284 (k0_t3 : Fin k0_t3_loop.trips) : Fin 3 → Nat :=
  let c0_i32_211 : BitVec 32 := 0#32
  let v340 : Index := Scalar.indexCast c0_i32_211
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c2_i32_198 : BitVec 32 := 2#32
  let v321 : BitVec 32 := Scalar.addi v142 c2_i32_198
  let v341 : Index := Scalar.indexCast v321
  let c96_212 : Index := 96#32
  ![0, v341.toNat, 96]
def k0_off285 (k0_t3 : Fin k0_t3_loop.trips) : Fin 3 → Nat :=
  let c0_i32_213 : BitVec 32 := 0#32
  let v343 : Index := Scalar.indexCast c0_i32_213
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c2_i32_198 : BitVec 32 := 2#32
  let v321 : BitVec 32 := Scalar.addi v142 c2_i32_198
  let v344 : Index := Scalar.indexCast v321
  let c112_214 : Index := 112#32
  ![0, v344.toNat, 112]

def k0_chk38 (v406 : IVec S16 32) : Prop :=
  (∀ a x, ((![v406] : Fin 1 → IVec S16 32) a x).toNat < S272.size a)
theorem k0_idx38_inb : ∀ (v406 : IVec S16 32) (k0_hw38 : k0_chk38 v406), ∀ a x, ((![v406] : Fin 1 → IVec S16 32) a x).toNat < S272.size a := fun v406 k0_hw38 => k0_hw38
def k0_off286 (k0_t3 : Fin k0_t3_loop.trips) : Fin 3 → Nat :=
  let c0_i32_232 : BitVec 32 := 0#32
  let v408 : Index := Scalar.indexCast c0_i32_232
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c3_i32 : BitVec 32 := 3#32
  let v407 : BitVec 32 := Scalar.addi v142 c3_i32
  let v409 : Index := Scalar.indexCast v407
  let c0_233 : Index := 0#32
  ![0, v409.toNat, 0]
def k0_off287 (k0_t3 : Fin k0_t3_loop.trips) : Fin 3 → Nat :=
  let c0_i32_234 : BitVec 32 := 0#32
  let v411 : Index := Scalar.indexCast c0_i32_234
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c3_i32 : BitVec 32 := 3#32
  let v407 : BitVec 32 := Scalar.addi v142 c3_i32
  let v412 : Index := Scalar.indexCast v407
  let c16_235 : Index := 16#32
  ![0, v412.toNat, 16]
def k0_off288 (k0_t3 : Fin k0_t3_loop.trips) : Fin 3 → Nat :=
  let c0_i32_236 : BitVec 32 := 0#32
  let v414 : Index := Scalar.indexCast c0_i32_236
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c3_i32 : BitVec 32 := 3#32
  let v407 : BitVec 32 := Scalar.addi v142 c3_i32
  let v415 : Index := Scalar.indexCast v407
  let c32_237 : Index := 32#32
  ![0, v415.toNat, 32]
def k0_off289 (k0_t3 : Fin k0_t3_loop.trips) : Fin 3 → Nat :=
  let c0_i32_238 : BitVec 32 := 0#32
  let v417 : Index := Scalar.indexCast c0_i32_238
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c3_i32 : BitVec 32 := 3#32
  let v407 : BitVec 32 := Scalar.addi v142 c3_i32
  let v418 : Index := Scalar.indexCast v407
  let c48_239 : Index := 48#32
  ![0, v418.toNat, 48]
def k0_off290 (k0_t3 : Fin k0_t3_loop.trips) : Fin 3 → Nat :=
  let c0_i32_240 : BitVec 32 := 0#32
  let v420 : Index := Scalar.indexCast c0_i32_240
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c3_i32 : BitVec 32 := 3#32
  let v407 : BitVec 32 := Scalar.addi v142 c3_i32
  let v421 : Index := Scalar.indexCast v407
  let c64_241 : Index := 64#32
  ![0, v421.toNat, 64]
def k0_off291 (k0_t3 : Fin k0_t3_loop.trips) : Fin 3 → Nat :=
  let c0_i32_242 : BitVec 32 := 0#32
  let v423 : Index := Scalar.indexCast c0_i32_242
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c3_i32 : BitVec 32 := 3#32
  let v407 : BitVec 32 := Scalar.addi v142 c3_i32
  let v424 : Index := Scalar.indexCast v407
  let c80_243 : Index := 80#32
  ![0, v424.toNat, 80]
def k0_off292 (k0_t3 : Fin k0_t3_loop.trips) : Fin 3 → Nat :=
  let c0_i32_244 : BitVec 32 := 0#32
  let v426 : Index := Scalar.indexCast c0_i32_244
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c3_i32 : BitVec 32 := 3#32
  let v407 : BitVec 32 := Scalar.addi v142 c3_i32
  let v427 : Index := Scalar.indexCast v407
  let c96_245 : Index := 96#32
  ![0, v427.toNat, 96]
def k0_off293 (k0_t3 : Fin k0_t3_loop.trips) : Fin 3 → Nat :=
  let c0_i32_246 : BitVec 32 := 0#32
  let v429 : Index := Scalar.indexCast c0_i32_246
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c3_i32 : BitVec 32 := 3#32
  let v407 : BitVec 32 := Scalar.addi v142 c3_i32
  let v430 : Index := Scalar.indexCast v407
  let c112_247 : Index := 112#32
  ![0, v430.toNat, 112]

def k0_chk39 (v492 : IVec S16 32) : Prop :=
  (∀ a x, ((![v492] : Fin 1 → IVec S16 32) a x).toNat < S272.size a)
theorem k0_idx39_inb : ∀ (v492 : IVec S16 32) (k0_hw39 : k0_chk39 v492), ∀ a x, ((![v492] : Fin 1 → IVec S16 32) a x).toNat < S272.size a := fun v492 k0_hw39 => k0_hw39
def k0_off294 (k0_t3 : Fin k0_t3_loop.trips) : Fin 3 → Nat :=
  let c0_i32_265 : BitVec 32 := 0#32
  let v494 : Index := Scalar.indexCast c0_i32_265
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c4_i32 : BitVec 32 := 4#32
  let v493 : BitVec 32 := Scalar.addi v142 c4_i32
  let v495 : Index := Scalar.indexCast v493
  let c0_266 : Index := 0#32
  ![0, v495.toNat, 0]
def k0_off295 (k0_t3 : Fin k0_t3_loop.trips) : Fin 3 → Nat :=
  let c0_i32_267 : BitVec 32 := 0#32
  let v497 : Index := Scalar.indexCast c0_i32_267
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c4_i32 : BitVec 32 := 4#32
  let v493 : BitVec 32 := Scalar.addi v142 c4_i32
  let v498 : Index := Scalar.indexCast v493
  let c16_268 : Index := 16#32
  ![0, v498.toNat, 16]
def k0_off296 (k0_t3 : Fin k0_t3_loop.trips) : Fin 3 → Nat :=
  let c0_i32_269 : BitVec 32 := 0#32
  let v500 : Index := Scalar.indexCast c0_i32_269
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c4_i32 : BitVec 32 := 4#32
  let v493 : BitVec 32 := Scalar.addi v142 c4_i32
  let v501 : Index := Scalar.indexCast v493
  let c32_270 : Index := 32#32
  ![0, v501.toNat, 32]
def k0_off297 (k0_t3 : Fin k0_t3_loop.trips) : Fin 3 → Nat :=
  let c0_i32_271 : BitVec 32 := 0#32
  let v503 : Index := Scalar.indexCast c0_i32_271
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c4_i32 : BitVec 32 := 4#32
  let v493 : BitVec 32 := Scalar.addi v142 c4_i32
  let v504 : Index := Scalar.indexCast v493
  let c48_272 : Index := 48#32
  ![0, v504.toNat, 48]
def k0_off298 (k0_t3 : Fin k0_t3_loop.trips) : Fin 3 → Nat :=
  let c0_i32_273 : BitVec 32 := 0#32
  let v506 : Index := Scalar.indexCast c0_i32_273
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c4_i32 : BitVec 32 := 4#32
  let v493 : BitVec 32 := Scalar.addi v142 c4_i32
  let v507 : Index := Scalar.indexCast v493
  let c64_274 : Index := 64#32
  ![0, v507.toNat, 64]
def k0_off299 (k0_t3 : Fin k0_t3_loop.trips) : Fin 3 → Nat :=
  let c0_i32_275 : BitVec 32 := 0#32
  let v509 : Index := Scalar.indexCast c0_i32_275
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c4_i32 : BitVec 32 := 4#32
  let v493 : BitVec 32 := Scalar.addi v142 c4_i32
  let v510 : Index := Scalar.indexCast v493
  let c80_276 : Index := 80#32
  ![0, v510.toNat, 80]
def k0_off300 (k0_t3 : Fin k0_t3_loop.trips) : Fin 3 → Nat :=
  let c0_i32_277 : BitVec 32 := 0#32
  let v512 : Index := Scalar.indexCast c0_i32_277
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c4_i32 : BitVec 32 := 4#32
  let v493 : BitVec 32 := Scalar.addi v142 c4_i32
  let v513 : Index := Scalar.indexCast v493
  let c96_278 : Index := 96#32
  ![0, v513.toNat, 96]
def k0_off301 (k0_t3 : Fin k0_t3_loop.trips) : Fin 3 → Nat :=
  let c0_i32_279 : BitVec 32 := 0#32
  let v515 : Index := Scalar.indexCast c0_i32_279
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c4_i32 : BitVec 32 := 4#32
  let v493 : BitVec 32 := Scalar.addi v142 c4_i32
  let v516 : Index := Scalar.indexCast v493
  let c112_280 : Index := 112#32
  ![0, v516.toNat, 112]

def k0_chk40 (v578 : IVec S16 32) : Prop :=
  (∀ a x, ((![v578] : Fin 1 → IVec S16 32) a x).toNat < S272.size a)
theorem k0_idx40_inb : ∀ (v578 : IVec S16 32) (k0_hw40 : k0_chk40 v578), ∀ a x, ((![v578] : Fin 1 → IVec S16 32) a x).toNat < S272.size a := fun v578 k0_hw40 => k0_hw40
def k0_off302 (k0_t3 : Fin k0_t3_loop.trips) : Fin 3 → Nat :=
  let c0_i32_298 : BitVec 32 := 0#32
  let v580 : Index := Scalar.indexCast c0_i32_298
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c5_i32 : BitVec 32 := 5#32
  let v579 : BitVec 32 := Scalar.addi v142 c5_i32
  let v581 : Index := Scalar.indexCast v579
  let c0_299 : Index := 0#32
  ![0, v581.toNat, 0]
def k0_off303 (k0_t3 : Fin k0_t3_loop.trips) : Fin 3 → Nat :=
  let c0_i32_300 : BitVec 32 := 0#32
  let v583 : Index := Scalar.indexCast c0_i32_300
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c5_i32 : BitVec 32 := 5#32
  let v579 : BitVec 32 := Scalar.addi v142 c5_i32
  let v584 : Index := Scalar.indexCast v579
  let c16_301 : Index := 16#32
  ![0, v584.toNat, 16]
def k0_off304 (k0_t3 : Fin k0_t3_loop.trips) : Fin 3 → Nat :=
  let c0_i32_302 : BitVec 32 := 0#32
  let v586 : Index := Scalar.indexCast c0_i32_302
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c5_i32 : BitVec 32 := 5#32
  let v579 : BitVec 32 := Scalar.addi v142 c5_i32
  let v587 : Index := Scalar.indexCast v579
  let c32_303 : Index := 32#32
  ![0, v587.toNat, 32]
def k0_off305 (k0_t3 : Fin k0_t3_loop.trips) : Fin 3 → Nat :=
  let c0_i32_304 : BitVec 32 := 0#32
  let v589 : Index := Scalar.indexCast c0_i32_304
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c5_i32 : BitVec 32 := 5#32
  let v579 : BitVec 32 := Scalar.addi v142 c5_i32
  let v590 : Index := Scalar.indexCast v579
  let c48_305 : Index := 48#32
  ![0, v590.toNat, 48]
def k0_off306 (k0_t3 : Fin k0_t3_loop.trips) : Fin 3 → Nat :=
  let c0_i32_306 : BitVec 32 := 0#32
  let v592 : Index := Scalar.indexCast c0_i32_306
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c5_i32 : BitVec 32 := 5#32
  let v579 : BitVec 32 := Scalar.addi v142 c5_i32
  let v593 : Index := Scalar.indexCast v579
  let c64_307 : Index := 64#32
  ![0, v593.toNat, 64]
def k0_off307 (k0_t3 : Fin k0_t3_loop.trips) : Fin 3 → Nat :=
  let c0_i32_308 : BitVec 32 := 0#32
  let v595 : Index := Scalar.indexCast c0_i32_308
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c5_i32 : BitVec 32 := 5#32
  let v579 : BitVec 32 := Scalar.addi v142 c5_i32
  let v596 : Index := Scalar.indexCast v579
  let c80_309 : Index := 80#32
  ![0, v596.toNat, 80]
def k0_off308 (k0_t3 : Fin k0_t3_loop.trips) : Fin 3 → Nat :=
  let c0_i32_310 : BitVec 32 := 0#32
  let v598 : Index := Scalar.indexCast c0_i32_310
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c5_i32 : BitVec 32 := 5#32
  let v579 : BitVec 32 := Scalar.addi v142 c5_i32
  let v599 : Index := Scalar.indexCast v579
  let c96_311 : Index := 96#32
  ![0, v599.toNat, 96]
def k0_off309 (k0_t3 : Fin k0_t3_loop.trips) : Fin 3 → Nat :=
  let c0_i32_312 : BitVec 32 := 0#32
  let v601 : Index := Scalar.indexCast c0_i32_312
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c5_i32 : BitVec 32 := 5#32
  let v579 : BitVec 32 := Scalar.addi v142 c5_i32
  let v602 : Index := Scalar.indexCast v579
  let c112_313 : Index := 112#32
  ![0, v602.toNat, 112]

def k0_chk41 (v664 : IVec S16 32) : Prop :=
  (∀ a x, ((![v664] : Fin 1 → IVec S16 32) a x).toNat < S272.size a)
theorem k0_idx41_inb : ∀ (v664 : IVec S16 32) (k0_hw41 : k0_chk41 v664), ∀ a x, ((![v664] : Fin 1 → IVec S16 32) a x).toNat < S272.size a := fun v664 k0_hw41 => k0_hw41
def k0_off310 (k0_t3 : Fin k0_t3_loop.trips) : Fin 3 → Nat :=
  let c0_i32_331 : BitVec 32 := 0#32
  let v666 : Index := Scalar.indexCast c0_i32_331
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c6_i32 : BitVec 32 := 6#32
  let v665 : BitVec 32 := Scalar.addi v142 c6_i32
  let v667 : Index := Scalar.indexCast v665
  let c0_332 : Index := 0#32
  ![0, v667.toNat, 0]
def k0_off311 (k0_t3 : Fin k0_t3_loop.trips) : Fin 3 → Nat :=
  let c0_i32_333 : BitVec 32 := 0#32
  let v669 : Index := Scalar.indexCast c0_i32_333
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c6_i32 : BitVec 32 := 6#32
  let v665 : BitVec 32 := Scalar.addi v142 c6_i32
  let v670 : Index := Scalar.indexCast v665
  let c16_334 : Index := 16#32
  ![0, v670.toNat, 16]
def k0_off312 (k0_t3 : Fin k0_t3_loop.trips) : Fin 3 → Nat :=
  let c0_i32_335 : BitVec 32 := 0#32
  let v672 : Index := Scalar.indexCast c0_i32_335
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c6_i32 : BitVec 32 := 6#32
  let v665 : BitVec 32 := Scalar.addi v142 c6_i32
  let v673 : Index := Scalar.indexCast v665
  let c32_336 : Index := 32#32
  ![0, v673.toNat, 32]
def k0_off313 (k0_t3 : Fin k0_t3_loop.trips) : Fin 3 → Nat :=
  let c0_i32_337 : BitVec 32 := 0#32
  let v675 : Index := Scalar.indexCast c0_i32_337
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c6_i32 : BitVec 32 := 6#32
  let v665 : BitVec 32 := Scalar.addi v142 c6_i32
  let v676 : Index := Scalar.indexCast v665
  let c48_338 : Index := 48#32
  ![0, v676.toNat, 48]
def k0_off314 (k0_t3 : Fin k0_t3_loop.trips) : Fin 3 → Nat :=
  let c0_i32_339 : BitVec 32 := 0#32
  let v678 : Index := Scalar.indexCast c0_i32_339
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c6_i32 : BitVec 32 := 6#32
  let v665 : BitVec 32 := Scalar.addi v142 c6_i32
  let v679 : Index := Scalar.indexCast v665
  let c64_340 : Index := 64#32
  ![0, v679.toNat, 64]
def k0_off315 (k0_t3 : Fin k0_t3_loop.trips) : Fin 3 → Nat :=
  let c0_i32_341 : BitVec 32 := 0#32
  let v681 : Index := Scalar.indexCast c0_i32_341
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c6_i32 : BitVec 32 := 6#32
  let v665 : BitVec 32 := Scalar.addi v142 c6_i32
  let v682 : Index := Scalar.indexCast v665
  let c80_342 : Index := 80#32
  ![0, v682.toNat, 80]
def k0_off316 (k0_t3 : Fin k0_t3_loop.trips) : Fin 3 → Nat :=
  let c0_i32_343 : BitVec 32 := 0#32
  let v684 : Index := Scalar.indexCast c0_i32_343
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c6_i32 : BitVec 32 := 6#32
  let v665 : BitVec 32 := Scalar.addi v142 c6_i32
  let v685 : Index := Scalar.indexCast v665
  let c96_344 : Index := 96#32
  ![0, v685.toNat, 96]
def k0_off317 (k0_t3 : Fin k0_t3_loop.trips) : Fin 3 → Nat :=
  let c0_i32_345 : BitVec 32 := 0#32
  let v687 : Index := Scalar.indexCast c0_i32_345
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c6_i32 : BitVec 32 := 6#32
  let v665 : BitVec 32 := Scalar.addi v142 c6_i32
  let v688 : Index := Scalar.indexCast v665
  let c112_346 : Index := 112#32
  ![0, v688.toNat, 112]

def k0_chk42 (v750 : IVec S16 32) : Prop :=
  (∀ a x, ((![v750] : Fin 1 → IVec S16 32) a x).toNat < S272.size a)
theorem k0_idx42_inb : ∀ (v750 : IVec S16 32) (k0_hw42 : k0_chk42 v750), ∀ a x, ((![v750] : Fin 1 → IVec S16 32) a x).toNat < S272.size a := fun v750 k0_hw42 => k0_hw42
def k0_off318 (k0_t3 : Fin k0_t3_loop.trips) : Fin 3 → Nat :=
  let c0_i32_364 : BitVec 32 := 0#32
  let v752 : Index := Scalar.indexCast c0_i32_364
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c7_i32 : BitVec 32 := 7#32
  let v751 : BitVec 32 := Scalar.addi v142 c7_i32
  let v753 : Index := Scalar.indexCast v751
  let c0_365 : Index := 0#32
  ![0, v753.toNat, 0]
def k0_off319 (k0_t3 : Fin k0_t3_loop.trips) : Fin 3 → Nat :=
  let c0_i32_366 : BitVec 32 := 0#32
  let v755 : Index := Scalar.indexCast c0_i32_366
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c7_i32 : BitVec 32 := 7#32
  let v751 : BitVec 32 := Scalar.addi v142 c7_i32
  let v756 : Index := Scalar.indexCast v751
  let c16_367 : Index := 16#32
  ![0, v756.toNat, 16]
def k0_off320 (k0_t3 : Fin k0_t3_loop.trips) : Fin 3 → Nat :=
  let c0_i32_368 : BitVec 32 := 0#32
  let v758 : Index := Scalar.indexCast c0_i32_368
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c7_i32 : BitVec 32 := 7#32
  let v751 : BitVec 32 := Scalar.addi v142 c7_i32
  let v759 : Index := Scalar.indexCast v751
  let c32_369 : Index := 32#32
  ![0, v759.toNat, 32]
def k0_off321 (k0_t3 : Fin k0_t3_loop.trips) : Fin 3 → Nat :=
  let c0_i32_370 : BitVec 32 := 0#32
  let v761 : Index := Scalar.indexCast c0_i32_370
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c7_i32 : BitVec 32 := 7#32
  let v751 : BitVec 32 := Scalar.addi v142 c7_i32
  let v762 : Index := Scalar.indexCast v751
  let c48_371 : Index := 48#32
  ![0, v762.toNat, 48]
def k0_off322 (k0_t3 : Fin k0_t3_loop.trips) : Fin 3 → Nat :=
  let c0_i32_372 : BitVec 32 := 0#32
  let v764 : Index := Scalar.indexCast c0_i32_372
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c7_i32 : BitVec 32 := 7#32
  let v751 : BitVec 32 := Scalar.addi v142 c7_i32
  let v765 : Index := Scalar.indexCast v751
  let c64_373 : Index := 64#32
  ![0, v765.toNat, 64]
def k0_off323 (k0_t3 : Fin k0_t3_loop.trips) : Fin 3 → Nat :=
  let c0_i32_374 : BitVec 32 := 0#32
  let v767 : Index := Scalar.indexCast c0_i32_374
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c7_i32 : BitVec 32 := 7#32
  let v751 : BitVec 32 := Scalar.addi v142 c7_i32
  let v768 : Index := Scalar.indexCast v751
  let c80_375 : Index := 80#32
  ![0, v768.toNat, 80]
def k0_off324 (k0_t3 : Fin k0_t3_loop.trips) : Fin 3 → Nat :=
  let c0_i32_376 : BitVec 32 := 0#32
  let v770 : Index := Scalar.indexCast c0_i32_376
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c7_i32 : BitVec 32 := 7#32
  let v751 : BitVec 32 := Scalar.addi v142 c7_i32
  let v771 : Index := Scalar.indexCast v751
  let c96_377 : Index := 96#32
  ![0, v771.toNat, 96]
def k0_off325 (k0_t3 : Fin k0_t3_loop.trips) : Fin 3 → Nat :=
  let c0_i32_378 : BitVec 32 := 0#32
  let v773 : Index := Scalar.indexCast c0_i32_378
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c7_i32 : BitVec 32 := 7#32
  let v751 : BitVec 32 := Scalar.addi v142 c7_i32
  let v774 : Index := Scalar.indexCast v751
  let c112_379 : Index := 112#32
  ![0, v774.toNat, 112]

def k0_chk43 (v836 : IVec S16 32) : Prop :=
  (∀ a x, ((![v836] : Fin 1 → IVec S16 32) a x).toNat < S272.size a)
theorem k0_idx43_inb : ∀ (v836 : IVec S16 32) (k0_hw43 : k0_chk43 v836), ∀ a x, ((![v836] : Fin 1 → IVec S16 32) a x).toNat < S272.size a := fun v836 k0_hw43 => k0_hw43
def k0_off326 (k0_t3 : Fin k0_t3_loop.trips) : Fin 3 → Nat :=
  let c0_i32_398 : BitVec 32 := 0#32
  let v838 : Index := Scalar.indexCast c0_i32_398
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c8_i32_397 : BitVec 32 := 8#32
  let v837 : BitVec 32 := Scalar.addi v142 c8_i32_397
  let v839 : Index := Scalar.indexCast v837
  let c0_399 : Index := 0#32
  ![0, v839.toNat, 0]
def k0_off327 (k0_t3 : Fin k0_t3_loop.trips) : Fin 3 → Nat :=
  let c0_i32_400 : BitVec 32 := 0#32
  let v841 : Index := Scalar.indexCast c0_i32_400
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c8_i32_397 : BitVec 32 := 8#32
  let v837 : BitVec 32 := Scalar.addi v142 c8_i32_397
  let v842 : Index := Scalar.indexCast v837
  let c16_401 : Index := 16#32
  ![0, v842.toNat, 16]
def k0_off328 (k0_t3 : Fin k0_t3_loop.trips) : Fin 3 → Nat :=
  let c0_i32_402 : BitVec 32 := 0#32
  let v844 : Index := Scalar.indexCast c0_i32_402
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c8_i32_397 : BitVec 32 := 8#32
  let v837 : BitVec 32 := Scalar.addi v142 c8_i32_397
  let v845 : Index := Scalar.indexCast v837
  let c32_403 : Index := 32#32
  ![0, v845.toNat, 32]
def k0_off329 (k0_t3 : Fin k0_t3_loop.trips) : Fin 3 → Nat :=
  let c0_i32_404 : BitVec 32 := 0#32
  let v847 : Index := Scalar.indexCast c0_i32_404
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c8_i32_397 : BitVec 32 := 8#32
  let v837 : BitVec 32 := Scalar.addi v142 c8_i32_397
  let v848 : Index := Scalar.indexCast v837
  let c48_405 : Index := 48#32
  ![0, v848.toNat, 48]
def k0_off330 (k0_t3 : Fin k0_t3_loop.trips) : Fin 3 → Nat :=
  let c0_i32_406 : BitVec 32 := 0#32
  let v850 : Index := Scalar.indexCast c0_i32_406
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c8_i32_397 : BitVec 32 := 8#32
  let v837 : BitVec 32 := Scalar.addi v142 c8_i32_397
  let v851 : Index := Scalar.indexCast v837
  let c64_407 : Index := 64#32
  ![0, v851.toNat, 64]
def k0_off331 (k0_t3 : Fin k0_t3_loop.trips) : Fin 3 → Nat :=
  let c0_i32_408 : BitVec 32 := 0#32
  let v853 : Index := Scalar.indexCast c0_i32_408
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c8_i32_397 : BitVec 32 := 8#32
  let v837 : BitVec 32 := Scalar.addi v142 c8_i32_397
  let v854 : Index := Scalar.indexCast v837
  let c80_409 : Index := 80#32
  ![0, v854.toNat, 80]
def k0_off332 (k0_t3 : Fin k0_t3_loop.trips) : Fin 3 → Nat :=
  let c0_i32_410 : BitVec 32 := 0#32
  let v856 : Index := Scalar.indexCast c0_i32_410
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c8_i32_397 : BitVec 32 := 8#32
  let v837 : BitVec 32 := Scalar.addi v142 c8_i32_397
  let v857 : Index := Scalar.indexCast v837
  let c96_411 : Index := 96#32
  ![0, v857.toNat, 96]
def k0_off333 (k0_t3 : Fin k0_t3_loop.trips) : Fin 3 → Nat :=
  let c0_i32_412 : BitVec 32 := 0#32
  let v859 : Index := Scalar.indexCast c0_i32_412
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c8_i32_397 : BitVec 32 := 8#32
  let v837 : BitVec 32 := Scalar.addi v142 c8_i32_397
  let v860 : Index := Scalar.indexCast v837
  let c112_413 : Index := 112#32
  ![0, v860.toNat, 112]

def k0_chk44 (v922 : IVec S16 32) : Prop :=
  (∀ a x, ((![v922] : Fin 1 → IVec S16 32) a x).toNat < S272.size a)
theorem k0_idx44_inb : ∀ (v922 : IVec S16 32) (k0_hw44 : k0_chk44 v922), ∀ a x, ((![v922] : Fin 1 → IVec S16 32) a x).toNat < S272.size a := fun v922 k0_hw44 => k0_hw44
def k0_off334 (k0_t3 : Fin k0_t3_loop.trips) : Fin 3 → Nat :=
  let c0_i32_431 : BitVec 32 := 0#32
  let v924 : Index := Scalar.indexCast c0_i32_431
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c9_i32 : BitVec 32 := 9#32
  let v923 : BitVec 32 := Scalar.addi v142 c9_i32
  let v925 : Index := Scalar.indexCast v923
  let c0_432 : Index := 0#32
  ![0, v925.toNat, 0]
def k0_off335 (k0_t3 : Fin k0_t3_loop.trips) : Fin 3 → Nat :=
  let c0_i32_433 : BitVec 32 := 0#32
  let v927 : Index := Scalar.indexCast c0_i32_433
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c9_i32 : BitVec 32 := 9#32
  let v923 : BitVec 32 := Scalar.addi v142 c9_i32
  let v928 : Index := Scalar.indexCast v923
  let c16_434 : Index := 16#32
  ![0, v928.toNat, 16]
def k0_off336 (k0_t3 : Fin k0_t3_loop.trips) : Fin 3 → Nat :=
  let c0_i32_435 : BitVec 32 := 0#32
  let v930 : Index := Scalar.indexCast c0_i32_435
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c9_i32 : BitVec 32 := 9#32
  let v923 : BitVec 32 := Scalar.addi v142 c9_i32
  let v931 : Index := Scalar.indexCast v923
  let c32_436 : Index := 32#32
  ![0, v931.toNat, 32]
def k0_off337 (k0_t3 : Fin k0_t3_loop.trips) : Fin 3 → Nat :=
  let c0_i32_437 : BitVec 32 := 0#32
  let v933 : Index := Scalar.indexCast c0_i32_437
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c9_i32 : BitVec 32 := 9#32
  let v923 : BitVec 32 := Scalar.addi v142 c9_i32
  let v934 : Index := Scalar.indexCast v923
  let c48_438 : Index := 48#32
  ![0, v934.toNat, 48]
def k0_off338 (k0_t3 : Fin k0_t3_loop.trips) : Fin 3 → Nat :=
  let c0_i32_439 : BitVec 32 := 0#32
  let v936 : Index := Scalar.indexCast c0_i32_439
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c9_i32 : BitVec 32 := 9#32
  let v923 : BitVec 32 := Scalar.addi v142 c9_i32
  let v937 : Index := Scalar.indexCast v923
  let c64_440 : Index := 64#32
  ![0, v937.toNat, 64]
def k0_off339 (k0_t3 : Fin k0_t3_loop.trips) : Fin 3 → Nat :=
  let c0_i32_441 : BitVec 32 := 0#32
  let v939 : Index := Scalar.indexCast c0_i32_441
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c9_i32 : BitVec 32 := 9#32
  let v923 : BitVec 32 := Scalar.addi v142 c9_i32
  let v940 : Index := Scalar.indexCast v923
  let c80_442 : Index := 80#32
  ![0, v940.toNat, 80]
def k0_off340 (k0_t3 : Fin k0_t3_loop.trips) : Fin 3 → Nat :=
  let c0_i32_443 : BitVec 32 := 0#32
  let v942 : Index := Scalar.indexCast c0_i32_443
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c9_i32 : BitVec 32 := 9#32
  let v923 : BitVec 32 := Scalar.addi v142 c9_i32
  let v943 : Index := Scalar.indexCast v923
  let c96_444 : Index := 96#32
  ![0, v943.toNat, 96]
def k0_off341 (k0_t3 : Fin k0_t3_loop.trips) : Fin 3 → Nat :=
  let c0_i32_445 : BitVec 32 := 0#32
  let v945 : Index := Scalar.indexCast c0_i32_445
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c9_i32 : BitVec 32 := 9#32
  let v923 : BitVec 32 := Scalar.addi v142 c9_i32
  let v946 : Index := Scalar.indexCast v923
  let c112_446 : Index := 112#32
  ![0, v946.toNat, 112]

def k0_chk45 (v1008 : IVec S16 32) : Prop :=
  (∀ a x, ((![v1008] : Fin 1 → IVec S16 32) a x).toNat < S272.size a)
theorem k0_idx45_inb : ∀ (v1008 : IVec S16 32) (k0_hw45 : k0_chk45 v1008), ∀ a x, ((![v1008] : Fin 1 → IVec S16 32) a x).toNat < S272.size a := fun v1008 k0_hw45 => k0_hw45
def k0_off342 (k0_t3 : Fin k0_t3_loop.trips) : Fin 3 → Nat :=
  let c0_i32_464 : BitVec 32 := 0#32
  let v1010 : Index := Scalar.indexCast c0_i32_464
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c10_i32 : BitVec 32 := 10#32
  let v1009 : BitVec 32 := Scalar.addi v142 c10_i32
  let v1011 : Index := Scalar.indexCast v1009
  let c0_465 : Index := 0#32
  ![0, v1011.toNat, 0]
def k0_off343 (k0_t3 : Fin k0_t3_loop.trips) : Fin 3 → Nat :=
  let c0_i32_466 : BitVec 32 := 0#32
  let v1013 : Index := Scalar.indexCast c0_i32_466
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c10_i32 : BitVec 32 := 10#32
  let v1009 : BitVec 32 := Scalar.addi v142 c10_i32
  let v1014 : Index := Scalar.indexCast v1009
  let c16_467 : Index := 16#32
  ![0, v1014.toNat, 16]
def k0_off344 (k0_t3 : Fin k0_t3_loop.trips) : Fin 3 → Nat :=
  let c0_i32_468 : BitVec 32 := 0#32
  let v1016 : Index := Scalar.indexCast c0_i32_468
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c10_i32 : BitVec 32 := 10#32
  let v1009 : BitVec 32 := Scalar.addi v142 c10_i32
  let v1017 : Index := Scalar.indexCast v1009
  let c32_469 : Index := 32#32
  ![0, v1017.toNat, 32]
def k0_off345 (k0_t3 : Fin k0_t3_loop.trips) : Fin 3 → Nat :=
  let c0_i32_470 : BitVec 32 := 0#32
  let v1019 : Index := Scalar.indexCast c0_i32_470
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c10_i32 : BitVec 32 := 10#32
  let v1009 : BitVec 32 := Scalar.addi v142 c10_i32
  let v1020 : Index := Scalar.indexCast v1009
  let c48_471 : Index := 48#32
  ![0, v1020.toNat, 48]
def k0_off346 (k0_t3 : Fin k0_t3_loop.trips) : Fin 3 → Nat :=
  let c0_i32_472 : BitVec 32 := 0#32
  let v1022 : Index := Scalar.indexCast c0_i32_472
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c10_i32 : BitVec 32 := 10#32
  let v1009 : BitVec 32 := Scalar.addi v142 c10_i32
  let v1023 : Index := Scalar.indexCast v1009
  let c64_473 : Index := 64#32
  ![0, v1023.toNat, 64]
def k0_off347 (k0_t3 : Fin k0_t3_loop.trips) : Fin 3 → Nat :=
  let c0_i32_474 : BitVec 32 := 0#32
  let v1025 : Index := Scalar.indexCast c0_i32_474
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c10_i32 : BitVec 32 := 10#32
  let v1009 : BitVec 32 := Scalar.addi v142 c10_i32
  let v1026 : Index := Scalar.indexCast v1009
  let c80_475 : Index := 80#32
  ![0, v1026.toNat, 80]
def k0_off348 (k0_t3 : Fin k0_t3_loop.trips) : Fin 3 → Nat :=
  let c0_i32_476 : BitVec 32 := 0#32
  let v1028 : Index := Scalar.indexCast c0_i32_476
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c10_i32 : BitVec 32 := 10#32
  let v1009 : BitVec 32 := Scalar.addi v142 c10_i32
  let v1029 : Index := Scalar.indexCast v1009
  let c96_477 : Index := 96#32
  ![0, v1029.toNat, 96]
def k0_off349 (k0_t3 : Fin k0_t3_loop.trips) : Fin 3 → Nat :=
  let c0_i32_478 : BitVec 32 := 0#32
  let v1031 : Index := Scalar.indexCast c0_i32_478
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c10_i32 : BitVec 32 := 10#32
  let v1009 : BitVec 32 := Scalar.addi v142 c10_i32
  let v1032 : Index := Scalar.indexCast v1009
  let c112_479 : Index := 112#32
  ![0, v1032.toNat, 112]

def k0_chk46 (v1094 : IVec S16 32) : Prop :=
  (∀ a x, ((![v1094] : Fin 1 → IVec S16 32) a x).toNat < S272.size a)
theorem k0_idx46_inb : ∀ (v1094 : IVec S16 32) (k0_hw46 : k0_chk46 v1094), ∀ a x, ((![v1094] : Fin 1 → IVec S16 32) a x).toNat < S272.size a := fun v1094 k0_hw46 => k0_hw46
def k0_off350 (k0_t3 : Fin k0_t3_loop.trips) : Fin 3 → Nat :=
  let c0_i32_497 : BitVec 32 := 0#32
  let v1096 : Index := Scalar.indexCast c0_i32_497
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c11_i32 : BitVec 32 := 11#32
  let v1095 : BitVec 32 := Scalar.addi v142 c11_i32
  let v1097 : Index := Scalar.indexCast v1095
  let c0_498 : Index := 0#32
  ![0, v1097.toNat, 0]
def k0_off351 (k0_t3 : Fin k0_t3_loop.trips) : Fin 3 → Nat :=
  let c0_i32_499 : BitVec 32 := 0#32
  let v1099 : Index := Scalar.indexCast c0_i32_499
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c11_i32 : BitVec 32 := 11#32
  let v1095 : BitVec 32 := Scalar.addi v142 c11_i32
  let v1100 : Index := Scalar.indexCast v1095
  let c16_500 : Index := 16#32
  ![0, v1100.toNat, 16]
def k0_off352 (k0_t3 : Fin k0_t3_loop.trips) : Fin 3 → Nat :=
  let c0_i32_501 : BitVec 32 := 0#32
  let v1102 : Index := Scalar.indexCast c0_i32_501
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c11_i32 : BitVec 32 := 11#32
  let v1095 : BitVec 32 := Scalar.addi v142 c11_i32
  let v1103 : Index := Scalar.indexCast v1095
  let c32_502 : Index := 32#32
  ![0, v1103.toNat, 32]
def k0_off353 (k0_t3 : Fin k0_t3_loop.trips) : Fin 3 → Nat :=
  let c0_i32_503 : BitVec 32 := 0#32
  let v1105 : Index := Scalar.indexCast c0_i32_503
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c11_i32 : BitVec 32 := 11#32
  let v1095 : BitVec 32 := Scalar.addi v142 c11_i32
  let v1106 : Index := Scalar.indexCast v1095
  let c48_504 : Index := 48#32
  ![0, v1106.toNat, 48]
def k0_off354 (k0_t3 : Fin k0_t3_loop.trips) : Fin 3 → Nat :=
  let c0_i32_505 : BitVec 32 := 0#32
  let v1108 : Index := Scalar.indexCast c0_i32_505
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c11_i32 : BitVec 32 := 11#32
  let v1095 : BitVec 32 := Scalar.addi v142 c11_i32
  let v1109 : Index := Scalar.indexCast v1095
  let c64_506 : Index := 64#32
  ![0, v1109.toNat, 64]
def k0_off355 (k0_t3 : Fin k0_t3_loop.trips) : Fin 3 → Nat :=
  let c0_i32_507 : BitVec 32 := 0#32
  let v1111 : Index := Scalar.indexCast c0_i32_507
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c11_i32 : BitVec 32 := 11#32
  let v1095 : BitVec 32 := Scalar.addi v142 c11_i32
  let v1112 : Index := Scalar.indexCast v1095
  let c80_508 : Index := 80#32
  ![0, v1112.toNat, 80]
def k0_off356 (k0_t3 : Fin k0_t3_loop.trips) : Fin 3 → Nat :=
  let c0_i32_509 : BitVec 32 := 0#32
  let v1114 : Index := Scalar.indexCast c0_i32_509
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c11_i32 : BitVec 32 := 11#32
  let v1095 : BitVec 32 := Scalar.addi v142 c11_i32
  let v1115 : Index := Scalar.indexCast v1095
  let c96_510 : Index := 96#32
  ![0, v1115.toNat, 96]
def k0_off357 (k0_t3 : Fin k0_t3_loop.trips) : Fin 3 → Nat :=
  let c0_i32_511 : BitVec 32 := 0#32
  let v1117 : Index := Scalar.indexCast c0_i32_511
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c11_i32 : BitVec 32 := 11#32
  let v1095 : BitVec 32 := Scalar.addi v142 c11_i32
  let v1118 : Index := Scalar.indexCast v1095
  let c112_512 : Index := 112#32
  ![0, v1118.toNat, 112]

def k0_chk47 (v1180 : IVec S16 32) : Prop :=
  (∀ a x, ((![v1180] : Fin 1 → IVec S16 32) a x).toNat < S272.size a)
theorem k0_idx47_inb : ∀ (v1180 : IVec S16 32) (k0_hw47 : k0_chk47 v1180), ∀ a x, ((![v1180] : Fin 1 → IVec S16 32) a x).toNat < S272.size a := fun v1180 k0_hw47 => k0_hw47
def k0_off358 (k0_t3 : Fin k0_t3_loop.trips) : Fin 3 → Nat :=
  let c0_i32_530 : BitVec 32 := 0#32
  let v1182 : Index := Scalar.indexCast c0_i32_530
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c12_i32 : BitVec 32 := 12#32
  let v1181 : BitVec 32 := Scalar.addi v142 c12_i32
  let v1183 : Index := Scalar.indexCast v1181
  let c0_531 : Index := 0#32
  ![0, v1183.toNat, 0]
def k0_off359 (k0_t3 : Fin k0_t3_loop.trips) : Fin 3 → Nat :=
  let c0_i32_532 : BitVec 32 := 0#32
  let v1185 : Index := Scalar.indexCast c0_i32_532
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c12_i32 : BitVec 32 := 12#32
  let v1181 : BitVec 32 := Scalar.addi v142 c12_i32
  let v1186 : Index := Scalar.indexCast v1181
  let c16_533 : Index := 16#32
  ![0, v1186.toNat, 16]
def k0_off360 (k0_t3 : Fin k0_t3_loop.trips) : Fin 3 → Nat :=
  let c0_i32_534 : BitVec 32 := 0#32
  let v1188 : Index := Scalar.indexCast c0_i32_534
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c12_i32 : BitVec 32 := 12#32
  let v1181 : BitVec 32 := Scalar.addi v142 c12_i32
  let v1189 : Index := Scalar.indexCast v1181
  let c32_535 : Index := 32#32
  ![0, v1189.toNat, 32]
def k0_off361 (k0_t3 : Fin k0_t3_loop.trips) : Fin 3 → Nat :=
  let c0_i32_536 : BitVec 32 := 0#32
  let v1191 : Index := Scalar.indexCast c0_i32_536
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c12_i32 : BitVec 32 := 12#32
  let v1181 : BitVec 32 := Scalar.addi v142 c12_i32
  let v1192 : Index := Scalar.indexCast v1181
  let c48_537 : Index := 48#32
  ![0, v1192.toNat, 48]
def k0_off362 (k0_t3 : Fin k0_t3_loop.trips) : Fin 3 → Nat :=
  let c0_i32_538 : BitVec 32 := 0#32
  let v1194 : Index := Scalar.indexCast c0_i32_538
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c12_i32 : BitVec 32 := 12#32
  let v1181 : BitVec 32 := Scalar.addi v142 c12_i32
  let v1195 : Index := Scalar.indexCast v1181
  let c64_539 : Index := 64#32
  ![0, v1195.toNat, 64]
def k0_off363 (k0_t3 : Fin k0_t3_loop.trips) : Fin 3 → Nat :=
  let c0_i32_540 : BitVec 32 := 0#32
  let v1197 : Index := Scalar.indexCast c0_i32_540
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c12_i32 : BitVec 32 := 12#32
  let v1181 : BitVec 32 := Scalar.addi v142 c12_i32
  let v1198 : Index := Scalar.indexCast v1181
  let c80_541 : Index := 80#32
  ![0, v1198.toNat, 80]
def k0_off364 (k0_t3 : Fin k0_t3_loop.trips) : Fin 3 → Nat :=
  let c0_i32_542 : BitVec 32 := 0#32
  let v1200 : Index := Scalar.indexCast c0_i32_542
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c12_i32 : BitVec 32 := 12#32
  let v1181 : BitVec 32 := Scalar.addi v142 c12_i32
  let v1201 : Index := Scalar.indexCast v1181
  let c96_543 : Index := 96#32
  ![0, v1201.toNat, 96]
def k0_off365 (k0_t3 : Fin k0_t3_loop.trips) : Fin 3 → Nat :=
  let c0_i32_544 : BitVec 32 := 0#32
  let v1203 : Index := Scalar.indexCast c0_i32_544
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c12_i32 : BitVec 32 := 12#32
  let v1181 : BitVec 32 := Scalar.addi v142 c12_i32
  let v1204 : Index := Scalar.indexCast v1181
  let c112_545 : Index := 112#32
  ![0, v1204.toNat, 112]

def k0_chk48 (v1266 : IVec S16 32) : Prop :=
  (∀ a x, ((![v1266] : Fin 1 → IVec S16 32) a x).toNat < S272.size a)
theorem k0_idx48_inb : ∀ (v1266 : IVec S16 32) (k0_hw48 : k0_chk48 v1266), ∀ a x, ((![v1266] : Fin 1 → IVec S16 32) a x).toNat < S272.size a := fun v1266 k0_hw48 => k0_hw48
def k0_off366 (k0_t3 : Fin k0_t3_loop.trips) : Fin 3 → Nat :=
  let c0_i32_563 : BitVec 32 := 0#32
  let v1268 : Index := Scalar.indexCast c0_i32_563
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c13_i32 : BitVec 32 := 13#32
  let v1267 : BitVec 32 := Scalar.addi v142 c13_i32
  let v1269 : Index := Scalar.indexCast v1267
  let c0_564 : Index := 0#32
  ![0, v1269.toNat, 0]
def k0_off367 (k0_t3 : Fin k0_t3_loop.trips) : Fin 3 → Nat :=
  let c0_i32_565 : BitVec 32 := 0#32
  let v1271 : Index := Scalar.indexCast c0_i32_565
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c13_i32 : BitVec 32 := 13#32
  let v1267 : BitVec 32 := Scalar.addi v142 c13_i32
  let v1272 : Index := Scalar.indexCast v1267
  let c16_566 : Index := 16#32
  ![0, v1272.toNat, 16]
def k0_off368 (k0_t3 : Fin k0_t3_loop.trips) : Fin 3 → Nat :=
  let c0_i32_567 : BitVec 32 := 0#32
  let v1274 : Index := Scalar.indexCast c0_i32_567
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c13_i32 : BitVec 32 := 13#32
  let v1267 : BitVec 32 := Scalar.addi v142 c13_i32
  let v1275 : Index := Scalar.indexCast v1267
  let c32_568 : Index := 32#32
  ![0, v1275.toNat, 32]
def k0_off369 (k0_t3 : Fin k0_t3_loop.trips) : Fin 3 → Nat :=
  let c0_i32_569 : BitVec 32 := 0#32
  let v1277 : Index := Scalar.indexCast c0_i32_569
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c13_i32 : BitVec 32 := 13#32
  let v1267 : BitVec 32 := Scalar.addi v142 c13_i32
  let v1278 : Index := Scalar.indexCast v1267
  let c48_570 : Index := 48#32
  ![0, v1278.toNat, 48]
def k0_off370 (k0_t3 : Fin k0_t3_loop.trips) : Fin 3 → Nat :=
  let c0_i32_571 : BitVec 32 := 0#32
  let v1280 : Index := Scalar.indexCast c0_i32_571
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c13_i32 : BitVec 32 := 13#32
  let v1267 : BitVec 32 := Scalar.addi v142 c13_i32
  let v1281 : Index := Scalar.indexCast v1267
  let c64_572 : Index := 64#32
  ![0, v1281.toNat, 64]
def k0_off371 (k0_t3 : Fin k0_t3_loop.trips) : Fin 3 → Nat :=
  let c0_i32_573 : BitVec 32 := 0#32
  let v1283 : Index := Scalar.indexCast c0_i32_573
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c13_i32 : BitVec 32 := 13#32
  let v1267 : BitVec 32 := Scalar.addi v142 c13_i32
  let v1284 : Index := Scalar.indexCast v1267
  let c80_574 : Index := 80#32
  ![0, v1284.toNat, 80]
def k0_off372 (k0_t3 : Fin k0_t3_loop.trips) : Fin 3 → Nat :=
  let c0_i32_575 : BitVec 32 := 0#32
  let v1286 : Index := Scalar.indexCast c0_i32_575
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c13_i32 : BitVec 32 := 13#32
  let v1267 : BitVec 32 := Scalar.addi v142 c13_i32
  let v1287 : Index := Scalar.indexCast v1267
  let c96_576 : Index := 96#32
  ![0, v1287.toNat, 96]
def k0_off373 (k0_t3 : Fin k0_t3_loop.trips) : Fin 3 → Nat :=
  let c0_i32_577 : BitVec 32 := 0#32
  let v1289 : Index := Scalar.indexCast c0_i32_577
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c13_i32 : BitVec 32 := 13#32
  let v1267 : BitVec 32 := Scalar.addi v142 c13_i32
  let v1290 : Index := Scalar.indexCast v1267
  let c112_578 : Index := 112#32
  ![0, v1290.toNat, 112]

def k0_chk49 (v1352 : IVec S16 32) : Prop :=
  (∀ a x, ((![v1352] : Fin 1 → IVec S16 32) a x).toNat < S272.size a)
theorem k0_idx49_inb : ∀ (v1352 : IVec S16 32) (k0_hw49 : k0_chk49 v1352), ∀ a x, ((![v1352] : Fin 1 → IVec S16 32) a x).toNat < S272.size a := fun v1352 k0_hw49 => k0_hw49
def k0_off374 (k0_t3 : Fin k0_t3_loop.trips) : Fin 3 → Nat :=
  let c0_i32_596 : BitVec 32 := 0#32
  let v1354 : Index := Scalar.indexCast c0_i32_596
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c14_i32 : BitVec 32 := 14#32
  let v1353 : BitVec 32 := Scalar.addi v142 c14_i32
  let v1355 : Index := Scalar.indexCast v1353
  let c0_597 : Index := 0#32
  ![0, v1355.toNat, 0]
def k0_off375 (k0_t3 : Fin k0_t3_loop.trips) : Fin 3 → Nat :=
  let c0_i32_598 : BitVec 32 := 0#32
  let v1357 : Index := Scalar.indexCast c0_i32_598
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c14_i32 : BitVec 32 := 14#32
  let v1353 : BitVec 32 := Scalar.addi v142 c14_i32
  let v1358 : Index := Scalar.indexCast v1353
  let c16_599 : Index := 16#32
  ![0, v1358.toNat, 16]
def k0_off376 (k0_t3 : Fin k0_t3_loop.trips) : Fin 3 → Nat :=
  let c0_i32_600 : BitVec 32 := 0#32
  let v1360 : Index := Scalar.indexCast c0_i32_600
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c14_i32 : BitVec 32 := 14#32
  let v1353 : BitVec 32 := Scalar.addi v142 c14_i32
  let v1361 : Index := Scalar.indexCast v1353
  let c32_601 : Index := 32#32
  ![0, v1361.toNat, 32]
def k0_off377 (k0_t3 : Fin k0_t3_loop.trips) : Fin 3 → Nat :=
  let c0_i32_602 : BitVec 32 := 0#32
  let v1363 : Index := Scalar.indexCast c0_i32_602
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c14_i32 : BitVec 32 := 14#32
  let v1353 : BitVec 32 := Scalar.addi v142 c14_i32
  let v1364 : Index := Scalar.indexCast v1353
  let c48_603 : Index := 48#32
  ![0, v1364.toNat, 48]
def k0_off378 (k0_t3 : Fin k0_t3_loop.trips) : Fin 3 → Nat :=
  let c0_i32_604 : BitVec 32 := 0#32
  let v1366 : Index := Scalar.indexCast c0_i32_604
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c14_i32 : BitVec 32 := 14#32
  let v1353 : BitVec 32 := Scalar.addi v142 c14_i32
  let v1367 : Index := Scalar.indexCast v1353
  let c64_605 : Index := 64#32
  ![0, v1367.toNat, 64]
def k0_off379 (k0_t3 : Fin k0_t3_loop.trips) : Fin 3 → Nat :=
  let c0_i32_606 : BitVec 32 := 0#32
  let v1369 : Index := Scalar.indexCast c0_i32_606
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c14_i32 : BitVec 32 := 14#32
  let v1353 : BitVec 32 := Scalar.addi v142 c14_i32
  let v1370 : Index := Scalar.indexCast v1353
  let c80_607 : Index := 80#32
  ![0, v1370.toNat, 80]
def k0_off380 (k0_t3 : Fin k0_t3_loop.trips) : Fin 3 → Nat :=
  let c0_i32_608 : BitVec 32 := 0#32
  let v1372 : Index := Scalar.indexCast c0_i32_608
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c14_i32 : BitVec 32 := 14#32
  let v1353 : BitVec 32 := Scalar.addi v142 c14_i32
  let v1373 : Index := Scalar.indexCast v1353
  let c96_609 : Index := 96#32
  ![0, v1373.toNat, 96]
def k0_off381 (k0_t3 : Fin k0_t3_loop.trips) : Fin 3 → Nat :=
  let c0_i32_610 : BitVec 32 := 0#32
  let v1375 : Index := Scalar.indexCast c0_i32_610
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c14_i32 : BitVec 32 := 14#32
  let v1353 : BitVec 32 := Scalar.addi v142 c14_i32
  let v1376 : Index := Scalar.indexCast v1353
  let c112_611 : Index := 112#32
  ![0, v1376.toNat, 112]

def k0_chk50 (v1438 : IVec S16 32) : Prop :=
  (∀ a x, ((![v1438] : Fin 1 → IVec S16 32) a x).toNat < S272.size a)
theorem k0_idx50_inb : ∀ (v1438 : IVec S16 32) (k0_hw50 : k0_chk50 v1438), ∀ a x, ((![v1438] : Fin 1 → IVec S16 32) a x).toNat < S272.size a := fun v1438 k0_hw50 => k0_hw50
def k0_off382 (k0_t3 : Fin k0_t3_loop.trips) : Fin 3 → Nat :=
  let c0_i32_629 : BitVec 32 := 0#32
  let v1440 : Index := Scalar.indexCast c0_i32_629
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c15_i32 : BitVec 32 := 15#32
  let v1439 : BitVec 32 := Scalar.addi v142 c15_i32
  let v1441 : Index := Scalar.indexCast v1439
  let c0_630 : Index := 0#32
  ![0, v1441.toNat, 0]
def k0_off383 (k0_t3 : Fin k0_t3_loop.trips) : Fin 3 → Nat :=
  let c0_i32_631 : BitVec 32 := 0#32
  let v1443 : Index := Scalar.indexCast c0_i32_631
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c15_i32 : BitVec 32 := 15#32
  let v1439 : BitVec 32 := Scalar.addi v142 c15_i32
  let v1444 : Index := Scalar.indexCast v1439
  let c16_632 : Index := 16#32
  ![0, v1444.toNat, 16]
def k0_off384 (k0_t3 : Fin k0_t3_loop.trips) : Fin 3 → Nat :=
  let c0_i32_633 : BitVec 32 := 0#32
  let v1446 : Index := Scalar.indexCast c0_i32_633
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c15_i32 : BitVec 32 := 15#32
  let v1439 : BitVec 32 := Scalar.addi v142 c15_i32
  let v1447 : Index := Scalar.indexCast v1439
  let c32_634 : Index := 32#32
  ![0, v1447.toNat, 32]
def k0_off385 (k0_t3 : Fin k0_t3_loop.trips) : Fin 3 → Nat :=
  let c0_i32_635 : BitVec 32 := 0#32
  let v1449 : Index := Scalar.indexCast c0_i32_635
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c15_i32 : BitVec 32 := 15#32
  let v1439 : BitVec 32 := Scalar.addi v142 c15_i32
  let v1450 : Index := Scalar.indexCast v1439
  let c48_636 : Index := 48#32
  ![0, v1450.toNat, 48]
def k0_off386 (k0_t3 : Fin k0_t3_loop.trips) : Fin 3 → Nat :=
  let c0_i32_637 : BitVec 32 := 0#32
  let v1452 : Index := Scalar.indexCast c0_i32_637
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c15_i32 : BitVec 32 := 15#32
  let v1439 : BitVec 32 := Scalar.addi v142 c15_i32
  let v1453 : Index := Scalar.indexCast v1439
  let c64_638 : Index := 64#32
  ![0, v1453.toNat, 64]
def k0_off387 (k0_t3 : Fin k0_t3_loop.trips) : Fin 3 → Nat :=
  let c0_i32_639 : BitVec 32 := 0#32
  let v1455 : Index := Scalar.indexCast c0_i32_639
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c15_i32 : BitVec 32 := 15#32
  let v1439 : BitVec 32 := Scalar.addi v142 c15_i32
  let v1456 : Index := Scalar.indexCast v1439
  let c80_640 : Index := 80#32
  ![0, v1456.toNat, 80]
def k0_off388 (k0_t3 : Fin k0_t3_loop.trips) : Fin 3 → Nat :=
  let c0_i32_641 : BitVec 32 := 0#32
  let v1458 : Index := Scalar.indexCast c0_i32_641
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c15_i32 : BitVec 32 := 15#32
  let v1439 : BitVec 32 := Scalar.addi v142 c15_i32
  let v1459 : Index := Scalar.indexCast v1439
  let c96_642 : Index := 96#32
  ![0, v1459.toNat, 96]
def k0_off389 (k0_t3 : Fin k0_t3_loop.trips) : Fin 3 → Nat :=
  let c0_i32_643 : BitVec 32 := 0#32
  let v1461 : Index := Scalar.indexCast c0_i32_643
  let c0_i32_105 : BitVec 32 := 0#32
  let c1_i32_107 : BitVec 32 := 1#32
  let arg12 : BitVec 32 := Scf.iv c0_i32_105 c1_i32_107 k0_t3
  let c16_i32_127 : BitVec 32 := 16#32
  let v142 : BitVec 32 := Scalar.muli arg12 c16_i32_127
  let c15_i32 : BitVec 32 := 15#32
  let v1439 : BitVec 32 := Scalar.addi v142 c15_i32
  let v1462 : Index := Scalar.indexCast v1439
  let c112_644 : Index := 112#32
  ![0, v1462.toNat, 112]

def k0_chk51 (v1524 : IVec S16 32) : Prop :=
  (∀ a x, ((![v1524] : Fin 1 → IVec S16 32) a x).toNat < S272.size a)
theorem k0_idx51_inb : ∀ (v1524 : IVec S16 32) (k0_hw51 : k0_chk51 v1524), ∀ a x, ((![v1524] : Fin 1 → IVec S16 32) a x).toNat < S272.size a := fun v1524 k0_hw51 => k0_hw51
@[reducible] def k0_t4_loop : Scf.Loop 32 :=
  let c0_i32_123 : BitVec 32 := 0#32
  let c8_i32_124 : BitVec 32 := 8#32
  let v132 : BitVec 32 := Scalar.addi c0_i32_123 c8_i32_124
  let c1_i32_125 : BitVec 32 := 1#32
  ⟨c0_i32_123, v132, c1_i32_125⟩
def k0_off390 (k0_t4 : Fin k0_t4_loop.trips) : Fin 1 → Nat :=
  let c384_i32_128 : BitVec 32 := 384#32
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let v143 : BitVec 32 := Scalar.addi c384_i32_128 v142
  let v144 : Index := Scalar.indexCast v143
  ![v144.toNat]

def k0_chk52 (v148 : IVec S16 32) : Prop :=
  (∀ a x, ((![v148] : Fin 1 → IVec S16 32) a x).toNat < S272.size a)
theorem k0_idx52_inb : ∀ (v148 : IVec S16 32) (k0_hw52 : k0_chk52 v148), ∀ a x, ((![v148] : Fin 1 → IVec S16 32) a x).toNat < S272.size a := fun v148 k0_hw52 => k0_hw52
def k0_off391 (k0_t4 : Fin k0_t4_loop.trips) : Fin 3 → Nat :=
  let c1_i32_131 : BitVec 32 := 1#32
  let v150 : Index := Scalar.indexCast c1_i32_131
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c0_i32_130 : BitVec 32 := 0#32
  let v149 : BitVec 32 := Scalar.addi v142 c0_i32_130
  let v151 : Index := Scalar.indexCast v149
  let c0_132 : Index := 0#32
  ![1, v151.toNat, 0]
def k0_off392 (k0_t4 : Fin k0_t4_loop.trips) : Fin 3 → Nat :=
  let c1_i32_133 : BitVec 32 := 1#32
  let v153 : Index := Scalar.indexCast c1_i32_133
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c0_i32_130 : BitVec 32 := 0#32
  let v149 : BitVec 32 := Scalar.addi v142 c0_i32_130
  let v154 : Index := Scalar.indexCast v149
  let c16_134 : Index := 16#32
  ![1, v154.toNat, 16]
def k0_off393 (k0_t4 : Fin k0_t4_loop.trips) : Fin 3 → Nat :=
  let c1_i32_135 : BitVec 32 := 1#32
  let v156 : Index := Scalar.indexCast c1_i32_135
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c0_i32_130 : BitVec 32 := 0#32
  let v149 : BitVec 32 := Scalar.addi v142 c0_i32_130
  let v157 : Index := Scalar.indexCast v149
  let c32_136 : Index := 32#32
  ![1, v157.toNat, 32]
def k0_off394 (k0_t4 : Fin k0_t4_loop.trips) : Fin 3 → Nat :=
  let c1_i32_137 : BitVec 32 := 1#32
  let v159 : Index := Scalar.indexCast c1_i32_137
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c0_i32_130 : BitVec 32 := 0#32
  let v149 : BitVec 32 := Scalar.addi v142 c0_i32_130
  let v160 : Index := Scalar.indexCast v149
  let c48_138 : Index := 48#32
  ![1, v160.toNat, 48]
def k0_off395 (k0_t4 : Fin k0_t4_loop.trips) : Fin 3 → Nat :=
  let c1_i32_139 : BitVec 32 := 1#32
  let v162 : Index := Scalar.indexCast c1_i32_139
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c0_i32_130 : BitVec 32 := 0#32
  let v149 : BitVec 32 := Scalar.addi v142 c0_i32_130
  let v163 : Index := Scalar.indexCast v149
  let c64_140 : Index := 64#32
  ![1, v163.toNat, 64]
def k0_off396 (k0_t4 : Fin k0_t4_loop.trips) : Fin 3 → Nat :=
  let c1_i32_141 : BitVec 32 := 1#32
  let v165 : Index := Scalar.indexCast c1_i32_141
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c0_i32_130 : BitVec 32 := 0#32
  let v149 : BitVec 32 := Scalar.addi v142 c0_i32_130
  let v166 : Index := Scalar.indexCast v149
  let c80_142 : Index := 80#32
  ![1, v166.toNat, 80]
def k0_off397 (k0_t4 : Fin k0_t4_loop.trips) : Fin 3 → Nat :=
  let c1_i32_143 : BitVec 32 := 1#32
  let v168 : Index := Scalar.indexCast c1_i32_143
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c0_i32_130 : BitVec 32 := 0#32
  let v149 : BitVec 32 := Scalar.addi v142 c0_i32_130
  let v169 : Index := Scalar.indexCast v149
  let c96_144 : Index := 96#32
  ![1, v169.toNat, 96]
def k0_off398 (k0_t4 : Fin k0_t4_loop.trips) : Fin 3 → Nat :=
  let c1_i32_145 : BitVec 32 := 1#32
  let v171 : Index := Scalar.indexCast c1_i32_145
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c0_i32_130 : BitVec 32 := 0#32
  let v149 : BitVec 32 := Scalar.addi v142 c0_i32_130
  let v172 : Index := Scalar.indexCast v149
  let c112_146 : Index := 112#32
  ![1, v172.toNat, 112]

def k0_chk53 (v234 : IVec S16 32) : Prop :=
  (∀ a x, ((![v234] : Fin 1 → IVec S16 32) a x).toNat < S272.size a)
theorem k0_idx53_inb : ∀ (v234 : IVec S16 32) (k0_hw53 : k0_chk53 v234), ∀ a x, ((![v234] : Fin 1 → IVec S16 32) a x).toNat < S272.size a := fun v234 k0_hw53 => k0_hw53
def k0_off399 (k0_t4 : Fin k0_t4_loop.trips) : Fin 3 → Nat :=
  let c1_i32_165 : BitVec 32 := 1#32
  let v236 : Index := Scalar.indexCast c1_i32_165
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c1_i32_164 : BitVec 32 := 1#32
  let v235 : BitVec 32 := Scalar.addi v142 c1_i32_164
  let v237 : Index := Scalar.indexCast v235
  let c0_166 : Index := 0#32
  ![1, v237.toNat, 0]
def k0_off400 (k0_t4 : Fin k0_t4_loop.trips) : Fin 3 → Nat :=
  let c1_i32_167 : BitVec 32 := 1#32
  let v239 : Index := Scalar.indexCast c1_i32_167
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c1_i32_164 : BitVec 32 := 1#32
  let v235 : BitVec 32 := Scalar.addi v142 c1_i32_164
  let v240 : Index := Scalar.indexCast v235
  let c16_168 : Index := 16#32
  ![1, v240.toNat, 16]
def k0_off401 (k0_t4 : Fin k0_t4_loop.trips) : Fin 3 → Nat :=
  let c1_i32_169 : BitVec 32 := 1#32
  let v242 : Index := Scalar.indexCast c1_i32_169
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c1_i32_164 : BitVec 32 := 1#32
  let v235 : BitVec 32 := Scalar.addi v142 c1_i32_164
  let v243 : Index := Scalar.indexCast v235
  let c32_170 : Index := 32#32
  ![1, v243.toNat, 32]
def k0_off402 (k0_t4 : Fin k0_t4_loop.trips) : Fin 3 → Nat :=
  let c1_i32_171 : BitVec 32 := 1#32
  let v245 : Index := Scalar.indexCast c1_i32_171
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c1_i32_164 : BitVec 32 := 1#32
  let v235 : BitVec 32 := Scalar.addi v142 c1_i32_164
  let v246 : Index := Scalar.indexCast v235
  let c48_172 : Index := 48#32
  ![1, v246.toNat, 48]
def k0_off403 (k0_t4 : Fin k0_t4_loop.trips) : Fin 3 → Nat :=
  let c1_i32_173 : BitVec 32 := 1#32
  let v248 : Index := Scalar.indexCast c1_i32_173
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c1_i32_164 : BitVec 32 := 1#32
  let v235 : BitVec 32 := Scalar.addi v142 c1_i32_164
  let v249 : Index := Scalar.indexCast v235
  let c64_174 : Index := 64#32
  ![1, v249.toNat, 64]
def k0_off404 (k0_t4 : Fin k0_t4_loop.trips) : Fin 3 → Nat :=
  let c1_i32_175 : BitVec 32 := 1#32
  let v251 : Index := Scalar.indexCast c1_i32_175
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c1_i32_164 : BitVec 32 := 1#32
  let v235 : BitVec 32 := Scalar.addi v142 c1_i32_164
  let v252 : Index := Scalar.indexCast v235
  let c80_176 : Index := 80#32
  ![1, v252.toNat, 80]
def k0_off405 (k0_t4 : Fin k0_t4_loop.trips) : Fin 3 → Nat :=
  let c1_i32_177 : BitVec 32 := 1#32
  let v254 : Index := Scalar.indexCast c1_i32_177
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c1_i32_164 : BitVec 32 := 1#32
  let v235 : BitVec 32 := Scalar.addi v142 c1_i32_164
  let v255 : Index := Scalar.indexCast v235
  let c96_178 : Index := 96#32
  ![1, v255.toNat, 96]
def k0_off406 (k0_t4 : Fin k0_t4_loop.trips) : Fin 3 → Nat :=
  let c1_i32_179 : BitVec 32 := 1#32
  let v257 : Index := Scalar.indexCast c1_i32_179
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c1_i32_164 : BitVec 32 := 1#32
  let v235 : BitVec 32 := Scalar.addi v142 c1_i32_164
  let v258 : Index := Scalar.indexCast v235
  let c112_180 : Index := 112#32
  ![1, v258.toNat, 112]

def k0_chk54 (v320 : IVec S16 32) : Prop :=
  (∀ a x, ((![v320] : Fin 1 → IVec S16 32) a x).toNat < S272.size a)
theorem k0_idx54_inb : ∀ (v320 : IVec S16 32) (k0_hw54 : k0_chk54 v320), ∀ a x, ((![v320] : Fin 1 → IVec S16 32) a x).toNat < S272.size a := fun v320 k0_hw54 => k0_hw54
def k0_off407 (k0_t4 : Fin k0_t4_loop.trips) : Fin 3 → Nat :=
  let c1_i32_199 : BitVec 32 := 1#32
  let v322 : Index := Scalar.indexCast c1_i32_199
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c2_i32_198 : BitVec 32 := 2#32
  let v321 : BitVec 32 := Scalar.addi v142 c2_i32_198
  let v323 : Index := Scalar.indexCast v321
  let c0_200 : Index := 0#32
  ![1, v323.toNat, 0]
def k0_off408 (k0_t4 : Fin k0_t4_loop.trips) : Fin 3 → Nat :=
  let c1_i32_201 : BitVec 32 := 1#32
  let v325 : Index := Scalar.indexCast c1_i32_201
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c2_i32_198 : BitVec 32 := 2#32
  let v321 : BitVec 32 := Scalar.addi v142 c2_i32_198
  let v326 : Index := Scalar.indexCast v321
  let c16_202 : Index := 16#32
  ![1, v326.toNat, 16]
def k0_off409 (k0_t4 : Fin k0_t4_loop.trips) : Fin 3 → Nat :=
  let c1_i32_203 : BitVec 32 := 1#32
  let v328 : Index := Scalar.indexCast c1_i32_203
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c2_i32_198 : BitVec 32 := 2#32
  let v321 : BitVec 32 := Scalar.addi v142 c2_i32_198
  let v329 : Index := Scalar.indexCast v321
  let c32_204 : Index := 32#32
  ![1, v329.toNat, 32]
def k0_off410 (k0_t4 : Fin k0_t4_loop.trips) : Fin 3 → Nat :=
  let c1_i32_205 : BitVec 32 := 1#32
  let v331 : Index := Scalar.indexCast c1_i32_205
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c2_i32_198 : BitVec 32 := 2#32
  let v321 : BitVec 32 := Scalar.addi v142 c2_i32_198
  let v332 : Index := Scalar.indexCast v321
  let c48_206 : Index := 48#32
  ![1, v332.toNat, 48]
def k0_off411 (k0_t4 : Fin k0_t4_loop.trips) : Fin 3 → Nat :=
  let c1_i32_207 : BitVec 32 := 1#32
  let v334 : Index := Scalar.indexCast c1_i32_207
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c2_i32_198 : BitVec 32 := 2#32
  let v321 : BitVec 32 := Scalar.addi v142 c2_i32_198
  let v335 : Index := Scalar.indexCast v321
  let c64_208 : Index := 64#32
  ![1, v335.toNat, 64]
def k0_off412 (k0_t4 : Fin k0_t4_loop.trips) : Fin 3 → Nat :=
  let c1_i32_209 : BitVec 32 := 1#32
  let v337 : Index := Scalar.indexCast c1_i32_209
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c2_i32_198 : BitVec 32 := 2#32
  let v321 : BitVec 32 := Scalar.addi v142 c2_i32_198
  let v338 : Index := Scalar.indexCast v321
  let c80_210 : Index := 80#32
  ![1, v338.toNat, 80]
def k0_off413 (k0_t4 : Fin k0_t4_loop.trips) : Fin 3 → Nat :=
  let c1_i32_211 : BitVec 32 := 1#32
  let v340 : Index := Scalar.indexCast c1_i32_211
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c2_i32_198 : BitVec 32 := 2#32
  let v321 : BitVec 32 := Scalar.addi v142 c2_i32_198
  let v341 : Index := Scalar.indexCast v321
  let c96_212 : Index := 96#32
  ![1, v341.toNat, 96]
def k0_off414 (k0_t4 : Fin k0_t4_loop.trips) : Fin 3 → Nat :=
  let c1_i32_213 : BitVec 32 := 1#32
  let v343 : Index := Scalar.indexCast c1_i32_213
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c2_i32_198 : BitVec 32 := 2#32
  let v321 : BitVec 32 := Scalar.addi v142 c2_i32_198
  let v344 : Index := Scalar.indexCast v321
  let c112_214 : Index := 112#32
  ![1, v344.toNat, 112]

def k0_chk55 (v406 : IVec S16 32) : Prop :=
  (∀ a x, ((![v406] : Fin 1 → IVec S16 32) a x).toNat < S272.size a)
theorem k0_idx55_inb : ∀ (v406 : IVec S16 32) (k0_hw55 : k0_chk55 v406), ∀ a x, ((![v406] : Fin 1 → IVec S16 32) a x).toNat < S272.size a := fun v406 k0_hw55 => k0_hw55
def k0_off415 (k0_t4 : Fin k0_t4_loop.trips) : Fin 3 → Nat :=
  let c1_i32_232 : BitVec 32 := 1#32
  let v408 : Index := Scalar.indexCast c1_i32_232
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c3_i32 : BitVec 32 := 3#32
  let v407 : BitVec 32 := Scalar.addi v142 c3_i32
  let v409 : Index := Scalar.indexCast v407
  let c0_233 : Index := 0#32
  ![1, v409.toNat, 0]
def k0_off416 (k0_t4 : Fin k0_t4_loop.trips) : Fin 3 → Nat :=
  let c1_i32_234 : BitVec 32 := 1#32
  let v411 : Index := Scalar.indexCast c1_i32_234
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c3_i32 : BitVec 32 := 3#32
  let v407 : BitVec 32 := Scalar.addi v142 c3_i32
  let v412 : Index := Scalar.indexCast v407
  let c16_235 : Index := 16#32
  ![1, v412.toNat, 16]
def k0_off417 (k0_t4 : Fin k0_t4_loop.trips) : Fin 3 → Nat :=
  let c1_i32_236 : BitVec 32 := 1#32
  let v414 : Index := Scalar.indexCast c1_i32_236
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c3_i32 : BitVec 32 := 3#32
  let v407 : BitVec 32 := Scalar.addi v142 c3_i32
  let v415 : Index := Scalar.indexCast v407
  let c32_237 : Index := 32#32
  ![1, v415.toNat, 32]
def k0_off418 (k0_t4 : Fin k0_t4_loop.trips) : Fin 3 → Nat :=
  let c1_i32_238 : BitVec 32 := 1#32
  let v417 : Index := Scalar.indexCast c1_i32_238
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c3_i32 : BitVec 32 := 3#32
  let v407 : BitVec 32 := Scalar.addi v142 c3_i32
  let v418 : Index := Scalar.indexCast v407
  let c48_239 : Index := 48#32
  ![1, v418.toNat, 48]
def k0_off419 (k0_t4 : Fin k0_t4_loop.trips) : Fin 3 → Nat :=
  let c1_i32_240 : BitVec 32 := 1#32
  let v420 : Index := Scalar.indexCast c1_i32_240
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c3_i32 : BitVec 32 := 3#32
  let v407 : BitVec 32 := Scalar.addi v142 c3_i32
  let v421 : Index := Scalar.indexCast v407
  let c64_241 : Index := 64#32
  ![1, v421.toNat, 64]
def k0_off420 (k0_t4 : Fin k0_t4_loop.trips) : Fin 3 → Nat :=
  let c1_i32_242 : BitVec 32 := 1#32
  let v423 : Index := Scalar.indexCast c1_i32_242
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c3_i32 : BitVec 32 := 3#32
  let v407 : BitVec 32 := Scalar.addi v142 c3_i32
  let v424 : Index := Scalar.indexCast v407
  let c80_243 : Index := 80#32
  ![1, v424.toNat, 80]
def k0_off421 (k0_t4 : Fin k0_t4_loop.trips) : Fin 3 → Nat :=
  let c1_i32_244 : BitVec 32 := 1#32
  let v426 : Index := Scalar.indexCast c1_i32_244
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c3_i32 : BitVec 32 := 3#32
  let v407 : BitVec 32 := Scalar.addi v142 c3_i32
  let v427 : Index := Scalar.indexCast v407
  let c96_245 : Index := 96#32
  ![1, v427.toNat, 96]
def k0_off422 (k0_t4 : Fin k0_t4_loop.trips) : Fin 3 → Nat :=
  let c1_i32_246 : BitVec 32 := 1#32
  let v429 : Index := Scalar.indexCast c1_i32_246
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c3_i32 : BitVec 32 := 3#32
  let v407 : BitVec 32 := Scalar.addi v142 c3_i32
  let v430 : Index := Scalar.indexCast v407
  let c112_247 : Index := 112#32
  ![1, v430.toNat, 112]

def k0_chk56 (v492 : IVec S16 32) : Prop :=
  (∀ a x, ((![v492] : Fin 1 → IVec S16 32) a x).toNat < S272.size a)
theorem k0_idx56_inb : ∀ (v492 : IVec S16 32) (k0_hw56 : k0_chk56 v492), ∀ a x, ((![v492] : Fin 1 → IVec S16 32) a x).toNat < S272.size a := fun v492 k0_hw56 => k0_hw56
def k0_off423 (k0_t4 : Fin k0_t4_loop.trips) : Fin 3 → Nat :=
  let c1_i32_265 : BitVec 32 := 1#32
  let v494 : Index := Scalar.indexCast c1_i32_265
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c4_i32 : BitVec 32 := 4#32
  let v493 : BitVec 32 := Scalar.addi v142 c4_i32
  let v495 : Index := Scalar.indexCast v493
  let c0_266 : Index := 0#32
  ![1, v495.toNat, 0]
def k0_off424 (k0_t4 : Fin k0_t4_loop.trips) : Fin 3 → Nat :=
  let c1_i32_267 : BitVec 32 := 1#32
  let v497 : Index := Scalar.indexCast c1_i32_267
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c4_i32 : BitVec 32 := 4#32
  let v493 : BitVec 32 := Scalar.addi v142 c4_i32
  let v498 : Index := Scalar.indexCast v493
  let c16_268 : Index := 16#32
  ![1, v498.toNat, 16]
def k0_off425 (k0_t4 : Fin k0_t4_loop.trips) : Fin 3 → Nat :=
  let c1_i32_269 : BitVec 32 := 1#32
  let v500 : Index := Scalar.indexCast c1_i32_269
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c4_i32 : BitVec 32 := 4#32
  let v493 : BitVec 32 := Scalar.addi v142 c4_i32
  let v501 : Index := Scalar.indexCast v493
  let c32_270 : Index := 32#32
  ![1, v501.toNat, 32]
def k0_off426 (k0_t4 : Fin k0_t4_loop.trips) : Fin 3 → Nat :=
  let c1_i32_271 : BitVec 32 := 1#32
  let v503 : Index := Scalar.indexCast c1_i32_271
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c4_i32 : BitVec 32 := 4#32
  let v493 : BitVec 32 := Scalar.addi v142 c4_i32
  let v504 : Index := Scalar.indexCast v493
  let c48_272 : Index := 48#32
  ![1, v504.toNat, 48]
def k0_off427 (k0_t4 : Fin k0_t4_loop.trips) : Fin 3 → Nat :=
  let c1_i32_273 : BitVec 32 := 1#32
  let v506 : Index := Scalar.indexCast c1_i32_273
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c4_i32 : BitVec 32 := 4#32
  let v493 : BitVec 32 := Scalar.addi v142 c4_i32
  let v507 : Index := Scalar.indexCast v493
  let c64_274 : Index := 64#32
  ![1, v507.toNat, 64]
def k0_off428 (k0_t4 : Fin k0_t4_loop.trips) : Fin 3 → Nat :=
  let c1_i32_275 : BitVec 32 := 1#32
  let v509 : Index := Scalar.indexCast c1_i32_275
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c4_i32 : BitVec 32 := 4#32
  let v493 : BitVec 32 := Scalar.addi v142 c4_i32
  let v510 : Index := Scalar.indexCast v493
  let c80_276 : Index := 80#32
  ![1, v510.toNat, 80]
def k0_off429 (k0_t4 : Fin k0_t4_loop.trips) : Fin 3 → Nat :=
  let c1_i32_277 : BitVec 32 := 1#32
  let v512 : Index := Scalar.indexCast c1_i32_277
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c4_i32 : BitVec 32 := 4#32
  let v493 : BitVec 32 := Scalar.addi v142 c4_i32
  let v513 : Index := Scalar.indexCast v493
  let c96_278 : Index := 96#32
  ![1, v513.toNat, 96]
def k0_off430 (k0_t4 : Fin k0_t4_loop.trips) : Fin 3 → Nat :=
  let c1_i32_279 : BitVec 32 := 1#32
  let v515 : Index := Scalar.indexCast c1_i32_279
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c4_i32 : BitVec 32 := 4#32
  let v493 : BitVec 32 := Scalar.addi v142 c4_i32
  let v516 : Index := Scalar.indexCast v493
  let c112_280 : Index := 112#32
  ![1, v516.toNat, 112]

def k0_chk57 (v578 : IVec S16 32) : Prop :=
  (∀ a x, ((![v578] : Fin 1 → IVec S16 32) a x).toNat < S272.size a)
theorem k0_idx57_inb : ∀ (v578 : IVec S16 32) (k0_hw57 : k0_chk57 v578), ∀ a x, ((![v578] : Fin 1 → IVec S16 32) a x).toNat < S272.size a := fun v578 k0_hw57 => k0_hw57
def k0_off431 (k0_t4 : Fin k0_t4_loop.trips) : Fin 3 → Nat :=
  let c1_i32_298 : BitVec 32 := 1#32
  let v580 : Index := Scalar.indexCast c1_i32_298
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c5_i32 : BitVec 32 := 5#32
  let v579 : BitVec 32 := Scalar.addi v142 c5_i32
  let v581 : Index := Scalar.indexCast v579
  let c0_299 : Index := 0#32
  ![1, v581.toNat, 0]
def k0_off432 (k0_t4 : Fin k0_t4_loop.trips) : Fin 3 → Nat :=
  let c1_i32_300 : BitVec 32 := 1#32
  let v583 : Index := Scalar.indexCast c1_i32_300
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c5_i32 : BitVec 32 := 5#32
  let v579 : BitVec 32 := Scalar.addi v142 c5_i32
  let v584 : Index := Scalar.indexCast v579
  let c16_301 : Index := 16#32
  ![1, v584.toNat, 16]
def k0_off433 (k0_t4 : Fin k0_t4_loop.trips) : Fin 3 → Nat :=
  let c1_i32_302 : BitVec 32 := 1#32
  let v586 : Index := Scalar.indexCast c1_i32_302
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c5_i32 : BitVec 32 := 5#32
  let v579 : BitVec 32 := Scalar.addi v142 c5_i32
  let v587 : Index := Scalar.indexCast v579
  let c32_303 : Index := 32#32
  ![1, v587.toNat, 32]
def k0_off434 (k0_t4 : Fin k0_t4_loop.trips) : Fin 3 → Nat :=
  let c1_i32_304 : BitVec 32 := 1#32
  let v589 : Index := Scalar.indexCast c1_i32_304
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c5_i32 : BitVec 32 := 5#32
  let v579 : BitVec 32 := Scalar.addi v142 c5_i32
  let v590 : Index := Scalar.indexCast v579
  let c48_305 : Index := 48#32
  ![1, v590.toNat, 48]
def k0_off435 (k0_t4 : Fin k0_t4_loop.trips) : Fin 3 → Nat :=
  let c1_i32_306 : BitVec 32 := 1#32
  let v592 : Index := Scalar.indexCast c1_i32_306
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c5_i32 : BitVec 32 := 5#32
  let v579 : BitVec 32 := Scalar.addi v142 c5_i32
  let v593 : Index := Scalar.indexCast v579
  let c64_307 : Index := 64#32
  ![1, v593.toNat, 64]
def k0_off436 (k0_t4 : Fin k0_t4_loop.trips) : Fin 3 → Nat :=
  let c1_i32_308 : BitVec 32 := 1#32
  let v595 : Index := Scalar.indexCast c1_i32_308
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c5_i32 : BitVec 32 := 5#32
  let v579 : BitVec 32 := Scalar.addi v142 c5_i32
  let v596 : Index := Scalar.indexCast v579
  let c80_309 : Index := 80#32
  ![1, v596.toNat, 80]
def k0_off437 (k0_t4 : Fin k0_t4_loop.trips) : Fin 3 → Nat :=
  let c1_i32_310 : BitVec 32 := 1#32
  let v598 : Index := Scalar.indexCast c1_i32_310
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c5_i32 : BitVec 32 := 5#32
  let v579 : BitVec 32 := Scalar.addi v142 c5_i32
  let v599 : Index := Scalar.indexCast v579
  let c96_311 : Index := 96#32
  ![1, v599.toNat, 96]
def k0_off438 (k0_t4 : Fin k0_t4_loop.trips) : Fin 3 → Nat :=
  let c1_i32_312 : BitVec 32 := 1#32
  let v601 : Index := Scalar.indexCast c1_i32_312
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c5_i32 : BitVec 32 := 5#32
  let v579 : BitVec 32 := Scalar.addi v142 c5_i32
  let v602 : Index := Scalar.indexCast v579
  let c112_313 : Index := 112#32
  ![1, v602.toNat, 112]

def k0_chk58 (v664 : IVec S16 32) : Prop :=
  (∀ a x, ((![v664] : Fin 1 → IVec S16 32) a x).toNat < S272.size a)
theorem k0_idx58_inb : ∀ (v664 : IVec S16 32) (k0_hw58 : k0_chk58 v664), ∀ a x, ((![v664] : Fin 1 → IVec S16 32) a x).toNat < S272.size a := fun v664 k0_hw58 => k0_hw58
def k0_off439 (k0_t4 : Fin k0_t4_loop.trips) : Fin 3 → Nat :=
  let c1_i32_331 : BitVec 32 := 1#32
  let v666 : Index := Scalar.indexCast c1_i32_331
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c6_i32 : BitVec 32 := 6#32
  let v665 : BitVec 32 := Scalar.addi v142 c6_i32
  let v667 : Index := Scalar.indexCast v665
  let c0_332 : Index := 0#32
  ![1, v667.toNat, 0]
def k0_off440 (k0_t4 : Fin k0_t4_loop.trips) : Fin 3 → Nat :=
  let c1_i32_333 : BitVec 32 := 1#32
  let v669 : Index := Scalar.indexCast c1_i32_333
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c6_i32 : BitVec 32 := 6#32
  let v665 : BitVec 32 := Scalar.addi v142 c6_i32
  let v670 : Index := Scalar.indexCast v665
  let c16_334 : Index := 16#32
  ![1, v670.toNat, 16]
def k0_off441 (k0_t4 : Fin k0_t4_loop.trips) : Fin 3 → Nat :=
  let c1_i32_335 : BitVec 32 := 1#32
  let v672 : Index := Scalar.indexCast c1_i32_335
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c6_i32 : BitVec 32 := 6#32
  let v665 : BitVec 32 := Scalar.addi v142 c6_i32
  let v673 : Index := Scalar.indexCast v665
  let c32_336 : Index := 32#32
  ![1, v673.toNat, 32]
def k0_off442 (k0_t4 : Fin k0_t4_loop.trips) : Fin 3 → Nat :=
  let c1_i32_337 : BitVec 32 := 1#32
  let v675 : Index := Scalar.indexCast c1_i32_337
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c6_i32 : BitVec 32 := 6#32
  let v665 : BitVec 32 := Scalar.addi v142 c6_i32
  let v676 : Index := Scalar.indexCast v665
  let c48_338 : Index := 48#32
  ![1, v676.toNat, 48]
def k0_off443 (k0_t4 : Fin k0_t4_loop.trips) : Fin 3 → Nat :=
  let c1_i32_339 : BitVec 32 := 1#32
  let v678 : Index := Scalar.indexCast c1_i32_339
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c6_i32 : BitVec 32 := 6#32
  let v665 : BitVec 32 := Scalar.addi v142 c6_i32
  let v679 : Index := Scalar.indexCast v665
  let c64_340 : Index := 64#32
  ![1, v679.toNat, 64]
def k0_off444 (k0_t4 : Fin k0_t4_loop.trips) : Fin 3 → Nat :=
  let c1_i32_341 : BitVec 32 := 1#32
  let v681 : Index := Scalar.indexCast c1_i32_341
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c6_i32 : BitVec 32 := 6#32
  let v665 : BitVec 32 := Scalar.addi v142 c6_i32
  let v682 : Index := Scalar.indexCast v665
  let c80_342 : Index := 80#32
  ![1, v682.toNat, 80]
def k0_off445 (k0_t4 : Fin k0_t4_loop.trips) : Fin 3 → Nat :=
  let c1_i32_343 : BitVec 32 := 1#32
  let v684 : Index := Scalar.indexCast c1_i32_343
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c6_i32 : BitVec 32 := 6#32
  let v665 : BitVec 32 := Scalar.addi v142 c6_i32
  let v685 : Index := Scalar.indexCast v665
  let c96_344 : Index := 96#32
  ![1, v685.toNat, 96]
def k0_off446 (k0_t4 : Fin k0_t4_loop.trips) : Fin 3 → Nat :=
  let c1_i32_345 : BitVec 32 := 1#32
  let v687 : Index := Scalar.indexCast c1_i32_345
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c6_i32 : BitVec 32 := 6#32
  let v665 : BitVec 32 := Scalar.addi v142 c6_i32
  let v688 : Index := Scalar.indexCast v665
  let c112_346 : Index := 112#32
  ![1, v688.toNat, 112]

def k0_chk59 (v750 : IVec S16 32) : Prop :=
  (∀ a x, ((![v750] : Fin 1 → IVec S16 32) a x).toNat < S272.size a)
theorem k0_idx59_inb : ∀ (v750 : IVec S16 32) (k0_hw59 : k0_chk59 v750), ∀ a x, ((![v750] : Fin 1 → IVec S16 32) a x).toNat < S272.size a := fun v750 k0_hw59 => k0_hw59
def k0_off447 (k0_t4 : Fin k0_t4_loop.trips) : Fin 3 → Nat :=
  let c1_i32_364 : BitVec 32 := 1#32
  let v752 : Index := Scalar.indexCast c1_i32_364
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c7_i32 : BitVec 32 := 7#32
  let v751 : BitVec 32 := Scalar.addi v142 c7_i32
  let v753 : Index := Scalar.indexCast v751
  let c0_365 : Index := 0#32
  ![1, v753.toNat, 0]
def k0_off448 (k0_t4 : Fin k0_t4_loop.trips) : Fin 3 → Nat :=
  let c1_i32_366 : BitVec 32 := 1#32
  let v755 : Index := Scalar.indexCast c1_i32_366
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c7_i32 : BitVec 32 := 7#32
  let v751 : BitVec 32 := Scalar.addi v142 c7_i32
  let v756 : Index := Scalar.indexCast v751
  let c16_367 : Index := 16#32
  ![1, v756.toNat, 16]
def k0_off449 (k0_t4 : Fin k0_t4_loop.trips) : Fin 3 → Nat :=
  let c1_i32_368 : BitVec 32 := 1#32
  let v758 : Index := Scalar.indexCast c1_i32_368
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c7_i32 : BitVec 32 := 7#32
  let v751 : BitVec 32 := Scalar.addi v142 c7_i32
  let v759 : Index := Scalar.indexCast v751
  let c32_369 : Index := 32#32
  ![1, v759.toNat, 32]
def k0_off450 (k0_t4 : Fin k0_t4_loop.trips) : Fin 3 → Nat :=
  let c1_i32_370 : BitVec 32 := 1#32
  let v761 : Index := Scalar.indexCast c1_i32_370
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c7_i32 : BitVec 32 := 7#32
  let v751 : BitVec 32 := Scalar.addi v142 c7_i32
  let v762 : Index := Scalar.indexCast v751
  let c48_371 : Index := 48#32
  ![1, v762.toNat, 48]
def k0_off451 (k0_t4 : Fin k0_t4_loop.trips) : Fin 3 → Nat :=
  let c1_i32_372 : BitVec 32 := 1#32
  let v764 : Index := Scalar.indexCast c1_i32_372
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c7_i32 : BitVec 32 := 7#32
  let v751 : BitVec 32 := Scalar.addi v142 c7_i32
  let v765 : Index := Scalar.indexCast v751
  let c64_373 : Index := 64#32
  ![1, v765.toNat, 64]
def k0_off452 (k0_t4 : Fin k0_t4_loop.trips) : Fin 3 → Nat :=
  let c1_i32_374 : BitVec 32 := 1#32
  let v767 : Index := Scalar.indexCast c1_i32_374
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c7_i32 : BitVec 32 := 7#32
  let v751 : BitVec 32 := Scalar.addi v142 c7_i32
  let v768 : Index := Scalar.indexCast v751
  let c80_375 : Index := 80#32
  ![1, v768.toNat, 80]
def k0_off453 (k0_t4 : Fin k0_t4_loop.trips) : Fin 3 → Nat :=
  let c1_i32_376 : BitVec 32 := 1#32
  let v770 : Index := Scalar.indexCast c1_i32_376
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c7_i32 : BitVec 32 := 7#32
  let v751 : BitVec 32 := Scalar.addi v142 c7_i32
  let v771 : Index := Scalar.indexCast v751
  let c96_377 : Index := 96#32
  ![1, v771.toNat, 96]
def k0_off454 (k0_t4 : Fin k0_t4_loop.trips) : Fin 3 → Nat :=
  let c1_i32_378 : BitVec 32 := 1#32
  let v773 : Index := Scalar.indexCast c1_i32_378
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c7_i32 : BitVec 32 := 7#32
  let v751 : BitVec 32 := Scalar.addi v142 c7_i32
  let v774 : Index := Scalar.indexCast v751
  let c112_379 : Index := 112#32
  ![1, v774.toNat, 112]

def k0_chk60 (v836 : IVec S16 32) : Prop :=
  (∀ a x, ((![v836] : Fin 1 → IVec S16 32) a x).toNat < S272.size a)
theorem k0_idx60_inb : ∀ (v836 : IVec S16 32) (k0_hw60 : k0_chk60 v836), ∀ a x, ((![v836] : Fin 1 → IVec S16 32) a x).toNat < S272.size a := fun v836 k0_hw60 => k0_hw60
def k0_off455 (k0_t4 : Fin k0_t4_loop.trips) : Fin 3 → Nat :=
  let c1_i32_398 : BitVec 32 := 1#32
  let v838 : Index := Scalar.indexCast c1_i32_398
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c8_i32_397 : BitVec 32 := 8#32
  let v837 : BitVec 32 := Scalar.addi v142 c8_i32_397
  let v839 : Index := Scalar.indexCast v837
  let c0_399 : Index := 0#32
  ![1, v839.toNat, 0]
def k0_off456 (k0_t4 : Fin k0_t4_loop.trips) : Fin 3 → Nat :=
  let c1_i32_400 : BitVec 32 := 1#32
  let v841 : Index := Scalar.indexCast c1_i32_400
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c8_i32_397 : BitVec 32 := 8#32
  let v837 : BitVec 32 := Scalar.addi v142 c8_i32_397
  let v842 : Index := Scalar.indexCast v837
  let c16_401 : Index := 16#32
  ![1, v842.toNat, 16]
def k0_off457 (k0_t4 : Fin k0_t4_loop.trips) : Fin 3 → Nat :=
  let c1_i32_402 : BitVec 32 := 1#32
  let v844 : Index := Scalar.indexCast c1_i32_402
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c8_i32_397 : BitVec 32 := 8#32
  let v837 : BitVec 32 := Scalar.addi v142 c8_i32_397
  let v845 : Index := Scalar.indexCast v837
  let c32_403 : Index := 32#32
  ![1, v845.toNat, 32]
def k0_off458 (k0_t4 : Fin k0_t4_loop.trips) : Fin 3 → Nat :=
  let c1_i32_404 : BitVec 32 := 1#32
  let v847 : Index := Scalar.indexCast c1_i32_404
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c8_i32_397 : BitVec 32 := 8#32
  let v837 : BitVec 32 := Scalar.addi v142 c8_i32_397
  let v848 : Index := Scalar.indexCast v837
  let c48_405 : Index := 48#32
  ![1, v848.toNat, 48]
def k0_off459 (k0_t4 : Fin k0_t4_loop.trips) : Fin 3 → Nat :=
  let c1_i32_406 : BitVec 32 := 1#32
  let v850 : Index := Scalar.indexCast c1_i32_406
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c8_i32_397 : BitVec 32 := 8#32
  let v837 : BitVec 32 := Scalar.addi v142 c8_i32_397
  let v851 : Index := Scalar.indexCast v837
  let c64_407 : Index := 64#32
  ![1, v851.toNat, 64]
def k0_off460 (k0_t4 : Fin k0_t4_loop.trips) : Fin 3 → Nat :=
  let c1_i32_408 : BitVec 32 := 1#32
  let v853 : Index := Scalar.indexCast c1_i32_408
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c8_i32_397 : BitVec 32 := 8#32
  let v837 : BitVec 32 := Scalar.addi v142 c8_i32_397
  let v854 : Index := Scalar.indexCast v837
  let c80_409 : Index := 80#32
  ![1, v854.toNat, 80]
def k0_off461 (k0_t4 : Fin k0_t4_loop.trips) : Fin 3 → Nat :=
  let c1_i32_410 : BitVec 32 := 1#32
  let v856 : Index := Scalar.indexCast c1_i32_410
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c8_i32_397 : BitVec 32 := 8#32
  let v837 : BitVec 32 := Scalar.addi v142 c8_i32_397
  let v857 : Index := Scalar.indexCast v837
  let c96_411 : Index := 96#32
  ![1, v857.toNat, 96]
def k0_off462 (k0_t4 : Fin k0_t4_loop.trips) : Fin 3 → Nat :=
  let c1_i32_412 : BitVec 32 := 1#32
  let v859 : Index := Scalar.indexCast c1_i32_412
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c8_i32_397 : BitVec 32 := 8#32
  let v837 : BitVec 32 := Scalar.addi v142 c8_i32_397
  let v860 : Index := Scalar.indexCast v837
  let c112_413 : Index := 112#32
  ![1, v860.toNat, 112]

def k0_chk61 (v922 : IVec S16 32) : Prop :=
  (∀ a x, ((![v922] : Fin 1 → IVec S16 32) a x).toNat < S272.size a)
theorem k0_idx61_inb : ∀ (v922 : IVec S16 32) (k0_hw61 : k0_chk61 v922), ∀ a x, ((![v922] : Fin 1 → IVec S16 32) a x).toNat < S272.size a := fun v922 k0_hw61 => k0_hw61
def k0_off463 (k0_t4 : Fin k0_t4_loop.trips) : Fin 3 → Nat :=
  let c1_i32_431 : BitVec 32 := 1#32
  let v924 : Index := Scalar.indexCast c1_i32_431
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c9_i32 : BitVec 32 := 9#32
  let v923 : BitVec 32 := Scalar.addi v142 c9_i32
  let v925 : Index := Scalar.indexCast v923
  let c0_432 : Index := 0#32
  ![1, v925.toNat, 0]
def k0_off464 (k0_t4 : Fin k0_t4_loop.trips) : Fin 3 → Nat :=
  let c1_i32_433 : BitVec 32 := 1#32
  let v927 : Index := Scalar.indexCast c1_i32_433
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c9_i32 : BitVec 32 := 9#32
  let v923 : BitVec 32 := Scalar.addi v142 c9_i32
  let v928 : Index := Scalar.indexCast v923
  let c16_434 : Index := 16#32
  ![1, v928.toNat, 16]
def k0_off465 (k0_t4 : Fin k0_t4_loop.trips) : Fin 3 → Nat :=
  let c1_i32_435 : BitVec 32 := 1#32
  let v930 : Index := Scalar.indexCast c1_i32_435
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c9_i32 : BitVec 32 := 9#32
  let v923 : BitVec 32 := Scalar.addi v142 c9_i32
  let v931 : Index := Scalar.indexCast v923
  let c32_436 : Index := 32#32
  ![1, v931.toNat, 32]
def k0_off466 (k0_t4 : Fin k0_t4_loop.trips) : Fin 3 → Nat :=
  let c1_i32_437 : BitVec 32 := 1#32
  let v933 : Index := Scalar.indexCast c1_i32_437
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c9_i32 : BitVec 32 := 9#32
  let v923 : BitVec 32 := Scalar.addi v142 c9_i32
  let v934 : Index := Scalar.indexCast v923
  let c48_438 : Index := 48#32
  ![1, v934.toNat, 48]
def k0_off467 (k0_t4 : Fin k0_t4_loop.trips) : Fin 3 → Nat :=
  let c1_i32_439 : BitVec 32 := 1#32
  let v936 : Index := Scalar.indexCast c1_i32_439
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c9_i32 : BitVec 32 := 9#32
  let v923 : BitVec 32 := Scalar.addi v142 c9_i32
  let v937 : Index := Scalar.indexCast v923
  let c64_440 : Index := 64#32
  ![1, v937.toNat, 64]
def k0_off468 (k0_t4 : Fin k0_t4_loop.trips) : Fin 3 → Nat :=
  let c1_i32_441 : BitVec 32 := 1#32
  let v939 : Index := Scalar.indexCast c1_i32_441
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c9_i32 : BitVec 32 := 9#32
  let v923 : BitVec 32 := Scalar.addi v142 c9_i32
  let v940 : Index := Scalar.indexCast v923
  let c80_442 : Index := 80#32
  ![1, v940.toNat, 80]
def k0_off469 (k0_t4 : Fin k0_t4_loop.trips) : Fin 3 → Nat :=
  let c1_i32_443 : BitVec 32 := 1#32
  let v942 : Index := Scalar.indexCast c1_i32_443
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c9_i32 : BitVec 32 := 9#32
  let v923 : BitVec 32 := Scalar.addi v142 c9_i32
  let v943 : Index := Scalar.indexCast v923
  let c96_444 : Index := 96#32
  ![1, v943.toNat, 96]
def k0_off470 (k0_t4 : Fin k0_t4_loop.trips) : Fin 3 → Nat :=
  let c1_i32_445 : BitVec 32 := 1#32
  let v945 : Index := Scalar.indexCast c1_i32_445
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c9_i32 : BitVec 32 := 9#32
  let v923 : BitVec 32 := Scalar.addi v142 c9_i32
  let v946 : Index := Scalar.indexCast v923
  let c112_446 : Index := 112#32
  ![1, v946.toNat, 112]

def k0_chk62 (v1008 : IVec S16 32) : Prop :=
  (∀ a x, ((![v1008] : Fin 1 → IVec S16 32) a x).toNat < S272.size a)
theorem k0_idx62_inb : ∀ (v1008 : IVec S16 32) (k0_hw62 : k0_chk62 v1008), ∀ a x, ((![v1008] : Fin 1 → IVec S16 32) a x).toNat < S272.size a := fun v1008 k0_hw62 => k0_hw62
def k0_off471 (k0_t4 : Fin k0_t4_loop.trips) : Fin 3 → Nat :=
  let c1_i32_464 : BitVec 32 := 1#32
  let v1010 : Index := Scalar.indexCast c1_i32_464
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c10_i32 : BitVec 32 := 10#32
  let v1009 : BitVec 32 := Scalar.addi v142 c10_i32
  let v1011 : Index := Scalar.indexCast v1009
  let c0_465 : Index := 0#32
  ![1, v1011.toNat, 0]
def k0_off472 (k0_t4 : Fin k0_t4_loop.trips) : Fin 3 → Nat :=
  let c1_i32_466 : BitVec 32 := 1#32
  let v1013 : Index := Scalar.indexCast c1_i32_466
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c10_i32 : BitVec 32 := 10#32
  let v1009 : BitVec 32 := Scalar.addi v142 c10_i32
  let v1014 : Index := Scalar.indexCast v1009
  let c16_467 : Index := 16#32
  ![1, v1014.toNat, 16]
def k0_off473 (k0_t4 : Fin k0_t4_loop.trips) : Fin 3 → Nat :=
  let c1_i32_468 : BitVec 32 := 1#32
  let v1016 : Index := Scalar.indexCast c1_i32_468
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c10_i32 : BitVec 32 := 10#32
  let v1009 : BitVec 32 := Scalar.addi v142 c10_i32
  let v1017 : Index := Scalar.indexCast v1009
  let c32_469 : Index := 32#32
  ![1, v1017.toNat, 32]
def k0_off474 (k0_t4 : Fin k0_t4_loop.trips) : Fin 3 → Nat :=
  let c1_i32_470 : BitVec 32 := 1#32
  let v1019 : Index := Scalar.indexCast c1_i32_470
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c10_i32 : BitVec 32 := 10#32
  let v1009 : BitVec 32 := Scalar.addi v142 c10_i32
  let v1020 : Index := Scalar.indexCast v1009
  let c48_471 : Index := 48#32
  ![1, v1020.toNat, 48]
def k0_off475 (k0_t4 : Fin k0_t4_loop.trips) : Fin 3 → Nat :=
  let c1_i32_472 : BitVec 32 := 1#32
  let v1022 : Index := Scalar.indexCast c1_i32_472
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c10_i32 : BitVec 32 := 10#32
  let v1009 : BitVec 32 := Scalar.addi v142 c10_i32
  let v1023 : Index := Scalar.indexCast v1009
  let c64_473 : Index := 64#32
  ![1, v1023.toNat, 64]
def k0_off476 (k0_t4 : Fin k0_t4_loop.trips) : Fin 3 → Nat :=
  let c1_i32_474 : BitVec 32 := 1#32
  let v1025 : Index := Scalar.indexCast c1_i32_474
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c10_i32 : BitVec 32 := 10#32
  let v1009 : BitVec 32 := Scalar.addi v142 c10_i32
  let v1026 : Index := Scalar.indexCast v1009
  let c80_475 : Index := 80#32
  ![1, v1026.toNat, 80]
def k0_off477 (k0_t4 : Fin k0_t4_loop.trips) : Fin 3 → Nat :=
  let c1_i32_476 : BitVec 32 := 1#32
  let v1028 : Index := Scalar.indexCast c1_i32_476
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c10_i32 : BitVec 32 := 10#32
  let v1009 : BitVec 32 := Scalar.addi v142 c10_i32
  let v1029 : Index := Scalar.indexCast v1009
  let c96_477 : Index := 96#32
  ![1, v1029.toNat, 96]
def k0_off478 (k0_t4 : Fin k0_t4_loop.trips) : Fin 3 → Nat :=
  let c1_i32_478 : BitVec 32 := 1#32
  let v1031 : Index := Scalar.indexCast c1_i32_478
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c10_i32 : BitVec 32 := 10#32
  let v1009 : BitVec 32 := Scalar.addi v142 c10_i32
  let v1032 : Index := Scalar.indexCast v1009
  let c112_479 : Index := 112#32
  ![1, v1032.toNat, 112]

def k0_chk63 (v1094 : IVec S16 32) : Prop :=
  (∀ a x, ((![v1094] : Fin 1 → IVec S16 32) a x).toNat < S272.size a)
theorem k0_idx63_inb : ∀ (v1094 : IVec S16 32) (k0_hw63 : k0_chk63 v1094), ∀ a x, ((![v1094] : Fin 1 → IVec S16 32) a x).toNat < S272.size a := fun v1094 k0_hw63 => k0_hw63
def k0_off479 (k0_t4 : Fin k0_t4_loop.trips) : Fin 3 → Nat :=
  let c1_i32_497 : BitVec 32 := 1#32
  let v1096 : Index := Scalar.indexCast c1_i32_497
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c11_i32 : BitVec 32 := 11#32
  let v1095 : BitVec 32 := Scalar.addi v142 c11_i32
  let v1097 : Index := Scalar.indexCast v1095
  let c0_498 : Index := 0#32
  ![1, v1097.toNat, 0]
def k0_off480 (k0_t4 : Fin k0_t4_loop.trips) : Fin 3 → Nat :=
  let c1_i32_499 : BitVec 32 := 1#32
  let v1099 : Index := Scalar.indexCast c1_i32_499
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c11_i32 : BitVec 32 := 11#32
  let v1095 : BitVec 32 := Scalar.addi v142 c11_i32
  let v1100 : Index := Scalar.indexCast v1095
  let c16_500 : Index := 16#32
  ![1, v1100.toNat, 16]
def k0_off481 (k0_t4 : Fin k0_t4_loop.trips) : Fin 3 → Nat :=
  let c1_i32_501 : BitVec 32 := 1#32
  let v1102 : Index := Scalar.indexCast c1_i32_501
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c11_i32 : BitVec 32 := 11#32
  let v1095 : BitVec 32 := Scalar.addi v142 c11_i32
  let v1103 : Index := Scalar.indexCast v1095
  let c32_502 : Index := 32#32
  ![1, v1103.toNat, 32]
def k0_off482 (k0_t4 : Fin k0_t4_loop.trips) : Fin 3 → Nat :=
  let c1_i32_503 : BitVec 32 := 1#32
  let v1105 : Index := Scalar.indexCast c1_i32_503
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c11_i32 : BitVec 32 := 11#32
  let v1095 : BitVec 32 := Scalar.addi v142 c11_i32
  let v1106 : Index := Scalar.indexCast v1095
  let c48_504 : Index := 48#32
  ![1, v1106.toNat, 48]
def k0_off483 (k0_t4 : Fin k0_t4_loop.trips) : Fin 3 → Nat :=
  let c1_i32_505 : BitVec 32 := 1#32
  let v1108 : Index := Scalar.indexCast c1_i32_505
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c11_i32 : BitVec 32 := 11#32
  let v1095 : BitVec 32 := Scalar.addi v142 c11_i32
  let v1109 : Index := Scalar.indexCast v1095
  let c64_506 : Index := 64#32
  ![1, v1109.toNat, 64]
def k0_off484 (k0_t4 : Fin k0_t4_loop.trips) : Fin 3 → Nat :=
  let c1_i32_507 : BitVec 32 := 1#32
  let v1111 : Index := Scalar.indexCast c1_i32_507
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c11_i32 : BitVec 32 := 11#32
  let v1095 : BitVec 32 := Scalar.addi v142 c11_i32
  let v1112 : Index := Scalar.indexCast v1095
  let c80_508 : Index := 80#32
  ![1, v1112.toNat, 80]
def k0_off485 (k0_t4 : Fin k0_t4_loop.trips) : Fin 3 → Nat :=
  let c1_i32_509 : BitVec 32 := 1#32
  let v1114 : Index := Scalar.indexCast c1_i32_509
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c11_i32 : BitVec 32 := 11#32
  let v1095 : BitVec 32 := Scalar.addi v142 c11_i32
  let v1115 : Index := Scalar.indexCast v1095
  let c96_510 : Index := 96#32
  ![1, v1115.toNat, 96]
def k0_off486 (k0_t4 : Fin k0_t4_loop.trips) : Fin 3 → Nat :=
  let c1_i32_511 : BitVec 32 := 1#32
  let v1117 : Index := Scalar.indexCast c1_i32_511
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c11_i32 : BitVec 32 := 11#32
  let v1095 : BitVec 32 := Scalar.addi v142 c11_i32
  let v1118 : Index := Scalar.indexCast v1095
  let c112_512 : Index := 112#32
  ![1, v1118.toNat, 112]

def k0_chk64 (v1180 : IVec S16 32) : Prop :=
  (∀ a x, ((![v1180] : Fin 1 → IVec S16 32) a x).toNat < S272.size a)
theorem k0_idx64_inb : ∀ (v1180 : IVec S16 32) (k0_hw64 : k0_chk64 v1180), ∀ a x, ((![v1180] : Fin 1 → IVec S16 32) a x).toNat < S272.size a := fun v1180 k0_hw64 => k0_hw64
def k0_off487 (k0_t4 : Fin k0_t4_loop.trips) : Fin 3 → Nat :=
  let c1_i32_530 : BitVec 32 := 1#32
  let v1182 : Index := Scalar.indexCast c1_i32_530
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c12_i32 : BitVec 32 := 12#32
  let v1181 : BitVec 32 := Scalar.addi v142 c12_i32
  let v1183 : Index := Scalar.indexCast v1181
  let c0_531 : Index := 0#32
  ![1, v1183.toNat, 0]
def k0_off488 (k0_t4 : Fin k0_t4_loop.trips) : Fin 3 → Nat :=
  let c1_i32_532 : BitVec 32 := 1#32
  let v1185 : Index := Scalar.indexCast c1_i32_532
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c12_i32 : BitVec 32 := 12#32
  let v1181 : BitVec 32 := Scalar.addi v142 c12_i32
  let v1186 : Index := Scalar.indexCast v1181
  let c16_533 : Index := 16#32
  ![1, v1186.toNat, 16]
def k0_off489 (k0_t4 : Fin k0_t4_loop.trips) : Fin 3 → Nat :=
  let c1_i32_534 : BitVec 32 := 1#32
  let v1188 : Index := Scalar.indexCast c1_i32_534
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c12_i32 : BitVec 32 := 12#32
  let v1181 : BitVec 32 := Scalar.addi v142 c12_i32
  let v1189 : Index := Scalar.indexCast v1181
  let c32_535 : Index := 32#32
  ![1, v1189.toNat, 32]
def k0_off490 (k0_t4 : Fin k0_t4_loop.trips) : Fin 3 → Nat :=
  let c1_i32_536 : BitVec 32 := 1#32
  let v1191 : Index := Scalar.indexCast c1_i32_536
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c12_i32 : BitVec 32 := 12#32
  let v1181 : BitVec 32 := Scalar.addi v142 c12_i32
  let v1192 : Index := Scalar.indexCast v1181
  let c48_537 : Index := 48#32
  ![1, v1192.toNat, 48]
def k0_off491 (k0_t4 : Fin k0_t4_loop.trips) : Fin 3 → Nat :=
  let c1_i32_538 : BitVec 32 := 1#32
  let v1194 : Index := Scalar.indexCast c1_i32_538
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c12_i32 : BitVec 32 := 12#32
  let v1181 : BitVec 32 := Scalar.addi v142 c12_i32
  let v1195 : Index := Scalar.indexCast v1181
  let c64_539 : Index := 64#32
  ![1, v1195.toNat, 64]
def k0_off492 (k0_t4 : Fin k0_t4_loop.trips) : Fin 3 → Nat :=
  let c1_i32_540 : BitVec 32 := 1#32
  let v1197 : Index := Scalar.indexCast c1_i32_540
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c12_i32 : BitVec 32 := 12#32
  let v1181 : BitVec 32 := Scalar.addi v142 c12_i32
  let v1198 : Index := Scalar.indexCast v1181
  let c80_541 : Index := 80#32
  ![1, v1198.toNat, 80]
def k0_off493 (k0_t4 : Fin k0_t4_loop.trips) : Fin 3 → Nat :=
  let c1_i32_542 : BitVec 32 := 1#32
  let v1200 : Index := Scalar.indexCast c1_i32_542
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c12_i32 : BitVec 32 := 12#32
  let v1181 : BitVec 32 := Scalar.addi v142 c12_i32
  let v1201 : Index := Scalar.indexCast v1181
  let c96_543 : Index := 96#32
  ![1, v1201.toNat, 96]
def k0_off494 (k0_t4 : Fin k0_t4_loop.trips) : Fin 3 → Nat :=
  let c1_i32_544 : BitVec 32 := 1#32
  let v1203 : Index := Scalar.indexCast c1_i32_544
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c12_i32 : BitVec 32 := 12#32
  let v1181 : BitVec 32 := Scalar.addi v142 c12_i32
  let v1204 : Index := Scalar.indexCast v1181
  let c112_545 : Index := 112#32
  ![1, v1204.toNat, 112]

def k0_chk65 (v1266 : IVec S16 32) : Prop :=
  (∀ a x, ((![v1266] : Fin 1 → IVec S16 32) a x).toNat < S272.size a)
theorem k0_idx65_inb : ∀ (v1266 : IVec S16 32) (k0_hw65 : k0_chk65 v1266), ∀ a x, ((![v1266] : Fin 1 → IVec S16 32) a x).toNat < S272.size a := fun v1266 k0_hw65 => k0_hw65
def k0_off495 (k0_t4 : Fin k0_t4_loop.trips) : Fin 3 → Nat :=
  let c1_i32_563 : BitVec 32 := 1#32
  let v1268 : Index := Scalar.indexCast c1_i32_563
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c13_i32 : BitVec 32 := 13#32
  let v1267 : BitVec 32 := Scalar.addi v142 c13_i32
  let v1269 : Index := Scalar.indexCast v1267
  let c0_564 : Index := 0#32
  ![1, v1269.toNat, 0]
def k0_off496 (k0_t4 : Fin k0_t4_loop.trips) : Fin 3 → Nat :=
  let c1_i32_565 : BitVec 32 := 1#32
  let v1271 : Index := Scalar.indexCast c1_i32_565
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c13_i32 : BitVec 32 := 13#32
  let v1267 : BitVec 32 := Scalar.addi v142 c13_i32
  let v1272 : Index := Scalar.indexCast v1267
  let c16_566 : Index := 16#32
  ![1, v1272.toNat, 16]
def k0_off497 (k0_t4 : Fin k0_t4_loop.trips) : Fin 3 → Nat :=
  let c1_i32_567 : BitVec 32 := 1#32
  let v1274 : Index := Scalar.indexCast c1_i32_567
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c13_i32 : BitVec 32 := 13#32
  let v1267 : BitVec 32 := Scalar.addi v142 c13_i32
  let v1275 : Index := Scalar.indexCast v1267
  let c32_568 : Index := 32#32
  ![1, v1275.toNat, 32]
def k0_off498 (k0_t4 : Fin k0_t4_loop.trips) : Fin 3 → Nat :=
  let c1_i32_569 : BitVec 32 := 1#32
  let v1277 : Index := Scalar.indexCast c1_i32_569
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c13_i32 : BitVec 32 := 13#32
  let v1267 : BitVec 32 := Scalar.addi v142 c13_i32
  let v1278 : Index := Scalar.indexCast v1267
  let c48_570 : Index := 48#32
  ![1, v1278.toNat, 48]
def k0_off499 (k0_t4 : Fin k0_t4_loop.trips) : Fin 3 → Nat :=
  let c1_i32_571 : BitVec 32 := 1#32
  let v1280 : Index := Scalar.indexCast c1_i32_571
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c13_i32 : BitVec 32 := 13#32
  let v1267 : BitVec 32 := Scalar.addi v142 c13_i32
  let v1281 : Index := Scalar.indexCast v1267
  let c64_572 : Index := 64#32
  ![1, v1281.toNat, 64]
def k0_off500 (k0_t4 : Fin k0_t4_loop.trips) : Fin 3 → Nat :=
  let c1_i32_573 : BitVec 32 := 1#32
  let v1283 : Index := Scalar.indexCast c1_i32_573
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c13_i32 : BitVec 32 := 13#32
  let v1267 : BitVec 32 := Scalar.addi v142 c13_i32
  let v1284 : Index := Scalar.indexCast v1267
  let c80_574 : Index := 80#32
  ![1, v1284.toNat, 80]
def k0_off501 (k0_t4 : Fin k0_t4_loop.trips) : Fin 3 → Nat :=
  let c1_i32_575 : BitVec 32 := 1#32
  let v1286 : Index := Scalar.indexCast c1_i32_575
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c13_i32 : BitVec 32 := 13#32
  let v1267 : BitVec 32 := Scalar.addi v142 c13_i32
  let v1287 : Index := Scalar.indexCast v1267
  let c96_576 : Index := 96#32
  ![1, v1287.toNat, 96]
def k0_off502 (k0_t4 : Fin k0_t4_loop.trips) : Fin 3 → Nat :=
  let c1_i32_577 : BitVec 32 := 1#32
  let v1289 : Index := Scalar.indexCast c1_i32_577
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c13_i32 : BitVec 32 := 13#32
  let v1267 : BitVec 32 := Scalar.addi v142 c13_i32
  let v1290 : Index := Scalar.indexCast v1267
  let c112_578 : Index := 112#32
  ![1, v1290.toNat, 112]

def k0_chk66 (v1352 : IVec S16 32) : Prop :=
  (∀ a x, ((![v1352] : Fin 1 → IVec S16 32) a x).toNat < S272.size a)
theorem k0_idx66_inb : ∀ (v1352 : IVec S16 32) (k0_hw66 : k0_chk66 v1352), ∀ a x, ((![v1352] : Fin 1 → IVec S16 32) a x).toNat < S272.size a := fun v1352 k0_hw66 => k0_hw66
def k0_off503 (k0_t4 : Fin k0_t4_loop.trips) : Fin 3 → Nat :=
  let c1_i32_596 : BitVec 32 := 1#32
  let v1354 : Index := Scalar.indexCast c1_i32_596
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c14_i32 : BitVec 32 := 14#32
  let v1353 : BitVec 32 := Scalar.addi v142 c14_i32
  let v1355 : Index := Scalar.indexCast v1353
  let c0_597 : Index := 0#32
  ![1, v1355.toNat, 0]
def k0_off504 (k0_t4 : Fin k0_t4_loop.trips) : Fin 3 → Nat :=
  let c1_i32_598 : BitVec 32 := 1#32
  let v1357 : Index := Scalar.indexCast c1_i32_598
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c14_i32 : BitVec 32 := 14#32
  let v1353 : BitVec 32 := Scalar.addi v142 c14_i32
  let v1358 : Index := Scalar.indexCast v1353
  let c16_599 : Index := 16#32
  ![1, v1358.toNat, 16]
def k0_off505 (k0_t4 : Fin k0_t4_loop.trips) : Fin 3 → Nat :=
  let c1_i32_600 : BitVec 32 := 1#32
  let v1360 : Index := Scalar.indexCast c1_i32_600
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c14_i32 : BitVec 32 := 14#32
  let v1353 : BitVec 32 := Scalar.addi v142 c14_i32
  let v1361 : Index := Scalar.indexCast v1353
  let c32_601 : Index := 32#32
  ![1, v1361.toNat, 32]
def k0_off506 (k0_t4 : Fin k0_t4_loop.trips) : Fin 3 → Nat :=
  let c1_i32_602 : BitVec 32 := 1#32
  let v1363 : Index := Scalar.indexCast c1_i32_602
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c14_i32 : BitVec 32 := 14#32
  let v1353 : BitVec 32 := Scalar.addi v142 c14_i32
  let v1364 : Index := Scalar.indexCast v1353
  let c48_603 : Index := 48#32
  ![1, v1364.toNat, 48]
def k0_off507 (k0_t4 : Fin k0_t4_loop.trips) : Fin 3 → Nat :=
  let c1_i32_604 : BitVec 32 := 1#32
  let v1366 : Index := Scalar.indexCast c1_i32_604
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c14_i32 : BitVec 32 := 14#32
  let v1353 : BitVec 32 := Scalar.addi v142 c14_i32
  let v1367 : Index := Scalar.indexCast v1353
  let c64_605 : Index := 64#32
  ![1, v1367.toNat, 64]
def k0_off508 (k0_t4 : Fin k0_t4_loop.trips) : Fin 3 → Nat :=
  let c1_i32_606 : BitVec 32 := 1#32
  let v1369 : Index := Scalar.indexCast c1_i32_606
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c14_i32 : BitVec 32 := 14#32
  let v1353 : BitVec 32 := Scalar.addi v142 c14_i32
  let v1370 : Index := Scalar.indexCast v1353
  let c80_607 : Index := 80#32
  ![1, v1370.toNat, 80]
def k0_off509 (k0_t4 : Fin k0_t4_loop.trips) : Fin 3 → Nat :=
  let c1_i32_608 : BitVec 32 := 1#32
  let v1372 : Index := Scalar.indexCast c1_i32_608
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c14_i32 : BitVec 32 := 14#32
  let v1353 : BitVec 32 := Scalar.addi v142 c14_i32
  let v1373 : Index := Scalar.indexCast v1353
  let c96_609 : Index := 96#32
  ![1, v1373.toNat, 96]
def k0_off510 (k0_t4 : Fin k0_t4_loop.trips) : Fin 3 → Nat :=
  let c1_i32_610 : BitVec 32 := 1#32
  let v1375 : Index := Scalar.indexCast c1_i32_610
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c14_i32 : BitVec 32 := 14#32
  let v1353 : BitVec 32 := Scalar.addi v142 c14_i32
  let v1376 : Index := Scalar.indexCast v1353
  let c112_611 : Index := 112#32
  ![1, v1376.toNat, 112]

def k0_chk67 (v1438 : IVec S16 32) : Prop :=
  (∀ a x, ((![v1438] : Fin 1 → IVec S16 32) a x).toNat < S272.size a)
theorem k0_idx67_inb : ∀ (v1438 : IVec S16 32) (k0_hw67 : k0_chk67 v1438), ∀ a x, ((![v1438] : Fin 1 → IVec S16 32) a x).toNat < S272.size a := fun v1438 k0_hw67 => k0_hw67
def k0_off511 (k0_t4 : Fin k0_t4_loop.trips) : Fin 3 → Nat :=
  let c1_i32_629 : BitVec 32 := 1#32
  let v1440 : Index := Scalar.indexCast c1_i32_629
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c15_i32 : BitVec 32 := 15#32
  let v1439 : BitVec 32 := Scalar.addi v142 c15_i32
  let v1441 : Index := Scalar.indexCast v1439
  let c0_630 : Index := 0#32
  ![1, v1441.toNat, 0]
def k0_off512 (k0_t4 : Fin k0_t4_loop.trips) : Fin 3 → Nat :=
  let c1_i32_631 : BitVec 32 := 1#32
  let v1443 : Index := Scalar.indexCast c1_i32_631
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c15_i32 : BitVec 32 := 15#32
  let v1439 : BitVec 32 := Scalar.addi v142 c15_i32
  let v1444 : Index := Scalar.indexCast v1439
  let c16_632 : Index := 16#32
  ![1, v1444.toNat, 16]
def k0_off513 (k0_t4 : Fin k0_t4_loop.trips) : Fin 3 → Nat :=
  let c1_i32_633 : BitVec 32 := 1#32
  let v1446 : Index := Scalar.indexCast c1_i32_633
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c15_i32 : BitVec 32 := 15#32
  let v1439 : BitVec 32 := Scalar.addi v142 c15_i32
  let v1447 : Index := Scalar.indexCast v1439
  let c32_634 : Index := 32#32
  ![1, v1447.toNat, 32]
def k0_off514 (k0_t4 : Fin k0_t4_loop.trips) : Fin 3 → Nat :=
  let c1_i32_635 : BitVec 32 := 1#32
  let v1449 : Index := Scalar.indexCast c1_i32_635
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c15_i32 : BitVec 32 := 15#32
  let v1439 : BitVec 32 := Scalar.addi v142 c15_i32
  let v1450 : Index := Scalar.indexCast v1439
  let c48_636 : Index := 48#32
  ![1, v1450.toNat, 48]
def k0_off515 (k0_t4 : Fin k0_t4_loop.trips) : Fin 3 → Nat :=
  let c1_i32_637 : BitVec 32 := 1#32
  let v1452 : Index := Scalar.indexCast c1_i32_637
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c15_i32 : BitVec 32 := 15#32
  let v1439 : BitVec 32 := Scalar.addi v142 c15_i32
  let v1453 : Index := Scalar.indexCast v1439
  let c64_638 : Index := 64#32
  ![1, v1453.toNat, 64]
def k0_off516 (k0_t4 : Fin k0_t4_loop.trips) : Fin 3 → Nat :=
  let c1_i32_639 : BitVec 32 := 1#32
  let v1455 : Index := Scalar.indexCast c1_i32_639
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c15_i32 : BitVec 32 := 15#32
  let v1439 : BitVec 32 := Scalar.addi v142 c15_i32
  let v1456 : Index := Scalar.indexCast v1439
  let c80_640 : Index := 80#32
  ![1, v1456.toNat, 80]
def k0_off517 (k0_t4 : Fin k0_t4_loop.trips) : Fin 3 → Nat :=
  let c1_i32_641 : BitVec 32 := 1#32
  let v1458 : Index := Scalar.indexCast c1_i32_641
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c15_i32 : BitVec 32 := 15#32
  let v1439 : BitVec 32 := Scalar.addi v142 c15_i32
  let v1459 : Index := Scalar.indexCast v1439
  let c96_642 : Index := 96#32
  ![1, v1459.toNat, 96]
def k0_off518 (k0_t4 : Fin k0_t4_loop.trips) : Fin 3 → Nat :=
  let c1_i32_643 : BitVec 32 := 1#32
  let v1461 : Index := Scalar.indexCast c1_i32_643
  let c0_i32_123 : BitVec 32 := 0#32
  let c1_i32_125 : BitVec 32 := 1#32
  let arg12 : BitVec 32 := Scf.iv c0_i32_123 c1_i32_125 k0_t4
  let c16_i32_127 : BitVec 32 := 16#32
  let v142 : BitVec 32 := Scalar.muli arg12 c16_i32_127
  let c15_i32 : BitVec 32 := 15#32
  let v1439 : BitVec 32 := Scalar.addi v142 c15_i32
  let v1462 : Index := Scalar.indexCast v1439
  let c112_644 : Index := 112#32
  ![1, v1462.toNat, 112]

def k0_chk68 (v1524 : IVec S16 32) : Prop :=
  (∀ a x, ((![v1524] : Fin 1 → IVec S16 32) a x).toNat < S272.size a)
theorem k0_idx68_inb : ∀ (v1524 : IVec S16 32) (k0_hw68 : k0_chk68 v1524), ∀ a x, ((![v1524] : Fin 1 → IVec S16 32) a x).toNat < S272.size a := fun v1524 k0_hw68 => k0_hw68
def k0_off519 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_127_r1 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x128 : Shape := ⟨2, ![16384, 128]⟩
abbrev S16384 : Shape := ⟨1, ![16384]⟩
abbrev S_ : Shape := ⟨0, ![]⟩
abbrev S8 : Shape := ⟨1, ![8]⟩
abbrev S16384x1 : Shape := ⟨2, ![16384, 1]⟩

abbrev nBuf : Space → Nat
  | .hbm => 39
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384, .i32⟩
  | .hbm, ⟨3, _⟩ => ⟨S16384x128, .f32⟩
  | .hbm, ⟨4, _⟩ => ⟨S16384x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384, .f32⟩
  | .hbm, ⟨11, _⟩ => ⟨S_, .f32⟩
  | .hbm, ⟨12, _⟩ => ⟨S8, .f32⟩
  | .hbm, ⟨13, _⟩ => ⟨S16384x1, .i32⟩
  | .hbm, ⟨14, _⟩ => ⟨S8, .f32⟩
  | .hbm, ⟨15, _⟩ => ⟨S_, .f32⟩
  | .hbm, ⟨16, _⟩ => ⟨S16384, .f32⟩
  | .hbm, ⟨17, _⟩ => ⟨S_, .f32⟩
  | .hbm, ⟨18, _⟩ => ⟨S8, .f32⟩
  | .hbm, ⟨19, _⟩ => ⟨S16384x1, .i32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_6 : Ref sig .tc := ⟨.hbm, 25, rfl⟩
abbrev main_v15 : Ref sig .tc := ⟨.hbm, 26, rfl⟩
abbrev main_cst_7 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_8 : Ref sig .tc := ⟨.hbm, 32, rfl⟩
abbrev main_v20 : Ref sig .tc := ⟨.hbm, 33, rfl⟩
abbrev main_cst_9 : Ref sig .tc := ⟨.hbm, 34, rfl⟩
abbrev main_v21 : Ref sig .tc := ⟨.hbm, 35, rfl⟩
abbrev main_cst_10 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]
-- ==== Proof.Rows.lean ====
/- The block of sixteen rows the kernel's loops run, as one program over the row offsets, and the
   four loop bodies read as that program. -/
module

public import proofs.«01_k».proof.Proof.Gen.KernelIdeal
public import proofs.«01_k».proof.Proof.Gen.KernelIdeal.Skeleton

@[expose] public section

noncomputable section

namespace Cert.KernelIdeal.Rows

open Idealize.ShloMosaic Idealize.SL.Sem Cert.KernelIdeal Cert.KernelIdeal.Gen

variable {F : FTy → Type} [FloatOps F]

/-- The eight running sums of squared errors a loop carries. -/
abbrev Acc (F : FTy → Type) : Type :=
  FVec F S16 .f32 × FVec F S16 .f32 × FVec F S16 .f32 × FVec F S16 .f32 × FVec F S16 .f32 × FVec F S16 .f32 × FVec F S16 .f32 × FVec F S16 .f32

/-- A program of the tile at grid coordinates `i`. -/
abbrev TileProg (F : FTy → Type) (i : grid0.Coords) (α : Type) :=
  Prog (TpuEff nD τ sig (Elt F) Λ₀ (.scVector ((i 0).castLE hcore0) ((i 1).castLE hsub0))) α

/-- That offsets of a one-row piece of sixteen lanes fit the double buffer. -/
abbrev Fits (o : Fin 3 → Nat) : Prop := ∀ a, o a + S1x1x16.size a ≤ S2x128x128.size a

/-- That a vector of words indexes the table of partial results. -/
abbrev InTable (v : IVec S16 32) : Prop := ∀ a x, ((![v] : Fin 1 → IVec S16 32) a x).toNat < S272.size a

/-- One row of a block: its number, the offsets of its eight pieces, and the condition its scatter assumes. -/
structure Row where
  r : Nat
  hr : S16.Slices ![r] S1
  C : IVec S16 32 → Prop
  dec : ∀ v, Decidable (C v)
  hC : ∀ v, C v → InTable v
  hC' : ∀ v, InTable v → C v
  o0 : Fin 3 → Nat
  o1 : Fin 3 → Nat
  o2 : Fin 3 → Nat
  o3 : Fin 3 → Nat
  o4 : Fin 3 → Nat
  o5 : Fin 3 → Nat
  o6 : Fin 3 → Nat
  o7 : Fin 3 → Nat
  h0 : Fits o0
  h1 : Fits o1
  h2 : Fits o2
  h3 : Fits o3
  h4 : Fits o4
  h5 : Fits o5
  h6 : Fits o6
  h7 : Fits o7

/-- The label of row `r` of a block, times sixteen, plus the lane offsets `v22`: where the row's sums go. -/
def rowIdx (r : Nat) (hr : S16.Slices ![r] S1) (v22 : IVec S16 32) (lab : Vec F S16 .i32) : IVec S16 32 :=
  addi (muli (broadcast S16 (extractAt ![0] (extractStridedSlice S1 ![r] lab hr) inpos_S1_p0)) (broadcast S16 16#32)) v22

/-- The labels of a block, times sixteen, plus the lane offsets `v24`: where its counts go. -/
def cntIdx (v24 : IVec S16 32) (lab : Vec F S16 .i32) : IVec S16 32 :=
  addi (muli lab (broadcast S16 16#32)) v24

/-- The sum of eight vectors, as a tree. -/
def tree (p0 p1 p2 p3 p4 p5 p6 p7 : FVec F S16 .f32) : FVec F S16 .f32 :=
  addf (addf (addf p0 p1) (addf p2 p3)) (addf (addf p4 p5) (addf p6 p7))

/-- A running sum plus a squared difference. -/
def sqAdd (a p t : FVec F S16 .f32) : FVec F S16 .f32 := addf a (mulf (subf p t) (subf p t))

/-- Sixteen lanes of a double buffer, read. -/
def ld {i : grid0.Coords} (arg : Memref sig .scVector .vmem S2x128x128 .f32) (o : Fin 3 → Nat) (h : Fits o) : TileProg F i (Vec F S1x1x16 .f32) :=
  Prog.lift (.load arg (Rect.unit (s := S2x128x128) o S1x1x16.size h).toLoadRect (View.loadsAt_vmem h_S1x1x16))

/-- The piece read, as a vector of sixteen lanes. -/
abbrev cast16 (v : Vec F S1x1x16 .f32) : FVec F S16 .f32 := shapeCast S16 v shapeCasts_S1x1x16_S16

/-- The program of one row: its eight pieces of predictions and of targets are read, the squared
    differences are added to the running sums, and the row's lane sums go to its label's line. -/
def rowProg {i : grid0.Coords} (arg6 arg7 : Memref sig .scVector .vmem S2x128x128 .f32) (arg9 : Memref sig .scVector .vmem S272 .f32)
    (v22 : IVec S16 32) (lab : Vec F S16 .i32) (R : Row) (a : Acc F) : TileProg F i (Acc F) := do
  let p0 ← ld arg6 R.o0 R.h0
  let p1 ← ld arg6 R.o1 R.h1
  let p2 ← ld arg6 R.o2 R.h2
  let p3 ← ld arg6 R.o3 R.h3
  let p4 ← ld arg6 R.o4 R.h4
  let p5 ← ld arg6 R.o5 R.h5
  let p6 ← ld arg6 R.o6 R.h6
  let p7 ← ld arg6 R.o7 R.h7
  let t0 ← ld arg7 R.o0 R.h0
  let t1 ← ld arg7 R.o1 R.h1
  let t2 ← ld arg7 R.o2 R.h2
  let t3 ← ld arg7 R.o3 R.h3
  let t4 ← ld arg7 R.o4 R.h4
  let t5 ← ld arg7 R.o5 R.h5
  let t6 ← ld arg7 R.o6 R.h6
  let t7 ← ld arg7 R.o7 R.h7
  have hw : R.C (rowIdx R.r R.hr v22 lab) := (← Prog.lift (TpuEff.assume (R.C (rowIdx R.r R.hr v22 lab)) (R.dec (rowIdx R.r R.hr v22 lab)))).down
  SparseCore.vectorStoreIdx arg9 ![rowIdx R.r R.hr v22 lab] (tree (cast16 p0) (cast16 p1) (cast16 p2) (cast16 p3) (cast16 p4) (cast16 p5) (cast16 p6) (cast16 p7)) (fun _ => 1#1) true (R.hC _ hw) (View.stores_vmem_bits_univ h_S272 rfl)
  let (a0, a1, a2, a3, a4, a5, a6, a7) := a
  pure (sqAdd a0 (cast16 p0) (cast16 t0), sqAdd a1 (cast16 p1) (cast16 t1), sqAdd a2 (cast16 p2) (cast16 t2), sqAdd a3 (cast16 p3) (cast16 t3), sqAdd a4 (cast16 p4) (cast16 t4), sqAdd a5 (cast16 p5) (cast16 t5), sqAdd a6 (cast16 p6) (cast16 t6), sqAdd a7 (cast16 p7) (cast16 t7))

/-- The program of a list of rows, one after another. -/
def rowsProg {i : grid0.Coords} (arg6 arg7 : Memref sig .scVector .vmem S2x128x128 .f32) (arg9 : Memref sig .scVector .vmem S272 .f32)
    (v22 : IVec S16 32) (lab : Vec F S16 .i32) : List Row → Acc F → TileProg F i (Acc F)
  | [], a => pure a
  | R :: Rs, a => do
    let a ← rowProg arg6 arg7 arg9 v22 lab R a
    rowsProg arg6 arg7 arg9 v22 lab Rs a

/-- The program of a block: the labels are read, the counts scattered, and the rows run. -/
def blkProg {i : grid0.Coords} (arg6 arg7 : Memref sig .scVector .vmem S2x128x128 .f32) (arg8 : Memref sig .scVector .vmem S512 .i32) (arg9 : Memref sig .scVector .vmem S272 .f32)
    (v22 v24 : IVec S16 32) (v25 : FVec F S16 .f32) (o : Fin 1 → Nat) (h : ∀ a, o a + S16.size a ≤ S512.size a)
    (C : IVec S16 32 → Prop) (dec : ∀ v, Decidable (C v)) (hC : ∀ v, C v → InTable v) (Rs : List Row) (a : Acc F) : TileProg F i (Acc F) := do
  let lab : Vec F S16 .i32 ← Prog.lift (.load arg8 (Rect.unit (s := S512) o S16.size h).toLoadRect (View.loadsAt_vmem h_S16))
  have hw : C (cntIdx v24 lab) := (← Prog.lift (TpuEff.assume (C (cntIdx v24 lab)) (dec (cntIdx v24 lab)))).down
  SparseCore.vectorStoreIdx arg9 ![cntIdx v24 lab] v25 (fun _ => 1#1) true (hC _ hw) (View.stores_vmem_bits_univ h_S272 rfl)
  rowsProg arg6 arg7 arg9 v22 lab Rs a

/-- Two programs that ask for the same operation and go on alike are the same. -/
theorem op_congr.{v} {E : Type → Type v} {α β : Type} {e : E β} {k k' : β → Prog E α} (h : ∀ x, k x = k' x) : Prog.op e k = Prog.op e k' :=
  congrArg (Prog.op e) (funext h)

end Cert.KernelIdeal.Rows
-- ==== Proof.Model.lean ====
/- What a tile computes, as plain functions of the arrays: the state a block of sixteen rows is
   folded into, the state after any number of blocks, and the row of results a tile writes. -/
module

public import proofs.«01_k».proof.Proof.Rows
public import Idealize.ShloMosaic.Lib.Pipeline.Value

@[expose] public section

noncomputable section

namespace Cert.KernelIdeal.Model

open Idealize.ShloMosaic Idealize.SL.Sem Cert.KernelIdeal Cert.KernelIdeal.Gen Cert.KernelIdeal.Rows

variable {F : FTy → Type} [FloatOps F]

/-- The state of a tile between blocks: the eight running sums and the table of partial results. -/
abbrev St (F : FTy → Type) : Type := Acc F × FVec F S272 .f32

/-- The index `(b, r, c)` of the double buffer. -/
def ix3 (b r c : ℕ) : S2x128x128.Idx := fun
  | 0 => ⟨b % 2, Nat.mod_lt _ (by decide)⟩
  | 1 => ⟨r % 128, Nat.mod_lt _ (by decide)⟩
  | 2 => ⟨c % 128, Nat.mod_lt _ (by decide)⟩

/-- The index `(r, c)` of the predictions and of the targets. -/
def ix2 (r c : ℕ) : S16384x128.Idx := fun
  | 0 => ⟨r % 16384, Nat.mod_lt _ (by decide)⟩
  | 1 => ⟨c % 128, Nat.mod_lt _ (by decide)⟩

/-- The index `r` of the labels. -/
def ix1 (r : ℕ) : S16384.Idx := fun
  | 0 => ⟨r % 16384, Nat.mod_lt _ (by decide)⟩

/-- Lane `r` of a vector of sixteen. -/
def lane (r : ℕ) : S16.Idx := fun
  | 0 => ⟨r % 16, Nat.mod_lt _ (by decide)⟩

/-- Piece `k` of row `r` of slot `b` of a double buffer. -/
def piece (f : FVec F S2x128x128 .f32) (b r k : ℕ) : FVec F S16 .f32 := fun x => f (ix3 b r (16 * k + (x 0).val))

/-- Piece `k` of row `r` of an array of rows. -/
def rowPiece (f : FVec F S16384x128 .f32) (r k : ℕ) : FVec F S16 .f32 := fun x => f (ix2 r (16 * k + (x 0).val))

/-- The running sums after one row. -/
def rowAcc (p t : ℕ → FVec F S16 .f32) (a : Acc F) : Acc F :=
  (sqAdd a.1 (p 0) (t 0), sqAdd a.2.1 (p 1) (t 1), sqAdd a.2.2.1 (p 2) (t 2), sqAdd a.2.2.2.1 (p 3) (t 3), sqAdd a.2.2.2.2.1 (p 4) (t 4),
    sqAdd a.2.2.2.2.2.1 (p 5) (t 5), sqAdd a.2.2.2.2.2.2.1 (p 6) (t 6), sqAdd a.2.2.2.2.2.2.2 (p 7) (t 7))

/-- A scatter-add into the table, where every index is inside it; the table as it was otherwise. -/
def scat (g : FVec F S272 .f32) (ix : IVec S16 32) (v : FVec F S16 .f32) : FVec F S272 .f32 :=
  open Classical in if h : InTable ix then storeIdx (F := F) (s := S272) (e := .f32) (d := ![16]) g ![ix] v (fun _ => 1#1) true h else g

/-- Where row `r` of a block with labels `lab` adds its lane sums. -/
def sumIx (v22 : IVec S16 32) (lab : IVec S16 32) (r : ℕ) : IVec S16 32 := fun x => lab (lane r) * 16#32 + v22 x

/-- The state after one row. -/
def rowStep (v22 : IVec S16 32) (lab : IVec S16 32) (p t : ℕ → ℕ → FVec F S16 .f32) (s : St F) (r : ℕ) : St F :=
  (rowAcc (p r) (t r) s.1, scat s.2 (sumIx v22 lab r) (tree (p r 0) (p r 1) (p r 2) (p r 3) (p r 4) (p r 5) (p r 6) (p r 7)))

/-- The state after one block: its counts scattered, then its sixteen rows. -/
def blkStep (v22 v24 : IVec S16 32) (v25 : FVec F S16 .f32) (lab : IVec S16 32) (p t : ℕ → ℕ → FVec F S16 .f32) (s : St F) : St F :=
  (List.range 16).foldl (rowStep v22 lab p t) (s.1, scat s.2 (cntIdx (F := F) v24 lab) v25)

/-- The labels of block `n` of the tile whose first row is `base`. -/
def labAt (lab : IVec S16384 32) (base n : ℕ) : IVec S16 32 := fun x => lab (ix1 (base + 16 * n + (x 0).val))

/-- The state of a tile after `n` blocks. -/
def stAt (v22 v24 : IVec S16 32) (v25 : FVec F S16 .f32) (p t : FVec F S16384x128 .f32) (lab : IVec S16384 32) (base : ℕ) (s₀ : St F) : ℕ → St F
  | 0 => s₀
  | n + 1 => blkStep v22 v24 v25 (labAt lab base n) (fun r k => rowPiece p (base + 16 * n + r) k) (fun r k => rowPiece t (base + 16 * n + r) k)
      (stAt v22 v24 v25 p t lab base s₀ n)

/-- The running sums at the start. -/
def acc₀ (z : FVec F S16 .f32) : Acc F := (z, z, z, z, z, z, z, z)

/-- The table a tile writes out: the table after its thirty-two blocks, its first line the tree of the running sums. -/
def outRow (p t : FVec F S16384x128 .f32) (lab : IVec S16384 32) (base : ℕ) (g₀ : FVec F S272 .f32) : FVec F S272 .f32 := fun j =>
  let s := stAt (k0_pay1515) (k0_pay1516) (k0_pay1517 (F := F)) p t lab base (acc₀ (k0_pay1514 (F := F)), g₀) 32
  if (j 0).val < 16 then
    tree s.1.1 s.1.2.1 s.1.2.2.1 s.1.2.2.2.1 s.1.2.2.2.2.1 s.1.2.2.2.2.2.1 s.1.2.2.2.2.2.2.1 s.1.2.2.2.2.2.2.2 (lane (j 0).val)
  else s.2 j

/-- The table a tile starts from: zero from the second line on. -/
def Cleared (g : FVec F S272 .f32) : Prop := ∀ j : S272.Idx, 16 ≤ (j 0).val → g j = k0_pay1514 (F := F) (lane (j 0).val)

/-- The row index of the block is the model's. -/
theorem rowIdx_eq (r : ℕ) (hr : S16.Slices ![r] S1) (v22 lab : IVec S16 32) : rowIdx (F := F) r hr v22 lab = sumIx v22 lab r := by
  funext x
  show (extractAt ![0] (extractStridedSlice S1 ![r] lab hr) inpos_S1_p0) * 16#32 + v22 x = lab (lane r) * 16#32 + v22 x
  congr 2
  refine congrArg lab (funext fun a => Fin.ext ?_)
  fin_cases a
  have := hr.2 0
  simp [lane] at *

  omega

end Cert.KernelIdeal.Model
-- ==== Proof.Base.lean ====
/- The launch's parameters: the body table, the resource algebra and the places the kernel's arrays
   and a tile's buffers live. -/
module

public import proofs.«01_k».proof.Proof.Model
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.KernelIdeal.Run

open Cert.KernelIdeal Cert.KernelIdeal.Gen Cert.KernelIdeal.Rows Cert.KernelIdeal.Model
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the program the launch theorem sees. -/
abbrev ΛP : Labels := Pipeline.Sig Λ₀ (Fin 0) fun p => (pcfgs (F := F) p).Adm
/-- The program's SparseCore calls. -/
abbrev K : SparseCore.Cfg τ sig (ΛP (F := F)) 1 := sc (F := F)
/-- The body table below the calls. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side facts: its semaphores are distinct and live where the launch expects them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The predictions, the targets, the labels and the table of partial results, on device `d`. -/
abbrev pLoc (d : Dev nD) : Loc nD τ sig := (SparseCore.T d).loc main_arg0
abbrev tLoc (d : Dev nD) : Loc nD τ sig := (SparseCore.T d).loc main_arg1
abbrev lLoc (d : Dev nD) : Loc nD τ sig := (SparseCore.T d).loc main_arg2
abbrev oLoc (d : Dev nD) : Loc nD τ sig := (SparseCore.T d).loc main_v0

/-- The processor a grid point runs on. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- A tile's double buffers, its labels and its table. -/
abbrev pbLoc (d : Dev nD) (L : grid0.Coords) : Loc nD τ sig := (thr d L).loc cc0_scratch0
abbrev tbLoc (d : Dev nD) (L : grid0.Coords) : Loc nD τ sig := (thr d L).loc cc0_scratch1
abbrev lbLoc (d : Dev nD) (L : grid0.Coords) : Loc nD τ sig := (thr d L).loc cc0_scratch2
abbrev tabLoc (d : Dev nD) (L : grid0.Coords) : Loc nD τ sig := (thr d L).loc cc0_scratch3

/-- The same, as the body names them. -/
abbrev sP : Memref sig .scVector .vmem S2x128x128 .f32 := Memref.whole cc0_scratch0
abbrev sT : Memref sig .scVector .vmem S2x128x128 .f32 := Memref.whole cc0_scratch1
abbrev sL : Memref sig .scVector .vmem S512 .i32 := Memref.whole cc0_scratch2
abbrev sG : Memref sig .scVector .vmem S272 .f32 := Memref.whole cc0_scratch3

end Cert.KernelIdeal.Run
-- ==== Proof.Steps.lean ====
/- What a row, a list of rows and a block do to a tile's table and running sums. -/
module

public import proofs.«01_k».proof.Proof.Base

@[expose] public section

noncomputable section

namespace Cert.KernelIdeal.Run

open Cert.KernelIdeal Cert.KernelIdeal.Gen Cert.KernelIdeal.Rows Cert.KernelIdeal.Model
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- Sixteen lanes as a one-row piece of a double buffer. -/
def unpiece (p : FVec F S16 .f32) : Vec F S1x1x16 .f32 := fun x => p (lane (x 2).val)

/-- A piece read and flattened is its lanes. -/
theorem cast16_unpiece (p : FVec F S16 .f32) : cast16 (unpiece p) = p := by
  funext x
  unfold cast16
  have hx : (x 0).val < 16 := (x 0).isLt
  let k : S1x1x16.Idx := fun
    | 0 => ⟨0, Nat.one_pos⟩
    | 1 => ⟨0, Nat.one_pos⟩
    | 2 => ⟨(x 0).val, hx⟩
  rw [shapeCast_apply (unpiece p) shapeCasts_S1x1x16_S16 x k (by
    rw [Shape.rowMajor_val_three, Shape.rowMajor_val_one]
    show (0 * 1 + 0) * 16 + (x 0).val = (x 0).val
    omega)]
  show p (lane (x 0).val) = p x
  refine congrArg p (funext fun a => Fin.ext ?_)
  match a with
  | 0 => exact Nat.mod_eq_of_lt hx

/-- Where a piece of row `n` of slot `b` lies. -/
theorem emb_piece {o : Fin 3 → ℕ} (h : Fits o) {b n k : ℕ} (ho : o = ![b, n, 16 * k]) (x : S1x1x16.Idx) :
    (Rect.unit (s := S2x128x128) o S1x1x16.size h).emb x = ix3 b n (16 * k + (x 2).val) := by
  subst ho
  have h0 := h 0
  have h1 := h 1
  have h2 := h 2
  have x0 : (x 0).val < 1 := (x 0).isLt
  have x1 : (x 1).val < 1 := (x 1).isLt
  have x2 : (x 2).val < 16 := (x 2).isLt
  funext a
  refine Fin.ext ?_
  match a with
  | 0 =>
    change b + 1 ≤ 2 at h0
    show b + 1 * (x 0).val = b % 2
    omega
  | 1 =>
    change n + 1 ≤ 128 at h1
    show n + 1 * (x 1).val = n % 128
    omega
  | 2 =>
    change 16 * k + 16 ≤ 128 at h2
    show 16 * k + 1 * (x 2).val = (16 * k + (x 2).val) % 128
    omega

/-- The lane an element of a one-row piece lies in. -/
theorem unpiece_ix (b n k : ℕ) (x : S1x1x16.Idx) : ix3 b n (16 * k + (lane (x 2).val 0).val) = ix3 b n (16 * k + (x 2).val) := by
  have x2 : (x 2).val < 16 := (x 2).isLt
  show ix3 b n (16 * k + (x 2).val % 16) = _
  rw [Nat.mod_eq_of_lt x2]

/-- A piece of slot `b` lies in slot `b`. -/
theorem slot_of_mem {o : Fin 3 → ℕ} (h : Fits o) {b n k : ℕ} (ho : o = ![b, n, 16 * k]) {j : S2x128x128.Idx}
    (hj : j ∈ (Rect.unit (s := S2x128x128) o S1x1x16.size h).set) : (j 0).val = b := by
  have hj := (Rect.mem_set_unit.mp hj) 0
  subst ho
  change b ≤ (j 0).val ∧ (j 0).val < b + 1 at hj
  omega

section Tile

variable (d : Dev nD) (L : grid0.Coords)

/-- A load of a piece of slot `b` of the predictions' buffer, held where the slot is. -/
theorem wp_ldP {β : Type} {o : Fin 3 → ℕ} {h : Fits o} {b n k : ℕ} (ho : o = ![b, n, 16 * k]) {S : Finset S2x128x128.Idx} (hS : ∀ j, (j 0).val = b → j ∈ S)
    {f : FVec F S2x128x128 .f32} {hl : (sP).view.LoadsAt (Rect.unit (s := S2x128x128) o S1x1x16.size h).toLoadRect}
    {kk : Vec F S1x1x16 .f32 → TileProg F L β} {Q : β → sProp 𝕄} :
    (pbLoc d L ↦[S]{fullShare} f : sProp 𝕄)
      ⊢ iprop(((pbLoc d L ↦[S]{fullShare} f) -∗ wp frame (wpE (defs₀ (F := F)) 𝒱₀ (thr d L) none) Set.univ (kk (unpiece (piece f b n k))) Q)
        -∗ wp frame (wpE (defs₀ (F := F)) 𝒱₀ (thr d L) none) Set.univ (.op (.load sP (Rect.unit (s := S2x128x128) o S1x1x16.size h).toLoadRect hl) kk) Q) := by
  have hv : unpiece (piece f b n k) = ((sP).access (Rect.unit (s := S2x128x128) o S1x1x16.size h)).read (Elt F) f := by
    funext x
    show f _ = f ((Rect.unit (s := S2x128x128) o S1x1x16.size h).emb x)
    rw [emb_piece h ho x, unpiece_ix]
  rw [hv]
  have hset : ((sP).access (Rect.unit (s := S2x128x128) o S1x1x16.size h)).set ⊆ S := by
    rw [show ((sP).access (Rect.unit (s := S2x128x128) o S1x1x16.size h)).set = _ from View.set_slice_whole _ _]
    exact fun j hj => hS j (slot_of_mem h ho hj)
  exact wp_load_rect (defs := defs₀ (F := F)) (U := UU) (Ix := HIx 1) (Name := ℕ) 𝒱₀ (thr d L) none Set.univ (m := sP)
    (r := Rect.unit (s := S2x128x128) o S1x1x16.size h) (hl := hl) (k := kk) (S := S) (q := fullShare) (f := f) (Q := Q) hset

/-- A load of a piece of slot `b` of the targets' buffer, held where the slot is. -/
theorem wp_ldT {β : Type} {o : Fin 3 → ℕ} {h : Fits o} {b n k : ℕ} (ho : o = ![b, n, 16 * k]) {S : Finset S2x128x128.Idx} (hS : ∀ j, (j 0).val = b → j ∈ S)
    {f : FVec F S2x128x128 .f32} {hl : (sT).view.LoadsAt (Rect.unit (s := S2x128x128) o S1x1x16.size h).toLoadRect}
    {kk : Vec F S1x1x16 .f32 → TileProg F L β} {Q : β → sProp 𝕄} :
    (tbLoc d L ↦[S]{fullShare} f : sProp 𝕄)
      ⊢ iprop(((tbLoc d L ↦[S]{fullShare} f) -∗ wp frame (wpE (defs₀ (F := F)) 𝒱₀ (thr d L) none) Set.univ (kk (unpiece (piece f b n k))) Q)
        -∗ wp frame (wpE (defs₀ (F := F)) 𝒱₀ (thr d L) none) Set.univ (.op (.load sT (Rect.unit (s := S2x128x128) o S1x1x16.size h).toLoadRect hl) kk) Q) := by
  have hv : unpiece (piece f b n k) = ((sT).access (Rect.unit (s := S2x128x128) o S1x1x16.size h)).read (Elt F) f := by
    funext x
    show f _ = f ((Rect.unit (s := S2x128x128) o S1x1x16.size h).emb x)
    rw [emb_piece h ho x, unpiece_ix]
  rw [hv]
  have hset : ((sT).access (Rect.unit (s := S2x128x128) o S1x1x16.size h)).set ⊆ S := by
    rw [show ((sT).access (Rect.unit (s := S2x128x128) o S1x1x16.size h)).set = _ from View.set_slice_whole _ _]
    exact fun j hj => hS j (slot_of_mem h ho hj)
  exact wp_load_rect (defs := defs₀ (F := F)) (U := UU) (Ix := HIx 1) (Name := ℕ) 𝒱₀ (thr d L) none Set.univ (m := sT)
    (r := Rect.unit (s := S2x128x128) o S1x1x16.size h) (hl := hl) (k := kk) (S := S) (q := fullShare) (f := f) (Q := Q) hset

/-- A scatter-add into the table whose indices are inside it. -/
theorem wp_scat {β : Type} {ix : IVec S16 32} {v : FVec F S16 .f32} (hin : InTable ix) {g : FVec F S272 .f32}
    {hs : ((sG).access (.whole S272)).Stores Finset.univ} {kk : PUnit → TileProg F L β} {Q : β → sProp 𝕄} :
    (tabLoc d L ↦{fullShare} g : sProp 𝕄)
      ⊢ iprop(((tabLoc d L ↦{fullShare} scat g ix v) -∗ wp frame (wpE (defs₀ (F := F)) 𝒱₀ (thr d L) none) Set.univ (kk ⟨⟩) Q)
        -∗ wp frame (wpE (defs₀ (F := F)) 𝒱₀ (thr d L) none) Set.univ
            (SparseCore.vectorStoreIdx (F := F) sG ![ix] v (fun _ => 1#1) true hin hs >>= kk) Q) := by
  have hset : ((sG).access (.whole S272)).set = Finset.univ := Memref.set_access_whole (cc0_scratch3 : Ref sig .scVector)
  have hw : scat g ix v = ((sG).access (.whole S272)).write (Elt F) g
      (storeIdx (F := F) (s := S272) (e := .f32) (d := ![16]) (((sG).access (.whole S272)).read (Elt F) g) ![ix] v (fun _ => 1#1) true hin) Finset.univ := by
    have hr : ((sG).access (.whole S272)).read (Elt F) g = g := Memref.read_access_whole (Elt F) (cc0_scratch3 : Ref sig .scVector) g
    rw [hr]
    exact (dif_pos hin).trans (Memref.write_access_whole_univ (Elt F) (cc0_scratch3 : Ref sig .scVector) g _).symm
  rw [hw]
  have h := SparseCore.wp_vectorStoreIdx (F := F) (defs := defs₀ (F := F)) (U := UU) (Ix := HIx 1) (Name := ℕ) 𝒱₀ (thr d L) none Set.univ (base := sG) (idxs := ![ix]) (v := v) (mask := fun _ => 1#1) (add := true) (h := hin) (hs := hs)
    (k := kk) (f := g) (Q := Q)
  rw [hset] at h
  exact h

/-- Where the pieces of a row lie: row `n` of slot `b`. -/
structure At (R : Row) (b n : ℕ) : Prop where
  e0 : R.o0 = ![b, n, 16 * 0]
  e1 : R.o1 = ![b, n, 16 * 1]
  e2 : R.o2 = ![b, n, 16 * 2]
  e3 : R.o3 = ![b, n, 16 * 3]
  e4 : R.o4 = ![b, n, 16 * 4]
  e5 : R.o5 = ![b, n, 16 * 5]
  e6 : R.o6 = ![b, n, 16 * 6]
  e7 : R.o7 = ![b, n, 16 * 7]

/-- One row: its pieces read, the running sums and the table go on by one step. -/
theorem wp_row {β : Type} {R : Row} {b n : ℕ} (hA : At R b n) {Zp Zt : Finset S2x128x128.Idx} (hSp : ∀ j, (j 0).val = b → j ∈ Zp) (hSt : ∀ j, (j 0).val = b → j ∈ Zt)
    {fp ft : FVec F S2x128x128 .f32} {v22 lab : IVec S16 32} (hin : InTable (sumIx v22 lab R.r)) {s : St F} {p t : ℕ → ℕ → FVec F S16 .f32}
    (hp : ∀ k, p R.r k = piece fp b n k) (ht : ∀ k, t R.r k = piece ft b n k)
    {kk : Acc F → TileProg F L β} {Q : β → sProp 𝕄} :
    iprop((pbLoc d L ↦[Zp]{fullShare} fp) ∗ (tbLoc d L ↦[Zt]{fullShare} ft) ∗ (tabLoc d L ↦{fullShare} s.2) : sProp 𝕄)
      ⊢ iprop((((pbLoc d L ↦[Zp]{fullShare} fp) ∗ (tbLoc d L ↦[Zt]{fullShare} ft) ∗ (tabLoc d L ↦{fullShare} (rowStep v22 lab p t s R.r).2))
          -∗ wp frame (wpE (defs₀ (F := F)) 𝒱₀ (thr d L) none) Set.univ (kk (rowStep v22 lab p t s R.r).1) Q)
        -∗ wp frame (wpE (defs₀ (F := F)) 𝒱₀ (thr d L) none) Set.univ (rowProg sP sT sG v22 lab R s.1 >>= kk) Q) := by
  obtain ⟨⟨a0, a1, a2, a3, a4, a5, a6, a7⟩, g⟩ := s
  have hC : R.C (rowIdx (F := F) R.r R.hr v22 lab) := R.hC' _ (by rw [rowIdx_eq]; exact hin)
  unfold rowProg ld
  simp only [Prog.lift, Prog.bind_op, Prog.bind_ret, Prog.pure_eq_ret, bind_assoc]
  iintro ⟨Hp, Ht, Hg⟩ Hk
  iapply (wp_ldP d L hA.e0 hSp) $$ Hp; iintro Hp
  iapply (wp_ldP d L hA.e1 hSp) $$ Hp; iintro Hp
  iapply (wp_ldP d L hA.e2 hSp) $$ Hp; iintro Hp
  iapply (wp_ldP d L hA.e3 hSp) $$ Hp; iintro Hp
  iapply (wp_ldP d L hA.e4 hSp) $$ Hp; iintro Hp
  iapply (wp_ldP d L hA.e5 hSp) $$ Hp; iintro Hp
  iapply (wp_ldP d L hA.e6 hSp) $$ Hp; iintro Hp
  iapply (wp_ldP d L hA.e7 hSp) $$ Hp; iintro Hp
  iapply (wp_ldT d L hA.e0 hSt) $$ Ht; iintro Ht
  iapply (wp_ldT d L hA.e1 hSt) $$ Ht; iintro Ht
  iapply (wp_ldT d L hA.e2 hSt) $$ Ht; iintro Ht
  iapply (wp_ldT d L hA.e3 hSt) $$ Ht; iintro Ht
  iapply (wp_ldT d L hA.e4 hSt) $$ Ht; iintro Ht
  iapply (wp_ldT d L hA.e5 hSt) $$ Ht; iintro Ht
  iapply (wp_ldT d L hA.e6 hSt) $$ Ht; iintro Ht
  iapply (wp_ldT d L hA.e7 hSt) $$ Ht; iintro Ht
  iapply (wp_assume 𝒱₀ (thr d L) none Set.univ hC)
  simp only [cast16_unpiece]
  have key : ∀ (ix : IVec S16 32) (hi : InTable ix), ix = sumIx v22 lab R.r → ∀ (v : FVec F S16 .f32) (hs) (kk' : PUnit → TileProg F L β),
      iprop((tabLoc d L ↦{fullShare} g : sProp 𝕄))
      ⊢ iprop(((tabLoc d L ↦{fullShare} scat g (sumIx v22 lab R.r) v) -∗ wp frame (wpE (defs₀ (F := F)) 𝒱₀ (thr d L) none) Set.univ (kk' ⟨⟩) Q)
        -∗ wp frame (wpE (defs₀ (F := F)) 𝒱₀ (thr d L) none) Set.univ
            (SparseCore.vectorStoreIdx (F := F) sG ![ix] v (fun _ => 1#1) true hi hs >>= kk') Q) := by
    rintro ix hi rfl v hs kk'
    exact wp_scat d L hi
  iapply (key _ _ (rowIdx_eq R.r R.hr v22 lab) _ _ _) $$ Hg
  iintro Hg
  have e : rowStep v22 lab p t ((a0, a1, a2, a3, a4, a5, a6, a7), g) R.r
      = ((sqAdd a0 (piece fp b n 0) (piece ft b n 0), sqAdd a1 (piece fp b n 1) (piece ft b n 1), sqAdd a2 (piece fp b n 2) (piece ft b n 2), sqAdd a3 (piece fp b n 3) (piece ft b n 3),
          sqAdd a4 (piece fp b n 4) (piece ft b n 4), sqAdd a5 (piece fp b n 5) (piece ft b n 5), sqAdd a6 (piece fp b n 6) (piece ft b n 6), sqAdd a7 (piece fp b n 7) (piece ft b n 7)),
        scat g (sumIx v22 lab R.r) (tree (piece fp b n 0) (piece fp b n 1) (piece fp b n 2) (piece fp b n 3) (piece fp b n 4) (piece fp b n 5) (piece fp b n 6) (piece fp b n 7))) := by
    unfold rowStep rowAcc
    simp only [hp, ht]
  rw [e]
  iapply Hk
  isplitl [Hp]; · iexact Hp
  isplitl [Ht]; · iexact Ht
  iexact Hg

/-- The rows of a list, one after another: the running sums and the table go on by the steps of the rows in turn. -/
theorem wp_rows {β : Type} {b n₀ : ℕ} {Zp Zt : Finset S2x128x128.Idx} (hSp : ∀ j, (j 0).val = b → j ∈ Zp) (hSt : ∀ j, (j 0).val = b → j ∈ Zt)
    {fp ft : FVec F S2x128x128 .f32} {v22 lab : IVec S16 32} (hin : ∀ r, InTable (sumIx v22 lab r)) {p t : ℕ → ℕ → FVec F S16 .f32}
    (hp : ∀ r k, r < 16 → p r k = piece fp b (n₀ + r) k) (ht : ∀ r k, r < 16 → t r k = piece ft b (n₀ + r) k)
    {kk : Acc F → TileProg F L β} {Q : β → sProp 𝕄} :
    ∀ (Rs : List Row), (∀ R ∈ Rs, R.r < 16 ∧ At R b (n₀ + R.r)) → ∀ s : St F,
    iprop((pbLoc d L ↦[Zp]{fullShare} fp) ∗ (tbLoc d L ↦[Zt]{fullShare} ft) ∗ (tabLoc d L ↦{fullShare} s.2) : sProp 𝕄)
      ⊢ iprop((((pbLoc d L ↦[Zp]{fullShare} fp) ∗ (tbLoc d L ↦[Zt]{fullShare} ft) ∗ (tabLoc d L ↦{fullShare} ((Rs.map Row.r).foldl (rowStep v22 lab p t) s).2))
          -∗ wp frame (wpE (defs₀ (F := F)) 𝒱₀ (thr d L) none) Set.univ (kk ((Rs.map Row.r).foldl (rowStep v22 lab p t) s).1) Q)
        -∗ wp frame (wpE (defs₀ (F := F)) 𝒱₀ (thr d L) none) Set.univ (rowsProg sP sT sG v22 lab Rs s.1 >>= kk) Q) := by
  intro Rs
  induction Rs with
  | nil =>
    intro _ s
    iintro H Hk
    iapply Hk
    iexact H
  | cons R Rs ih =>
    intro hR s
    have h0 := hR R (List.mem_cons_self ..)
    have ih := ih (fun R' h => hR R' (List.mem_cons_of_mem _ h)) (rowStep v22 lab p t s R.r)
    unfold rowsProg
    simp only [bind_assoc]
    iintro H Hk
    iapply (wp_row d L h0.2 hSp hSt (hin R.r) (fun k => hp R.r k h0.1) (fun k => ht R.r k h0.1)) $$ H
    iintro H
    iapply ih $$ H
    iexact Hk

/-- Sixteen labels read from the tile's labels. -/
theorem wp_ldL {β : Type} {o : Fin 1 → ℕ} {h : ∀ a, o a + S16.size a ≤ S512.size a} {n : ℕ} (ho : o = ![n])
    {f : IVec S512 32} {lab : IVec S16 32} (hlab : ∀ x : S16.Idx, ∀ j : S512.Idx, (j 0).val = n + (x 0).val → lab x = f j)
    {hl : (sL).view.LoadsAt (Rect.unit (s := S512) o S16.size h).toLoadRect}
    {kk : Vec F S16 .i32 → TileProg F L β} {Q : β → sProp 𝕄} :
    (lbLoc d L ↦{fullShare} f : sProp 𝕄)
      ⊢ iprop(((lbLoc d L ↦{fullShare} f) -∗ wp frame (wpE (defs₀ (F := F)) 𝒱₀ (thr d L) none) Set.univ (kk lab) Q)
        -∗ wp frame (wpE (defs₀ (F := F)) 𝒱₀ (thr d L) none) Set.univ (.op (.load sL (Rect.unit (s := S512) o S16.size h).toLoadRect hl) kk) Q) := by
  have hv : lab = ((sL).access (Rect.unit (s := S512) o S16.size h)).read (Elt F) f := by
    funext x
    show lab x = f ((Rect.unit (s := S512) o S16.size h).emb x)
    refine hlab x _ ?_
    subst ho
    show n + 1 * (x 0).val = n + (x 0).val
    omega
  subst hv
  exact wp_load_rect (defs := defs₀ (F := F)) (U := UU) (Ix := HIx 1) (Name := ℕ) 𝒱₀ (thr d L) none Set.univ (m := sL)
    (r := Rect.unit (s := S512) o S16.size h) (hl := hl) (k := kk) (S := Finset.univ) (q := fullShare) (f := f) (Q := Q) (Finset.subset_univ _)

/-- A block: its labels read, its counts scattered, its sixteen rows run — the state goes on by one block. -/
theorem wp_blk {β : Type} {b n₀ : ℕ} {Zp Zt : Finset S2x128x128.Idx} (hSp : ∀ j, (j 0).val = b → j ∈ Zp) (hSt : ∀ j, (j 0).val = b → j ∈ Zt)
    {fp ft : FVec F S2x128x128 .f32} {v22 v24 lab : IVec S16 32} {v25 : FVec F S16 .f32} (hin : ∀ r, InTable (sumIx v22 lab r)) (hcnt : InTable (cntIdx (F := F) v24 lab))
    {p t : ℕ → ℕ → FVec F S16 .f32} (hp : ∀ r k, r < 16 → p r k = piece fp b (n₀ + r) k) (ht : ∀ r k, r < 16 → t r k = piece ft b (n₀ + r) k)
    {o : Fin 1 → ℕ} {h : ∀ a, o a + S16.size a ≤ S512.size a} {n : ℕ} (ho : o = ![n])
    {fl : IVec S512 32} (hlab : ∀ x : S16.Idx, ∀ j : S512.Idx, (j 0).val = n + (x 0).val → lab x = fl j)
    {C : IVec S16 32 → Prop} {dec : ∀ v, Decidable (C v)} {hC : ∀ v, C v → InTable v} (hC' : ∀ v, InTable v → C v)
    {Rs : List Row} (hR : ∀ R ∈ Rs, R.r < 16 ∧ At R b (n₀ + R.r)) (hRs : Rs.map Row.r = List.range 16) (s : St F)
    {kk : Acc F → TileProg F L β} {Q : β → sProp 𝕄} :
    iprop((pbLoc d L ↦[Zp]{fullShare} fp) ∗ (tbLoc d L ↦[Zt]{fullShare} ft) ∗ (lbLoc d L ↦{fullShare} fl) ∗ (tabLoc d L ↦{fullShare} s.2) : sProp 𝕄)
      ⊢ iprop((((pbLoc d L ↦[Zp]{fullShare} fp) ∗ (tbLoc d L ↦[Zt]{fullShare} ft) ∗ (lbLoc d L ↦{fullShare} fl)
            ∗ (tabLoc d L ↦{fullShare} (blkStep v22 v24 v25 lab p t s).2))
          -∗ wp frame (wpE (defs₀ (F := F)) 𝒱₀ (thr d L) none) Set.univ (kk (blkStep v22 v24 v25 lab p t s).1) Q)
        -∗ wp frame (wpE (defs₀ (F := F)) 𝒱₀ (thr d L) none) Set.univ (blkProg sP sT sL sG v22 v24 v25 o h C dec hC Rs s.1 >>= kk) Q) := by
  have hrows := wp_rows (F := F) d L hSp hSt hin hp ht (kk := kk) (Q := Q) Rs hR (s.1, scat s.2 (cntIdx (F := F) v24 lab) v25)
  rw [hRs] at hrows
  unfold blkProg
  simp only [Prog.lift, Prog.bind_op, Prog.bind_ret, Prog.pure_eq_ret, bind_assoc]
  iintro ⟨Hp, Ht, Hl, Hg⟩ Hk
  iapply (wp_ldL d L ho hlab) $$ Hl; iintro Hl
  iapply (wp_assume 𝒱₀ (thr d L) none Set.univ (hC' _ hcnt))
  iapply (wp_scat d L hcnt) $$ Hg; iintro Hg
  iapply hrows $$ [Hp Ht Hg]
  · isplitl [Hp]; · iexact Hp
    isplitl [Ht]; · iexact Ht
    iexact Hg
  iintro ⟨Hp, Ht, Hg⟩
  iapply Hk
  isplitl [Hp]; · iexact Hp
  isplitl [Ht]; · iexact Ht
  isplitl [Hl]; · iexact Hl
  iexact Hg

end Tile

end Cert.KernelIdeal.Run
-- ==== Proof.Bodies.lean ====
/- The four loop bodies of the kernel, read as the block program at their rows. -/
module

public import proofs.«01_k».proof.Proof.Gen.KernelIdeal
public import proofs.«01_k».proof.Proof.Gen.KernelIdeal.Skeleton
public import proofs.«01_k».proof.Proof.Rows

@[expose] public section

noncomputable section

namespace Cert.KernelIdeal.Rows

open Idealize.ShloMosaic Idealize.SL.Sem Cert.KernelIdeal Cert.KernelIdeal.Gen

variable {F : FTy → Type} [FloatOps F]

/-- The sixteen rows of a block of loop 1. -/
def rows1 (t : Fin k0_t1_loop.trips) : List Row :=
  [⟨0, slices_S16_o0_S1, k0_chk2, k0_chk2.dec, k0_idx2_inb, fun _ h => h, k0_off4 t, k0_off5 t, k0_off6 t, k0_off7 t, k0_off8 t, k0_off9 t, k0_off10 t, k0_off11 t, k0_off4_inb t, k0_off5_inb t, k0_off6_inb t, k0_off7_inb t, k0_off8_inb t, k0_off9_inb t, k0_off10_inb t, k0_off11_inb t⟩,
   ⟨1, slices_S16_o1_S1, k0_chk3, k0_chk3.dec, k0_idx3_inb, fun _ h => h, k0_off12 t, k0_off13 t, k0_off14 t, k0_off15 t, k0_off16 t, k0_off17 t, k0_off18 t, k0_off19 t, k0_off12_inb t, k0_off13_inb t, k0_off14_inb t, k0_off15_inb t, k0_off16_inb t, k0_off17_inb t, k0_off18_inb t, k0_off19_inb t⟩,
   ⟨2, slices_S16_o2_S1, k0_chk4, k0_chk4.dec, k0_idx4_inb, fun _ h => h, k0_off20 t, k0_off21 t, k0_off22 t, k0_off23 t, k0_off24 t, k0_off25 t, k0_off26 t, k0_off27 t, k0_off20_inb t, k0_off21_inb t, k0_off22_inb t, k0_off23_inb t, k0_off24_inb t, k0_off25_inb t, k0_off26_inb t, k0_off27_inb t⟩,
   ⟨3, slices_S16_o3_S1, k0_chk5, k0_chk5.dec, k0_idx5_inb, fun _ h => h, k0_off28 t, k0_off29 t, k0_off30 t, k0_off31 t, k0_off32 t, k0_off33 t, k0_off34 t, k0_off35 t, k0_off28_inb t, k0_off29_inb t, k0_off30_inb t, k0_off31_inb t, k0_off32_inb t, k0_off33_inb t, k0_off34_inb t, k0_off35_inb t⟩,
   ⟨4, slices_S16_o4_S1, k0_chk6, k0_chk6.dec, k0_idx6_inb, fun _ h => h, k0_off36 t, k0_off37 t, k0_off38 t, k0_off39 t, k0_off40 t, k0_off41 t, k0_off42 t, k0_off43 t, k0_off36_inb t, k0_off37_inb t, k0_off38_inb t, k0_off39_inb t, k0_off40_inb t, k0_off41_inb t, k0_off42_inb t, k0_off43_inb t⟩,
   ⟨5, slices_S16_o5_S1, k0_chk7, k0_chk7.dec, k0_idx7_inb, fun _ h => h, k0_off44 t, k0_off45 t, k0_off46 t, k0_off47 t, k0_off48 t, k0_off49 t, k0_off50 t, k0_off51 t, k0_off44_inb t, k0_off45_inb t, k0_off46_inb t, k0_off47_inb t, k0_off48_inb t, k0_off49_inb t, k0_off50_inb t, k0_off51_inb t⟩,
   ⟨6, slices_S16_o6_S1, k0_chk8, k0_chk8.dec, k0_idx8_inb, fun _ h => h, k0_off52 t, k0_off53 t, k0_off54 t, k0_off55 t, k0_off56 t, k0_off57 t, k0_off58 t, k0_off59 t, k0_off52_inb t, k0_off53_inb t, k0_off54_inb t, k0_off55_inb t, k0_off56_inb t, k0_off57_inb t, k0_off58_inb t, k0_off59_inb t⟩,
   ⟨7, slices_S16_o7_S1, k0_chk9, k0_chk9.dec, k0_idx9_inb, fun _ h => h, k0_off60 t, k0_off61 t, k0_off62 t, k0_off63 t, k0_off64 t, k0_off65 t, k0_off66 t, k0_off67 t, k0_off60_inb t, k0_off61_inb t, k0_off62_inb t, k0_off63_inb t, k0_off64_inb t, k0_off65_inb t, k0_off66_inb t, k0_off67_inb t⟩,
   ⟨8, slices_S16_o8_S1, k0_chk10, k0_chk10.dec, k0_idx10_inb, fun _ h => h, k0_off68 t, k0_off69 t, k0_off70 t, k0_off71 t, k0_off72 t, k0_off73 t, k0_off74 t, k0_off75 t, k0_off68_inb t, k0_off69_inb t, k0_off70_inb t, k0_off71_inb t, k0_off72_inb t, k0_off73_inb t, k0_off74_inb t, k0_off75_inb t⟩,
   ⟨9, slices_S16_o9_S1, k0_chk11, k0_chk11.dec, k0_idx11_inb, fun _ h => h, k0_off76 t, k0_off77 t, k0_off78 t, k0_off79 t, k0_off80 t, k0_off81 t, k0_off82 t, k0_off83 t, k0_off76_inb t, k0_off77_inb t, k0_off78_inb t, k0_off79_inb t, k0_off80_inb t, k0_off81_inb t, k0_off82_inb t, k0_off83_inb t⟩,
   ⟨10, slices_S16_o10_S1, k0_chk12, k0_chk12.dec, k0_idx12_inb, fun _ h => h, k0_off84 t, k0_off85 t, k0_off86 t, k0_off87 t, k0_off88 t, k0_off89 t, k0_off90 t, k0_off91 t, k0_off84_inb t, k0_off85_inb t, k0_off86_inb t, k0_off87_inb t, k0_off88_inb t, k0_off89_inb t, k0_off90_inb t, k0_off91_inb t⟩,
   ⟨11, slices_S16_o11_S1, k0_chk13, k0_chk13.dec, k0_idx13_inb, fun _ h => h, k0_off92 t, k0_off93 t, k0_off94 t, k0_off95 t, k0_off96 t, k0_off97 t, k0_off98 t, k0_off99 t, k0_off92_inb t, k0_off93_inb t, k0_off94_inb t, k0_off95_inb t, k0_off96_inb t, k0_off97_inb t, k0_off98_inb t, k0_off99_inb t⟩,
   ⟨12, slices_S16_o12_S1, k0_chk14, k0_chk14.dec, k0_idx14_inb, fun _ h => h, k0_off100 t, k0_off101 t, k0_off102 t, k0_off103 t, k0_off104 t, k0_off105 t, k0_off106 t, k0_off107 t, k0_off100_inb t, k0_off101_inb t, k0_off102_inb t, k0_off103_inb t, k0_off104_inb t, k0_off105_inb t, k0_off106_inb t, k0_off107_inb t⟩,
   ⟨13, slices_S16_o13_S1, k0_chk15, k0_chk15.dec, k0_idx15_inb, fun _ h => h, k0_off108 t, k0_off109 t, k0_off110 t, k0_off111 t, k0_off112 t, k0_off113 t, k0_off114 t, k0_off115 t, k0_off108_inb t, k0_off109_inb t, k0_off110_inb t, k0_off111_inb t, k0_off112_inb t, k0_off113_inb t, k0_off114_inb t, k0_off115_inb t⟩,
   ⟨14, slices_S16_o14_S1, k0_chk16, k0_chk16.dec, k0_idx16_inb, fun _ h => h, k0_off116 t, k0_off117 t, k0_off118 t, k0_off119 t, k0_off120 t, k0_off121 t, k0_off122 t, k0_off123 t, k0_off116_inb t, k0_off117_inb t, k0_off118_inb t, k0_off119_inb t, k0_off120_inb t, k0_off121_inb t, k0_off122_inb t, k0_off123_inb t⟩,
   ⟨15, slices_S16_o15_S1, k0_chk17, k0_chk17.dec, k0_idx17_inb, fun _ h => h, k0_off124 t, k0_off125 t, k0_off126 t, k0_off127 t, k0_off128 t, k0_off129 t, k0_off130 t, k0_off131 t, k0_off124_inb t, k0_off125_inb t, k0_off126_inb t, k0_off127_inb t, k0_off128_inb t, k0_off129_inb t, k0_off130_inb t, k0_off131_inb t⟩]

set_option maxRecDepth 65536 in
set_option maxHeartbeats 40000000 in
/-- A block of loop 1 is the block program at that loop's rows. -/
theorem t1_body_eq (i : grid0.Coords) (arg2 : Memref sig .scVector .hbm S16384x128 .f32) (harg2 : arg2.IsWhole) (arg3 : Memref sig .scVector .hbm S16384x128 .f32) (harg3 : arg3.IsWhole) (arg4 : Memref sig .scVector .hbm S16384 .i32) (harg4 : arg4.IsWhole) (arg5 : Memref sig .scVector .hbm S32x272 .f32) (harg5 : arg5.IsWhole) (arg6 : Memref sig .scVector .vmem S2x128x128 .f32) (harg6 : arg6.IsWhole) (arg7 : Memref sig .scVector .vmem S2x128x128 .f32) (harg7 : arg7.IsWhole) (arg8 : Memref sig .scVector .vmem S512 .i32) (harg8 : arg8.IsWhole) (arg9 : Memref sig .scVector .vmem S272 .f32) (harg9 : arg9.IsWhole) (arg10 : DmaSems sig S_) (arg11 : DmaSems sig S_) (v142_r0 : DmaSems sig S_) (v142_r1 : DmaSems sig S_) (v2 : BitVec 32) (v3 : FVec F S16 .f32) (v22 : IVec S16 32) (v24 : IVec S16 32) (v25 : FVec F S16 .f32)  (t : Fin k0_t1_loop.trips) (a : Acc F) :
    k0_t1_body (F := F) i arg2 harg2 arg3 harg3 arg4 harg4 arg5 harg5 arg6 harg6 arg7 harg7 arg8 harg8 arg9 harg9 arg10 arg11 v142_r0 v142_r1 v2 v3 v22 v24 v25 t a = blkProg arg6 arg7 arg8 arg9 v22 v24 v25 (k0_off3 t) (k0_off3_inb t) k0_chk1 k0_chk1.dec k0_idx1_inb (rows1 t) a := by
  obtain ⟨a0, a1, a2, a3, a4, a5, a6, a7⟩ := a
  iterate 307 (refine op_congr fun _ => ?_)
  rfl

/-- The sixteen rows of a block of loop 2. -/
def rows2 (t : Fin k0_t2_loop.trips) : List Row :=
  [⟨0, slices_S16_o0_S1, k0_chk19, k0_chk19.dec, k0_idx19_inb, fun _ h => h, k0_off133 t, k0_off134 t, k0_off135 t, k0_off136 t, k0_off137 t, k0_off138 t, k0_off139 t, k0_off140 t, k0_off133_inb t, k0_off134_inb t, k0_off135_inb t, k0_off136_inb t, k0_off137_inb t, k0_off138_inb t, k0_off139_inb t, k0_off140_inb t⟩,
   ⟨1, slices_S16_o1_S1, k0_chk20, k0_chk20.dec, k0_idx20_inb, fun _ h => h, k0_off141 t, k0_off142 t, k0_off143 t, k0_off144 t, k0_off145 t, k0_off146 t, k0_off147 t, k0_off148 t, k0_off141_inb t, k0_off142_inb t, k0_off143_inb t, k0_off144_inb t, k0_off145_inb t, k0_off146_inb t, k0_off147_inb t, k0_off148_inb t⟩,
   ⟨2, slices_S16_o2_S1, k0_chk21, k0_chk21.dec, k0_idx21_inb, fun _ h => h, k0_off149 t, k0_off150 t, k0_off151 t, k0_off152 t, k0_off153 t, k0_off154 t, k0_off155 t, k0_off156 t, k0_off149_inb t, k0_off150_inb t, k0_off151_inb t, k0_off152_inb t, k0_off153_inb t, k0_off154_inb t, k0_off155_inb t, k0_off156_inb t⟩,
   ⟨3, slices_S16_o3_S1, k0_chk22, k0_chk22.dec, k0_idx22_inb, fun _ h => h, k0_off157 t, k0_off158 t, k0_off159 t, k0_off160 t, k0_off161 t, k0_off162 t, k0_off163 t, k0_off164 t, k0_off157_inb t, k0_off158_inb t, k0_off159_inb t, k0_off160_inb t, k0_off161_inb t, k0_off162_inb t, k0_off163_inb t, k0_off164_inb t⟩,
   ⟨4, slices_S16_o4_S1, k0_chk23, k0_chk23.dec, k0_idx23_inb, fun _ h => h, k0_off165 t, k0_off166 t, k0_off167 t, k0_off168 t, k0_off169 t, k0_off170 t, k0_off171 t, k0_off172 t, k0_off165_inb t, k0_off166_inb t, k0_off167_inb t, k0_off168_inb t, k0_off169_inb t, k0_off170_inb t, k0_off171_inb t, k0_off172_inb t⟩,
   ⟨5, slices_S16_o5_S1, k0_chk24, k0_chk24.dec, k0_idx24_inb, fun _ h => h, k0_off173 t, k0_off174 t, k0_off175 t, k0_off176 t, k0_off177 t, k0_off178 t, k0_off179 t, k0_off180 t, k0_off173_inb t, k0_off174_inb t, k0_off175_inb t, k0_off176_inb t, k0_off177_inb t, k0_off178_inb t, k0_off179_inb t, k0_off180_inb t⟩,
   ⟨6, slices_S16_o6_S1, k0_chk25, k0_chk25.dec, k0_idx25_inb, fun _ h => h, k0_off181 t, k0_off182 t, k0_off183 t, k0_off184 t, k0_off185 t, k0_off186 t, k0_off187 t, k0_off188 t, k0_off181_inb t, k0_off182_inb t, k0_off183_inb t, k0_off184_inb t, k0_off185_inb t, k0_off186_inb t, k0_off187_inb t, k0_off188_inb t⟩,
   ⟨7, slices_S16_o7_S1, k0_chk26, k0_chk26.dec, k0_idx26_inb, fun _ h => h, k0_off189 t, k0_off190 t, k0_off191 t, k0_off192 t, k0_off193 t, k0_off194 t, k0_off195 t, k0_off196 t, k0_off189_inb t, k0_off190_inb t, k0_off191_inb t, k0_off192_inb t, k0_off193_inb t, k0_off194_inb t, k0_off195_inb t, k0_off196_inb t⟩,
   ⟨8, slices_S16_o8_S1, k0_chk27, k0_chk27.dec, k0_idx27_inb, fun _ h => h, k0_off197 t, k0_off198 t, k0_off199 t, k0_off200 t, k0_off201 t, k0_off202 t, k0_off203 t, k0_off204 t, k0_off197_inb t, k0_off198_inb t, k0_off199_inb t, k0_off200_inb t, k0_off201_inb t, k0_off202_inb t, k0_off203_inb t, k0_off204_inb t⟩,
   ⟨9, slices_S16_o9_S1, k0_chk28, k0_chk28.dec, k0_idx28_inb, fun _ h => h, k0_off205 t, k0_off206 t, k0_off207 t, k0_off208 t, k0_off209 t, k0_off210 t, k0_off211 t, k0_off212 t, k0_off205_inb t, k0_off206_inb t, k0_off207_inb t, k0_off208_inb t, k0_off209_inb t, k0_off210_inb t, k0_off211_inb t, k0_off212_inb t⟩,
   ⟨10, slices_S16_o10_S1, k0_chk29, k0_chk29.dec, k0_idx29_inb, fun _ h => h, k0_off213 t, k0_off214 t, k0_off215 t, k0_off216 t, k0_off217 t, k0_off218 t, k0_off219 t, k0_off220 t, k0_off213_inb t, k0_off214_inb t, k0_off215_inb t, k0_off216_inb t, k0_off217_inb t, k0_off218_inb t, k0_off219_inb t, k0_off220_inb t⟩,
   ⟨11, slices_S16_o11_S1, k0_chk30, k0_chk30.dec, k0_idx30_inb, fun _ h => h, k0_off221 t, k0_off222 t, k0_off223 t, k0_off224 t, k0_off225 t, k0_off226 t, k0_off227 t, k0_off228 t, k0_off221_inb t, k0_off222_inb t, k0_off223_inb t, k0_off224_inb t, k0_off225_inb t, k0_off226_inb t, k0_off227_inb t, k0_off228_inb t⟩,
   ⟨12, slices_S16_o12_S1, k0_chk31, k0_chk31.dec, k0_idx31_inb, fun _ h => h, k0_off229 t, k0_off230 t, k0_off231 t, k0_off232 t, k0_off233 t, k0_off234 t, k0_off235 t, k0_off236 t, k0_off229_inb t, k0_off230_inb t, k0_off231_inb t, k0_off232_inb t, k0_off233_inb t, k0_off234_inb t, k0_off235_inb t, k0_off236_inb t⟩,
   ⟨13, slices_S16_o13_S1, k0_chk32, k0_chk32.dec, k0_idx32_inb, fun _ h => h, k0_off237 t, k0_off238 t, k0_off239 t, k0_off240 t, k0_off241 t, k0_off242 t, k0_off243 t, k0_off244 t, k0_off237_inb t, k0_off238_inb t, k0_off239_inb t, k0_off240_inb t, k0_off241_inb t, k0_off242_inb t, k0_off243_inb t, k0_off244_inb t⟩,
   ⟨14, slices_S16_o14_S1, k0_chk33, k0_chk33.dec, k0_idx33_inb, fun _ h => h, k0_off245 t, k0_off246 t, k0_off247 t, k0_off248 t, k0_off249 t, k0_off250 t, k0_off251 t, k0_off252 t, k0_off245_inb t, k0_off246_inb t, k0_off247_inb t, k0_off248_inb t, k0_off249_inb t, k0_off250_inb t, k0_off251_inb t, k0_off252_inb t⟩,
   ⟨15, slices_S16_o15_S1, k0_chk34, k0_chk34.dec, k0_idx34_inb, fun _ h => h, k0_off253 t, k0_off254 t, k0_off255 t, k0_off256 t, k0_off257 t, k0_off258 t, k0_off259 t, k0_off260 t, k0_off253_inb t, k0_off254_inb t, k0_off255_inb t, k0_off256_inb t, k0_off257_inb t, k0_off258_inb t, k0_off259_inb t, k0_off260_inb t⟩]

set_option maxRecDepth 65536 in
set_option maxHeartbeats 40000000 in
/-- A block of loop 2 is the block program at that loop's rows. -/
theorem t2_body_eq (i : grid0.Coords) (arg2 : Memref sig .scVector .hbm S16384x128 .f32) (harg2 : arg2.IsWhole) (arg3 : Memref sig .scVector .hbm S16384x128 .f32) (harg3 : arg3.IsWhole) (arg4 : Memref sig .scVector .hbm S16384 .i32) (harg4 : arg4.IsWhole) (arg5 : Memref sig .scVector .hbm S32x272 .f32) (harg5 : arg5.IsWhole) (arg6 : Memref sig .scVector .vmem S2x128x128 .f32) (harg6 : arg6.IsWhole) (arg7 : Memref sig .scVector .vmem S2x128x128 .f32) (harg7 : arg7.IsWhole) (arg8 : Memref sig .scVector .vmem S512 .i32) (harg8 : arg8.IsWhole) (arg9 : Memref sig .scVector .vmem S272 .f32) (harg9 : arg9.IsWhole) (arg10 : DmaSems sig S_) (arg11 : DmaSems sig S_) (v142_r0 : DmaSems sig S_) (v142_r1 : DmaSems sig S_) (v2 : BitVec 32) (v22 : IVec S16 32) (v24 : IVec S16 32) (v25 : FVec F S16 .f32) (v65_0 : FVec F S16 .f32) (v65_1 : FVec F S16 .f32) (v65_2 : FVec F S16 .f32) (v65_3 : FVec F S16 .f32) (v65_4 : FVec F S16 .f32) (v65_5 : FVec F S16 .f32) (v65_6 : FVec F S16 .f32) (v65_7 : FVec F S16 .f32)  (t : Fin k0_t2_loop.trips) (a : Acc F) :
    k0_t2_body (F := F) i arg2 harg2 arg3 harg3 arg4 harg4 arg5 harg5 arg6 harg6 arg7 harg7 arg8 harg8 arg9 harg9 arg10 arg11 v142_r0 v142_r1 v2 v22 v24 v25 v65_0 v65_1 v65_2 v65_3 v65_4 v65_5 v65_6 v65_7 t a = blkProg arg6 arg7 arg8 arg9 v22 v24 v25 (k0_off132 t) (k0_off132_inb t) k0_chk18 k0_chk18.dec k0_idx18_inb (rows2 t) a := by
  obtain ⟨a0, a1, a2, a3, a4, a5, a6, a7⟩ := a
  iterate 307 (refine op_congr fun _ => ?_)
  rfl

/-- The sixteen rows of a block of loop 3. -/
def rows3 (t : Fin k0_t3_loop.trips) : List Row :=
  [⟨0, slices_S16_o0_S1, k0_chk36, k0_chk36.dec, k0_idx36_inb, fun _ h => h, k0_off262 t, k0_off263 t, k0_off264 t, k0_off265 t, k0_off266 t, k0_off267 t, k0_off268 t, k0_off269 t, k0_off262_inb t, k0_off263_inb t, k0_off264_inb t, k0_off265_inb t, k0_off266_inb t, k0_off267_inb t, k0_off268_inb t, k0_off269_inb t⟩,
   ⟨1, slices_S16_o1_S1, k0_chk37, k0_chk37.dec, k0_idx37_inb, fun _ h => h, k0_off270 t, k0_off271 t, k0_off272 t, k0_off273 t, k0_off274 t, k0_off275 t, k0_off276 t, k0_off277 t, k0_off270_inb t, k0_off271_inb t, k0_off272_inb t, k0_off273_inb t, k0_off274_inb t, k0_off275_inb t, k0_off276_inb t, k0_off277_inb t⟩,
   ⟨2, slices_S16_o2_S1, k0_chk38, k0_chk38.dec, k0_idx38_inb, fun _ h => h, k0_off278 t, k0_off279 t, k0_off280 t, k0_off281 t, k0_off282 t, k0_off283 t, k0_off284 t, k0_off285 t, k0_off278_inb t, k0_off279_inb t, k0_off280_inb t, k0_off281_inb t, k0_off282_inb t, k0_off283_inb t, k0_off284_inb t, k0_off285_inb t⟩,
   ⟨3, slices_S16_o3_S1, k0_chk39, k0_chk39.dec, k0_idx39_inb, fun _ h => h, k0_off286 t, k0_off287 t, k0_off288 t, k0_off289 t, k0_off290 t, k0_off291 t, k0_off292 t, k0_off293 t, k0_off286_inb t, k0_off287_inb t, k0_off288_inb t, k0_off289_inb t, k0_off290_inb t, k0_off291_inb t, k0_off292_inb t, k0_off293_inb t⟩,
   ⟨4, slices_S16_o4_S1, k0_chk40, k0_chk40.dec, k0_idx40_inb, fun _ h => h, k0_off294 t, k0_off295 t, k0_off296 t, k0_off297 t, k0_off298 t, k0_off299 t, k0_off300 t, k0_off301 t, k0_off294_inb t, k0_off295_inb t, k0_off296_inb t, k0_off297_inb t, k0_off298_inb t, k0_off299_inb t, k0_off300_inb t, k0_off301_inb t⟩,
   ⟨5, slices_S16_o5_S1, k0_chk41, k0_chk41.dec, k0_idx41_inb, fun _ h => h, k0_off302 t, k0_off303 t, k0_off304 t, k0_off305 t, k0_off306 t, k0_off307 t, k0_off308 t, k0_off309 t, k0_off302_inb t, k0_off303_inb t, k0_off304_inb t, k0_off305_inb t, k0_off306_inb t, k0_off307_inb t, k0_off308_inb t, k0_off309_inb t⟩,
   ⟨6, slices_S16_o6_S1, k0_chk42, k0_chk42.dec, k0_idx42_inb, fun _ h => h, k0_off310 t, k0_off311 t, k0_off312 t, k0_off313 t, k0_off314 t, k0_off315 t, k0_off316 t, k0_off317 t, k0_off310_inb t, k0_off311_inb t, k0_off312_inb t, k0_off313_inb t, k0_off314_inb t, k0_off315_inb t, k0_off316_inb t, k0_off317_inb t⟩,
   ⟨7, slices_S16_o7_S1, k0_chk43, k0_chk43.dec, k0_idx43_inb, fun _ h => h, k0_off318 t, k0_off319 t, k0_off320 t, k0_off321 t, k0_off322 t, k0_off323 t, k0_off324 t, k0_off325 t, k0_off318_inb t, k0_off319_inb t, k0_off320_inb t, k0_off321_inb t, k0_off322_inb t, k0_off323_inb t, k0_off324_inb t, k0_off325_inb t⟩,
   ⟨8, slices_S16_o8_S1, k0_chk44, k0_chk44.dec, k0_idx44_inb, fun _ h => h, k0_off326 t, k0_off327 t, k0_off328 t, k0_off329 t, k0_off330 t, k0_off331 t, k0_off332 t, k0_off333 t, k0_off326_inb t, k0_off327_inb t, k0_off328_inb t, k0_off329_inb t, k0_off330_inb t, k0_off331_inb t, k0_off332_inb t, k0_off333_inb t⟩,
   ⟨9, slices_S16_o9_S1, k0_chk45, k0_chk45.dec, k0_idx45_inb, fun _ h => h, k0_off334 t, k0_off335 t, k0_off336 t, k0_off337 t, k0_off338 t, k0_off339 t, k0_off340 t, k0_off341 t, k0_off334_inb t, k0_off335_inb t, k0_off336_inb t, k0_off337_inb t, k0_off338_inb t, k0_off339_inb t, k0_off340_inb t, k0_off341_inb t⟩,
   ⟨10, slices_S16_o10_S1, k0_chk46, k0_chk46.dec, k0_idx46_inb, fun _ h => h, k0_off342 t, k0_off343 t, k0_off344 t, k0_off345 t, k0_off346 t, k0_off347 t, k0_off348 t, k0_off349 t, k0_off342_inb t, k0_off343_inb t, k0_off344_inb t, k0_off345_inb t, k0_off346_inb t, k0_off347_inb t, k0_off348_inb t, k0_off349_inb t⟩,
   ⟨11, slices_S16_o11_S1, k0_chk47, k0_chk47.dec, k0_idx47_inb, fun _ h => h, k0_off350 t, k0_off351 t, k0_off352 t, k0_off353 t, k0_off354 t, k0_off355 t, k0_off356 t, k0_off357 t, k0_off350_inb t, k0_off351_inb t, k0_off352_inb t, k0_off353_inb t, k0_off354_inb t, k0_off355_inb t, k0_off356_inb t, k0_off357_inb t⟩,
   ⟨12, slices_S16_o12_S1, k0_chk48, k0_chk48.dec, k0_idx48_inb, fun _ h => h, k0_off358 t, k0_off359 t, k0_off360 t, k0_off361 t, k0_off362 t, k0_off363 t, k0_off364 t, k0_off365 t, k0_off358_inb t, k0_off359_inb t, k0_off360_inb t, k0_off361_inb t, k0_off362_inb t, k0_off363_inb t, k0_off364_inb t, k0_off365_inb t⟩,
   ⟨13, slices_S16_o13_S1, k0_chk49, k0_chk49.dec, k0_idx49_inb, fun _ h => h, k0_off366 t, k0_off367 t, k0_off368 t, k0_off369 t, k0_off370 t, k0_off371 t, k0_off372 t, k0_off373 t, k0_off366_inb t, k0_off367_inb t, k0_off368_inb t, k0_off369_inb t, k0_off370_inb t, k0_off371_inb t, k0_off372_inb t, k0_off373_inb t⟩,
   ⟨14, slices_S16_o14_S1, k0_chk50, k0_chk50.dec, k0_idx50_inb, fun _ h => h, k0_off374 t, k0_off375 t, k0_off376 t, k0_off377 t, k0_off378 t, k0_off379 t, k0_off380 t, k0_off381 t, k0_off374_inb t, k0_off375_inb t, k0_off376_inb t, k0_off377_inb t, k0_off378_inb t, k0_off379_inb t, k0_off380_inb t, k0_off381_inb t⟩,
   ⟨15, slices_S16_o15_S1, k0_chk51, k0_chk51.dec, k0_idx51_inb, fun _ h => h, k0_off382 t, k0_off383 t, k0_off384 t, k0_off385 t, k0_off386 t, k0_off387 t, k0_off388 t, k0_off389 t, k0_off382_inb t, k0_off383_inb t, k0_off384_inb t, k0_off385_inb t, k0_off386_inb t, k0_off387_inb t, k0_off388_inb t, k0_off389_inb t⟩]

set_option maxRecDepth 65536 in
set_option maxHeartbeats 40000000 in
/-- A block of loop 3 is the block program at that loop's rows. -/
theorem t3_body_eq (i : grid0.Coords) (arg2 : Memref sig .scVector .hbm S16384x128 .f32) (harg2 : arg2.IsWhole) (arg3 : Memref sig .scVector .hbm S16384x128 .f32) (harg3 : arg3.IsWhole) (arg4 : Memref sig .scVector .hbm S16384 .i32) (harg4 : arg4.IsWhole) (arg5 : Memref sig .scVector .hbm S32x272 .f32) (harg5 : arg5.IsWhole) (arg6 : Memref sig .scVector .vmem S2x128x128 .f32) (harg6 : arg6.IsWhole) (arg7 : Memref sig .scVector .vmem S2x128x128 .f32) (harg7 : arg7.IsWhole) (arg8 : Memref sig .scVector .vmem S512 .i32) (harg8 : arg8.IsWhole) (arg9 : Memref sig .scVector .vmem S272 .f32) (harg9 : arg9.IsWhole) (arg10 : DmaSems sig S_) (arg11 : DmaSems sig S_) (v142_r0 : DmaSems sig S_) (v142_r1 : DmaSems sig S_) (v2 : BitVec 32) (v22 : IVec S16 32) (v24 : IVec S16 32) (v25 : FVec F S16 .f32) (v92_0 : FVec F S16 .f32) (v92_1 : FVec F S16 .f32) (v92_2 : FVec F S16 .f32) (v92_3 : FVec F S16 .f32) (v92_4 : FVec F S16 .f32) (v92_5 : FVec F S16 .f32) (v92_6 : FVec F S16 .f32) (v92_7 : FVec F S16 .f32)  (t : Fin k0_t3_loop.trips) (a : Acc F) :
    k0_t3_body (F := F) i arg2 harg2 arg3 harg3 arg4 harg4 arg5 harg5 arg6 harg6 arg7 harg7 arg8 harg8 arg9 harg9 arg10 arg11 v142_r0 v142_r1 v2 v22 v24 v25 v92_0 v92_1 v92_2 v92_3 v92_4 v92_5 v92_6 v92_7 t a = blkProg arg6 arg7 arg8 arg9 v22 v24 v25 (k0_off261 t) (k0_off261_inb t) k0_chk35 k0_chk35.dec k0_idx35_inb (rows3 t) a := by
  obtain ⟨a0, a1, a2, a3, a4, a5, a6, a7⟩ := a
  iterate 307 (refine op_congr fun _ => ?_)
  rfl

/-- The sixteen rows of a block of loop 4. -/
def rows4 (t : Fin k0_t4_loop.trips) : List Row :=
  [⟨0, slices_S16_o0_S1, k0_chk53, k0_chk53.dec, k0_idx53_inb, fun _ h => h, k0_off391 t, k0_off392 t, k0_off393 t, k0_off394 t, k0_off395 t, k0_off396 t, k0_off397 t, k0_off398 t, k0_off391_inb t, k0_off392_inb t, k0_off393_inb t, k0_off394_inb t, k0_off395_inb t, k0_off396_inb t, k0_off397_inb t, k0_off398_inb t⟩,
   ⟨1, slices_S16_o1_S1, k0_chk54, k0_chk54.dec, k0_idx54_inb, fun _ h => h, k0_off399 t, k0_off400 t, k0_off401 t, k0_off402 t, k0_off403 t, k0_off404 t, k0_off405 t, k0_off406 t, k0_off399_inb t, k0_off400_inb t, k0_off401_inb t, k0_off402_inb t, k0_off403_inb t, k0_off404_inb t, k0_off405_inb t, k0_off406_inb t⟩,
   ⟨2, slices_S16_o2_S1, k0_chk55, k0_chk55.dec, k0_idx55_inb, fun _ h => h, k0_off407 t, k0_off408 t, k0_off409 t, k0_off410 t, k0_off411 t, k0_off412 t, k0_off413 t, k0_off414 t, k0_off407_inb t, k0_off408_inb t, k0_off409_inb t, k0_off410_inb t, k0_off411_inb t, k0_off412_inb t, k0_off413_inb t, k0_off414_inb t⟩,
   ⟨3, slices_S16_o3_S1, k0_chk56, k0_chk56.dec, k0_idx56_inb, fun _ h => h, k0_off415 t, k0_off416 t, k0_off417 t, k0_off418 t, k0_off419 t, k0_off420 t, k0_off421 t, k0_off422 t, k0_off415_inb t, k0_off416_inb t, k0_off417_inb t, k0_off418_inb t, k0_off419_inb t, k0_off420_inb t, k0_off421_inb t, k0_off422_inb t⟩,
   ⟨4, slices_S16_o4_S1, k0_chk57, k0_chk57.dec, k0_idx57_inb, fun _ h => h, k0_off423 t, k0_off424 t, k0_off425 t, k0_off426 t, k0_off427 t, k0_off428 t, k0_off429 t, k0_off430 t, k0_off423_inb t, k0_off424_inb t, k0_off425_inb t, k0_off426_inb t, k0_off427_inb t, k0_off428_inb t, k0_off429_inb t, k0_off430_inb t⟩,
   ⟨5, slices_S16_o5_S1, k0_chk58, k0_chk58.dec, k0_idx58_inb, fun _ h => h, k0_off431 t, k0_off432 t, k0_off433 t, k0_off434 t, k0_off435 t, k0_off436 t, k0_off437 t, k0_off438 t, k0_off431_inb t, k0_off432_inb t, k0_off433_inb t, k0_off434_inb t, k0_off435_inb t, k0_off436_inb t, k0_off437_inb t, k0_off438_inb t⟩,
   ⟨6, slices_S16_o6_S1, k0_chk59, k0_chk59.dec, k0_idx59_inb, fun _ h => h, k0_off439 t, k0_off440 t, k0_off441 t, k0_off442 t, k0_off443 t, k0_off444 t, k0_off445 t, k0_off446 t, k0_off439_inb t, k0_off440_inb t, k0_off441_inb t, k0_off442_inb t, k0_off443_inb t, k0_off444_inb t, k0_off445_inb t, k0_off446_inb t⟩,
   ⟨7, slices_S16_o7_S1, k0_chk60, k0_chk60.dec, k0_idx60_inb, fun _ h => h, k0_off447 t, k0_off448 t, k0_off449 t, k0_off450 t, k0_off451 t, k0_off452 t, k0_off453 t, k0_off454 t, k0_off447_inb t, k0_off448_inb t, k0_off449_inb t, k0_off450_inb t, k0_off451_inb t, k0_off452_inb t, k0_off453_inb t, k0_off454_inb t⟩,
   ⟨8, slices_S16_o8_S1, k0_chk61, k0_chk61.dec, k0_idx61_inb, fun _ h => h, k0_off455 t, k0_off456 t, k0_off457 t, k0_off458 t, k0_off459 t, k0_off460 t, k0_off461 t, k0_off462 t, k0_off455_inb t, k0_off456_inb t, k0_off457_inb t, k0_off458_inb t, k0_off459_inb t, k0_off460_inb t, k0_off461_inb t, k0_off462_inb t⟩,
   ⟨9, slices_S16_o9_S1, k0_chk62, k0_chk62.dec, k0_idx62_inb, fun _ h => h, k0_off463 t, k0_off464 t, k0_off465 t, k0_off466 t, k0_off467 t, k0_off468 t, k0_off469 t, k0_off470 t, k0_off463_inb t, k0_off464_inb t, k0_off465_inb t, k0_off466_inb t, k0_off467_inb t, k0_off468_inb t, k0_off469_inb t, k0_off470_inb t⟩,
   ⟨10, slices_S16_o10_S1, k0_chk63, k0_chk63.dec, k0_idx63_inb, fun _ h => h, k0_off471 t, k0_off472 t, k0_off473 t, k0_off474 t, k0_off475 t, k0_off476 t, k0_off477 t, k0_off478 t, k0_off471_inb t, k0_off472_inb t, k0_off473_inb t, k0_off474_inb t, k0_off475_inb t, k0_off476_inb t, k0_off477_inb t, k0_off478_inb t⟩,
   ⟨11, slices_S16_o11_S1, k0_chk64, k0_chk64.dec, k0_idx64_inb, fun _ h => h, k0_off479 t, k0_off480 t, k0_off481 t, k0_off482 t, k0_off483 t, k0_off484 t, k0_off485 t, k0_off486 t, k0_off479_inb t, k0_off480_inb t, k0_off481_inb t, k0_off482_inb t, k0_off483_inb t, k0_off484_inb t, k0_off485_inb t, k0_off486_inb t⟩,
   ⟨12, slices_S16_o12_S1, k0_chk65, k0_chk65.dec, k0_idx65_inb, fun _ h => h, k0_off487 t, k0_off488 t, k0_off489 t, k0_off490 t, k0_off491 t, k0_off492 t, k0_off493 t, k0_off494 t, k0_off487_inb t, k0_off488_inb t, k0_off489_inb t, k0_off490_inb t, k0_off491_inb t, k0_off492_inb t, k0_off493_inb t, k0_off494_inb t⟩,
   ⟨13, slices_S16_o13_S1, k0_chk66, k0_chk66.dec, k0_idx66_inb, fun _ h => h, k0_off495 t, k0_off496 t, k0_off497 t, k0_off498 t, k0_off499 t, k0_off500 t, k0_off501 t, k0_off502 t, k0_off495_inb t, k0_off496_inb t, k0_off497_inb t, k0_off498_inb t, k0_off499_inb t, k0_off500_inb t, k0_off501_inb t, k0_off502_inb t⟩,
   ⟨14, slices_S16_o14_S1, k0_chk67, k0_chk67.dec, k0_idx67_inb, fun _ h => h, k0_off503 t, k0_off504 t, k0_off505 t, k0_off506 t, k0_off507 t, k0_off508 t, k0_off509 t, k0_off510 t, k0_off503_inb t, k0_off504_inb t, k0_off505_inb t, k0_off506_inb t, k0_off507_inb t, k0_off508_inb t, k0_off509_inb t, k0_off510_inb t⟩,
   ⟨15, slices_S16_o15_S1, k0_chk68, k0_chk68.dec, k0_idx68_inb, fun _ h => h, k0_off511 t, k0_off512 t, k0_off513 t, k0_off514 t, k0_off515 t, k0_off516 t, k0_off517 t, k0_off518 t, k0_off511_inb t, k0_off512_inb t, k0_off513_inb t, k0_off514_inb t, k0_off515_inb t, k0_off516_inb t, k0_off517_inb t, k0_off518_inb t⟩]

set_option maxRecDepth 65536 in
set_option maxHeartbeats 40000000 in
/-- A block of loop 4 is the block program at that loop's rows. -/
theorem t4_body_eq (i : grid0.Coords) (arg2 : Memref sig .scVector .hbm S16384x128 .f32) (harg2 : arg2.IsWhole) (arg3 : Memref sig .scVector .hbm S16384x128 .f32) (harg3 : arg3.IsWhole) (arg4 : Memref sig .scVector .hbm S16384 .i32) (harg4 : arg4.IsWhole) (arg5 : Memref sig .scVector .hbm S32x272 .f32) (harg5 : arg5.IsWhole) (arg6 : Memref sig .scVector .vmem S2x128x128 .f32) (harg6 : arg6.IsWhole) (arg7 : Memref sig .scVector .vmem S2x128x128 .f32) (harg7 : arg7.IsWhole) (arg8 : Memref sig .scVector .vmem S512 .i32) (harg8 : arg8.IsWhole) (arg9 : Memref sig .scVector .vmem S272 .f32) (harg9 : arg9.IsWhole) (arg10 : DmaSems sig S_) (arg11 : DmaSems sig S_) (v142_r0 : DmaSems sig S_) (v142_r1 : DmaSems sig S_) (v22 : IVec S16 32) (v24 : IVec S16 32) (v25 : FVec F S16 .f32)  (t : Fin k0_t4_loop.trips) (a : Acc F) :
    k0_t4_body (F := F) i arg2 harg2 arg3 harg3 arg4 harg4 arg5 harg5 arg6 harg6 arg7 harg7 arg8 harg8 arg9 harg9 arg10 arg11 v142_r0 v142_r1 v22 v24 v25 t a = blkProg arg6 arg7 arg8 arg9 v22 v24 v25 (k0_off390 t) (k0_off390_inb t) k0_chk52 k0_chk52.dec k0_idx52_inb (rows4 t) a := by
  obtain ⟨a0, a1, a2, a3, a4, a5, a6, a7⟩ := a
  iterate 307 (refine op_congr fun _ => ?_)
  rfl

end Cert.KernelIdeal.Rows
-- ==== Proof.Places.lean ====
/- Where the rows of the four loops lie in the double buffers. -/
module

public import proofs.«01_k».proof.Proof.Bodies
public import proofs.«01_k».proof.Proof.Steps

@[expose] public section

noncomputable section

namespace Cert.KernelIdeal.Run

open Idealize.ShloMosaic Cert.KernelIdeal Cert.KernelIdeal.Gen Cert.KernelIdeal.Rows

/-- Row `r` of block `t` of loop 1 is row `16 t + r` of slot 0. -/
theorem rows1_at (t : Fin k0_t1_loop.trips) : ∀ R ∈ rows1 t, R.r < 16 ∧ At R 0 (16 * t.val + R.r) :=
  List.forall_mem_cons.mpr ⟨⟨(show 0 < 16 by decide), ⟨k0_off4_eq t, k0_off5_eq t, k0_off6_eq t, k0_off7_eq t, k0_off8_eq t, k0_off9_eq t, k0_off10_eq t, k0_off11_eq t⟩⟩,
  List.forall_mem_cons.mpr ⟨⟨(show 1 < 16 by decide), ⟨k0_off12_eq t, k0_off13_eq t, k0_off14_eq t, k0_off15_eq t, k0_off16_eq t, k0_off17_eq t, k0_off18_eq t, k0_off19_eq t⟩⟩,
  List.forall_mem_cons.mpr ⟨⟨(show 2 < 16 by decide), ⟨k0_off20_eq t, k0_off21_eq t, k0_off22_eq t, k0_off23_eq t, k0_off24_eq t, k0_off25_eq t, k0_off26_eq t, k0_off27_eq t⟩⟩,
  List.forall_mem_cons.mpr ⟨⟨(show 3 < 16 by decide), ⟨k0_off28_eq t, k0_off29_eq t, k0_off30_eq t, k0_off31_eq t, k0_off32_eq t, k0_off33_eq t, k0_off34_eq t, k0_off35_eq t⟩⟩,
  List.forall_mem_cons.mpr ⟨⟨(show 4 < 16 by decide), ⟨k0_off36_eq t, k0_off37_eq t, k0_off38_eq t, k0_off39_eq t, k0_off40_eq t, k0_off41_eq t, k0_off42_eq t, k0_off43_eq t⟩⟩,
  List.forall_mem_cons.mpr ⟨⟨(show 5 < 16 by decide), ⟨k0_off44_eq t, k0_off45_eq t, k0_off46_eq t, k0_off47_eq t, k0_off48_eq t, k0_off49_eq t, k0_off50_eq t, k0_off51_eq t⟩⟩,
  List.forall_mem_cons.mpr ⟨⟨(show 6 < 16 by decide), ⟨k0_off52_eq t, k0_off53_eq t, k0_off54_eq t, k0_off55_eq t, k0_off56_eq t, k0_off57_eq t, k0_off58_eq t, k0_off59_eq t⟩⟩,
  List.forall_mem_cons.mpr ⟨⟨(show 7 < 16 by decide), ⟨k0_off60_eq t, k0_off61_eq t, k0_off62_eq t, k0_off63_eq t, k0_off64_eq t, k0_off65_eq t, k0_off66_eq t, k0_off67_eq t⟩⟩,
  List.forall_mem_cons.mpr ⟨⟨(show 8 < 16 by decide), ⟨k0_off68_eq t, k0_off69_eq t, k0_off70_eq t, k0_off71_eq t, k0_off72_eq t, k0_off73_eq t, k0_off74_eq t, k0_off75_eq t⟩⟩,
  List.forall_mem_cons.mpr ⟨⟨(show 9 < 16 by decide), ⟨k0_off76_eq t, k0_off77_eq t, k0_off78_eq t, k0_off79_eq t, k0_off80_eq t, k0_off81_eq t, k0_off82_eq t, k0_off83_eq t⟩⟩,
  List.forall_mem_cons.mpr ⟨⟨(show 10 < 16 by decide), ⟨k0_off84_eq t, k0_off85_eq t, k0_off86_eq t, k0_off87_eq t, k0_off88_eq t, k0_off89_eq t, k0_off90_eq t, k0_off91_eq t⟩⟩,
  List.forall_mem_cons.mpr ⟨⟨(show 11 < 16 by decide), ⟨k0_off92_eq t, k0_off93_eq t, k0_off94_eq t, k0_off95_eq t, k0_off96_eq t, k0_off97_eq t, k0_off98_eq t, k0_off99_eq t⟩⟩,
  List.forall_mem_cons.mpr ⟨⟨(show 12 < 16 by decide), ⟨k0_off100_eq t, k0_off101_eq t, k0_off102_eq t, k0_off103_eq t, k0_off104_eq t, k0_off105_eq t, k0_off106_eq t, k0_off107_eq t⟩⟩,
  List.forall_mem_cons.mpr ⟨⟨(show 13 < 16 by decide), ⟨k0_off108_eq t, k0_off109_eq t, k0_off110_eq t, k0_off111_eq t, k0_off112_eq t, k0_off113_eq t, k0_off114_eq t, k0_off115_eq t⟩⟩,
  List.forall_mem_cons.mpr ⟨⟨(show 14 < 16 by decide), ⟨k0_off116_eq t, k0_off117_eq t, k0_off118_eq t, k0_off119_eq t, k0_off120_eq t, k0_off121_eq t, k0_off122_eq t, k0_off123_eq t⟩⟩,
  List.forall_mem_cons.mpr ⟨⟨(show 15 < 16 by decide), ⟨k0_off124_eq t, k0_off125_eq t, k0_off126_eq t, k0_off127_eq t, k0_off128_eq t, k0_off129_eq t, k0_off130_eq t, k0_off131_eq t⟩⟩,
  fun _ h => absurd h List.not_mem_nil⟩⟩⟩⟩⟩⟩⟩⟩⟩⟩⟩⟩⟩⟩⟩⟩

/-- The rows of a block of loop 1 are the sixteen, in order. -/
theorem rows1_r (t : Fin k0_t1_loop.trips) : (rows1 t).map Row.r = List.range 16 := rfl

/-- Row `r` of block `t` of loop 2 is row `16 t + r` of slot 1. -/
theorem rows2_at (t : Fin k0_t2_loop.trips) : ∀ R ∈ rows2 t, R.r < 16 ∧ At R 1 (16 * t.val + R.r) :=
  List.forall_mem_cons.mpr ⟨⟨(show 0 < 16 by decide), ⟨k0_off133_eq t, k0_off134_eq t, k0_off135_eq t, k0_off136_eq t, k0_off137_eq t, k0_off138_eq t, k0_off139_eq t, k0_off140_eq t⟩⟩,
  List.forall_mem_cons.mpr ⟨⟨(show 1 < 16 by decide), ⟨k0_off141_eq t, k0_off142_eq t, k0_off143_eq t, k0_off144_eq t, k0_off145_eq t, k0_off146_eq t, k0_off147_eq t, k0_off148_eq t⟩⟩,
  List.forall_mem_cons.mpr ⟨⟨(show 2 < 16 by decide), ⟨k0_off149_eq t, k0_off150_eq t, k0_off151_eq t, k0_off152_eq t, k0_off153_eq t, k0_off154_eq t, k0_off155_eq t, k0_off156_eq t⟩⟩,
  List.forall_mem_cons.mpr ⟨⟨(show 3 < 16 by decide), ⟨k0_off157_eq t, k0_off158_eq t, k0_off159_eq t, k0_off160_eq t, k0_off161_eq t, k0_off162_eq t, k0_off163_eq t, k0_off164_eq t⟩⟩,
  List.forall_mem_cons.mpr ⟨⟨(show 4 < 16 by decide), ⟨k0_off165_eq t, k0_off166_eq t, k0_off167_eq t, k0_off168_eq t, k0_off169_eq t, k0_off170_eq t, k0_off171_eq t, k0_off172_eq t⟩⟩,
  List.forall_mem_cons.mpr ⟨⟨(show 5 < 16 by decide), ⟨k0_off173_eq t, k0_off174_eq t, k0_off175_eq t, k0_off176_eq t, k0_off177_eq t, k0_off178_eq t, k0_off179_eq t, k0_off180_eq t⟩⟩,
  List.forall_mem_cons.mpr ⟨⟨(show 6 < 16 by decide), ⟨k0_off181_eq t, k0_off182_eq t, k0_off183_eq t, k0_off184_eq t, k0_off185_eq t, k0_off186_eq t, k0_off187_eq t, k0_off188_eq t⟩⟩,
  List.forall_mem_cons.mpr ⟨⟨(show 7 < 16 by decide), ⟨k0_off189_eq t, k0_off190_eq t, k0_off191_eq t, k0_off192_eq t, k0_off193_eq t, k0_off194_eq t, k0_off195_eq t, k0_off196_eq t⟩⟩,
  List.forall_mem_cons.mpr ⟨⟨(show 8 < 16 by decide), ⟨k0_off197_eq t, k0_off198_eq t, k0_off199_eq t, k0_off200_eq t, k0_off201_eq t, k0_off202_eq t, k0_off203_eq t, k0_off204_eq t⟩⟩,
  List.forall_mem_cons.mpr ⟨⟨(show 9 < 16 by decide), ⟨k0_off205_eq t, k0_off206_eq t, k0_off207_eq t, k0_off208_eq t, k0_off209_eq t, k0_off210_eq t, k0_off211_eq t, k0_off212_eq t⟩⟩,
  List.forall_mem_cons.mpr ⟨⟨(show 10 < 16 by decide), ⟨k0_off213_eq t, k0_off214_eq t, k0_off215_eq t, k0_off216_eq t, k0_off217_eq t, k0_off218_eq t, k0_off219_eq t, k0_off220_eq t⟩⟩,
  List.forall_mem_cons.mpr ⟨⟨(show 11 < 16 by decide), ⟨k0_off221_eq t, k0_off222_eq t, k0_off223_eq t, k0_off224_eq t, k0_off225_eq t, k0_off226_eq t, k0_off227_eq t, k0_off228_eq t⟩⟩,
  List.forall_mem_cons.mpr ⟨⟨(show 12 < 16 by decide), ⟨k0_off229_eq t, k0_off230_eq t, k0_off231_eq t, k0_off232_eq t, k0_off233_eq t, k0_off234_eq t, k0_off235_eq t, k0_off236_eq t⟩⟩,
  List.forall_mem_cons.mpr ⟨⟨(show 13 < 16 by decide), ⟨k0_off237_eq t, k0_off238_eq t, k0_off239_eq t, k0_off240_eq t, k0_off241_eq t, k0_off242_eq t, k0_off243_eq t, k0_off244_eq t⟩⟩,
  List.forall_mem_cons.mpr ⟨⟨(show 14 < 16 by decide), ⟨k0_off245_eq t, k0_off246_eq t, k0_off247_eq t, k0_off248_eq t, k0_off249_eq t, k0_off250_eq t, k0_off251_eq t, k0_off252_eq t⟩⟩,
  List.forall_mem_cons.mpr ⟨⟨(show 15 < 16 by decide), ⟨k0_off253_eq t, k0_off254_eq t, k0_off255_eq t, k0_off256_eq t, k0_off257_eq t, k0_off258_eq t, k0_off259_eq t, k0_off260_eq t⟩⟩,
  fun _ h => absurd h List.not_mem_nil⟩⟩⟩⟩⟩⟩⟩⟩⟩⟩⟩⟩⟩⟩⟩⟩

/-- The rows of a block of loop 2 are the sixteen, in order. -/
theorem rows2_r (t : Fin k0_t2_loop.trips) : (rows2 t).map Row.r = List.range 16 := rfl

/-- Row `r` of block `t` of loop 3 is row `16 t + r` of slot 0. -/
theorem rows3_at (t : Fin k0_t3_loop.trips) : ∀ R ∈ rows3 t, R.r < 16 ∧ At R 0 (16 * t.val + R.r) :=
  List.forall_mem_cons.mpr ⟨⟨(show 0 < 16 by decide), ⟨k0_off262_eq t, k0_off263_eq t, k0_off264_eq t, k0_off265_eq t, k0_off266_eq t, k0_off267_eq t, k0_off268_eq t, k0_off269_eq t⟩⟩,
  List.forall_mem_cons.mpr ⟨⟨(show 1 < 16 by decide), ⟨k0_off270_eq t, k0_off271_eq t, k0_off272_eq t, k0_off273_eq t, k0_off274_eq t, k0_off275_eq t, k0_off276_eq t, k0_off277_eq t⟩⟩,
  List.forall_mem_cons.mpr ⟨⟨(show 2 < 16 by decide), ⟨k0_off278_eq t, k0_off279_eq t, k0_off280_eq t, k0_off281_eq t, k0_off282_eq t, k0_off283_eq t, k0_off284_eq t, k0_off285_eq t⟩⟩,
  List.forall_mem_cons.mpr ⟨⟨(show 3 < 16 by decide), ⟨k0_off286_eq t, k0_off287_eq t, k0_off288_eq t, k0_off289_eq t, k0_off290_eq t, k0_off291_eq t, k0_off292_eq t, k0_off293_eq t⟩⟩,
  List.forall_mem_cons.mpr ⟨⟨(show 4 < 16 by decide), ⟨k0_off294_eq t, k0_off295_eq t, k0_off296_eq t, k0_off297_eq t, k0_off298_eq t, k0_off299_eq t, k0_off300_eq t, k0_off301_eq t⟩⟩,
  List.forall_mem_cons.mpr ⟨⟨(show 5 < 16 by decide), ⟨k0_off302_eq t, k0_off303_eq t, k0_off304_eq t, k0_off305_eq t, k0_off306_eq t, k0_off307_eq t, k0_off308_eq t, k0_off309_eq t⟩⟩,
  List.forall_mem_cons.mpr ⟨⟨(show 6 < 16 by decide), ⟨k0_off310_eq t, k0_off311_eq t, k0_off312_eq t, k0_off313_eq t, k0_off314_eq t, k0_off315_eq t, k0_off316_eq t, k0_off317_eq t⟩⟩,
  List.forall_mem_cons.mpr ⟨⟨(show 7 < 16 by decide), ⟨k0_off318_eq t, k0_off319_eq t, k0_off320_eq t, k0_off321_eq t, k0_off322_eq t, k0_off323_eq t, k0_off324_eq t, k0_off325_eq t⟩⟩,
  List.forall_mem_cons.mpr ⟨⟨(show 8 < 16 by decide), ⟨k0_off326_eq t, k0_off327_eq t, k0_off328_eq t, k0_off329_eq t, k0_off330_eq t, k0_off331_eq t, k0_off332_eq t, k0_off333_eq t⟩⟩,
  List.forall_mem_cons.mpr ⟨⟨(show 9 < 16 by decide), ⟨k0_off334_eq t, k0_off335_eq t, k0_off336_eq t, k0_off337_eq t, k0_off338_eq t, k0_off339_eq t, k0_off340_eq t, k0_off341_eq t⟩⟩,
  List.forall_mem_cons.mpr ⟨⟨(show 10 < 16 by decide), ⟨k0_off342_eq t, k0_off343_eq t, k0_off344_eq t, k0_off345_eq t, k0_off346_eq t, k0_off347_eq t, k0_off348_eq t, k0_off349_eq t⟩⟩,
  List.forall_mem_cons.mpr ⟨⟨(show 11 < 16 by decide), ⟨k0_off350_eq t, k0_off351_eq t, k0_off352_eq t, k0_off353_eq t, k0_off354_eq t, k0_off355_eq t, k0_off356_eq t, k0_off357_eq t⟩⟩,
  List.forall_mem_cons.mpr ⟨⟨(show 12 < 16 by decide), ⟨k0_off358_eq t, k0_off359_eq t, k0_off360_eq t, k0_off361_eq t, k0_off362_eq t, k0_off363_eq t, k0_off364_eq t, k0_off365_eq t⟩⟩,
  List.forall_mem_cons.mpr ⟨⟨(show 13 < 16 by decide), ⟨k0_off366_eq t, k0_off367_eq t, k0_off368_eq t, k0_off369_eq t, k0_off370_eq t, k0_off371_eq t, k0_off372_eq t, k0_off373_eq t⟩⟩,
  List.forall_mem_cons.mpr ⟨⟨(show 14 < 16 by decide), ⟨k0_off374_eq t, k0_off375_eq t, k0_off376_eq t, k0_off377_eq t, k0_off378_eq t, k0_off379_eq t, k0_off380_eq t, k0_off381_eq t⟩⟩,
  List.forall_mem_cons.mpr ⟨⟨(show 15 < 16 by decide), ⟨k0_off382_eq t, k0_off383_eq t, k0_off384_eq t, k0_off385_eq t, k0_off386_eq t, k0_off387_eq t, k0_off388_eq t, k0_off389_eq t⟩⟩,
  fun _ h => absurd h List.not_mem_nil⟩⟩⟩⟩⟩⟩⟩⟩⟩⟩⟩⟩⟩⟩⟩⟩

/-- The rows of a block of loop 3 are the sixteen, in order. -/
theorem rows3_r (t : Fin k0_t3_loop.trips) : (rows3 t).map Row.r = List.range 16 := rfl

/-- Row `r` of block `t` of loop 4 is row `16 t + r` of slot 1. -/
theorem rows4_at (t : Fin k0_t4_loop.trips) : ∀ R ∈ rows4 t, R.r < 16 ∧ At R 1 (16 * t.val + R.r) :=
  List.forall_mem_cons.mpr ⟨⟨(show 0 < 16 by decide), ⟨k0_off391_eq t, k0_off392_eq t, k0_off393_eq t, k0_off394_eq t, k0_off395_eq t, k0_off396_eq t, k0_off397_eq t, k0_off398_eq t⟩⟩,
  List.forall_mem_cons.mpr ⟨⟨(show 1 < 16 by decide), ⟨k0_off399_eq t, k0_off400_eq t, k0_off401_eq t, k0_off402_eq t, k0_off403_eq t, k0_off404_eq t, k0_off405_eq t, k0_off406_eq t⟩⟩,
  List.forall_mem_cons.mpr ⟨⟨(show 2 < 16 by decide), ⟨k0_off407_eq t, k0_off408_eq t, k0_off409_eq t, k0_off410_eq t, k0_off411_eq t, k0_off412_eq t, k0_off413_eq t, k0_off414_eq t⟩⟩,
  List.forall_mem_cons.mpr ⟨⟨(show 3 < 16 by decide), ⟨k0_off415_eq t, k0_off416_eq t, k0_off417_eq t, k0_off418_eq t, k0_off419_eq t, k0_off420_eq t, k0_off421_eq t, k0_off422_eq t⟩⟩,
  List.forall_mem_cons.mpr ⟨⟨(show 4 < 16 by decide), ⟨k0_off423_eq t, k0_off424_eq t, k0_off425_eq t, k0_off426_eq t, k0_off427_eq t, k0_off428_eq t, k0_off429_eq t, k0_off430_eq t⟩⟩,
  List.forall_mem_cons.mpr ⟨⟨(show 5 < 16 by decide), ⟨k0_off431_eq t, k0_off432_eq t, k0_off433_eq t, k0_off434_eq t, k0_off435_eq t, k0_off436_eq t, k0_off437_eq t, k0_off438_eq t⟩⟩,
  List.forall_mem_cons.mpr ⟨⟨(show 6 < 16 by decide), ⟨k0_off439_eq t, k0_off440_eq t, k0_off441_eq t, k0_off442_eq t, k0_off443_eq t, k0_off444_eq t, k0_off445_eq t, k0_off446_eq t⟩⟩,
  List.forall_mem_cons.mpr ⟨⟨(show 7 < 16 by decide), ⟨k0_off447_eq t, k0_off448_eq t, k0_off449_eq t, k0_off450_eq t, k0_off451_eq t, k0_off452_eq t, k0_off453_eq t, k0_off454_eq t⟩⟩,
  List.forall_mem_cons.mpr ⟨⟨(show 8 < 16 by decide), ⟨k0_off455_eq t, k0_off456_eq t, k0_off457_eq t, k0_off458_eq t, k0_off459_eq t, k0_off460_eq t, k0_off461_eq t, k0_off462_eq t⟩⟩,
  List.forall_mem_cons.mpr ⟨⟨(show 9 < 16 by decide), ⟨k0_off463_eq t, k0_off464_eq t, k0_off465_eq t, k0_off466_eq t, k0_off467_eq t, k0_off468_eq t, k0_off469_eq t, k0_off470_eq t⟩⟩,
  List.forall_mem_cons.mpr ⟨⟨(show 10 < 16 by decide), ⟨k0_off471_eq t, k0_off472_eq t, k0_off473_eq t, k0_off474_eq t, k0_off475_eq t, k0_off476_eq t, k0_off477_eq t, k0_off478_eq t⟩⟩,
  List.forall_mem_cons.mpr ⟨⟨(show 11 < 16 by decide), ⟨k0_off479_eq t, k0_off480_eq t, k0_off481_eq t, k0_off482_eq t, k0_off483_eq t, k0_off484_eq t, k0_off485_eq t, k0_off486_eq t⟩⟩,
  List.forall_mem_cons.mpr ⟨⟨(show 12 < 16 by decide), ⟨k0_off487_eq t, k0_off488_eq t, k0_off489_eq t, k0_off490_eq t, k0_off491_eq t, k0_off492_eq t, k0_off493_eq t, k0_off494_eq t⟩⟩,
  List.forall_mem_cons.mpr ⟨⟨(show 13 < 16 by decide), ⟨k0_off495_eq t, k0_off496_eq t, k0_off497_eq t, k0_off498_eq t, k0_off499_eq t, k0_off500_eq t, k0_off501_eq t, k0_off502_eq t⟩⟩,
  List.forall_mem_cons.mpr ⟨⟨(show 14 < 16 by decide), ⟨k0_off503_eq t, k0_off504_eq t, k0_off505_eq t, k0_off506_eq t, k0_off507_eq t, k0_off508_eq t, k0_off509_eq t, k0_off510_eq t⟩⟩,
  List.forall_mem_cons.mpr ⟨⟨(show 15 < 16 by decide), ⟨k0_off511_eq t, k0_off512_eq t, k0_off513_eq t, k0_off514_eq t, k0_off515_eq t, k0_off516_eq t, k0_off517_eq t, k0_off518_eq t⟩⟩,
  fun _ h => absurd h List.not_mem_nil⟩⟩⟩⟩⟩⟩⟩⟩⟩⟩⟩⟩⟩⟩⟩⟩

/-- The rows of a block of loop 4 are the sixteen, in order. -/
theorem rows4_r (t : Fin k0_t4_loop.trips) : (rows4 t).map Row.r = List.range 16 := rfl

end Cert.KernelIdeal.Run
-- ==== Proof.Loop.lean ====
/- The loop over the eight blocks of one chunk: from the state before the chunk to the state after it. -/
module

public import proofs.«01_k».proof.Proof.Steps
public import proofs.«01_k».proof.Proof.Places

@[expose] public section

noncomputable section

namespace Cert.KernelIdeal.Run

open Cert.KernelIdeal Cert.KernelIdeal.Gen Cert.KernelIdeal.Rows Cert.KernelIdeal.Model
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- Every label is a group number. -/
def Small (lab : IVec S16384 32) : Prop := ∀ j, (lab j).toNat < 8

/-- The label of any row times sixteen, plus a lane of the second line, is inside the table. -/
theorem inTable_sum {lab : IVec S16384 32} (hs : Small lab) (base n r : ℕ) : InTable (sumIx k0_pay1515 (labAt lab base n) r) := by
  intro a x
  fin_cases a
  have h := hs (ix1 (base + 16 * n + (lane r 0).val))
  have hx : (x 0).val < 16 := (x 0).isLt
  have e : (k0_pay1515 x).toNat = (x 0).val + 16 := by
    show ((BitVec.ofNat 32 (0 * 16 + (x 0).val)) + 16#32).toNat = _
    simp only [BitVec.toNat_add, BitVec.toNat_ofNat]; omega
  show (lab (ix1 (base + 16 * n + (lane r 0).val)) * 16#32 + k0_pay1515 x).toNat < 272
  simp only [BitVec.toNat_add, BitVec.toNat_mul, e, BitVec.toNat_ofNat]
  omega

/-- The same of the lines of counts. -/
theorem inTable_cnt {lab : IVec S16384 32} (hs : Small lab) (base n : ℕ) : InTable (cntIdx (F := F) k0_pay1516 (labAt lab base n)) := by
  intro a x
  fin_cases a
  have h := hs (ix1 (base + 16 * n + (x 0).val))
  have hx : (x 0).val < 16 := (x 0).isLt
  have e : (k0_pay1516 x).toNat = (x 0).val + 144 := by
    show ((BitVec.ofNat 32 (0 * 16 + (x 0).val)) + 144#32).toNat = _
    simp only [BitVec.toNat_add, BitVec.toNat_ofNat]; omega
  show (lab (ix1 (base + 16 * n + (x 0).val)) * 16#32 + k0_pay1516 x).toNat < 272
  simp only [BitVec.toNat_add, BitVec.toNat_mul, e, BitVec.toNat_ofNat]
  omega

/-- The state of a tile after `n` blocks, from a cleared table. -/
abbrev tileSt (P T : FVec F S16384x128 .f32) (lab : IVec S16384 32) (base : ℕ) (g₀ : FVec F S272 .f32) (n : ℕ) : St F :=
  stAt (k0_pay1515) (k0_pay1516) (k0_pay1517 (F := F)) P T lab base (acc₀ (k0_pay1514 (F := F)), g₀) n

/-- The loop of chunk `c`: with the chunk's rows in slot `b` of the double buffers, the state after `8 c` blocks becomes the state
    after `8 c + 8`. -/
theorem wp_chunk {β : Type} {b c base : ℕ} {Zp Zt : Finset S2x128x128.Idx} (hSp : ∀ j, (j 0).val = b → j ∈ Zp) (hSt : ∀ j, (j 0).val = b → j ∈ Zt)
    {P T : FVec F S16384x128 .f32} {lab : IVec S16384 32} (hs : Small lab) {g₀ : FVec F S272 .f32}
    {fp ft : FVec F S2x128x128 .f32} {fl : IVec S512 32}
    (hp : ∀ r k, r < 128 → rowPiece P (base + 128 * c + r) k = piece fp b r k) (ht : ∀ r k, r < 128 → rowPiece T (base + 128 * c + r) k = piece ft b r k)
    (hfl : ∀ j : S512.Idx, fl j = lab (ix1 (base + (j 0).val)))
    {lp : Scf.Loop 32} (hok : lp.OK) (h8 : lp.trips = 8) (body : Fin lp.trips → Acc F → TileProg F L (Acc F))
    (o : Fin lp.trips → Fin 1 → ℕ) (h : ∀ t a, o t a + S16.size a ≤ S512.size a) (ho : ∀ t, o t = ![16 * t.val + 128 * c])
    {C : IVec S16 32 → Prop} {dec : ∀ v, Decidable (C v)} {hC : ∀ v, C v → InTable v} (hC' : ∀ v, InTable v → C v)
    (Rs : Fin lp.trips → List Row) (hR : ∀ t, ∀ R ∈ Rs t, R.r < 16 ∧ At R b (16 * t.val + R.r)) (hRs : ∀ t, (Rs t).map Row.r = List.range 16)
    (hb : ∀ t a, body t a = blkProg sP sT sL sG (k0_pay1515) (k0_pay1516) (k0_pay1517 (F := F)) (o t) (h t) C dec hC (Rs t) a)
    {a : Acc F} {g : FVec F S272 .f32} (hag : (a, g) = tileSt P T lab base g₀ (8 * c))
    {kk : Acc F → TileProg F L β} {Q : β → sProp 𝕄} :
    iprop((pbLoc d L ↦[Zp]{fullShare} fp) ∗ (tbLoc d L ↦[Zt]{fullShare} ft) ∗ (lbLoc d L ↦{fullShare} fl) ∗ (tabLoc d L ↦{fullShare} g) : sProp 𝕄)
      ⊢ iprop((∀ a' : Acc F, ∀ g' : FVec F S272 .f32, (⌜(a', g') = tileSt P T lab base g₀ (8 * c + 8)⌝ ∗ (pbLoc d L ↦[Zp]{fullShare} fp) ∗ (tbLoc d L ↦[Zt]{fullShare} ft)
            ∗ (lbLoc d L ↦{fullShare} fl) ∗ (tabLoc d L ↦{fullShare} g'))
          -∗ wp frame (wpE (defs₀ (F := F)) 𝒱₀ (thr d L) none) Set.univ (kk a') Q)
        -∗ wp frame (wpE (defs₀ (F := F)) 𝒱₀ (thr d L) none) Set.univ (Scf.Loop.for lp hok a body >>= kk) Q) := by
  have key := Scf.wp_for_bind (M := 𝕄) frame (wpE (defs₀ (F := F)) 𝒱₀ (thr d L) none) Set.univ lp.lb lp.ub lp.st hok a body
    (I := fun n a' => iprop(⌜a' = (tileSt P T lab base g₀ (8 * c + n)).1⌝ ∗ (pbLoc d L ↦[Zp]{fullShare} fp) ∗ (tbLoc d L ↦[Zt]{fullShare} ft)
      ∗ (lbLoc d L ↦{fullShare} fl) ∗ (tabLoc d L ↦{fullShare} (tileSt P T lab base g₀ (8 * c + n)).2)))
    (by
      intro t a'
      have e1 : ∀ r k, r < 16 → rowPiece P (base + 16 * (8 * c + t.val) + r) k = piece fp b (16 * t.val + r) k := fun r k hr => by
        have ht8 : t.val < 8 := h8 ▸ t.isLt
        rw [← hp _ _ (by omega)]; congr 1; omega
      have e2 : ∀ r k, r < 16 → rowPiece T (base + 16 * (8 * c + t.val) + r) k = piece ft b (16 * t.val + r) k := fun r k hr => by
        have ht8 : t.val < 8 := h8 ▸ t.isLt
        rw [← ht _ _ (by omega)]; congr 1; omega
      have e3 : ∀ x : S16.Idx, ∀ j : S512.Idx, (j 0).val = 16 * t.val + 128 * c + (x 0).val → labAt lab base (8 * c + t.val) x = fl j := fun x j hj => by
        rw [hfl, hj]; show lab _ = lab _; congr 2; omega
      have kb := wp_blk (F := F) d L (β := Acc F) hSp hSt (v22 := k0_pay1515) (v24 := k0_pay1516) (v25 := k0_pay1517 (F := F)) (lab := labAt lab base (8 * c + t.val))
        (fun r => inTable_sum hs base _ r) (inTable_cnt hs base _) e1 e2 (ho t) e3 (h := h t) hC' (dec := dec) (hC := hC) (hR t) (hRs t)
        (tileSt P T lab base g₀ (8 * c + t.val)) (kk := Prog.ret)
        (Q := fun a'' => iprop(⌜a'' = (tileSt P T lab base g₀ (8 * c + (t.val + 1))).1⌝ ∗ (pbLoc d L ↦[Zp]{fullShare} fp) ∗ (tbLoc d L ↦[Zt]{fullShare} ft)
          ∗ (lbLoc d L ↦{fullShare} fl) ∗ (tabLoc d L ↦{fullShare} (tileSt P T lab base g₀ (8 * c + (t.val + 1))).2)))
      rw [show ∀ p : TileProg F L (Acc F), p >>= Prog.ret = p from fun p => Prog.bind_pure p] at kb
      iintro ⟨%ha, H⟩
      subst ha
      rw [hb]
      iapply kb $$ H
      iintro H
      rw [wp_ret]
      imodintro
      isplitr; · ipureintro; rfl
      iexact H)
    (kk := kk) (Q := Q)
  have hag1 : a = (tileSt P T lab base g₀ (8 * c)).1 := congrArg Prod.fst hag
  have hag2 : g = (tileSt P T lab base g₀ (8 * c)).2 := congrArg Prod.snd hag
  iintro H Hk
  iapply key $$ [H]
  · isplitr; · ipureintro; exact hag1
    rw [hag2]
    iexact H
  iintro %a' ⟨%ha', H⟩
  rw [show Scf.trips lp.lb lp.ub lp.st = 8 from h8] at *
  iapply Hk $$ %a' %((tileSt P T lab base g₀ (8 * c + 8)).2)
  isplitr; · ipureintro; rw [ha']
  iexact H

end Cert.KernelIdeal.Run
-- ==== Proof.Pieces.lean ====
/- The pieces of the arrays and of a tile's buffers that its copies name: which elements they hold, and
   what a copy leaves. -/
module

public import proofs.«01_k».proof.Proof.Loop

@[expose] public section

noncomputable section

namespace Cert.KernelIdeal.Run

open Cert.KernelIdeal Cert.KernelIdeal.Gen Cert.KernelIdeal.Rows Cert.KernelIdeal.Model
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

-- the kernel's arrays, as the body names them
local notation "pV" => (Memref.whole Cert.KernelIdeal.main_arg0_scv : Memref Cert.KernelIdeal.sig Kind.scVector Space.hbm Cert.KernelIdeal.S16384x128 EltTy.f32)
local notation "tV" => (Memref.whole Cert.KernelIdeal.main_arg1_scv : Memref Cert.KernelIdeal.sig Kind.scVector Space.hbm Cert.KernelIdeal.S16384x128 EltTy.f32)
local notation "lV" => (Memref.whole Cert.KernelIdeal.main_arg2_scv : Memref Cert.KernelIdeal.sig Kind.scVector Space.hbm Cert.KernelIdeal.S16384 EltTy.i32)
local notation "oV" => (Memref.whole Cert.KernelIdeal.main_v0_scv : Memref Cert.KernelIdeal.sig Kind.scVector Space.hbm Cert.KernelIdeal.S32x272 EltTy.f32)
local notation "bP" => (Memref.whole Cert.KernelIdeal.cc0_scratch0 : Memref Cert.KernelIdeal.sig Kind.scVector Space.vmem Cert.KernelIdeal.S2x128x128 EltTy.f32)
local notation "bT" => (Memref.whole Cert.KernelIdeal.cc0_scratch1 : Memref Cert.KernelIdeal.sig Kind.scVector Space.vmem Cert.KernelIdeal.S2x128x128 EltTy.f32)
local notation "bL" => (Memref.whole Cert.KernelIdeal.cc0_scratch2 : Memref Cert.KernelIdeal.sig Kind.scVector Space.vmem Cert.KernelIdeal.S512 EltTy.i32)
local notation "bG" => (Memref.whole Cert.KernelIdeal.cc0_scratch3 : Memref Cert.KernelIdeal.sig Kind.scVector Space.vmem Cert.KernelIdeal.S272 EltTy.f32)

variable (d : Dev nD) (L : grid0.Coords)

/-! ## The pieces of the arrays a tile's copies name -/

/-- The 128 rows of the predictions (or targets) that start `w` after the tile's first row. -/
abbrev chunkOf (m : Memref sig .scVector .hbm S16384x128 .f32) (w : BitVec 32) (h : ∀ a, k0_off2 L w a + S128x128.size a ≤ S16384x128.size a) :
    Memref sig .scVector .hbm S128x128 .f32 :=
  m.slice (Rect.unit (s := S16384x128) (k0_off2 L w) S128x128.size h) (fun _ => rfl)
/-- The tile's 512 labels. -/
abbrev labsOf : Memref sig .scVector .hbm S512 .i32 :=
  (lV).slice (Rect.unit (s := S16384) (k0_off1 L) S512.size (k0_off1_inb L)) (fun _ => rfl)
/-- The tile's row of the results. -/
abbrev outOf : Memref sig .scVector .hbm S272 .f32 :=
  ((oV).slice (Rect.unit (s := S32x272) (k0_off519 L) S1x272.size (k0_off519_inb L)) (fun _ => rfl)).squeeze S272 squeezes_S1x272_S272
/-- The first and the second slot of a double buffer. -/
abbrev slot0 (m : Memref sig .scVector .vmem S2x128x128 .f32) : Memref sig .scVector .vmem S128x128 .f32 :=
  (m.slice (Rect.unit (s := S2x128x128) ![0, 0, 0] S1x128x128.size inb_S2x128x128_S1x128x128_0_0_0) (fun _ => rfl)).squeeze S128x128 squeezes_S1x128x128_S128x128
abbrev slot1 (m : Memref sig .scVector .vmem S2x128x128 .f32) : Memref sig .scVector .vmem S128x128 .f32 :=
  (m.slice (Rect.unit (s := S2x128x128) ![1, 0, 0] S1x128x128.size inb_S2x128x128_S1x128x128_1_0_0) (fun _ => rfl)).squeeze S128x128 squeezes_S1x128x128_S128x128

/-- The tile's first row, and its number. -/
abbrev base : ℕ := 1024 * (L 1).val + 512 * (L 0).val
abbrev tileNo : ℕ := 2 * (L 1).val + (L 0).val

/-- Row `r`, column `k` of a chunk. -/
def ixC (r k : ℕ) : S128x128.Idx := fun
  | 0 => ⟨r % 128, Nat.mod_lt _ (by decide)⟩
  | 1 => ⟨k % 128, Nat.mod_lt _ (by decide)⟩

/-- Row `r`, column `k` of a one-slot slab. -/
def ixS (r k : ℕ) : S1x128x128.Idx := fun
  | 0 => ⟨0, Nat.one_pos⟩
  | 1 => ⟨r % 128, Nat.mod_lt _ (by decide)⟩
  | 2 => ⟨k % 128, Nat.mod_lt _ (by decide)⟩

/-- A chunk's element as an element of a one-slot slab. -/
theorem ixC_slab (h : S128x128.numel = S1x128x128.numel) (r k : ℕ) : Shape.reshapeEquiv h (ixC r k) = ixS r k := by
  refine Shape.reshapeEquiv_eq_of_rowMajor h ?_
  rw [Shape.rowMajor_val_three, Shape.rowMajor_val_two]
  show (0 * 128 + r % 128) * 128 + k % 128 = r % 128 * 128 + k % 128
  omega

/-- Where a slab's element lies in the double buffer. -/
theorem emb_slab {b : ℕ} {o : Fin 3 → ℕ} (ho : o = ![b, 0, 0]) (hb : b < 2) (h : ∀ a, o a + S1x128x128.size a ≤ S2x128x128.size a) (r k : ℕ) :
    (Rect.unit (s := S2x128x128) o S1x128x128.size h).emb (ixS r k) = ix3 b r k := by
  subst ho
  refine funext fun a => Fin.ext ?_
  match a with
  | 0 => show b + 1 * 0 = b % 2; omega
  | 1 => show 0 + 1 * (r % 128) = r % 128; omega
  | 2 => show 0 + 1 * (k % 128) = k % 128; omega

/-- Where a chunk's element lies in the array. -/
theorem emb_chunk {c : ℕ} {w : BitVec 32} (hw : k0_off2 L w = ![base L + 128 * c, 0])
    (h : ∀ a, k0_off2 L w a + S128x128.size a ≤ S16384x128.size a) (r k : ℕ) (hr : r < 128) :
    (Rect.unit (s := S16384x128) (k0_off2 L w) S128x128.size h).emb (ixC r k) = ix2 (base L + 128 * c + r) k := by
  have h0 := h 0
  refine funext fun a => Fin.ext ?_
  match a with
  | 0 =>
    rw [hw] at h0
    change base L + 128 * c + 128 ≤ 16384 at h0
    show k0_off2 L w 0 + 1 * (r % 128) = (base L + 128 * c + r) % 16384
    rw [hw]
    show base L + 128 * c + 1 * (r % 128) = _
    omega
  | 1 =>
    show k0_off2 L w 1 + 1 * (k % 128) = k % 128
    rw [hw]
    show 0 + 1 * (k % 128) = _
    omega

/-- The start of each chunk. -/
theorem off_chunk (r : Fin 4) : k0_off2 L (BitVec.ofNat 32 (128 * r.val)) = ![base L + 128 * r.val, 0] := k0_off2_eq L r

/-- What a chunk copied into the first slot of the predictions' buffer leaves there. -/
theorem slot_piece {m : Memref sig .scVector .vmem S128x128 .f32} {b c : ℕ} {f : m.view.ty.Contents (Elt F)} {g : FVec F S2x128x128 .f32}
    (hm : ∀ r k, (m.view.read (Elt F) f (ixC r k) : F .f32) = g (ix3 b r k))
    {P : FVec F S16384x128 .f32} {v : FVec F S128x128 .f32} (hv : ∀ r k, r < 128 → v (ixC r k) = P (ix2 (base L + 128 * c + r) k))
    (hf : m.view.read (Elt F) f = v) (r k : ℕ) (hr : r < 128) :
    rowPiece P (base L + 128 * c + r) k = Model.piece g b r k := by
  funext x
  show P (ix2 (base L + 128 * c + r) (16 * k + (x 0).val)) = g (ix3 b r (16 * k + (x 0).val))
  rw [← hm, hf, hv _ _ hr]

/-- Slot 0 of the predictions' buffer, read. -/
theorem readP0 (g : FVec F S2x128x128 .f32) (r k : ℕ) : ((slot0 bP).view.read (Elt F) g (ixC r k) : F .f32) = g (ix3 0 r k) := by
  have e : (slot0 bP).view.emb (ixC r k) = ix3 0 r k :=
    (congrArg (Rect.unit (s := S2x128x128) ![0, 0, 0] S1x128x128.size inb_S2x128x128_S1x128x128_0_0_0).emb (ixC_slab squeezes_S1x128x128_S128x128.numel_eq r k)).trans
      (emb_slab rfl (by decide) inb_S2x128x128_S1x128x128_0_0_0 r k)
  exact congrArg g e

/-- Slot 0 of the targets' buffer, read. -/
theorem readT0 (g : FVec F S2x128x128 .f32) (r k : ℕ) : ((slot0 bT).view.read (Elt F) g (ixC r k) : F .f32) = g (ix3 0 r k) := by
  have e : (slot0 bT).view.emb (ixC r k) = ix3 0 r k :=
    (congrArg (Rect.unit (s := S2x128x128) ![0, 0, 0] S1x128x128.size inb_S2x128x128_S1x128x128_0_0_0).emb (ixC_slab squeezes_S1x128x128_S128x128.numel_eq r k)).trans
      (emb_slab rfl (by decide) inb_S2x128x128_S1x128x128_0_0_0 r k)
  exact congrArg g e

/-- Slot 1 of the predictions' buffer, read. -/
theorem readP1 (g : FVec F S2x128x128 .f32) (r k : ℕ) : ((slot1 bP).view.read (Elt F) g (ixC r k) : F .f32) = g (ix3 1 r k) := by
  have e : (slot1 bP).view.emb (ixC r k) = ix3 1 r k :=
    (congrArg (Rect.unit (s := S2x128x128) ![1, 0, 0] S1x128x128.size inb_S2x128x128_S1x128x128_1_0_0).emb (ixC_slab squeezes_S1x128x128_S128x128.numel_eq r k)).trans
      (emb_slab rfl (by decide) inb_S2x128x128_S1x128x128_1_0_0 r k)
  exact congrArg g e

/-- Slot 1 of the targets' buffer, read. -/
theorem readT1 (g : FVec F S2x128x128 .f32) (r k : ℕ) : ((slot1 bT).view.read (Elt F) g (ixC r k) : F .f32) = g (ix3 1 r k) := by
  have e : (slot1 bT).view.emb (ixC r k) = ix3 1 r k :=
    (congrArg (Rect.unit (s := S2x128x128) ![1, 0, 0] S1x128x128.size inb_S2x128x128_S1x128x128_1_0_0).emb (ixC_slab squeezes_S1x128x128_S128x128.numel_eq r k)).trans
      (emb_slab rfl (by decide) inb_S2x128x128_S1x128x128_1_0_0 r k)
  exact congrArg g e

/-- A chunk of the predictions copied into the first slot, piece by piece. -/
theorem p_slot0 (P : FVec F S16384x128 .f32) (f : FVec F S2x128x128 .f32) (c : Fin 4) {w : BitVec 32} (hw : w = BitVec.ofNat 32 (128 * c.val))
    (h : ∀ a, k0_off2 L w a + S128x128.size a ≤ S16384x128.size a) (r k : ℕ) (hr : r < 128) :
    rowPiece P (base L + 128 * c.val + r) k
      = Model.piece ((slot0 bP).view.writes (Elt F) f [⟨Rect.whole S128x128, (chunkOf L pV w h).view.read (Elt F) P⟩]) 0 r k := by
  subst hw
  refine slot_piece (F := F) L (m := slot0 bP) (v := (chunkOf L pV _ h).view.read (Elt F) P) (fun r k => ?_) (fun r k hr => ?_) (View.read_writes_whole _ f _) r k hr
  · exact readP0 (F := F) _ r k
  · exact congrArg P (emb_chunk L (off_chunk L c) h r k hr)
/-- A chunk of the targets copied into the first slot, piece by piece. -/
theorem t_slot0 (T : FVec F S16384x128 .f32) (f : FVec F S2x128x128 .f32) (c : Fin 4) {w : BitVec 32} (hw : w = BitVec.ofNat 32 (128 * c.val))
    (h : ∀ a, k0_off2 L w a + S128x128.size a ≤ S16384x128.size a) (r k : ℕ) (hr : r < 128) :
    rowPiece T (base L + 128 * c.val + r) k
      = Model.piece ((slot0 bT).view.writes (Elt F) f [⟨Rect.whole S128x128, (chunkOf L tV w h).view.read (Elt F) T⟩]) 0 r k := by
  subst hw
  refine slot_piece (F := F) L (m := slot0 bT) (v := (chunkOf L tV _ h).view.read (Elt F) T) (fun r k => ?_) (fun r k hr => ?_) (View.read_writes_whole _ f _) r k hr
  · exact readT0 (F := F) _ r k
  · exact congrArg T (emb_chunk L (off_chunk L c) h r k hr)

/-- A chunk of the predictions copied into the second slot, piece by piece. -/
theorem p_slot1 (P : FVec F S16384x128 .f32) (f : FVec F S2x128x128 .f32) (c : Fin 4) {w : BitVec 32} (hw : w = BitVec.ofNat 32 (128 * c.val))
    (h : ∀ a, k0_off2 L w a + S128x128.size a ≤ S16384x128.size a) (r k : ℕ) (hr : r < 128) :
    rowPiece P (base L + 128 * c.val + r) k
      = Model.piece ((slot1 bP).view.writes (Elt F) f [⟨Rect.whole S128x128, (chunkOf L pV w h).view.read (Elt F) P⟩]) 1 r k := by
  subst hw
  refine slot_piece (F := F) L (m := slot1 bP) (v := (chunkOf L pV _ h).view.read (Elt F) P) (fun r k => ?_) (fun r k hr => ?_) (View.read_writes_whole _ f _) r k hr
  · exact readP1 (F := F) _ r k
  · exact congrArg P (emb_chunk L (off_chunk L c) h r k hr)

/-- A chunk of the targets copied into the second slot, piece by piece. -/
theorem t_slot1 (T : FVec F S16384x128 .f32) (f : FVec F S2x128x128 .f32) (c : Fin 4) {w : BitVec 32} (hw : w = BitVec.ofNat 32 (128 * c.val))
    (h : ∀ a, k0_off2 L w a + S128x128.size a ≤ S16384x128.size a) (r k : ℕ) (hr : r < 128) :
    rowPiece T (base L + 128 * c.val + r) k
      = Model.piece ((slot1 bT).view.writes (Elt F) f [⟨Rect.whole S128x128, (chunkOf L tV w h).view.read (Elt F) T⟩]) 1 r k := by
  subst hw
  refine slot_piece (F := F) L (m := slot1 bT) (v := (chunkOf L tV _ h).view.read (Elt F) T) (fun r k => ?_) (fun r k hr => ?_) (View.read_writes_whole _ f _) r k hr
  · exact readT1 (F := F) _ r k
  · exact congrArg T (emb_chunk L (off_chunk L c) h r k hr)

/-- The labels copied in. -/
theorem lab_fetch (lab : IVec S16384 32) (f : IVec S512 32) (j : S512.Idx) :
    ((bL).view.write (Elt F) f ((labsOf L).view.read (Elt F) lab) Finset.univ : IVec S512 32) j = lab (ix1 (base L + (j 0).val)) := by
  have e : (bL).view.write (Elt F) f ((labsOf L).view.read (Elt F) lab) Finset.univ = (labsOf L).view.read (Elt F) lab :=
    View.write_whole_univ (Val := Elt F) (cc0_scratch2 : Ref sig .scVector) f _
  rw [e]
  refine congrArg lab (funext fun a => Fin.ext ?_)
  have h0 := k0_off1_inb L 0
  have hj : (j 0).val < 512 := (j 0).isLt
  match a with
  | 0 =>
    rw [k0_off1_eq] at h0
    change base L + 512 ≤ 16384 at h0
    show k0_off1 L 0 + 1 * (j 0).val = (base L + (j 0).val) % 16384
    rw [k0_off1_eq]
    show base L + 1 * (j 0).val = _
    omega

/-- A tile's first row is its number times its 512 rows. -/
theorem base_eq : base L = 512 * tileNo L := by
  show 1024 * (L 1).val + 512 * (L 0).val = 512 * (2 * (L 1).val + (L 0).val)
  omega
/-- The elements of a chunk, of the labels and of the row of results are a range of rows. -/
theorem mem_pChunk {c : Fin 4} {w : BitVec 32} (hw : w = BitVec.ofNat 32 (128 * c.val))
    (h : ∀ a, k0_off2 L w a + S128x128.size a ≤ S16384x128.size a) (j : S16384x128.Idx) :
    j ∈ (chunkOf L pV w h).view.set ↔ (j 0).val / 128 = 4 * tileNo L + c.val := by
  subst hw
  show j ∈ ((pV).view.slice (Rect.unit (s := S16384x128) _ S128x128.size h)).set ↔ _
  rw [show ((pV).view.slice (Rect.unit (s := S16384x128) _ S128x128.size h)).set = _ from View.set_slice_whole _ _]
  refine Rect.mem_set_unit.trans (Fin.forall_fin_two.trans ?_)
  have hj : (j 1).val < 128 := (j 1).isLt
  rw [off_chunk]
  show ((base L + 128 * c.val ≤ (j 0).val ∧ (j 0).val < base L + 128 * c.val + 128) ∧ (0 ≤ (j 1).val ∧ (j 1).val < 0 + 128)) ↔ _
  have := base_eq L
  omega
theorem tChunk_eq {w : BitVec 32} (h : ∀ a, k0_off2 L w a + S128x128.size a ≤ S16384x128.size a) :
    (chunkOf L tV w h).view.set = (chunkOf L pV w h).view.set := by
  show ((tV).view.slice (Rect.unit (s := S16384x128) _ S128x128.size h)).set = ((pV).view.slice (Rect.unit (s := S16384x128) _ S128x128.size h)).set
  exact (View.set_slice_whole _ _).trans (View.set_slice_whole _ _).symm
theorem mem_labs (j : S16384.Idx) : j ∈ (labsOf L).view.set ↔ (j 0).val / 512 = tileNo L := by
  show j ∈ ((lV).view.slice (Rect.unit (s := S16384) _ S512.size (k0_off1_inb L))).set ↔ _
  rw [show ((lV).view.slice (Rect.unit (s := S16384) _ S512.size (k0_off1_inb L))).set = _ from View.set_slice_whole _ _]
  refine Rect.mem_set_unit.trans (Fin.forall_fin_one.trans ?_)
  rw [k0_off1_eq]
  show (base L ≤ (j 0).val ∧ (j 0).val < base L + 512) ↔ _
  have := base_eq L
  omega
theorem mem_out (j : S32x272.Idx) : j ∈ (outOf L).view.set ↔ (j 0).val = tileNo L := by
  show j ∈ (((oV).view.slice (Rect.unit (s := S32x272) _ S1x272.size (k0_off519_inb L))).reshape S272 squeezes_S1x272_S272.numel_eq).set ↔ _
  rw [View.set_reshape, show ((oV).view.slice (Rect.unit (s := S32x272) _ S1x272.size (k0_off519_inb L))).set = _ from View.set_slice_whole _ _]
  refine Rect.mem_set_unit.trans (Fin.forall_fin_two.trans ?_)
  have hj : (j 1).val < 272 := (j 1).isLt
  rw [k0_off519_eq]
  show ((tileNo L ≤ (j 0).val ∧ (j 0).val < tileNo L + 1) ∧ (0 ≤ (j 1).val ∧ (j 1).val < 0 + 272)) ↔ _
  omega

/-- The two slots are the two halves of a double buffer. -/
theorem mem_slot0 (j : S2x128x128.Idx) : j ∈ (slot0 bP).view.set ↔ (j 0).val = 0 := by
  show j ∈ (((bP).view.slice (Rect.unit (s := S2x128x128) ![0, 0, 0] S1x128x128.size inb_S2x128x128_S1x128x128_0_0_0)).reshape S128x128 squeezes_S1x128x128_S128x128.numel_eq).set ↔ _
  rw [View.set_reshape, show ((bP).view.slice (Rect.unit (s := S2x128x128) ![0, 0, 0] S1x128x128.size inb_S2x128x128_S1x128x128_0_0_0)).set = _ from View.set_slice_whole _ _]
  refine Rect.mem_set_unit.trans (Fin.forall_fin_succ.trans ((and_congr Iff.rfl Fin.forall_fin_two).trans ?_))
  have h1 : (j 1).val < 128 := (j 1).isLt
  have h2 : (j 2).val < 128 := (j 2).isLt
  show ((0 ≤ (j 0).val ∧ (j 0).val < 0 + 1) ∧ (0 ≤ (j 1).val ∧ (j 1).val < 0 + 128) ∧ (0 ≤ (j 2).val ∧ (j 2).val < 0 + 128)) ↔ _
  omega
theorem mem_slot1 (j : S2x128x128.Idx) : j ∈ (slot1 bP).view.set ↔ (j 0).val = 1 := by
  show j ∈ (((bP).view.slice (Rect.unit (s := S2x128x128) ![1, 0, 0] S1x128x128.size inb_S2x128x128_S1x128x128_1_0_0)).reshape S128x128 squeezes_S1x128x128_S128x128.numel_eq).set ↔ _
  rw [View.set_reshape, show ((bP).view.slice (Rect.unit (s := S2x128x128) ![1, 0, 0] S1x128x128.size inb_S2x128x128_S1x128x128_1_0_0)).set = _ from View.set_slice_whole _ _]
  refine Rect.mem_set_unit.trans (Fin.forall_fin_succ.trans ((and_congr Iff.rfl Fin.forall_fin_two).trans ?_))
  have h1 : (j 1).val < 128 := (j 1).isLt
  have h2 : (j 2).val < 128 := (j 2).isLt
  show ((1 ≤ (j 0).val ∧ (j 0).val < 1 + 1) ∧ (0 ≤ (j 1).val ∧ (j 1).val < 0 + 128) ∧ (0 ≤ (j 2).val ∧ (j 2).val < 0 + 128)) ↔ _
  omega
theorem tSlot0_eq : (slot0 bT).view.set = (slot0 bP).view.set :=
  (View.set_reshape _ _).trans (((View.set_slice_whole _ _).trans (View.set_slice_whole _ _).symm).trans (View.set_reshape _ _).symm)
theorem tSlot1_eq : (slot1 bT).view.set = (slot1 bP).view.set :=
  (View.set_reshape _ _).trans (((View.set_slice_whole _ _).trans (View.set_slice_whole _ _).symm).trans (View.set_reshape _ _).symm)

end Cert.KernelIdeal.Run
-- ==== Proof.Tile.lean ====
/- The body of a tile, from its pieces of the arrays to its row of results. -/
module

public import proofs.«01_k».proof.Proof.Pieces

@[expose] public section

noncomputable section

namespace Cert.KernelIdeal.Run

open Cert.KernelIdeal Cert.KernelIdeal.Gen Cert.KernelIdeal.Rows Cert.KernelIdeal.Model
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

-- the kernel's arrays, as the body names them
local notation "pV" => (Memref.whole Cert.KernelIdeal.main_arg0_scv : Memref Cert.KernelIdeal.sig Kind.scVector Space.hbm Cert.KernelIdeal.S16384x128 EltTy.f32)
local notation "tV" => (Memref.whole Cert.KernelIdeal.main_arg1_scv : Memref Cert.KernelIdeal.sig Kind.scVector Space.hbm Cert.KernelIdeal.S16384x128 EltTy.f32)
local notation "lV" => (Memref.whole Cert.KernelIdeal.main_arg2_scv : Memref Cert.KernelIdeal.sig Kind.scVector Space.hbm Cert.KernelIdeal.S16384 EltTy.i32)
local notation "oV" => (Memref.whole Cert.KernelIdeal.main_v0_scv : Memref Cert.KernelIdeal.sig Kind.scVector Space.hbm Cert.KernelIdeal.S32x272 EltTy.f32)
local notation "bP" => (Memref.whole Cert.KernelIdeal.cc0_scratch0 : Memref Cert.KernelIdeal.sig Kind.scVector Space.vmem Cert.KernelIdeal.S2x128x128 EltTy.f32)
local notation "bT" => (Memref.whole Cert.KernelIdeal.cc0_scratch1 : Memref Cert.KernelIdeal.sig Kind.scVector Space.vmem Cert.KernelIdeal.S2x128x128 EltTy.f32)
local notation "bL" => (Memref.whole Cert.KernelIdeal.cc0_scratch2 : Memref Cert.KernelIdeal.sig Kind.scVector Space.vmem Cert.KernelIdeal.S512 EltTy.i32)
local notation "bG" => (Memref.whole Cert.KernelIdeal.cc0_scratch3 : Memref Cert.KernelIdeal.sig Kind.scVector Space.vmem Cert.KernelIdeal.S272 EltTy.f32)

variable (d : Dev nD) (L : grid0.Coords)

/-- The loop of a chunk whose rows lie in slot 0, in the body's spelling. -/
theorem wp_slot0 {β : Type} (c : Fin 4) {w : BitVec 32} (hw : w = BitVec.ofNat 32 (128 * c.val)) (h : ∀ a, k0_off2 L w a + S128x128.size a ≤ S16384x128.size a)
    {P T : FVec F S16384x128 .f32} {lab : IVec S16384 32} (hs : Small lab) {g₀ : FVec F S272 .f32}
    {fp ft : FVec F S2x128x128 .f32} {fl : IVec S512 32}
    {lp : Scf.Loop 32} {hok : lp.OK} (h8 : lp.trips = 8) (body : Fin lp.trips → Acc F → TileProg F L (Acc F))
    (o : Fin lp.trips → Fin 1 → ℕ) (hi : ∀ t a, o t a + S16.size a ≤ S512.size a) (ho : ∀ t, o t = ![16 * t.val + 128 * c.val])
    {C : IVec S16 32 → Prop} {dec : ∀ v, Decidable (C v)} {hC : ∀ v, C v → InTable v} (hC' : ∀ v, InTable v → C v)
    (Rs : Fin lp.trips → List Row) (hR : ∀ t, ∀ R ∈ Rs t, R.r < 16 ∧ At R 0 (16 * t.val + R.r)) (hRs : ∀ t, (Rs t).map Row.r = List.range 16)
    (hb : ∀ t a, body t a = blkProg sP sT sL sG (k0_pay1515) (k0_pay1516) (k0_pay1517 (F := F)) (o t) (hi t) C dec hC (Rs t) a)
    {a : Acc F} {g : FVec F S272 .f32} (hag : (a, g) = tileSt P T lab (base L) g₀ (8 * c.val))
    {kk : Acc F → TileProg F L β} {Q : β → sProp 𝕄} :
    iprop(((slot0 bP).view.loc (thr d L) ↦[(slot0 bP).view.set]{fullShare} (slot0 bP).view.writes (Elt F) fp [⟨Rect.whole S128x128, (chunkOf L pV w h).view.read (Elt F) P⟩])
        ∗ ((slot0 bT).view.loc (thr d L) ↦[(slot0 bT).view.set]{fullShare} (slot0 bT).view.writes (Elt F) ft [⟨Rect.whole S128x128, (chunkOf L tV w h).view.read (Elt F) T⟩])
        ∗ ((bL).view.loc (thr d L) ↦{fullShare} (bL).view.write (Elt F) fl ((labsOf L).view.read (Elt F) lab) Finset.univ)
        ∗ ((bG).view.loc (thr d L) ↦{fullShare} g) : sProp 𝕄)
      ⊢ iprop((∀ a' : Acc F, ∀ g' : FVec F S272 .f32, (⌜(a', g') = tileSt P T lab (base L) g₀ (8 * c.val + 8)⌝
            ∗ ((slot0 bP).view.loc (thr d L) ↦[(slot0 bP).view.set]{fullShare} (slot0 bP).view.writes (Elt F) fp [⟨Rect.whole S128x128, (chunkOf L pV w h).view.read (Elt F) P⟩])
            ∗ ((slot0 bT).view.loc (thr d L) ↦[(slot0 bT).view.set]{fullShare} (slot0 bT).view.writes (Elt F) ft [⟨Rect.whole S128x128, (chunkOf L tV w h).view.read (Elt F) T⟩])
            ∗ ((bL).view.loc (thr d L) ↦{fullShare} (bL).view.write (Elt F) fl ((labsOf L).view.read (Elt F) lab) Finset.univ)
            ∗ ((bG).view.loc (thr d L) ↦{fullShare} g'))
          -∗ wp frame (wpE (defs₀ (F := F)) 𝒱₀ (thr d L) none) Set.univ (kk a') Q)
        -∗ wp frame (wpE (defs₀ (F := F)) 𝒱₀ (thr d L) none) Set.univ (Scf.Loop.for lp hok a body >>= kk) Q) :=
  wp_chunk (F := F) d L (b := 0) (c := c.val) (base := base L) (Zp := (slot0 bP).view.set) (Zt := (slot0 bT).view.set)
    (fun j hj => (mem_slot0 j).mpr hj) (fun j hj => by rw [tSlot0_eq]; exact (mem_slot0 j).mpr hj) hs (fp := (slot0 bP).view.writes (Elt F) fp [⟨Rect.whole S128x128, (chunkOf L pV w h).view.read (Elt F) P⟩])
    (ft := (slot0 bT).view.writes (Elt F) ft [⟨Rect.whole S128x128, (chunkOf L tV w h).view.read (Elt F) T⟩])
    (fl := (bL).view.write (Elt F) fl ((labsOf L).view.read (Elt F) lab) Finset.univ)
    (fun r k hr => p_slot0 L P fp c hw h r k hr) (fun r k hr => t_slot0 L T ft c hw h r k hr) (fun j => lab_fetch L lab fl j)
    hok h8 body o hi ho hC' Rs hR hRs hb hag

/-- The loop of a chunk whose rows lie in slot 1, in the body's spelling. -/
theorem wp_slot1 {β : Type} (c : Fin 4) {w : BitVec 32} (hw : w = BitVec.ofNat 32 (128 * c.val)) (h : ∀ a, k0_off2 L w a + S128x128.size a ≤ S16384x128.size a)
    {P T : FVec F S16384x128 .f32} {lab : IVec S16384 32} (hs : Small lab) {g₀ : FVec F S272 .f32}
    {fp ft : FVec F S2x128x128 .f32} {fl : IVec S512 32}
    {lp : Scf.Loop 32} {hok : lp.OK} (h8 : lp.trips = 8) (body : Fin lp.trips → Acc F → TileProg F L (Acc F))
    (o : Fin lp.trips → Fin 1 → ℕ) (hi : ∀ t a, o t a + S16.size a ≤ S512.size a) (ho : ∀ t, o t = ![16 * t.val + 128 * c.val])
    {C : IVec S16 32 → Prop} {dec : ∀ v, Decidable (C v)} {hC : ∀ v, C v → InTable v} (hC' : ∀ v, InTable v → C v)
    (Rs : Fin lp.trips → List Row) (hR : ∀ t, ∀ R ∈ Rs t, R.r < 16 ∧ At R 1 (16 * t.val + R.r)) (hRs : ∀ t, (Rs t).map Row.r = List.range 16)
    (hb : ∀ t a, body t a = blkProg sP sT sL sG (k0_pay1515) (k0_pay1516) (k0_pay1517 (F := F)) (o t) (hi t) C dec hC (Rs t) a)
    {a : Acc F} {g : FVec F S272 .f32} (hag : (a, g) = tileSt P T lab (base L) g₀ (8 * c.val))
    {kk : Acc F → TileProg F L β} {Q : β → sProp 𝕄} :
    iprop(((slot1 bP).view.loc (thr d L) ↦[(slot1 bP).view.set]{fullShare} (slot1 bP).view.writes (Elt F) fp [⟨Rect.whole S128x128, (chunkOf L pV w h).view.read (Elt F) P⟩])
        ∗ ((slot1 bT).view.loc (thr d L) ↦[(slot1 bT).view.set]{fullShare} (slot1 bT).view.writes (Elt F) ft [⟨Rect.whole S128x128, (chunkOf L tV w h).view.read (Elt F) T⟩])
        ∗ ((bL).view.loc (thr d L) ↦{fullShare} (bL).view.write (Elt F) fl ((labsOf L).view.read (Elt F) lab) Finset.univ)
        ∗ ((bG).view.loc (thr d L) ↦{fullShare} g) : sProp 𝕄)
      ⊢ iprop((∀ a' : Acc F, ∀ g' : FVec F S272 .f32, (⌜(a', g') = tileSt P T lab (base L) g₀ (8 * c.val + 8)⌝
            ∗ ((slot1 bP).view.loc (thr d L) ↦[(slot1 bP).view.set]{fullShare} (slot1 bP).view.writes (Elt F) fp [⟨Rect.whole S128x128, (chunkOf L pV w h).view.read (Elt F) P⟩])
            ∗ ((slot1 bT).view.loc (thr d L) ↦[(slot1 bT).view.set]{fullShare} (slot1 bT).view.writes (Elt F) ft [⟨Rect.whole S128x128, (chunkOf L tV w h).view.read (Elt F) T⟩])
            ∗ ((bL).view.loc (thr d L) ↦{fullShare} (bL).view.write (Elt F) fl ((labsOf L).view.read (Elt F) lab) Finset.univ)
            ∗ ((bG).view.loc (thr d L) ↦{fullShare} g'))
          -∗ wp frame (wpE (defs₀ (F := F)) 𝒱₀ (thr d L) none) Set.univ (kk a') Q)
        -∗ wp frame (wpE (defs₀ (F := F)) 𝒱₀ (thr d L) none) Set.univ (Scf.Loop.for lp hok a body >>= kk) Q) :=
  wp_chunk (F := F) d L (b := 1) (c := c.val) (base := base L) (Zp := (slot1 bP).view.set) (Zt := (slot1 bT).view.set)
    (fun j hj => (mem_slot1 j).mpr hj) (fun j hj => by rw [tSlot1_eq]; exact (mem_slot1 j).mpr hj) hs (fp := (slot1 bP).view.writes (Elt F) fp [⟨Rect.whole S128x128, (chunkOf L pV w h).view.read (Elt F) P⟩])
    (ft := (slot1 bT).view.writes (Elt F) ft [⟨Rect.whole S128x128, (chunkOf L tV w h).view.read (Elt F) T⟩])
    (fl := (bL).view.write (Elt F) fl ((labsOf L).view.read (Elt F) lab) Finset.univ)
    (fun r k hr => p_slot1 L P fp c hw h r k hr) (fun r k hr => t_slot1 L T ft c hw h r k hr) (fun j => lab_fetch L lab fl j)
    hok h8 body o hi ho hC' Rs hR hRs hb hag

/-- The tile's stores of zeros, newest first. -/
abbrev zeroStores : List (View.Piece (Elt F) S272 .f32) :=
  [⟨Rect.unit (s := S272) ![256] S16.size inb_S272_S16_256, k0_pay1514⟩,
    ⟨Rect.unit (s := S272) ![240] S16.size inb_S272_S16_240, k0_pay1514⟩,
    ⟨Rect.unit (s := S272) ![224] S16.size inb_S272_S16_224, k0_pay1514⟩,
    ⟨Rect.unit (s := S272) ![208] S16.size inb_S272_S16_208, k0_pay1514⟩,
    ⟨Rect.unit (s := S272) ![192] S16.size inb_S272_S16_192, k0_pay1514⟩,
    ⟨Rect.unit (s := S272) ![176] S16.size inb_S272_S16_176, k0_pay1514⟩,
    ⟨Rect.unit (s := S272) ![160] S16.size inb_S272_S16_160, k0_pay1514⟩,
    ⟨Rect.unit (s := S272) ![144] S16.size inb_S272_S16_144, k0_pay1514⟩,
    ⟨Rect.unit (s := S272) ![128] S16.size inb_S272_S16_128, k0_pay1514⟩,
    ⟨Rect.unit (s := S272) ![112] S16.size inb_S272_S16_112, k0_pay1514⟩,
    ⟨Rect.unit (s := S272) ![96] S16.size inb_S272_S16_96, k0_pay1514⟩,
    ⟨Rect.unit (s := S272) ![80] S16.size inb_S272_S16_80, k0_pay1514⟩,
    ⟨Rect.unit (s := S272) ![64] S16.size inb_S272_S16_64, k0_pay1514⟩,
    ⟨Rect.unit (s := S272) ![48] S16.size inb_S272_S16_48, k0_pay1514⟩,
    ⟨Rect.unit (s := S272) ![32] S16.size inb_S272_S16_32, k0_pay1514⟩,
    ⟨Rect.unit (s := S272) ![16] S16.size inb_S272_S16_16, k0_pay1514⟩]

/-- The tile's stores of zeros clear the table from its second line on. -/
theorem cleared_zeros (f : FVec F S272 .f32) : Cleared (F := F) ((bG).view.writes (Elt F) f (zeroStores (F := F)) : FVec F S272 .f32) := by
  intro j hj
  have hlt : (j 0).val < 272 := (j 0).isLt
  show (bG).view.read (Elt F) ((bG).view.writes (Elt F) f (zeroStores (F := F))) j = _
  refine View.read_writes_apply_of_pieces (Val := Elt F) (bG).view f (fun _ => (k0_pay1514 (F := F) (lane (j 0).val) : Elt F .f32)) _ ?_ j ?_
  · intro p hp x
    fin_cases hp <;> rfl
  · have hk : ∀ n (h : ∀ a, (![n] : Fin 1 → ℕ) a + S16.size a ≤ S272.size a), n ≤ (j 0).val → (j 0).val < n + 16 → j ∈ (Rect.unit (s := S272) ![n] S16.size h).set :=
      fun n h h1 h2 => Rect.mem_set_unit.mpr (Fin.forall_fin_one.mpr ⟨h1, h2⟩)
    have hq : 1 ≤ (j 0).val / 16 ∧ (j 0).val / 16 ≤ 16 := by omega
    obtain ⟨q, hq'⟩ : ∃ q, q = (j 0).val / 16 := ⟨_, rfl⟩
    rw [← hq'] at hq
    obtain ⟨hq1, hq2⟩ := hq
    rcases (show q = 1 ∨ q = 2 ∨ q = 3 ∨ q = 4 ∨ q = 5 ∨ q = 6 ∨ q = 7 ∨ q = 8 ∨ q = 9 ∨ q = 10 ∨ q = 11 ∨ q = 12 ∨ q = 13 ∨ q = 14 ∨ q = 15 ∨ q = 16 by omega) with rfl | rfl | rfl | rfl | rfl | rfl | rfl | rfl | rfl | rfl | rfl | rfl | rfl | rfl | rfl | rfl
    · exact ⟨(zeroStores (F := F))[15], List.getElem_mem _, hk 16 inb_S272_S16_16 (by omega) (by omega)⟩
    · exact ⟨(zeroStores (F := F))[14], List.getElem_mem _, hk 32 inb_S272_S16_32 (by omega) (by omega)⟩
    · exact ⟨(zeroStores (F := F))[13], List.getElem_mem _, hk 48 inb_S272_S16_48 (by omega) (by omega)⟩
    · exact ⟨(zeroStores (F := F))[12], List.getElem_mem _, hk 64 inb_S272_S16_64 (by omega) (by omega)⟩
    · exact ⟨(zeroStores (F := F))[11], List.getElem_mem _, hk 80 inb_S272_S16_80 (by omega) (by omega)⟩
    · exact ⟨(zeroStores (F := F))[10], List.getElem_mem _, hk 96 inb_S272_S16_96 (by omega) (by omega)⟩
    · exact ⟨(zeroStores (F := F))[9], List.getElem_mem _, hk 112 inb_S272_S16_112 (by omega) (by omega)⟩
    · exact ⟨(zeroStores (F := F))[8], List.getElem_mem _, hk 128 inb_S272_S16_128 (by omega) (by omega)⟩
    · exact ⟨(zeroStores (F := F))[7], List.getElem_mem _, hk 144 inb_S272_S16_144 (by omega) (by omega)⟩
    · exact ⟨(zeroStores (F := F))[6], List.getElem_mem _, hk 160 inb_S272_S16_160 (by omega) (by omega)⟩
    · exact ⟨(zeroStores (F := F))[5], List.getElem_mem _, hk 176 inb_S272_S16_176 (by omega) (by omega)⟩
    · exact ⟨(zeroStores (F := F))[4], List.getElem_mem _, hk 192 inb_S272_S16_192 (by omega) (by omega)⟩
    · exact ⟨(zeroStores (F := F))[3], List.getElem_mem _, hk 208 inb_S272_S16_208 (by omega) (by omega)⟩
    · exact ⟨(zeroStores (F := F))[2], List.getElem_mem _, hk 224 inb_S272_S16_224 (by omega) (by omega)⟩
    · exact ⟨(zeroStores (F := F))[1], List.getElem_mem _, hk 240 inb_S272_S16_240 (by omega) (by omega)⟩
    · exact ⟨(zeroStores (F := F))[0], List.getElem_mem _, hk 256 inb_S272_S16_256 (by omega) (by omega)⟩

/-- A table the zeros were stored to is a cleared table. -/
theorem zeros_pts (f : FVec F S272 .f32) :
    ((bG).view.loc (thr d L) ↦{fullShare} (bG).view.writes (Elt F) f (zeroStores (F := F)) : sProp 𝕄)
      ⊢ iprop(∃ g₀ : FVec F S272 .f32, ⌜Cleared (F := F) g₀⌝ ∗ ((bG).view.loc (thr d L) ↦{fullShare} g₀)) := by
  iintro H
  iexists _
  isplitr; · ipureintro; exact cleared_zeros f
  iexact H

/-- The row of results a tile copies out is the model's. -/
theorem out_eq {P T : FVec F S16384x128 .f32} {lab : IVec S16384 32} {g₀ g : FVec F S272 .f32} {f : FVec F S32x272 .f32} {v0 v1 v2 v3 v4 v5 v6 v7 : FVec F S16 .f32}
    (h : ((v0, v1, v2, v3, v4, v5, v6, v7), g) = tileSt P T lab (base L) g₀ 32) :
    (outOf L).view.read (Elt F) ((outOf L).view.writes (Elt F) f [⟨Rect.whole S272, (bG).view.read (Elt F)
      ((bG).view.writes (Elt F) g [⟨Rect.unit (s := S272) ![0] S16.size inb_S272_S16_0, k0_pay1 v0 v1 v2 v3 v4 v5 v6 v7⟩])⟩]) = outRow P T lab (base L) g₀ := by
  rw [View.read_writes_whole]
  have h1 : (v0, v1, v2, v3, v4, v5, v6, v7) = (tileSt P T lab (base L) g₀ 32).1 := congrArg Prod.fst h
  have h2 : g = (tileSt P T lab (base L) g₀ 32).2 := congrArg Prod.snd h
  funext y
  unfold outRow
  simp only [← h1, ← h2]
  by_cases hy : (y 0).val < 16
  · rw [if_pos hy]
    refine (View.read_writes_cons_hit_of_coords (Val := Elt F) (bG).view g (Rect.unit (s := S272) ![0] S16.size inb_S272_S16_0) _ [] (lane (y 0).val) y ?_).trans rfl
    intro a
    fin_cases a
    show (y 0).val = 0 + 1 * ((y 0).val % 16)
    omega
  · rw [if_neg hy]
    exact View.read_writes_cons_miss_of_axis (Val := Elt F) (bG).view g ⟨Rect.unit (s := S272) ![0] S16.size inb_S272_S16_0, _⟩ [] y 0 0 16 rfl rfl rfl (.inr (by omega))

/-- Loop 1 of the body: chunk 0, in slot 0. -/
theorem wp_loop1 {β : Type} {P T : FVec F S16384x128 .f32} {lab : IVec S16384 32} (hs : Small lab) {g₀ : FVec F S272 .f32} {fp ft : FVec F S2x128x128 .f32} {fl : IVec S512 32} {v2 : BitVec 32}
    {a : Acc F} {g : FVec F S272 .f32} (hag : (a, g) = tileSt P T lab (base L) g₀ 0) {hok : k0_t1_loop.OK} {kk : Acc F → TileProg F L β} {Q : β → sProp 𝕄} :
    iprop(((slot0 bP).view.loc (thr d L) ↦[(slot0 bP).view.set]{fullShare} (slot0 bP).view.writes (Elt F) fp [⟨Rect.whole S128x128, (chunkOf L pV 0#32 (k0_off2_inb L 0)).view.read (Elt F) P⟩]) ∗ ((slot0 bT).view.loc (thr d L) ↦[(slot0 bT).view.set]{fullShare} (slot0 bT).view.writes (Elt F) ft [⟨Rect.whole S128x128, (chunkOf L tV 0#32 (k0_off2_inb L 0)).view.read (Elt F) T⟩])
        ∗ ((bL).view.loc (thr d L) ↦{fullShare} (bL).view.write (Elt F) fl ((labsOf L).view.read (Elt F) lab) Finset.univ) ∗ ((bG).view.loc (thr d L) ↦{fullShare} g) : sProp 𝕄)
      ⊢ iprop((∀ a' : Acc F, ∀ g' : FVec F S272 .f32, (⌜(a', g') = tileSt P T lab (base L) g₀ 8⌝ ∗ ((slot0 bP).view.loc (thr d L) ↦[(slot0 bP).view.set]{fullShare} (slot0 bP).view.writes (Elt F) fp [⟨Rect.whole S128x128, (chunkOf L pV 0#32 (k0_off2_inb L 0)).view.read (Elt F) P⟩]) ∗ ((slot0 bT).view.loc (thr d L) ↦[(slot0 bT).view.set]{fullShare} (slot0 bT).view.writes (Elt F) ft [⟨Rect.whole S128x128, (chunkOf L tV 0#32 (k0_off2_inb L 0)).view.read (Elt F) T⟩])
            ∗ ((bL).view.loc (thr d L) ↦{fullShare} (bL).view.write (Elt F) fl ((labsOf L).view.read (Elt F) lab) Finset.univ) ∗ ((bG).view.loc (thr d L) ↦{fullShare} g'))
          -∗ wp frame (wpE (defs₀ (F := F)) 𝒱₀ (thr d L) none) Set.univ (kk a') Q)
        -∗ wp frame (wpE (defs₀ (F := F)) 𝒱₀ (thr d L) none) Set.univ (Scf.Loop.for k0_t1_loop hok a (k0_t1_body (F := F) L pV (Memref.isWhole_whole _) tV (Memref.isWhole_whole _) lV (Memref.isWhole_whole _) oV (Memref.isWhole_whole _)
    bP (Memref.isWhole_whole _) bT (Memref.isWhole_whole _) bL (Memref.isWhole_whole _) bG (Memref.isWhole_whole _) cc0_scratch4 cc0_scratch5 cc0_scoped0 cc0_scoped1 v2 k0_pay1514 k0_pay1515 k0_pay1516 (k0_pay1517 (F := F))) >>= kk) Q) :=
  wp_slot0 (F := F) d L 0 rfl (k0_off2_inb L 0) hs (by decide +kernel) _ k0_off3 k0_off3_inb (fun t => k0_off3_eq t) (C := k0_chk1) (dec := k0_chk1.dec) (hC := k0_idx1_inb)
    (fun v hv => hv) rows1 rows1_at rows1_r (fun t a => t1_body_eq (F := F) L _ _ _ _ _ _ _ _ _ _ _ _ _ _ _ _ _ _ _ _ _ _ _ _ _ t a) hag

/-- Loop 2 of the body: chunk 1, in slot 1. -/
theorem wp_loop2 {β : Type} {P T : FVec F S16384x128 .f32} {lab : IVec S16384 32} (hs : Small lab) {g₀ : FVec F S272 .f32} {fp ft : FVec F S2x128x128 .f32} {fl : IVec S512 32} {v2 : BitVec 32} {u0 u1 u2 u3 u4 u5 u6 u7 : FVec F S16 .f32}
    {a : Acc F} {g : FVec F S272 .f32} (hag : (a, g) = tileSt P T lab (base L) g₀ 8) {hok : k0_t2_loop.OK} {kk : Acc F → TileProg F L β} {Q : β → sProp 𝕄} :
    iprop(((slot1 bP).view.loc (thr d L) ↦[(slot1 bP).view.set]{fullShare} (slot1 bP).view.writes (Elt F) fp [⟨Rect.whole S128x128, (chunkOf L pV 128#32 (k0_off2_inb L 1)).view.read (Elt F) P⟩]) ∗ ((slot1 bT).view.loc (thr d L) ↦[(slot1 bT).view.set]{fullShare} (slot1 bT).view.writes (Elt F) ft [⟨Rect.whole S128x128, (chunkOf L tV 128#32 (k0_off2_inb L 1)).view.read (Elt F) T⟩])
        ∗ ((bL).view.loc (thr d L) ↦{fullShare} (bL).view.write (Elt F) fl ((labsOf L).view.read (Elt F) lab) Finset.univ) ∗ ((bG).view.loc (thr d L) ↦{fullShare} g) : sProp 𝕄)
      ⊢ iprop((∀ a' : Acc F, ∀ g' : FVec F S272 .f32, (⌜(a', g') = tileSt P T lab (base L) g₀ 16⌝ ∗ ((slot1 bP).view.loc (thr d L) ↦[(slot1 bP).view.set]{fullShare} (slot1 bP).view.writes (Elt F) fp [⟨Rect.whole S128x128, (chunkOf L pV 128#32 (k0_off2_inb L 1)).view.read (Elt F) P⟩]) ∗ ((slot1 bT).view.loc (thr d L) ↦[(slot1 bT).view.set]{fullShare} (slot1 bT).view.writes (Elt F) ft [⟨Rect.whole S128x128, (chunkOf L tV 128#32 (k0_off2_inb L 1)).view.read (Elt F) T⟩])
            ∗ ((bL).view.loc (thr d L) ↦{fullShare} (bL).view.write (Elt F) fl ((labsOf L).view.read (Elt F) lab) Finset.univ) ∗ ((bG).view.loc (thr d L) ↦{fullShare} g'))
          -∗ wp frame (wpE (defs₀ (F := F)) 𝒱₀ (thr d L) none) Set.univ (kk a') Q)
        -∗ wp frame (wpE (defs₀ (F := F)) 𝒱₀ (thr d L) none) Set.univ (Scf.Loop.for k0_t2_loop hok a (k0_t2_body (F := F) L pV (Memref.isWhole_whole _) tV (Memref.isWhole_whole _) lV (Memref.isWhole_whole _) oV (Memref.isWhole_whole _)
    bP (Memref.isWhole_whole _) bT (Memref.isWhole_whole _) bL (Memref.isWhole_whole _) bG (Memref.isWhole_whole _) cc0_scratch4 cc0_scratch5 cc0_scoped0 cc0_scoped1 v2 k0_pay1515 k0_pay1516 (k0_pay1517 (F := F)) u0 u1 u2 u3 u4 u5 u6 u7) >>= kk) Q) :=
  wp_slot1 (F := F) d L 1 rfl (k0_off2_inb L 1) hs (by decide +kernel) _ k0_off132 k0_off132_inb (fun t => k0_off132_eq t) (C := k0_chk18) (dec := k0_chk18.dec) (hC := k0_idx18_inb)
    (fun v hv => hv) rows2 rows2_at rows2_r (fun t a => t2_body_eq (F := F) L _ _ _ _ _ _ _ _ _ _ _ _ _ _ _ _ _ _ _ _ _ _ _ _ _ _ _ _ _ _ _ _ t a) hag

/-- Loop 3 of the body: chunk 2, in slot 0. -/
theorem wp_loop3 {β : Type} {P T : FVec F S16384x128 .f32} {lab : IVec S16384 32} (hs : Small lab) {g₀ : FVec F S272 .f32} {fp ft : FVec F S2x128x128 .f32} {fl : IVec S512 32} {v2 : BitVec 32} {u0 u1 u2 u3 u4 u5 u6 u7 : FVec F S16 .f32}
    {a : Acc F} {g : FVec F S272 .f32} (hag : (a, g) = tileSt P T lab (base L) g₀ 16) {hok : k0_t3_loop.OK} {kk : Acc F → TileProg F L β} {Q : β → sProp 𝕄} :
    iprop(((slot0 bP).view.loc (thr d L) ↦[(slot0 bP).view.set]{fullShare} (slot0 bP).view.writes (Elt F) fp [⟨Rect.whole S128x128, (chunkOf L pV 256#32 (k0_off2_inb L 2)).view.read (Elt F) P⟩]) ∗ ((slot0 bT).view.loc (thr d L) ↦[(slot0 bT).view.set]{fullShare} (slot0 bT).view.writes (Elt F) ft [⟨Rect.whole S128x128, (chunkOf L tV 256#32 (k0_off2_inb L 2)).view.read (Elt F) T⟩])
        ∗ ((bL).view.loc (thr d L) ↦{fullShare} (bL).view.write (Elt F) fl ((labsOf L).view.read (Elt F) lab) Finset.univ) ∗ ((bG).view.loc (thr d L) ↦{fullShare} g) : sProp 𝕄)
      ⊢ iprop((∀ a' : Acc F, ∀ g' : FVec F S272 .f32, (⌜(a', g') = tileSt P T lab (base L) g₀ 24⌝ ∗ ((slot0 bP).view.loc (thr d L) ↦[(slot0 bP).view.set]{fullShare} (slot0 bP).view.writes (Elt F) fp [⟨Rect.whole S128x128, (chunkOf L pV 256#32 (k0_off2_inb L 2)).view.read (Elt F) P⟩]) ∗ ((slot0 bT).view.loc (thr d L) ↦[(slot0 bT).view.set]{fullShare} (slot0 bT).view.writes (Elt F) ft [⟨Rect.whole S128x128, (chunkOf L tV 256#32 (k0_off2_inb L 2)).view.read (Elt F) T⟩])
            ∗ ((bL).view.loc (thr d L) ↦{fullShare} (bL).view.write (Elt F) fl ((labsOf L).view.read (Elt F) lab) Finset.univ) ∗ ((bG).view.loc (thr d L) ↦{fullShare} g'))
          -∗ wp frame (wpE (defs₀ (F := F)) 𝒱₀ (thr d L) none) Set.univ (kk a') Q)
        -∗ wp frame (wpE (defs₀ (F := F)) 𝒱₀ (thr d L) none) Set.univ (Scf.Loop.for k0_t3_loop hok a (k0_t3_body (F := F) L pV (Memref.isWhole_whole _) tV (Memref.isWhole_whole _) lV (Memref.isWhole_whole _) oV (Memref.isWhole_whole _)
    bP (Memref.isWhole_whole _) bT (Memref.isWhole_whole _) bL (Memref.isWhole_whole _) bG (Memref.isWhole_whole _) cc0_scratch4 cc0_scratch5 cc0_scoped0 cc0_scoped1 v2 k0_pay1515 k0_pay1516 (k0_pay1517 (F := F)) u0 u1 u2 u3 u4 u5 u6 u7) >>= kk) Q) :=
  wp_slot0 (F := F) d L 2 rfl (k0_off2_inb L 2) hs (by decide +kernel) _ k0_off261 k0_off261_inb (fun t => k0_off261_eq t) (C := k0_chk35) (dec := k0_chk35.dec) (hC := k0_idx35_inb)
    (fun v hv => hv) rows3 rows3_at rows3_r (fun t a => t3_body_eq (F := F) L _ _ _ _ _ _ _ _ _ _ _ _ _ _ _ _ _ _ _ _ _ _ _ _ _ _ _ _ _ _ _ _ t a) hag

/-- Loop 4 of the body: chunk 3, in slot 1. -/
theorem wp_loop4 {β : Type} {P T : FVec F S16384x128 .f32} {lab : IVec S16384 32} (hs : Small lab) {g₀ : FVec F S272 .f32} {fp ft : FVec F S2x128x128 .f32} {fl : IVec S512 32}
    {a : Acc F} {g : FVec F S272 .f32} (hag : (a, g) = tileSt P T lab (base L) g₀ 24) {hok : k0_t4_loop.OK} {kk : Acc F → TileProg F L β} {Q : β → sProp 𝕄} :
    iprop(((slot1 bP).view.loc (thr d L) ↦[(slot1 bP).view.set]{fullShare} (slot1 bP).view.writes (Elt F) fp [⟨Rect.whole S128x128, (chunkOf L pV 384#32 (k0_off2_inb L 3)).view.read (Elt F) P⟩]) ∗ ((slot1 bT).view.loc (thr d L) ↦[(slot1 bT).view.set]{fullShare} (slot1 bT).view.writes (Elt F) ft [⟨Rect.whole S128x128, (chunkOf L tV 384#32 (k0_off2_inb L 3)).view.read (Elt F) T⟩])
        ∗ ((bL).view.loc (thr d L) ↦{fullShare} (bL).view.write (Elt F) fl ((labsOf L).view.read (Elt F) lab) Finset.univ) ∗ ((bG).view.loc (thr d L) ↦{fullShare} g) : sProp 𝕄)
      ⊢ iprop((∀ a' : Acc F, ∀ g' : FVec F S272 .f32, (⌜(a', g') = tileSt P T lab (base L) g₀ 32⌝ ∗ ((slot1 bP).view.loc (thr d L) ↦[(slot1 bP).view.set]{fullShare} (slot1 bP).view.writes (Elt F) fp [⟨Rect.whole S128x128, (chunkOf L pV 384#32 (k0_off2_inb L 3)).view.read (Elt F) P⟩]) ∗ ((slot1 bT).view.loc (thr d L) ↦[(slot1 bT).view.set]{fullShare} (slot1 bT).view.writes (Elt F) ft [⟨Rect.whole S128x128, (chunkOf L tV 384#32 (k0_off2_inb L 3)).view.read (Elt F) T⟩])
            ∗ ((bL).view.loc (thr d L) ↦{fullShare} (bL).view.write (Elt F) fl ((labsOf L).view.read (Elt F) lab) Finset.univ) ∗ ((bG).view.loc (thr d L) ↦{fullShare} g'))
          -∗ wp frame (wpE (defs₀ (F := F)) 𝒱₀ (thr d L) none) Set.univ (kk a') Q)
        -∗ wp frame (wpE (defs₀ (F := F)) 𝒱₀ (thr d L) none) Set.univ (Scf.Loop.for k0_t4_loop hok a (k0_t4_body (F := F) L pV (Memref.isWhole_whole _) tV (Memref.isWhole_whole _) lV (Memref.isWhole_whole _) oV (Memref.isWhole_whole _)
    bP (Memref.isWhole_whole _) bT (Memref.isWhole_whole _) bL (Memref.isWhole_whole _) bG (Memref.isWhole_whole _) cc0_scratch4 cc0_scratch5 cc0_scoped0 cc0_scoped1 k0_pay1515 k0_pay1516 (k0_pay1517 (F := F))) >>= kk) Q) :=
  wp_slot1 (F := F) d L 3 rfl (k0_off2_inb L 3) hs (by decide +kernel) _ k0_off390 k0_off390_inb (fun t => k0_off390_eq t) (C := k0_chk52) (dec := k0_chk52.dec) (hC := k0_idx52_inb)
    (fun v hv => hv) rows4 rows4_at rows4_r (fun t a => t4_body_eq (F := F) L _ _ _ _ _ _ _ _ _ _ _ _ _ _ _ _ _ _ _ _ _ _ _ t a) hag

/-- The body of a tile, from its pieces of the arrays, its buffers and its semaphores: the pieces it reads are unchanged, and its row
    of the results is the model's from some cleared table. -/
theorem body_run (O : CellTallies nD τ sig (HIx 1)) (W : Waits sig (HIx 1)) (P T : FVec F S16384x128 .f32) (lab : IVec S16384 32) (hs : Small lab)
    (o₀ : FVec F S32x272 .f32) (gP gT : FVec F S2x128x128 .f32) (gL : IVec S512 32) (gG : FVec F S272 .f32) :
    iprop(((chunkOf L pV 0#32 (k0_off2_inb L 0)).view.loc (thr d L) ↦[(chunkOf L pV 0#32 (k0_off2_inb L 0)).view.set]{fullShare} P)
      ∗ ((chunkOf L pV 128#32 (k0_off2_inb L 1)).view.loc (thr d L) ↦[(chunkOf L pV 128#32 (k0_off2_inb L 1)).view.set]{fullShare} P)
      ∗ ((chunkOf L pV 256#32 (k0_off2_inb L 2)).view.loc (thr d L) ↦[(chunkOf L pV 256#32 (k0_off2_inb L 2)).view.set]{fullShare} P)
      ∗ ((chunkOf L pV 384#32 (k0_off2_inb L 3)).view.loc (thr d L) ↦[(chunkOf L pV 384#32 (k0_off2_inb L 3)).view.set]{fullShare} P)
      ∗ ((chunkOf L tV 0#32 (k0_off2_inb L 0)).view.loc (thr d L) ↦[(chunkOf L tV 0#32 (k0_off2_inb L 0)).view.set]{fullShare} T)
      ∗ ((chunkOf L tV 128#32 (k0_off2_inb L 1)).view.loc (thr d L) ↦[(chunkOf L tV 128#32 (k0_off2_inb L 1)).view.set]{fullShare} T)
      ∗ ((chunkOf L tV 256#32 (k0_off2_inb L 2)).view.loc (thr d L) ↦[(chunkOf L tV 256#32 (k0_off2_inb L 2)).view.set]{fullShare} T)
      ∗ ((chunkOf L tV 384#32 (k0_off2_inb L 3)).view.loc (thr d L) ↦[(chunkOf L tV 384#32 (k0_off2_inb L 3)).view.set]{fullShare} T)
      ∗ ((labsOf L).view.loc (thr d L) ↦[(labsOf L).view.set]{fullShare} lab)
      ∗ ((outOf L).view.loc (thr d L) ↦[(outOf L).view.set]{fullShare} o₀)
      ∗ ((slot0 bP).view.loc (thr d L) ↦[(slot0 bP).view.set]{fullShare} gP)
      ∗ ((slot1 bP).view.loc (thr d L) ↦[(slot1 bP).view.set]{fullShare} gP)
      ∗ ((slot0 bT).view.loc (thr d L) ↦[(slot0 bT).view.set]{fullShare} gT)
      ∗ ((slot1 bT).view.loc (thr d L) ↦[(slot1 bT).view.set]{fullShare} gT)
      ∗ ((bL).view.loc (thr d L) ↦{fullShare} gL)
      ∗ ((bG).view.loc (thr d L) ↦{fullShare} gG)
      ∗ semVal ((thr d L, .dma cc0_scratch4.sem) : GSem nD τ sig) 0 ∗ semVal ((thr d L, .dma cc0_scratch5.sem) : GSem nD τ sig) 0
      ∗ semVal ((thr d L, .dma cc0_scoped0.sem) : GSem nD τ sig) 0 ∗ semVal ((thr d L, .dma cc0_scoped1.sem) : GSem nD τ sig) 0
      ∗ Transfers.MayWaits (thr d L) (default : HIx 1) O ∗ owes (thr d L) O W)
      ⊢ wp frame (wpE (defs₀ (F := F)) 𝒱₀ (thr d L) none) Set.univ
          (cc0__sc_body L pV (Memref.isWhole_whole _) tV (Memref.isWhole_whole _) lV (Memref.isWhole_whole _) oV (Memref.isWhole_whole _)
            bP (Memref.isWhole_whole _) bT (Memref.isWhole_whole _) bL (Memref.isWhole_whole _) bG (Memref.isWhole_whole _)
            cc0_scratch4 cc0_scratch5 cc0_scoped0 cc0_scoped1)
          fun _ => iprop(((chunkOf L pV 0#32 (k0_off2_inb L 0)).view.loc (thr d L) ↦[(chunkOf L pV 0#32 (k0_off2_inb L 0)).view.set]{fullShare} P)
      ∗ ((chunkOf L pV 128#32 (k0_off2_inb L 1)).view.loc (thr d L) ↦[(chunkOf L pV 128#32 (k0_off2_inb L 1)).view.set]{fullShare} P)
      ∗ ((chunkOf L pV 256#32 (k0_off2_inb L 2)).view.loc (thr d L) ↦[(chunkOf L pV 256#32 (k0_off2_inb L 2)).view.set]{fullShare} P)
      ∗ ((chunkOf L pV 384#32 (k0_off2_inb L 3)).view.loc (thr d L) ↦[(chunkOf L pV 384#32 (k0_off2_inb L 3)).view.set]{fullShare} P)
      ∗ ((chunkOf L tV 0#32 (k0_off2_inb L 0)).view.loc (thr d L) ↦[(chunkOf L tV 0#32 (k0_off2_inb L 0)).view.set]{fullShare} T)
      ∗ ((chunkOf L tV 128#32 (k0_off2_inb L 1)).view.loc (thr d L) ↦[(chunkOf L tV 128#32 (k0_off2_inb L 1)).view.set]{fullShare} T)
      ∗ ((chunkOf L tV 256#32 (k0_off2_inb L 2)).view.loc (thr d L) ↦[(chunkOf L tV 256#32 (k0_off2_inb L 2)).view.set]{fullShare} T)
      ∗ ((chunkOf L tV 384#32 (k0_off2_inb L 3)).view.loc (thr d L) ↦[(chunkOf L tV 384#32 (k0_off2_inb L 3)).view.set]{fullShare} T)
      ∗ ((labsOf L).view.loc (thr d L) ↦[(labsOf L).view.set]{fullShare} lab)
      ∗ (∃ f : FVec F S32x272 .f32, ⌜∃ g₀, Cleared (F := F) g₀ ∧ (outOf L).view.read (Elt F) f = outRow P T lab (base L) g₀⌝
          ∗ ((outOf L).view.loc (thr d L) ↦[(outOf L).view.set]{fullShare} f))
      ∗ (∃ f : FVec F S2x128x128 .f32, (slot0 bP).view.loc (thr d L) ↦[(slot0 bP).view.set]{fullShare} f)
      ∗ (∃ f : FVec F S2x128x128 .f32, (slot1 bP).view.loc (thr d L) ↦[(slot1 bP).view.set]{fullShare} f)
      ∗ (∃ f : FVec F S2x128x128 .f32, (slot0 bT).view.loc (thr d L) ↦[(slot0 bT).view.set]{fullShare} f)
      ∗ (∃ f : FVec F S2x128x128 .f32, (slot1 bT).view.loc (thr d L) ↦[(slot1 bT).view.set]{fullShare} f)
      ∗ (∃ f : IVec S512 32, (bL).view.loc (thr d L) ↦{fullShare} f)
      ∗ (∃ f : FVec F S272 .f32, (bG).view.loc (thr d L) ↦{fullShare} f)
      ∗ semVal ((thr d L, .dma cc0_scratch4.sem) : GSem nD τ sig) 0 ∗ semVal ((thr d L, .dma cc0_scratch5.sem) : GSem nD τ sig) 0
      ∗ semVal ((thr d L, .dma cc0_scoped0.sem) : GSem nD τ sig) 0 ∗ semVal ((thr d L, .dma cc0_scoped1.sem) : GSem nD τ sig) 0
      ∗ ∃ W' : Waits sig (HIx 1), owes (thr d L) O W' : sProp 𝕄) := by
  iintro ⟨Hp0, Hp1, Hp2, Hp3, Ht0, Ht1, Ht2, Ht3, Hl, Ho, HP0, HP1, HT0, HT1, HL, HG, HsA, HsB, HsC, HsD, Hmw, HO⟩
  sl_unfold [cc0__sc_body]
  sl_exec (disch := exact View.amount_pos _ _ (show 0 < S128x128.numel by decide))
  ihave HG := (zeros_pts (F := F) d L gG) $$ HG
  icases HG with ⟨%g₀, %hg₀, HG⟩
  iapply (wp_loop1 (F := F) d L (P := P) (T := T) (lab := lab) hs (g₀ := g₀) rfl) $$ [HP0 HT0 HL HG]
  · isplitl [HP0]; · iexact HP0
    isplitl [HT0]; · iexact HT0
    isplitl [HL]; · iexact HL
    iexact HG
  iintro %a0 %g0 ⟨%hag0, HP0, HT0, HL, HG⟩
  obtain ⟨x00, x01, x02, x03, x04, x05, x06, x07⟩ := a0
  sl_exec (disch := exact View.amount_pos _ _ (show 0 < S128x128.numel by decide))
  iapply (wp_loop2 (F := F) d L (P := P) (T := T) (lab := lab) hs (g₀ := g₀) hag0) $$ [HP1 HT1 HL HG]
  · isplitl [HP1]; · iexact HP1
    isplitl [HT1]; · iexact HT1
    isplitl [HL]; · iexact HL
    iexact HG
  iintro %a1 %g1 ⟨%hag1, HP1, HT1, HL, HG⟩
  obtain ⟨x10, x11, x12, x13, x14, x15, x16, x17⟩ := a1
  sl_exec (disch := exact View.amount_pos _ _ (show 0 < S128x128.numel by decide))
  iapply (wp_loop3 (F := F) d L (P := P) (T := T) (lab := lab) hs (g₀ := g₀) hag1) $$ [HP0 HT0 HL HG]
  · isplitl [HP0]; · iexact HP0
    isplitl [HT0]; · iexact HT0
    isplitl [HL]; · iexact HL
    iexact HG
  iintro %a2 %g2 ⟨%hag2, HP0, HT0, HL, HG⟩
  obtain ⟨x20, x21, x22, x23, x24, x25, x26, x27⟩ := a2
  sl_exec (disch := exact View.amount_pos _ _ (show 0 < S128x128.numel by decide))
  iapply (wp_loop4 (F := F) d L (P := P) (T := T) (lab := lab) hs (g₀ := g₀) hag2) $$ [HP1 HT1 HL HG]
  · isplitl [HP1]; · iexact HP1
    isplitl [HT1]; · iexact HT1
    isplitl [HL]; · iexact HL
    iexact HG
  iintro %a3 %g3 ⟨%hag3, HP1, HT1, HL, HG⟩
  obtain ⟨x30, x31, x32, x33, x34, x35, x36, x37⟩ := a3
  sl_exec (disch := exact View.amount_pos _ _ (show 0 < S128x128.numel by decide))
  sl_step
  isplitl [Hp0]; · iexact Hp0
  isplitl [Hp1]; · iexact Hp1
  isplitl [Hp2]; · iexact Hp2
  isplitl [Hp3]; · iexact Hp3
  isplitl [Ht0]; · iexact Ht0
  isplitl [Ht1]; · iexact Ht1
  isplitl [Ht2]; · iexact Ht2
  isplitl [Ht3]; · iexact Ht3
  isplitl [Hl]; · iexact Hl
  isplitl [Ho]
  · iexists _
    isplitr
    swap; · iexact Ho
    ipureintro
    exact ⟨g₀, hg₀, out_eq L hag3⟩
  isplitl [HP0]; · iexists _; iexact HP0
  isplitl [HP1]; · iexists _; iexact HP1
  isplitl [HT0]; · iexists _; iexact HT0
  isplitl [HT1]; · iexists _; iexact HT1
  isplitl [HL]; · iexists _; iexact HL
  isplitl [HG]; · iexists _; iexact HG
  isplitl [HsA]; · iexact HsA
  isplitl [HsB]; · iexact HsB
  isplitl [HsC]; · iexact HsC
  isplitl [HsD]; · iexact HsD
  iexists _
  iexact HO

end Cert.KernelIdeal.Run
-- ==== Proof.Task.lean ====
/- A tile's task inside the launch: what it is handed, the buffers and semaphores it owns, and what it
   hands back. -/
module

public import proofs.«01_k».proof.Proof.Tile

@[expose] public section

noncomputable section

namespace Cert.KernelIdeal.Run

open Cert.KernelIdeal Cert.KernelIdeal.Gen Cert.KernelIdeal.Rows Cert.KernelIdeal.Model
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

-- the kernel's arrays, as the body names them
local notation "pV" => (Memref.whole Cert.KernelIdeal.main_arg0_scv : Memref Cert.KernelIdeal.sig Kind.scVector Space.hbm Cert.KernelIdeal.S16384x128 EltTy.f32)
local notation "tV" => (Memref.whole Cert.KernelIdeal.main_arg1_scv : Memref Cert.KernelIdeal.sig Kind.scVector Space.hbm Cert.KernelIdeal.S16384x128 EltTy.f32)
local notation "lV" => (Memref.whole Cert.KernelIdeal.main_arg2_scv : Memref Cert.KernelIdeal.sig Kind.scVector Space.hbm Cert.KernelIdeal.S16384 EltTy.i32)
local notation "oV" => (Memref.whole Cert.KernelIdeal.main_v0_scv : Memref Cert.KernelIdeal.sig Kind.scVector Space.hbm Cert.KernelIdeal.S32x272 EltTy.f32)
local notation "bP" => (Memref.whole Cert.KernelIdeal.cc0_scratch0 : Memref Cert.KernelIdeal.sig Kind.scVector Space.vmem Cert.KernelIdeal.S2x128x128 EltTy.f32)
local notation "bT" => (Memref.whole Cert.KernelIdeal.cc0_scratch1 : Memref Cert.KernelIdeal.sig Kind.scVector Space.vmem Cert.KernelIdeal.S2x128x128 EltTy.f32)
local notation "bL" => (Memref.whole Cert.KernelIdeal.cc0_scratch2 : Memref Cert.KernelIdeal.sig Kind.scVector Space.vmem Cert.KernelIdeal.S512 EltTy.i32)
local notation "bG" => (Memref.whole Cert.KernelIdeal.cc0_scratch3 : Memref Cert.KernelIdeal.sig Kind.scVector Space.vmem Cert.KernelIdeal.S272 EltTy.f32)

/-! ## What a tile is handed and hands back -/

section Task
variable (d : Dev nD) (L : grid0.Coords)

/-- The tile's shares of the predictions, the targets and the labels. -/
def taskIn (P T : FVec F S16384x128 .f32) (lab : IVec S16384 32) : sProp 𝕄 :=
  iprop(((chunkOf L pV 0#32 (k0_off2_inb L 0)).view.loc (thr d L) ↦[(chunkOf L pV 0#32 (k0_off2_inb L 0)).view.set]{fullShare} (P : FVec F S16384x128 .f32))
    ∗ ((chunkOf L pV 128#32 (k0_off2_inb L 1)).view.loc (thr d L) ↦[(chunkOf L pV 128#32 (k0_off2_inb L 1)).view.set]{fullShare} (P : FVec F S16384x128 .f32))
    ∗ ((chunkOf L pV 256#32 (k0_off2_inb L 2)).view.loc (thr d L) ↦[(chunkOf L pV 256#32 (k0_off2_inb L 2)).view.set]{fullShare} (P : FVec F S16384x128 .f32))
    ∗ ((chunkOf L pV 384#32 (k0_off2_inb L 3)).view.loc (thr d L) ↦[(chunkOf L pV 384#32 (k0_off2_inb L 3)).view.set]{fullShare} (P : FVec F S16384x128 .f32))
    ∗ ((chunkOf L tV 0#32 (k0_off2_inb L 0)).view.loc (thr d L) ↦[(chunkOf L tV 0#32 (k0_off2_inb L 0)).view.set]{fullShare} T)
    ∗ ((chunkOf L tV 128#32 (k0_off2_inb L 1)).view.loc (thr d L) ↦[(chunkOf L tV 128#32 (k0_off2_inb L 1)).view.set]{fullShare} T)
    ∗ ((chunkOf L tV 256#32 (k0_off2_inb L 2)).view.loc (thr d L) ↦[(chunkOf L tV 256#32 (k0_off2_inb L 2)).view.set]{fullShare} T)
    ∗ ((chunkOf L tV 384#32 (k0_off2_inb L 3)).view.loc (thr d L) ↦[(chunkOf L tV 384#32 (k0_off2_inb L 3)).view.set]{fullShare} T)
    ∗ ((labsOf L).view.loc (thr d L) ↦[(labsOf L).view.set]{fullShare} lab))
/-- The tile's row of the table of partial results, at the contents `f`. -/
def rowPts (f : FVec F S32x272 .f32) : sProp 𝕄 := iprop((outOf L).view.loc (thr d L) ↦[(outOf L).view.set]{fullShare} f)
/-- The table `f` holds, in the tile's row, what the tile's rows of the arrays add up to. -/
def RowOk (P T : FVec F S16384x128 .f32) (lab : IVec S16384 32) (f : FVec F S32x272 .f32) : Prop :=
  ∃ g₀, Cleared (F := F) g₀ ∧ (outOf L).view.read (Elt F) f = outRow P T lab (base L) g₀
/-- What the tile hands back: its shares as they were, and its row filled in. -/
def taskOut (P T : FVec F S16384x128 .f32) (lab : IVec S16384 32) : sProp 𝕄 :=
  iprop(taskIn d L P T lab ∗ ∃ f : FVec F S32x272 .f32, ⌜RowOk L P T lab f⌝ ∗ rowPts d L f)

instance taskIn_storable (P T : FVec F S16384x128 .f32) (lab : IVec S16384 32) : BI.Storable (upEmb : UEmb _ 𝕄) (taskIn (F := F) d L P T lab) := by
  unfold taskIn; infer_instance
instance rowPts_storable (f : FVec F S32x272 .f32) : BI.Storable (upEmb : UEmb _ 𝕄) (rowPts (F := F) d L f) := by
  unfold rowPts; infer_instance
instance taskOut_storable (P T : FVec F S16384x128 .f32) (lab : IVec S16384 32) : BI.Storable (upEmb : UEmb _ 𝕄) (taskOut (F := F) d L P T lab) := by
  unfold taskOut; infer_instance

/-! ## The tile's own semaphores and buffers -/

omit [FloatOps F] in
/-- Among the tile's own semaphores are the four its copies count on. -/
theorem ownSems0_tile :
    (ownSems0 (thr d L) : sProp 𝕄)
      = iprop(semVal ((thr d L, .dma cc0_scratch4.sem) : GSem nD τ sig) 0 ∗ semVal ((thr d L, .dma cc0_scratch5.sem) : GSem nD τ sig) 0
          ∗ semVal ((thr d L, .dma cc0_scoped0.sem) : GSem nD τ sig) 0 ∗ semVal ((thr d L, .dma cc0_scoped1.sem) : GSem nD τ sig) 0
          ∗ bigSep (((((ownCells (thr d L)).erase ((thr d L, .dma cc0_scratch4.sem) : GSem nD τ sig)).erase ((thr d L, .dma cc0_scratch5.sem) : GSem nD τ sig)).erase
              ((thr d L, .dma cc0_scoped0.sem) : GSem nD τ sig)).erase ((thr d L, .dma cc0_scoped1.sem) : GSem nD τ sig)) fun g => semVal g 0) := by
  have m4 : ((thr d L, .dma cc0_scratch4.sem) : GSem nD τ sig) ∈ ownCells (thr d L) := mem_ownCells.mpr ⟨rfl, by
    show (SemLoc.dma cc0_scratch4.sem : SemLoc sig).isScoped .scVector = true; decide⟩
  have m5 : ((thr d L, .dma cc0_scratch5.sem) : GSem nD τ sig) ∈ ownCells (thr d L) := mem_ownCells.mpr ⟨rfl, by
    show (SemLoc.dma cc0_scratch5.sem : SemLoc sig).isScoped .scVector = true; decide⟩
  have m6 : ((thr d L, .dma cc0_scoped0.sem) : GSem nD τ sig) ∈ ownCells (thr d L) := mem_ownCells.mpr ⟨rfl, by
    show (SemLoc.dma cc0_scoped0.sem : SemLoc sig).isScoped .scVector = true; decide⟩
  have m7 : ((thr d L, .dma cc0_scoped1.sem) : GSem nD τ sig) ∈ ownCells (thr d L) := mem_ownCells.mpr ⟨rfl, by
    show (SemLoc.dma cc0_scoped1.sem : SemLoc sig).isScoped .scVector = true; decide⟩
  have ne : ∀ a b : SemLoc sig, a ≠ b → ((thr d L, a) : GSem nD τ sig) ≠ (thr d L, b) := fun a b h e => h (Prod.mk.inj e).2
  have n54 := ne (.dma cc0_scratch5.sem) (.dma cc0_scratch4.sem) (by decide)
  have n64 := ne (.dma cc0_scoped0.sem) (.dma cc0_scratch4.sem) (by decide)
  have n65 := ne (.dma cc0_scoped0.sem) (.dma cc0_scratch5.sem) (by decide)
  have n74 := ne (.dma cc0_scoped1.sem) (.dma cc0_scratch4.sem) (by decide)
  have n75 := ne (.dma cc0_scoped1.sem) (.dma cc0_scratch5.sem) (by decide)
  have n76 := ne (.dma cc0_scoped1.sem) (.dma cc0_scoped0.sem) (by decide)
  unfold SparseCore.Cfg.ownSems0
  rw [SparseCore.bigSep_erase' m4, SparseCore.bigSep_erase' (Finset.mem_erase.mpr ⟨n54, m5⟩),
    SparseCore.bigSep_erase' (Finset.mem_erase.mpr ⟨n65, Finset.mem_erase.mpr ⟨n64, m6⟩⟩),
    SparseCore.bigSep_erase' (Finset.mem_erase.mpr ⟨n76, Finset.mem_erase.mpr ⟨n75, Finset.mem_erase.mpr ⟨n74, m7⟩⟩⟩)]

/-- The processor a tile's buffers belong to. -/
abbrev prc : Proc τ := .scVector (cV L) (jV L)

omit [FloatOps F] in
/-- The tile's own buffers are its two double buffers, its labels and its table, each at some contents,
    together with the rest. -/
theorem ownBufs_tile :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (prc L)).erase ((prc L).devRef cc0_scratch0)).erase ((prc L).devRef cc0_scratch1)).erase
              ((prc L).devRef cc0_scratch2)).erase ((prc L).devRef cc0_scratch3))
              fun b => iprop(∃ f, ((d, b) : Loc nD τ sig) ↦{fullShare} f)) := by
  have ne : ∀ a b : Ref sig .scVector, a ≠ b → (prc L).devRef a ≠ (prc L).devRef b := fun a b h e => h (Proc.devRef_injective _ e)
  have n10 := ne cc0_scratch1 cc0_scratch0 (by decide)
  have n20 := ne cc0_scratch2 cc0_scratch0 (by decide)
  have n21 := ne cc0_scratch2 cc0_scratch1 (by decide)
  have n30 := ne cc0_scratch3 cc0_scratch0 (by decide)
  have n31 := ne cc0_scratch3 cc0_scratch1 (by decide)
  have n32 := ne cc0_scratch3 cc0_scratch2 (by decide)
  unfold SparseCore.Cfg.ownBufs
  refine (SparseCore.bigSep_erase' (SparseCore.Cfg.mem_ownRefs_of_owner (p := prc L) (b := (prc L).devRef cc0_scratch0) rfl)).trans ?_
  rw [SparseCore.bigSep_erase' (Finset.mem_erase.mpr ⟨n10,
      SparseCore.Cfg.mem_ownRefs_of_owner (p := prc L) (b := (prc L).devRef cc0_scratch1) rfl⟩),
    SparseCore.bigSep_erase' (Finset.mem_erase.mpr ⟨n21, Finset.mem_erase.mpr ⟨n20,
      SparseCore.Cfg.mem_ownRefs_of_owner (p := prc L) (b := (prc L).devRef cc0_scratch2) rfl⟩⟩),
    SparseCore.bigSep_erase' (Finset.mem_erase.mpr ⟨n32, Finset.mem_erase.mpr ⟨n31, Finset.mem_erase.mpr ⟨n30,
      SparseCore.Cfg.mem_ownRefs_of_owner (p := prc L) (b := (prc L).devRef cc0_scratch3) rfl⟩⟩⟩)]

/-! ## A double buffer is its two slots -/

omit [FloatOps F] in
theorem slots_disjoint : Disjoint (slot0 bP).view.set (slot1 bP).view.set :=
  Finset.disjoint_left.mpr fun j h0 h1 => by
    have a := (mem_slot0 j).mp h0; have b := (mem_slot1 j).mp h1; omega
omit [FloatOps F] in
theorem slots_cover : (slot0 bP).view.set ∪ (slot1 bP).view.set = Finset.univ :=
  Finset.eq_univ_of_forall fun j => Finset.mem_union.mpr (by
    have hj : (j 0).val < 2 := (j 0).isLt
    rcases (show (j 0).val = 0 ∨ (j 0).val = 1 by omega) with h | h
    exacts [.inl ((mem_slot0 j).mpr h), .inr ((mem_slot1 j).mpr h)])

omit [FloatOps F] in
/-- The predictions' double buffer, cut into its slots. -/
theorem cut_P (f : FVec F S2x128x128 .f32) :
    ((thr d L).loc cc0_scratch0 ↦{fullShare} f : sProp 𝕄)
      ⊢ iprop(((slot0 bP).view.loc (thr d L) ↦[(slot0 bP).view.set]{fullShare} f) ∗ ((slot1 bP).view.loc (thr d L) ↦[(slot1 bP).view.set]{fullShare} f)) := by
  refine (Entails.of_eq ?_).trans (pointsTo_union (ℓ := (thr d L).loc cc0_scratch0) slots_disjoint).1
  exact congrArg (fun s => ((thr d L).loc cc0_scratch0 ↦[s]{fullShare} f : sProp 𝕄)) slots_cover.symm
omit [FloatOps F] in
/-- The targets' double buffer, cut into its slots. -/
theorem cut_T (f : FVec F S2x128x128 .f32) :
    ((thr d L).loc cc0_scratch1 ↦{fullShare} f : sProp 𝕄)
      ⊢ iprop(((slot0 bT).view.loc (thr d L) ↦[(slot0 bT).view.set]{fullShare} f) ∗ ((slot1 bT).view.loc (thr d L) ↦[(slot1 bT).view.set]{fullShare} f)) := by
  rw [tSlot0_eq, tSlot1_eq]
  refine (Entails.of_eq ?_).trans (pointsTo_union (ℓ := (thr d L).loc cc0_scratch1) slots_disjoint).1
  exact congrArg (fun s => ((thr d L).loc cc0_scratch1 ↦[s]{fullShare} f : sProp 𝕄)) slots_cover.symm
omit [FloatOps F] in
/-- The predictions' slots, joined. -/
theorem join_P (f g : FVec F S2x128x128 .f32) :
    iprop(((slot0 bP).view.loc (thr d L) ↦[(slot0 bP).view.set]{fullShare} f) ∗ ((slot1 bP).view.loc (thr d L) ↦[(slot1 bP).view.set]{fullShare} g))
      ⊢ (iprop(∃ h, (thr d L).loc cc0_scratch0 ↦{fullShare} h) : sProp 𝕄) := by
  refine (pointsTo_join (ℓ := (thr d L).loc cc0_scratch0) slots_disjoint).trans ?_
  rw [slots_cover]
  iintro H; iexists _; iexact H
omit [FloatOps F] in
/-- The targets' slots, joined. -/
theorem join_T (f g : FVec F S2x128x128 .f32) :
    iprop(((slot0 bT).view.loc (thr d L) ↦[(slot0 bT).view.set]{fullShare} f) ∗ ((slot1 bT).view.loc (thr d L) ↦[(slot1 bT).view.set]{fullShare} g))
      ⊢ (iprop(∃ h, (thr d L).loc cc0_scratch1 ↦{fullShare} h) : sProp 𝕄) := by
  rw [tSlot0_eq, tSlot1_eq]
  refine (pointsTo_join (ℓ := (thr d L).loc cc0_scratch1) slots_disjoint).trans ?_
  rw [slots_cover]
  iintro H; iexists _; iexact H

/-! ## The task -/

/-- The task of tile `L` on device `d`: from its shares of the arrays and its row of the table, the shares
    as they were and the row filled in. -/
theorem tile_body (hF : (K (F := F)).Facts) (O : CellTallies nD τ sig (HIx 1)) (W : Waits sig (HIx 1)) (hO : ∀ g, O g none = 0)
    (P T : FVec F S16384x128 .f32) (lab : IVec S16384 32) (hs : Small lab) (o₀ : FVec F S32x272 .f32) :
    iprop(levAts (K (F := F)).L (K (F := F)).lev ∗ emp ∗ (taskIn d L P T lab ∗ rowPts d L o₀)
        ∗ scopedBufs (thr d L) ∗ scopedSems0 (thr d L) ∗ owes (thr d L) O W)
      ⊢ wp frame (wpE (defs₀ (F := F)) 𝒱₀ (thr d L) none) Set.univ
          (cc0__sc_body L pV (Memref.isWhole_whole _) tV (Memref.isWhole_whole _) lV (Memref.isWhole_whole _) oV (Memref.isWhole_whole _)
            bP (Memref.isWhole_whole _) bT (Memref.isWhole_whole _) bL (Memref.isWhole_whole _) bG (Memref.isWhole_whole _)
            cc0_scratch4 cc0_scratch5 cc0_scoped0 cc0_scoped1)
          fun _ => (iprop(taskOut d L P T lab ∗ scopedBufs (thr d L) ∗ scopedSems0 (thr d L)
            ∗ ∃ W' : Waits sig (HIx 1), ⌜∀ p ∈ W', p ∈ W ∨ p.2 = none ∨ p.2 = some (0 : Fin 1)⌝ ∗ owes (thr d L) O W') : sProp 𝕄) := by
  rw [(K (F := F)).scopedBufs_V hF d (cV L) (jV L), SparseCore.Cfg.scopedSems0_V (Val := Elt F) d (cV L) (jV L), ownSems0_tile, ownBufs_tile]
  iintro ⟨#Hlv, -, ⟨Hin, Ho⟩, ⟨⟨%fP, HbP⟩, ⟨%fT, HbT⟩, ⟨%fL, HbL⟩, ⟨%fG, HbG⟩, Hbufs⟩, ⟨HsA, HsB, HsC, HsD, Hsems⟩, HO⟩
  ihave Hmw := (show levAts (K (F := F)).L (K (F := F)).lev ⊢ Transfers.MayWaits (thr d L) (default : HIx 1) O from
    (K (F := F)).mayWaits_none (thr := thr d L) hO) $$ Hlv
  unfold taskOut taskIn rowPts
  icases Hin with ⟨Hp0, Hp1, Hp2, Hp3, Ht0, Ht1, Ht2, Ht3, Hl⟩
  ihave HbP := (cut_P (F := F) d L fP) $$ HbP
  icases HbP with ⟨HP0, HP1⟩
  ihave HbT := (cut_T (F := F) d L fT) $$ HbT
  icases HbT with ⟨HT0, HT1⟩
  iapply (wp_wand Idealize.ShloMosaic.frame (wpE (defs₀ (F := F)) 𝒱₀ (thr d L) none) Set.univ) $$ [Hp0 Hp1 Hp2 Hp3 Ht0 Ht1 Ht2 Ht3 Hl Ho HP0 HP1 HT0 HT1 HbL HbG HsA HsB HsC HsD Hmw HO]
  · iapply (body_run (F := F) d L O W P T lab hs o₀ fP fT fL fG)
    iframe ∗ #
  iintro %_ ⟨Hp0, Hp1, Hp2, Hp3, Ht0, Ht1, Ht2, Ht3, Hl, Ho, ⟨%f1, HP0⟩, ⟨%f2, HP1⟩, ⟨%f3, HT0⟩, ⟨%f4, HT1⟩, ⟨%f5, HL⟩, ⟨%f6, HG⟩, HsA, HsB, HsC, HsD, ⟨%W', HO⟩⟩
  isplitl [Hp0 Hp1 Hp2 Hp3 Ht0 Ht1 Ht2 Ht3 Hl Ho]
  · isplitr [Ho]
    · iframe
    iexact Ho
  isplitl [HP0 HP1 HT0 HT1 HL HG Hbufs]
  · isplitl [HP0 HP1]
    · iapply (join_P (F := F) d L f1 f2)
      isplitl [HP0]; · iexact HP0
      iexact HP1
    isplitl [HT0 HT1]
    · iapply (join_T (F := F) d L f3 f4)
      isplitl [HT0]; · iexact HT0
      iexact HT1
    isplitl [HL]; · iexists _; iexact HL
    isplitl [HG]; · iexists _; iexact HG
    iexact Hbufs
  isplitl [HsA HsB HsC HsD Hsems]
  · iframe
  iexists W'; isplitr
  swap; · iexact HO
  ipureintro; intro p _
  rcases p.2 with _ | q
  · exact .inr (.inl rfl)
  · exact .inr (.inr (congrArg some (Subsingleton.elim q 0)))

end Task

/-! ## The call's payloads and the tile's obligation -/

/-- The grid point `(c, s)`. -/
def coordsV (c : Fin (grid0.bound 0)) (s : Fin (grid0.bound 1)) : grid0.Coords :=
  fun | 0 => c | 1 => s | ⟨_ + 2, h⟩ => absurd h (Nat.not_lt.2 (Nat.le_add_left _ _))

/-- The body the call runs on a vector subcore. -/
theorem defs₀_vector (c : Fin τ.nSC) (s : Fin τ.nSub) :
    defs₀ (F := F) (.scVector c s) 0 ()
      = SparseCore.onTile hcore0 hsub0 (fun c s => cc0__sc_body (coordsV c s) pV (Memref.isWhole_whole _) tV (Memref.isWhole_whole _)
          lV (Memref.isWhole_whole _) oV (Memref.isWhole_whole _) bP (Memref.isWhole_whole _) bT (Memref.isWhole_whole _)
          bL (Memref.isWhole_whole _) bG (Memref.isWhole_whole _) cc0_scratch4 cc0_scratch5 cc0_scoped0 cc0_scoped1) ⟨⟩ c s := rfl

variable (m : (ℓ : Loc nD τ sig) → Buf (Elt F) ℓ)

/-- A tile's task, from the launch's memory. -/
def goAt (d : Dev nD) (L : grid0.Coords) : sProp 𝕄 := iprop(taskIn d L (m (pLoc d)) (m (tLoc d)) (m (lLoc d)) ∗ rowPts d L (m (oLoc d)))
/-- What it hands back. -/
def tdAt (d : Dev nD) (L : grid0.Coords) : sProp 𝕄 := taskOut d L (m (pLoc d)) (m (tLoc d)) (m (lLoc d))

instance goAt_storable (d : Dev nD) (L : grid0.Coords) : BI.Storable (upEmb : UEmb _ 𝕄) (goAt (F := F) m d L) := by
  unfold goAt; infer_instance
instance tdAt_storable (d : Dev nD) (L : grid0.Coords) : BI.Storable (upEmb : UEmb _ 𝕄) (tdAt (F := F) m d L) := by
  unfold tdAt; infer_instance

theorem nCore_zero : (K (F := F)).nCore 0 = 2 := rfl
theorem nSub_zero : (K (F := F)).nSub 0 = 16 := rfl
theorem bound_zero : 2 = grid0.bound 0 := rfl
theorem bound_one : 16 = grid0.bound 1 := rfl

/-- Tile `i` of SparseCore `c`. -/
def tileAt (c : Fin 2) (i : Fin 16) : grid0.Coords := coordsV (Fin.cast bound_zero c) (Fin.cast bound_one i)

/-- A SparseCore's operands: its sixteen tiles' tasks. -/
def stAll (d : Dev nD) (c : Fin 2) : sProp 𝕄 := bigSep Finset.univ fun i : Fin 16 => goAt m d (tileAt c i)
/-- Its results: what its sixteen tiles hand back. -/
def dnAll (d : Dev nD) (c : Fin 2) : sProp 𝕄 := bigSep Finset.univ fun i : Fin 16 => tdAt m d (tileAt c i)

instance stAll_storable (d : Dev nD) (c : Fin 2) : BI.Storable (upEmb : UEmb _ 𝕄) (stAll (F := F) m d c) := by
  unfold stAll; infer_instance
instance dnAll_storable (d : Dev nD) (c : Fin 2) : BI.Storable (upEmb : UEmb _ 𝕄) (dnAll (F := F) m d c) := by
  unfold dnAll; infer_instance

/-- The one call hands each SparseCore its sixteen tiles' tasks, and each brings back what its tiles did. -/
def Py : (K (F := F)).Pay (nD := nD) (Val := Elt F) (Name := ℕ) (U := UU) where
  st := fun q d c => match q with | 0 => stAll m d (Fin.cast nCore_zero c)
  dn := fun q d c => match q with | 0 => dnAll m d (Fin.cast nCore_zero c)
  go := fun q d c i => match q with | 0 => goAt m d (tileAt (Fin.cast nCore_zero c) (Fin.cast nSub_zero i))
  td := fun q d c i => match q with | 0 => tdAt m d (tileAt (Fin.cast nCore_zero c) (Fin.cast nSub_zero i))
  x := fun _ _ => iprop(emp)

instance Py_storable : (Py (F := F) m).IsStorable where
  st q d c := match q with | 0 => stAll_storable m d (Fin.cast nCore_zero c)
  dn q d c := match q with | 0 => dnAll_storable m d (Fin.cast nCore_zero c)
  go q d c i := match q with | 0 => goAt_storable m d (tileAt (Fin.cast nCore_zero c) (Fin.cast nSub_zero i))
  td q d c i := match q with | 0 => tdAt_storable m d (tileAt (Fin.cast nCore_zero c) (Fin.cast nSub_zero i))

/-- Every tile meets its task, when every label is below 8. -/
theorem tileObl (hs : ∀ d, Small (m (lLoc d))) (hF : (K (F := F)).Facts) : (K (F := F)).TileObl (D (F := F)) 𝒱 (Py m) v₀ 0 := by
  intro d c i O W hO _ _
  simp only [show (Py m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF O W hO (m (pLoc d)) (m (tLoc d)) (m (lLoc d)) (hs d) (m (oLoc d))

/-- A family over the call's tiles is one over sixteen. -/
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
/-- A family over the call's SparseCores is one over two. -/
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A SparseCore's operands are its tiles' tasks, and its results what they brought back. -/
theorem vecSplit : (K (F := F)).VecSplit' (Py m) 0 := by
  intro d c
  show stAll m d (Fin.cast nCore_zero c) ⊢ |={Set.univ}=> iprop(
      (bigSep Finset.univ fun i : Fin ((K (F := F)).nSub 0) => goAt m d (tileAt (Fin.cast nCore_zero c) (Fin.cast nSub_zero i)))
      ∗ ((bigSep Finset.univ fun i : Fin ((K (F := F)).nSub 0) => tdAt m d (tileAt (Fin.cast nCore_zero c) (Fin.cast nSub_zero i)))
        -∗ dnAll m d (Fin.cast nCore_zero c)))
  rw [bigSep_tiles (F := F) (fun i => goAt m d (tileAt (Fin.cast nCore_zero c) i)),
    bigSep_tiles (F := F) (fun i => tdAt m d (tileAt (Fin.cast nCore_zero c) i))]
  unfold stAll dnAll
  iintro H; imodintro
  isplitl [H]; · iexact H
  iintro H; iexact H

end Cert.KernelIdeal.Run
-- ==== Proof.Deal.lean ====
/- The arrays dealt among the tiles, and gathered from them. -/
module

public import proofs.«01_k».proof.Proof.Task
public import Idealize.ShloMosaic.Lib.Ring.AtN

@[expose] public section

noncomputable section

namespace Cert.KernelIdeal.Run

open Cert.KernelIdeal Cert.KernelIdeal.Gen Cert.KernelIdeal.Rows Cert.KernelIdeal.Model
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

-- the kernel's arrays, as the body names them
local notation "pV" => (Memref.whole Cert.KernelIdeal.main_arg0_scv : Memref Cert.KernelIdeal.sig Kind.scVector Space.hbm Cert.KernelIdeal.S16384x128 EltTy.f32)
local notation "tV" => (Memref.whole Cert.KernelIdeal.main_arg1_scv : Memref Cert.KernelIdeal.sig Kind.scVector Space.hbm Cert.KernelIdeal.S16384x128 EltTy.f32)
local notation "lV" => (Memref.whole Cert.KernelIdeal.main_arg2_scv : Memref Cert.KernelIdeal.sig Kind.scVector Space.hbm Cert.KernelIdeal.S16384 EltTy.i32)
local notation "oV" => (Memref.whole Cert.KernelIdeal.main_v0_scv : Memref Cert.KernelIdeal.sig Kind.scVector Space.hbm Cert.KernelIdeal.S32x272 EltTy.f32)
local notation "bP" => (Memref.whole Cert.KernelIdeal.cc0_scratch0 : Memref Cert.KernelIdeal.sig Kind.scVector Space.vmem Cert.KernelIdeal.S2x128x128 EltTy.f32)
local notation "bT" => (Memref.whole Cert.KernelIdeal.cc0_scratch1 : Memref Cert.KernelIdeal.sig Kind.scVector Space.vmem Cert.KernelIdeal.S2x128x128 EltTy.f32)
local notation "bL" => (Memref.whole Cert.KernelIdeal.cc0_scratch2 : Memref Cert.KernelIdeal.sig Kind.scVector Space.vmem Cert.KernelIdeal.S512 EltTy.i32)
local notation "bG" => (Memref.whole Cert.KernelIdeal.cc0_scratch3 : Memref Cert.KernelIdeal.sig Kind.scVector Space.vmem Cert.KernelIdeal.S272 EltTy.f32)

/-! ## The arrays, dealt among the tiles -/

/-- The tiles. -/
abbrev Tiles : Type := Fin 2 × Fin 16
abbrev tl (t : Tiles) : grid0.Coords := tileAt t.1 t.2

theorem tileNo_tl (t : Tiles) : tileNo (tl t) = 2 * t.2.val + t.1.val := rfl

/-- Chunk `r` of tile `t`: its elements. -/
def chunkSet (x : Tiles × Fin 4) : Finset S16384x128.Idx :=
  (chunkOf (tl x.1) pV (BitVec.ofNat 32 (128 * x.2.val)) (k0_off2_inb (tl x.1) x.2)).view.set

theorem mem_chunkSet (x : Tiles × Fin 4) (j : S16384x128.Idx) : j ∈ chunkSet x ↔ (j 0).val / 128 = 4 * (2 * x.1.2.val + x.1.1.val) + x.2.val :=
  mem_pChunk (tl x.1) (c := x.2) rfl _ j

theorem chunks_disjoint : ∀ x ∈ (Finset.univ : Finset (Tiles × Fin 4)), ∀ y ∈ (Finset.univ : Finset (Tiles × Fin 4)), x ≠ y → Disjoint (chunkSet x) (chunkSet y) := by
  intro x _ y _ h
  refine Finset.disjoint_left.mpr fun j hx hy => h ?_
  have ex := (mem_chunkSet x j).mp hx
  have ey := (mem_chunkSet y j).mp hy
  have h1 := x.1.1.isLt; have h2 := x.1.2.isLt; have h3 := x.2.isLt
  have h4 := y.1.1.isLt; have h5 := y.1.2.isLt; have h6 := y.2.isLt
  exact Prod.ext (Prod.ext (Fin.ext (by omega)) (Fin.ext (by omega))) (Fin.ext (by omega))

theorem chunks_cover : (Finset.univ : Finset (Tiles × Fin 4)).biUnion chunkSet = Finset.univ := by
  refine Finset.eq_univ_of_forall fun j => Finset.mem_biUnion.mpr ?_
  have hj : (j 0).val < 16384 := (j 0).isLt
  refine ⟨((⟨(j 0).val / 512 % 2, by omega⟩, ⟨(j 0).val / 512 / 2, by omega⟩), ⟨(j 0).val / 128 % 4, by omega⟩), Finset.mem_univ _, ?_⟩
  refine (mem_chunkSet _ j).mpr ?_
  show (j 0).val / 128 = 4 * (2 * ((j 0).val / 512 / 2) + (j 0).val / 512 % 2) + (j 0).val / 128 % 4
  omega

/-- A tile's labels: their elements. -/
def labSet (t : Tiles) : Finset S16384.Idx := (labsOf (tl t)).view.set
theorem mem_labSet (t : Tiles) (j : S16384.Idx) : j ∈ labSet t ↔ (j 0).val / 512 = 2 * t.2.val + t.1.val := mem_labs (tl t) j
theorem labs_disjoint : ∀ x ∈ (Finset.univ : Finset Tiles), ∀ y ∈ (Finset.univ : Finset Tiles), x ≠ y → Disjoint (labSet x) (labSet y) := by
  intro x _ y _ h
  refine Finset.disjoint_left.mpr fun j hx hy => h ?_
  have ex := (mem_labSet x j).mp hx
  have ey := (mem_labSet y j).mp hy
  have h1 := x.1.isLt; have h2 := x.2.isLt; have h4 := y.1.isLt; have h5 := y.2.isLt
  exact Prod.ext (Fin.ext (by omega)) (Fin.ext (by omega))
theorem labs_cover : (Finset.univ : Finset Tiles).biUnion labSet = Finset.univ := by
  refine Finset.eq_univ_of_forall fun j => Finset.mem_biUnion.mpr ?_
  have hj : (j 0).val < 16384 := (j 0).isLt
  refine ⟨(⟨(j 0).val / 512 % 2, by omega⟩, ⟨(j 0).val / 512 / 2, by omega⟩), Finset.mem_univ _, ?_⟩
  refine (mem_labSet _ j).mpr ?_
  show (j 0).val / 512 = 2 * ((j 0).val / 512 / 2) + (j 0).val / 512 % 2
  omega

/-- A tile's row of the table: its elements. -/
def outSet (t : Tiles) : Finset S32x272.Idx := (outOf (tl t)).view.set
theorem mem_outSet (t : Tiles) (j : S32x272.Idx) : j ∈ outSet t ↔ (j 0).val = 2 * t.2.val + t.1.val := mem_out (tl t) j
theorem outs_disjoint : ∀ x ∈ (Finset.univ : Finset Tiles), ∀ y ∈ (Finset.univ : Finset Tiles), x ≠ y → Disjoint (outSet x) (outSet y) := by
  intro x _ y _ h
  refine Finset.disjoint_left.mpr fun j hx hy => h ?_
  have ex := (mem_outSet x j).mp hx
  have ey := (mem_outSet y j).mp hy
  have h1 := x.1.isLt; have h2 := x.2.isLt; have h4 := y.1.isLt; have h5 := y.2.isLt
  exact Prod.ext (Fin.ext (by omega)) (Fin.ext (by omega))
theorem outs_cover : (Finset.univ : Finset Tiles).biUnion outSet = Finset.univ := by
  refine Finset.eq_univ_of_forall fun j => Finset.mem_biUnion.mpr ?_
  have hj : (j 0).val < 32 := (j 0).isLt
  refine ⟨(⟨(j 0).val % 2, by omega⟩, ⟨(j 0).val / 2, by omega⟩), Finset.mem_univ _, ?_⟩
  refine (mem_outSet _ j).mpr ?_
  show (j 0).val = 2 * ((j 0).val / 2) + (j 0).val % 2
  omega

variable (d : Dev nD)

/-- The predictions whole are the tiles' chunks. -/
theorem p_tiles (P : FVec F S16384x128 .f32) :
    (pLoc d ↦{fullShare} P : sProp 𝕄) = bigSep Finset.univ fun t : Tiles => iprop((pLoc d ↦[chunkSet (t, 0)]{fullShare} P) ∗ (pLoc d ↦[chunkSet (t, 1)]{fullShare} P)
      ∗ (pLoc d ↦[chunkSet (t, 2)]{fullShare} P) ∗ pLoc d ↦[chunkSet (t, 3)]{fullShare} P) := by
  refine (congrArg (fun s => (pLoc d ↦[s]{fullShare} P : sProp 𝕄)) chunks_cover.symm).trans ?_
  refine (pointsTo_biUnion Finset.univ (ℓ := pLoc d) chunkSet chunks_disjoint).trans ((bigSep_univ_prod _).trans ?_)
  exact bigSep_congr fun t _ => Ring.bigSep_fin4 (fun r => (pLoc d ↦[chunkSet (t, r)]{fullShare} P : sProp 𝕄))
/-- The targets whole are the tiles' chunks. -/
theorem t_tiles (P : FVec F S16384x128 .f32) :
    (tLoc d ↦{fullShare} P : sProp 𝕄) = bigSep Finset.univ fun t : Tiles => iprop((tLoc d ↦[chunkSet (t, 0)]{fullShare} P) ∗ (tLoc d ↦[chunkSet (t, 1)]{fullShare} P)
      ∗ (tLoc d ↦[chunkSet (t, 2)]{fullShare} P) ∗ tLoc d ↦[chunkSet (t, 3)]{fullShare} P) := by
  refine (congrArg (fun s => (tLoc d ↦[s]{fullShare} P : sProp 𝕄)) chunks_cover.symm).trans ?_
  refine (pointsTo_biUnion Finset.univ (ℓ := tLoc d) chunkSet chunks_disjoint).trans ((bigSep_univ_prod _).trans ?_)
  exact bigSep_congr fun t _ => Ring.bigSep_fin4 (fun r => (tLoc d ↦[chunkSet (t, r)]{fullShare} P : sProp 𝕄))
/-- The labels whole are the tiles' labels. -/
theorem l_tiles (lab : IVec S16384 32) :
    (lLoc d ↦{fullShare} lab : sProp 𝕄) = bigSep Finset.univ fun t : Tiles => lLoc d ↦[labSet t]{fullShare} lab :=
  (congrArg (fun s => (lLoc d ↦[s]{fullShare} lab : sProp 𝕄)) labs_cover.symm).trans (pointsTo_biUnion Finset.univ (ℓ := lLoc d) labSet labs_disjoint)
/-- The table whole is the tiles' rows. -/
theorem o_tiles (f : FVec F S32x272 .f32) :
    (oLoc d ↦{fullShare} f : sProp 𝕄) = bigSep Finset.univ fun t : Tiles => rowPts d (tl t) f :=
  (congrArg (fun s => (oLoc d ↦[s]{fullShare} f : sProp 𝕄)) outs_cover.symm).trans (pointsTo_biUnion Finset.univ (ℓ := oLoc d) outSet outs_disjoint)

/-- A tile's shares of the three arrays. -/
theorem taskIn_tl (t : Tiles) (P T : FVec F S16384x128 .f32) (lab : IVec S16384 32) :
    taskIn d (tl t) P T lab ⊣⊢ (iprop(((pLoc d ↦[chunkSet (t, 0)]{fullShare} P) ∗ (pLoc d ↦[chunkSet (t, 1)]{fullShare} P)
        ∗ (pLoc d ↦[chunkSet (t, 2)]{fullShare} P) ∗ pLoc d ↦[chunkSet (t, 3)]{fullShare} P)
      ∗ ((tLoc d ↦[chunkSet (t, 0)]{fullShare} T) ∗ (tLoc d ↦[chunkSet (t, 1)]{fullShare} T)
        ∗ (tLoc d ↦[chunkSet (t, 2)]{fullShare} T) ∗ tLoc d ↦[chunkSet (t, 3)]{fullShare} T)
      ∗ lLoc d ↦[labSet t]{fullShare} lab) : sProp 𝕄) := by
  unfold taskIn
  rw [tChunk_eq, tChunk_eq, tChunk_eq, tChunk_eq]
  constructor
  · iintro ⟨H0, H1, H2, H3, G0, G1, G2, G3, Hl⟩
    isplitl [H0 H1 H2 H3]
    · isplitl [H0]; · iexact H0
      isplitl [H1]; · iexact H1
      isplitl [H2]; · iexact H2
      iexact H3
    isplitl [G0 G1 G2 G3]
    · isplitl [G0]; · iexact G0
      isplitl [G1]; · iexact G1
      isplitl [G2]; · iexact G2
      iexact G3
    iexact Hl
  · iintro ⟨⟨H0, H1, H2, H3⟩, ⟨G0, G1, G2, G3⟩, Hl⟩
    isplitl [H0]; · iexact H0
    isplitl [H1]; · iexact H1
    isplitl [H2]; · iexact H2
    isplitl [H3]; · iexact H3
    isplitl [G0]; · iexact G0
    isplitl [G1]; · iexact G1
    isplitl [G2]; · iexact G2
    isplitl [G3]; · iexact G3
    iexact Hl

/-- The three arrays whole are the tiles' shares. -/
theorem in_tiles (P T : FVec F S16384x128 .f32) (lab : IVec S16384 32) :
    (iprop((pLoc d ↦{fullShare} P) ∗ (tLoc d ↦{fullShare} T) ∗ (lLoc d ↦{fullShare} lab)) : sProp 𝕄)
      = bigSep Finset.univ fun t : Tiles => taskIn d (tl t) P T lab := by
  rw [p_tiles, t_tiles, l_tiles, ← bigSep_sep', ← bigSep_sep']
  exact bigSep_congr fun t _ => (BI.equiv_iff.mp ⟨(taskIn_tl d t P T lab).1, (taskIn_tl d t P T lab).2⟩).symm

/-- The rows, each filled in, are the table whole with every row filled in. -/
theorem out_tiles (P T : FVec F S16384x128 .f32) (lab : IVec S16384 32) :
    (bigSep Finset.univ fun t : Tiles => iprop(∃ f : FVec F S32x272 .f32, ⌜RowOk (tl t) P T lab f⌝ ∗ rowPts d (tl t) f))
      ⊢ (iprop(∃ g : FVec F S32x272 .f32, ⌜∀ t : Tiles, RowOk (tl t) P T lab g⌝ ∗ oLoc d ↦{fullShare} g) : sProp 𝕄) := by
  haveI : Nonempty (FVec F S32x272 .f32) := ⟨fun _ => k0_pay1514 (lane 0)⟩
  refine (bigSep_exists_pi Finset.univ (fun (t : Tiles) (f : FVec F S32x272 .f32) => iprop(⌜RowOk (tl t) P T lab f⌝ ∗ rowPts d (tl t) f))).trans ?_
  iintro ⟨%fs, H⟩
  ihave H := (bigSep_pure_sep Finset.univ (fun t : Tiles => RowOk (tl t) P T lab (fs t)) (fun t => rowPts d (tl t) (fs t))) $$ H
  icases H with ⟨%hok, H⟩
  ihave H := (show (bigSep Finset.univ fun t : Tiles => rowPts d (tl t) (fs t)) ⊢ (bigSep Finset.univ fun t : Tiles => oLoc d ↦[outSet t]{fullShare} fs t : sProp 𝕄) from .rfl) $$ H
  ihave H' := (pointsTo_biUnion_join (ℓ := oLoc d) (q := fullShare) (Val := Elt F) Finset.univ outSet fs (fs (0, 0)) outs_disjoint) $$ H
  icases H' with ⟨%g, %hg, Hg⟩
  rw [outs_cover]
  iexists g
  isplitr
  swap; · iexact Hg
  ipureintro
  intro t
  obtain ⟨g₀, hc, hr⟩ := hok t (Finset.mem_univ t)
  refine ⟨g₀, hc, Eq.trans ?_ hr⟩
  exact View.read_congr (Val := Elt F) (fun i hi => hg t (Finset.mem_univ t) i hi)

variable (m : (ℓ : Loc nD τ sig) → Buf (Elt F) ℓ)

/-- What the call is handed: the four arrays whole. -/
theorem start_eq :
    (bigSep Finset.univ fun c : Fin ((K (F := F)).nCore 0) => (Py m).st 0 d c)
      = (iprop(((pLoc d ↦{fullShare} m (pLoc d)) ∗ (tLoc d ↦{fullShare} m (tLoc d)) ∗ (lLoc d ↦{fullShare} m (lLoc d))) ∗ (oLoc d ↦{fullShare} m (oLoc d))) : sProp 𝕄) := by
  refine (bigSep_cores (F := F) (fun c => stAll m d c)).trans ?_
  unfold stAll
  refine (bigSep_univ_prod (fun t : Tiles => goAt m d (tl t))).symm.trans ?_
  rw [in_tiles, o_tiles, ← bigSep_sep']
  rfl

/-- What it hands back: the three read arrays as they were, and the table with every row filled in. -/
theorem done_to :
    (bigSep Finset.univ fun c : Fin ((K (F := F)).nCore 0) => (Py m).dn 0 d c)
      ⊢ (iprop(((pLoc d ↦{fullShare} m (pLoc d)) ∗ (tLoc d ↦{fullShare} m (tLoc d)) ∗ (lLoc d ↦{fullShare} m (lLoc d)))
        ∗ ∃ g : FVec F S32x272 .f32, ⌜∀ t : Tiles, RowOk (tl t) (m (pLoc d)) (m (tLoc d)) (m (lLoc d)) g⌝ ∗ oLoc d ↦{fullShare} g) : sProp 𝕄) := by
  refine (Entails.of_eq (bigSep_cores (F := F) (fun c => dnAll m d c))).trans ?_
  unfold dnAll
  refine (Entails.of_eq (bigSep_univ_prod (fun t : Tiles => tdAt m d (tl t))).symm).trans ?_
  unfold tdAt taskOut
  rw [in_tiles, bigSep_sep']
  exact sep_mono_right (out_tiles d _ _ _)

end Cert.KernelIdeal.Run
-- ==== Proof.Launch.lean ====
/- The program's run: @main on the TensorCore, the call on the tiles, and the state they end in. -/
module

public import proofs.«01_k».proof.Proof.Deal
public import Idealize.ShloMosaic.Lib.Pipeline.Frame

@[expose] public section

noncomputable section

namespace Cert.KernelIdeal.Run

open Cert.KernelIdeal Cert.KernelIdeal.Gen Cert.KernelIdeal.Rows Cert.KernelIdeal.Model
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo

/-! ## The operations after the call -/

/-- The operations that follow the call. -/
abbrev tailOps : List (HloOp τ sig (Elt F)) :=
  [ reshape main_v0 main_v1 (rfl : (.f32 : EltTy) = .f32) shapeCasts_S32x272_S32x17x16,
    unary main_v1 main_v2 ((extractStridedSlice S32x1x16 ![0, 0, 0] · slices_S32x17x16_S32x1x16_0_0_0) : (⟨S32x17x16, .f32⟩ : BufTy).Contents (Elt F) → (⟨S32x1x16, .f32⟩ : BufTy).Contents (Elt F)),
    reshape main_v2 main_v3 (rfl : (.f32 : EltTy) = .f32) shapeCasts_S32x1x16_S32x16,
    nullary main_cst (constant S_ .f32 0x00000000#32),
    binary main_v3 main_cst main_v4 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    unary main_v1 main_v5 ((extractStridedSlice S32x8x16 ![0, 1, 0] · slices_S32x17x16_S32x8x16_0_1_0) : (⟨S32x17x16, .f32⟩ : BufTy).Contents (Elt F) → (⟨S32x8x16, .f32⟩ : BufTy).Contents (Elt F)),
    nullary main_cst_0 (constant S_ .f32 0x00000000#32),
    binary main_v5 main_cst_0 main_v6 ((fun x v => Host.reduceAdd x v reducesTo_S32x8x16_S8_d0_2 h_S_) : (⟨S32x8x16, .f32⟩ : BufTy).Contents (Elt F) → (⟨S_, .f32⟩ : BufTy).Contents (Elt F) → (⟨S8, .f32⟩ : BufTy).Contents (Elt F)),
    unary main_v1 main_v7 ((extractStridedSlice S32x8x16 ![0, 9, 0] · slices_S32x17x16_S32x8x16_0_9_0) : (⟨S32x17x16, .f32⟩ : BufTy).Contents (Elt F) → (⟨S32x8x16, .f32⟩ : BufTy).Contents (Elt F)),
    nullary main_cst_1 (constant S_ .f32 0x00000000#32),
    binary main_v7 main_cst_1 main_v8 ((fun x v => Host.reduceAdd x v reducesTo_S32x8x16_S8_d0_2 h_S_) : (⟨S32x8x16, .f32⟩ : BufTy).Contents (Elt F) → (⟨S_, .f32⟩ : BufTy).Contents (Elt F) → (⟨S8, .f32⟩ : BufTy).Contents (Elt F)),
    nullary main_cst_2 (constant S_ .f32 0x4A000000#32),
    binary main_v4 main_cst_2 main_v9 (Host.divf : (⟨S_, .f32⟩ : BufTy).Contents (Elt F) → (⟨S_, .f32⟩ : BufTy).Contents (Elt F) → (⟨S_, .f32⟩ : BufTy).Contents (Elt F)),
    nullary main_cst_3 (constant S_ .f32 0x43000000#32),
    unary main_cst_3 main_v10 (broadcastInDim S8 ![] bcast_S_S8 : (⟨S_, .f32⟩ : BufTy).Contents (Elt F) → (⟨S8, .f32⟩ : BufTy).Contents (Elt F)),
    binary main_v8 main_v10 main_v11 (mulf : (⟨S8, .f32⟩ : BufTy).Contents (Elt F) → (⟨S8, .f32⟩ : BufTy).Contents (Elt F) → (⟨S8, .f32⟩ : BufTy).Contents (Elt F)),
    binary main_v6 main_v11 main_v12 (Host.divf : (⟨S8, .f32⟩ : BufTy).Contents (Elt F) → (⟨S8, .f32⟩ : BufTy).Contents (Elt F) → (⟨S8, .f32⟩ : BufTy).Contents (Elt F)),
    nullary main_cst_4 (constant S_ .f32 0x00000000#32),
    binary main_v12 main_cst_4 main_v13 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_5 (constant S_ .f32 0x41000000#32),
    binary main_v13 main_cst_5 main_v14 (Host.divf : (⟨S_, .f32⟩ : BufTy).Contents (Elt F) → (⟨S_, .f32⟩ : BufTy).Contents (Elt F) → (⟨S_, .f32⟩ : BufTy).Contents (Elt F)),
    unary main_v14 main_v15 (broadcastInDim S8 ![] bcast_S_S8 : (⟨S_, .f32⟩ : BufTy).Contents (Elt F) → (⟨S8, .f32⟩ : BufTy).Contents (Elt F)),
    binary main_v12 main_v15 main_v16 (subf : (⟨S8, .f32⟩ : BufTy).Contents (Elt F) → (⟨S8, .f32⟩ : BufTy).Contents (Elt F) → (⟨S8, .f32⟩ : BufTy).Contents (Elt F)),
    binary main_v16 main_v16 main_v17 (mulf : (⟨S8, .f32⟩ : BufTy).Contents (Elt F) → (⟨S8, .f32⟩ : BufTy).Contents (Elt F) → (⟨S8, .f32⟩ : BufTy).Contents (Elt F)),
    nullary main_cst_6 (constant S_ .f32 0x00000000#32),
    binary main_v17 main_cst_6 main_v18 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_7 (constant S_ .f32 0x40E00000#32),
    binary main_v18 main_cst_7 main_v19 (Host.divf : (⟨S_, .f32⟩ : BufTy).Contents (Elt F) → (⟨S_, .f32⟩ : BufTy).Contents (Elt F) → (⟨S_, .f32⟩ : BufTy).Contents (Elt F)),
    binary main_v9 main_v19 main_v20 (addf : (⟨S_, .f32⟩ : BufTy).Contents (Elt F) → (⟨S_, .f32⟩ : BufTy).Contents (Elt F) → (⟨S_, .f32⟩ : BufTy).Contents (Elt F)) ]

/-- @main is the call and then those operations. -/
theorem main_eq (d : Dev nD) : main (F := F) d = ((K (F := F)).run d 0 >>= fun _ => (seq tailOps >>= fun _ => Pure.pure ⟨⟩)) := rfl

theorem tail_sub : ∀ op ∈ (tailOps : List (HloOp τ sig (Elt F))), op.bufs ⊆ Pipeline.ucRefs τ sig := by
  have h : (tailOps : List (HloOp τ sig (Elt F))).Forall fun op => op.bufs ⊆ tcRefs τ sig :=
    ⟨reshape_bufs_sub .., unary_bufs_sub .., reshape_bufs_sub .., nullary_bufs_sub .., binary_bufs_sub .., unary_bufs_sub .., nullary_bufs_sub .., binary_bufs_sub .., unary_bufs_sub .., nullary_bufs_sub .., binary_bufs_sub .., nullary_bufs_sub .., binary_bufs_sub .., nullary_bufs_sub .., unary_bufs_sub .., binary_bufs_sub .., binary_bufs_sub .., nullary_bufs_sub .., binary_bufs_sub .., nullary_bufs_sub .., binary_bufs_sub .., unary_bufs_sub .., binary_bufs_sub .., binary_bufs_sub .., nullary_bufs_sub .., binary_bufs_sub .., nullary_bufs_sub .., binary_bufs_sub .., binary_bufs_sub ..⟩
  exact fun op ho => Pipeline.sub_ucRefs op (List.forall_iff_forall_mem.1 h op ho)
theorem tail_fresh : ∀ op ∈ (tailOps : List (HloOp τ sig (Elt F))), op.fresh = ∅ := by
  intro _ h; (repeat (cases h with | head => rfl | tail _ h => ?_)); exact nomatch h

/-- The table with each tile's row cut into seventeen groups of sixteen lanes. -/
def grp (o : FVec F S32x272 .f32) : FVec F S32x17x16 .f32 := shapeCast S32x17x16 o shapeCasts_S32x272_S32x17x16
/-- Group 0 of every tile, summed. -/
def sqSum (o : FVec F S32x272 .f32) : FVec F S_ .f32 :=
  Host.reduceAdd (shapeCast S32x16 (extractStridedSlice S32x1x16 ![0, 0, 0] (grp o) slices_S32x17x16_S32x1x16_0_0_0) shapeCasts_S32x1x16_S32x16)
    (constant S_ .f32 0x00000000#32) reducesTo_S32x16_S_d0_1 h_S_
/-- Groups 1 to 8, each summed over the tiles and the lanes. -/
def labSum (o : FVec F S32x272 .f32) : FVec F S8 .f32 :=
  Host.reduceAdd (extractStridedSlice S32x8x16 ![0, 1, 0] (grp o) slices_S32x17x16_S32x8x16_0_1_0) (constant S_ .f32 0x00000000#32) reducesTo_S32x8x16_S8_d0_2 h_S_
/-- Groups 9 to 16, each summed over the tiles and the lanes. -/
def labCnt (o : FVec F S32x272 .f32) : FVec F S8 .f32 :=
  Host.reduceAdd (extractStridedSlice S32x8x16 ![0, 9, 0] (grp o) slices_S32x17x16_S32x8x16_0_9_0) (constant S_ .f32 0x00000000#32) reducesTo_S32x8x16_S8_d0_2 h_S_
/-- A label's mean: its sum over its count of elements. -/
def means (u n : FVec F S8 .f32) : FVec F S8 .f32 := Host.divf u (mulf n (broadcastInDim S8 ![] bcast_S_S8 (constant S_ .f32 0x43000000#32)))
/-- How far each of eight values lies from their mean. -/
def dev8 (x : FVec F S8 .f32) : FVec F S8 .f32 :=
  subf x (broadcastInDim S8 ![] bcast_S_S8 (Host.divf (Host.reduceAdd x (constant S_ .f32 0x00000000#32) reducesTo_S8_S_d0 h_S_) (constant S_ .f32 0x41000000#32)))
/-- The variance of eight values. -/
def spread (x : FVec F S8 .f32) : FVec F S_ .f32 :=
  Host.divf (Host.reduceAdd (mulf (dev8 x) (dev8 x)) (constant S_ .f32 0x00000000#32) reducesTo_S8_S_d0 h_S_) (constant S_ .f32 0x40E00000#32)
/-- The result, from the table. -/
def resOf (o : FVec F S32x272 .f32) : FVec F S_ .f32 :=
  addf (Host.divf (sqSum o) (constant S_ .f32 0x4A000000#32)) (spread (means (labSum o) (labCnt o)))

abbrev p' : DevRef τ sig := Proc.devRef .tc main_arg0
abbrev t' : DevRef τ sig := Proc.devRef .tc main_arg1
abbrev l' : DevRef τ sig := Proc.devRef .tc main_arg2
abbrev o' : DevRef τ sig := Proc.devRef .tc main_v0
abbrev r' : DevRef τ sig := Proc.devRef .tc main_v20
abbrev rLoc (d : Dev nD) : Loc nD τ sig := (SparseCore.T d).loc main_v20

set_option maxHeartbeats 2000000 in
/-- What the operations after the call leave in the result. -/
theorem tail_r (V : Valuation τ sig (Elt F)) : after tailOps V r' = resOf (V o') := by
  unfold resOf spread dev8 means labSum labCnt sqSum grp
  after_results_simp <;> rfl
set_option maxHeartbeats 2000000 in
theorem tail_p (V : Valuation τ sig (Elt F)) : after tailOps V p' = V p' := by after_results_simp <;> rfl
set_option maxHeartbeats 2000000 in
theorem tail_t (V : Valuation τ sig (Elt F)) : after tailOps V t' = V t' := by after_results_simp <;> rfl
set_option maxHeartbeats 2000000 in
theorem tail_l (V : Valuation τ sig (Elt F)) : after tailOps V l' = V l' := by after_results_simp <;> rfl

/-! ## @main on the TensorCore -/

variable (m : (ℓ : Loc nD τ sig) → Buf (Elt F) ℓ) (ρ : Dev nD → PrngReg)

theorem mem_p : p' ∈ Pipeline.ucRefs τ sig := Finset.mem_filter.mpr ⟨devRef_mem_tcRefs _, by decide⟩
theorem mem_t : t' ∈ Pipeline.ucRefs τ sig := Finset.mem_filter.mpr ⟨devRef_mem_tcRefs _, by decide⟩
theorem mem_l : l' ∈ Pipeline.ucRefs τ sig := Finset.mem_filter.mpr ⟨devRef_mem_tcRefs _, by decide⟩
theorem mem_o : o' ∈ Pipeline.ucRefs τ sig := Finset.mem_filter.mpr ⟨devRef_mem_tcRefs _, by decide⟩
theorem mem_r : r' ∈ Pipeline.ucRefs τ sig := Finset.mem_filter.mpr ⟨devRef_mem_tcRefs _, by decide⟩

/-- The buffers other than the three arguments, the table and the result. -/
abbrev others : Finset (DevRef τ sig) := (((((Pipeline.ucRefs τ sig).erase p').erase t').erase l').erase o').erase r'

/-- The launch's buffers: the arguments, the table, the result and the others. -/
theorem held_five (d : Dev nD) (V : Valuation τ sig (Elt F)) :
    (held (SparseCore.T d) (Pipeline.ucRefs τ sig) V : sProp 𝕄)
      = iprop((pLoc d ↦{fullShare} V p') ∗ (tLoc d ↦{fullShare} V t') ∗ (lLoc d ↦{fullShare} V l') ∗ (oLoc d ↦{fullShare} V o')
          ∗ (rLoc d ↦{fullShare} V r') ∗ held (SparseCore.T d) others V) := by
  unfold held
  rw [SparseCore.bigSep_erase' mem_p,
    SparseCore.bigSep_erase' (Finset.mem_erase.mpr ⟨by decide, mem_t⟩),
    SparseCore.bigSep_erase' (Finset.mem_erase.mpr ⟨by decide, Finset.mem_erase.mpr ⟨by decide, mem_l⟩⟩),
    SparseCore.bigSep_erase' (Finset.mem_erase.mpr ⟨by decide, Finset.mem_erase.mpr ⟨by decide, Finset.mem_erase.mpr ⟨by decide, mem_o⟩⟩⟩),
    SparseCore.bigSep_erase' (Finset.mem_erase.mpr ⟨by decide, Finset.mem_erase.mpr ⟨by decide, Finset.mem_erase.mpr ⟨by decide, Finset.mem_erase.mpr ⟨by decide, mem_r⟩⟩⟩⟩)]

/-- The launch's contents, and the contents once the call has left the table at `g`. -/
def V0 (d : Dev nD) : Valuation τ sig (Elt F) := fun b => m (d, b)
def V1 (d : Dev nD) (g : FVec F S32x272 .f32) : Valuation τ sig (Elt F) := Function.update (V0 m d) o' g

theorem V1_ne (d : Dev nD) (g : FVec F S32x272 .f32) {b : DevRef τ sig} (h : b ≠ o') : V1 m d g b = V0 m d b := Function.update_of_ne h _ _
theorem V1_o (d : Dev nD) (g : FVec F S32x272 .f32) : V1 m d g o' = g := Function.update_self _ _ _

theorem held_V1 (d : Dev nD) (g : FVec F S32x272 .f32) :
    (held (SparseCore.T d) (Pipeline.ucRefs τ sig) (V1 m d g) : sProp 𝕄)
      = iprop((pLoc d ↦{fullShare} m (pLoc d)) ∗ (tLoc d ↦{fullShare} m (tLoc d)) ∗ (lLoc d ↦{fullShare} m (lLoc d)) ∗ (oLoc d ↦{fullShare} g)
          ∗ (rLoc d ↦{fullShare} m (rLoc d)) ∗ held (SparseCore.T d) others (V0 m d)) := by
  rw [held_five, V1_ne m d g (show p' ≠ o' by decide), V1_ne m d g (show t' ≠ o' by decide), V1_ne m d g (show l' ≠ o' by decide),
    V1_ne m d g (show r' ≠ o' by decide), V1_o,
    held_congr (SparseCore.T d) (fun b hb => V1_ne m d g (Finset.ne_of_mem_erase (Finset.mem_of_mem_erase hb)))]
  rfl

theorem held_end (d : Dev nD) (g : FVec F S32x272 .f32) :
    (held (SparseCore.T d) (Pipeline.ucRefs τ sig) (after tailOps (V1 m d g)) : sProp 𝕄)
      = iprop((pLoc d ↦{fullShare} m (pLoc d)) ∗ (tLoc d ↦{fullShare} m (tLoc d)) ∗ (lLoc d ↦{fullShare} m (lLoc d))
          ∗ (oLoc d ↦{fullShare} after tailOps (V1 m d g) o')
          ∗ (rLoc d ↦{fullShare} resOf g) ∗ held (SparseCore.T d) others (after tailOps (V1 m d g))) := by
  rw [held_five, tail_p, tail_t, tail_l, tail_r, V1_ne m d g (show p' ≠ o' by decide), V1_ne m d g (show t' ≠ o' by decide),
    V1_ne m d g (show l' ≠ o' by decide), V1_o]
  rfl

/-- The table `g` holds, in every tile's row, what the tile's rows of the launch's arrays add up to. -/
def TableOk (d : Dev nD) (g : FVec F S32x272 .f32) : Prop := ∀ t : Tiles, RowOk (tl t) (m (pLoc d)) (m (tLoc d)) (m (lLoc d)) g

/-- What @main leaves the claims: the arguments as they were, and the result of a table filled in. -/
abbrev FIN (d : Dev nD) : sProp 𝕄 :=
  iprop((pLoc d ↦{fullShare} m (pLoc d)) ∗ (tLoc d ↦{fullShare} m (tLoc d)) ∗ (lLoc d ↦{fullShare} m (lLoc d))
    ∗ ∃ g : FVec F S32x272 .f32, ⌜TableOk m d g⌝ ∗ rLoc d ↦{fullShare} resOf g)

theorem launch_held (d : Dev nD) : (unscopedBufs d (fun b => m ((SparseCore.T d).loc b)) : sProp 𝕄)
    = iprop((pLoc d ↦{fullShare} m (pLoc d)) ∗ (tLoc d ↦{fullShare} m (tLoc d)) ∗ (lLoc d ↦{fullShare} m (lLoc d)) ∗ (oLoc d ↦{fullShare} m (oLoc d))
          ∗ (rLoc d ↦{fullShare} m (rLoc d)) ∗ held (SparseCore.T d) others (V0 m d)) :=
  (Pipeline.unscopedBufs_held d (V0 m d)).trans (held_five d (V0 m d))

/-- @main on device `d`'s TensorCore: the call, from the four arrays, and then the operations on the table. -/
theorem hmain (κ : GSem nD τ sig → ℕ) (d : Dev nD) :
    iprop((K (F := F)).ctx EH (Py m) κ ∗ (K (F := F)).tcSt EH d 0 ∗ (K (F := F)).tcRes m ρ d ∗ emp)
      ⊢ wp frame (wpE ((K (F := F)).defs (D (F := F))) 𝒱 (SparseCore.T d) none) Set.univ (main d)
          fun _ => (iprop((K (F := F)).tcSt EH d 1 ∗ FIN m d ∗ (K (F := F)).tcEnd d) : sProp 𝕄) := by
  unfold SparseCore.Cfg.tcRes SparseCore.Cfg.tcEnd
  rw [launch_held, main_eq, wp_bind]
  iintro ⟨#Hctx, Hst, ⟨Hb, ⟨Hp, Ht, Hl, Ho, Hr, Hx⟩, Hts, -⟩, -⟩
  iapply ((K (F := F)).wp_run (D (F := F)) 𝒱 (EH := EH) (P := Py m) κ d 0) $$ [Hst Hp Ht Hl Ho Hr Hx Hb Hts]
  isplitr; · iexact Hctx
  isplitl [Hst]; · iexact Hst
  isplitl [Hp Ht Hl Ho]
  · rw [start_eq]
    isplitl [Hp Ht Hl]
    · isplitl [Hp]; · iexact Hp
      isplitl [Ht]; · iexact Ht
      iexact Hl
    iexact Ho
  iintro ⟨Hst, Hdn⟩
  ihave Hdn' := (done_to d m) $$ Hdn
  icases Hdn' with ⟨⟨Hp, Ht, Hl⟩, ⟨%g, %hg, Ho⟩⟩
  iapply (wp_seq 𝒱 none Set.univ d (Pipeline.ucRefs τ sig) (fun _ => Pure.pure ⟨⟩) tailOps tail_sub tail_fresh (V1 m d g)) $$ [Hb Hp Ht Hl Ho Hr Hx]
  · isplitl [Hb]; · iexact Hb
    rw [held_V1]
    isplitl [Hp]; · iexact Hp
    isplitl [Ht]; · iexact Ht
    isplitl [Hl]; · iexact Hl
    isplitl [Ho]; · iexact Ho
    isplitl [Hr]; · iexact Hr
    iexact Hx
  iintro ⟨Hb, Hheld⟩
  ihave Hh := (Entails.of_eq (held_end (F := F) m d g)) $$ Hheld
  icases Hh with ⟨Hp, Ht, Hl, -, Hr, -⟩
  rw [wp_pure]; imodintro
  isplitl [Hst]; · iexact Hst
  isplitr [Hb Hts]
  · isplitl [Hp]; · iexact Hp
    isplitl [Ht]; · iexact Ht
    isplitl [Hl]; · iexact Hl
    iexists g
    isplitr; · ipureintro; exact hg
    iexact Hr
  isplitl [Hb] <;> iassumption

/-- What the claims read of device `d`'s final state. -/
def fq (d : Dev nD) (s' : Phys nD τ sig (Elt F)) : Prop :=
  s'.mem.mem (pLoc d) = m (pLoc d) ∧ s'.mem.mem (tLoc d) = m (tLoc d) ∧ s'.mem.mem (lLoc d) = m (lLoc d)
    ∧ ∃ g, TableOk m d g ∧ s'.mem.mem (rLoc d) = resOf g

/-- The final state read off what @main leaves. -/
theorem hfin (d : Dev nD) (s' : Phys nD τ sig (Elt F)) : iprop(FIN m d ∗ SI s') ⊢ (⌜fq m d s'⌝ : sProp 𝕄) := by
  iintro ⟨⟨Hp, Ht, Hl, ⟨%g, %hg, Hr⟩⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%hp, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%ht, HSI, -⟩
  ihave H := (persistent_entails_right (SI_pointsTo_agree (st := s') (ℓ := lLoc d) (I := Finset.univ) (q := fullShare) (f := m (lLoc d)))) $$ [HSI Hl]
  · isplitl [HSI] <;> iassumption
  icases H with ⟨%hl, HSI, -⟩
  ihave H := (SI_pointsTo_agree (st := s') (ℓ := rLoc d) (I := Finset.univ) (q := fullShare) (f := resOf g)) $$ [HSI Hr]
  · isplitl [HSI] <;> iassumption
  icases H with %hr
  ipureintro
  exact ⟨funext fun i => hp i (Finset.mem_univ i), funext fun i => ht i (Finset.mem_univ i), funext fun i => hl i (Finset.mem_univ i),
    g, hg, funext fun i => hr i (Finset.mem_univ i)⟩

/-! ## The launch -/

omit [FloatOps F] in
/-- A family of nothing is nothing. -/
theorem bigSep_nothing {I : Type} (s : Finset I) : (bigSep s fun _ => iprop(emp)) = (iprop(emp) : sProp 𝕄) := bigSep_emp_const s

/-- The launch's ghost state: the handshakes' rounds. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (Py m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (Py (F := F) m).x q thr) = bigSep Finset.univ fun _ => iprop(emp) from
    bigSep_congr fun _ _ => bigSep_univ_of_subsingleton (0 : Fin 1), bigSep_nothing]
  iempintro

/-- The final states: every device's arguments as they were, its result that of a table filled in, and every
    semaphore at zero. -/
def QC : PUnit × MemSt nD τ sig (Elt F) → Prop := fun r =>
  (∀ c : Dev nD, r.2.mem (pLoc c) = m (pLoc c) ∧ r.2.mem (tLoc c) = m (tLoc c) ∧ r.2.mem (lLoc c) = m (lLoc c)
    ∧ ∃ g, TableOk m c g ∧ r.2.mem (rLoc c) = resOf g) ∧ r.2.sem = fun _ => 0

/-- The program runs, and ends in such a state, when every label is below 8. -/
theorem run_main [∀ e, Nonempty (Elt F e)] (hs : ∀ d, Small (m (lLoc d))) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Py m) (A := ∅) facts v₀
    (fun q hq => match q with | 0 => nomatch hq)
    (fun q _ => match q with | 0 => tileObl m hs facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Run
-- ==== Proof.Frames.lean ====
/- The precondition read back, and the program's runs at machine numbers and at ideal ones. -/
module

public import proofs.«01_k».proof.Proof.Launch
public import proofs.«01_k».proof.Proof.Gen.ReferenceIdeal.Run
public import proofs.«01_k».proof.Proof.Gen.Kernel
public import proofs.«01_k».proof.Proof.Gen.Pre_labels_in_range
public import proofs.«01_k».proof.Defs
public import Idealize.ShloMosaic.Lib.ReduceAll
public import Idealize.ShloMosaic.Lib.Affine

@[expose] public section

noncomputable section

namespace Cert.Frames

open Cert.KernelIdeal Cert.KernelIdeal.Gen Cert.KernelIdeal.Rows Cert.KernelIdeal.Model Cert.KernelIdeal.Run
open Cert.Pre_labels_in_range.Gen Cert.Kernel.Gen Cert.ReferenceIdeal.Gen
open Idealize.ShloMosaic Idealize.SL.Sem

/-- The precondition says that every label is below 8. -/
theorem small_of_pre {F : FTy → Type} [FloatOps F] (p t : FVec F S16384x128 .f32) (lab : IVec S16384 32)
    (h : Cert.Pre_labels_in_range.fn (F := F) p t lab = fun _ => 1#1) : Small lab := by
  intro j
  have e := Host.reduce_andi_all _ _ _ _ _ (congrFun h (Shape.Idx.first (by decide))) j
  have e' : IntOp.andi (IntOp.cmpi .sge (lab j) 0#32) (IntOp.cmpi .slt (lab j) 8#32) = 1#1 := e
  have h0 : (0#32 : BitVec 32).toInt = 0 := by decide
  have h8 : (8#32 : BitVec 32).toInt = 8 := by decide
  have hge : IntOp.cmpi .sge (lab j) 0#32 = 1#1 := by
    rcases BitVec.eq_zero_or_eq_one (IntOp.cmpi .sge (lab j) 0#32) with hc | hc
    · rw [hc] at e'
      rcases BitVec.eq_zero_or_eq_one (IntOp.cmpi .slt (lab j) 8#32) with hd | hd <;> rw [hd] at e' <;> exact absurd e' (by decide)
    · exact hc
  have hlt : IntOp.cmpi .slt (lab j) 8#32 = 1#1 := by
    rcases BitVec.eq_zero_or_eq_one (IntOp.cmpi .slt (lab j) 8#32) with hc | hc
    · rw [hc, hge] at e'
      exact absurd e' (by decide)
    · exact hc
  rw [IntOp.cmpi_sge, h0] at hge
  rw [IntOp.cmpi_slt, h8] at hlt
  have := BitVec.toInt_eq_toNat_cond (lab j)
  split at this <;> omega

/-- The program, at machine numbers, runs and leaves its arguments and every semaphore as it found them. -/
theorem frame_kernel : Cert.quiescent_Kernel := fun m ρ hpre =>
  (θ_run (Cert.KernelIdeal.defs (F := Bits)) (Cert.KernelIdeal.threads (F := Bits)) _).mono
    (fun _ h => ⟨fun c => ⟨(h.1 c).1, (h.1 c).2.1, (h.1 c).2.2.1⟩, h.2⟩)
    (run_main (F := Bits) m ρ fun d => small_of_pre _ _ _ (hpre d))

/-- The program, at ideal numbers, runs and leaves its arguments and every semaphore as it found them. -/
theorem frame_ideal : Cert.quiescent_KernelIdeal := fun m ρ hpre =>
  (θ_run (Cert.KernelIdeal.defs (F := Ideal)) (Cert.KernelIdeal.threads (F := Ideal)) _).mono
    (fun _ h => ⟨fun c => ⟨(h.1 c).1, (h.1 c).2.1, (h.1 c).2.2.1⟩, h.2⟩)
    (run_main (F := Ideal) m ρ fun d => small_of_pre _ _ _ (hpre d))

/-- The reference, at ideal numbers, runs and leaves its arguments as it found them; it has no semaphore. -/
theorem frame_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

end Cert.Frames
-- ==== Proof.Sums.lean ====
/- What a tile's row of results is over the extended reals: finite sums over the tile's rows. -/
module

public import proofs.«01_k».proof.Proof.Loop
public import Idealize.ShloMosaic.PureOps.Ideal.Laws
public import Idealize.ShloMosaic.Lib.IdealHost

@[expose] public section

noncomputable section

namespace Cert.Sums

open Cert.KernelIdeal Cert.KernelIdeal.Gen Cert.KernelIdeal.Rows Cert.KernelIdeal.Model Cert.KernelIdeal.Run
open Idealize.ShloMosaic

/-! ## One indexed add -/

/-- An unmasked adding store is its lanes' adds, one after another. -/
theorem store_ones {F : FTy → Type} [FloatOps F] {s : Shape} {e : EltTy} {d : Fin 1 → ℕ} (f : Vec F s e) (ix : Fin s.rank → IVec ⟨1, d⟩ 32) (v : Vec F ⟨1, d⟩ e)
    (h : ∀ a x, (ix a x).toNat < s.size a) :
    storeIdx f ix v (fun _ => 1#1) true h
      = (List.finRange (d 0)).foldl (fun g k => fun j => if ∀ a, (j a).val = (idxAt ix h (Shape.ofLane k) a).val
          then Elt.idxAdd e (g (idxAt ix h (Shape.ofLane k))) (v (Shape.ofLane k)) else g j) f := by
  unfold storeIdx
  refine congrArg (fun st => List.foldl st f _) (funext fun g => funext fun k => ?_)
  dsimp only
  rw [if_pos (by decide), if_pos rfl]
  funext j
  congr

/-- Adds made lane by lane, read at one place: what was there, plus the lanes that name the place. -/
theorem foldl_add (ix : IVec S16 32) (v : FVec Ideal S16 .f32) (h : InTable ix) (j : S272.Idx) (l : List (Fin 16)) :
    ∀ g : FVec Ideal S272 .f32,
    (l.foldl (fun (g : FVec Ideal S272 .f32) (k : Fin 16) =>
      fun (i : S272.Idx) => if ∀ a, (i a).val = (idxAt (s := S272) ![ix] h (Shape.ofLane (d := ![16]) k) a).val
        then (Elt.idxAdd (F := Ideal) .f32 (g (idxAt (s := S272) ![ix] h (Shape.ofLane (d := ![16]) k))) (v (Shape.ofLane (d := ![16]) k)) : EReal) else g i) g) j
      = ((g j : EReal) + (l.map fun k : Fin 16 => if (ix (lane k.val)).toNat = (j 0).val then (v (lane k.val) : EReal) else 0).sum : EReal) := by
  induction l with
  | nil => intro g; simp
  | cons k l ih =>
    intro g
    rw [List.foldl_cons, ih, List.map_cons, List.sum_cons, ← add_assoc]
    congr 1
    have hk : (Shape.ofLane (d := ![16]) k : S16.Idx) = lane k.val := funext fun a => by
      obtain rfl : a = 0 := Fin.eq_zero a
      exact Fin.ext (Nat.mod_eq_of_lt k.isLt).symm
    rw [hk]
    by_cases hc : (ix (lane k.val)).toNat = (j 0).val
    · have hj : idxAt (s := S272) ![ix] h (lane k.val) = j := funext fun a => by
        obtain rfl : a = 0 := Fin.eq_zero a
        exact Fin.ext hc
      rw [if_pos hc, if_pos (fun a => by rw [hj]), hj]
      rfl
    · rw [if_neg hc, if_neg (fun q => hc (q 0).symm), add_zero]

/-- A scatter-add, read at one place. -/
theorem scat_apply (g : FVec Ideal S272 .f32) (ix : IVec S16 32) (v : FVec Ideal S16 .f32) (h : InTable ix) (j : S272.Idx) :
    scat g ix v j = ((g j : EReal) + ∑ x ∈ Finset.range 16, if (ix (lane x)).toNat = (j 0).val then (v (lane x) : EReal) else 0 : EReal) := by
  unfold scat
  rw [dif_pos h]
  rw [store_ones]
  refine (foldl_add ix v h j (List.finRange 16) g).trans ?_
  rw [← Fin.sum_univ_def, Fin.sum_univ_eq_sum_range (fun x => if (ix (lane x)).toNat = (j 0).val then (v (lane x) : EReal) else 0)]

/-- Where a row's sums go, as a number. -/
theorem sumIx_toNat (lab : IVec S16 32) (r x : ℕ) (hx : x < 16) (h : (lab (lane r)).toNat < 8) :
    (sumIx k0_pay1515 lab r (lane x)).toNat = 16 * ((lab (lane r)).toNat + 1) + x := by
  have e : (k0_pay1515 (lane x)).toNat = x + 16 := by
    show ((BitVec.ofNat 32 (0 * 16 + x % 16)) + 16#32).toNat = _
    simp only [BitVec.toNat_add, BitVec.toNat_ofNat]; omega
  show (lab (lane r) * 16#32 + k0_pay1515 (lane x)).toNat = _
  simp only [BitVec.toNat_add, BitVec.toNat_mul, e, BitVec.toNat_ofNat]
  omega

/-- Where a lane's count goes, as a number. -/
theorem cntIx_toNat (lab : IVec S16 32) (x : ℕ) (hx : x < 16) (h : (lab (lane x)).toNat < 8) :
    (cntIdx (F := Ideal) k0_pay1516 lab (lane x)).toNat = 16 * ((lab (lane x)).toNat + 9) + x := by
  have e : (k0_pay1516 (lane x)).toNat = x + 144 := by
    show ((BitVec.ofNat 32 (0 * 16 + x % 16)) + 144#32).toNat = _
    simp only [BitVec.toNat_add, BitVec.toNat_ofNat]; omega
  show (lab (lane x) * 16#32 + k0_pay1516 (lane x)).toNat = _
  simp only [BitVec.toNat_add, BitVec.toNat_mul, e, BitVec.toNat_ofNat]
  omega

/-- Place `l` of line `q` of the table. -/
def at2 (q l : ℕ) : S272.Idx := fun
  | 0 => ⟨(16 * q + l) % 272, Nat.mod_lt _ (by decide)⟩

theorem at2_val (q l : ℕ) (hq : q < 17) (hl : l < 16) : (at2 q l 0).val = 16 * q + l := Nat.mod_eq_of_lt (by omega)

/-- Of sixteen lanes, exactly the one with the place's offset names the place, and only when its line is the place's. -/
theorem sum_line (q l : ℕ) (hl : l < 16) (n : ℕ → ℕ) (f : ℕ → EReal) :
    (∑ x ∈ Finset.range 16, if 16 * n x + x = 16 * q + l then f x else 0) = if n l = q then f l else 0 := by
  rw [Finset.sum_eq_single l]
  · by_cases h : n l = q
    · rw [if_pos h, if_pos (by rw [h])]
    · rw [if_neg h, if_neg (by omega)]
  · intro x hx hne
    have := Finset.mem_range.1 hx
    rw [if_neg (by omega)]
  · intro h; exact absurd (Finset.mem_range.2 hl) h

/-- One row's scatter at a place: the row's lane sum, when the place is on the line of the row's label. -/
theorem scat_sum (g : FVec Ideal S272 .f32) (lab : IVec S16 32) (r q l : ℕ) (v : FVec Ideal S16 .f32) (hi : InTable (sumIx k0_pay1515 lab r))
    (h : (lab (lane r)).toNat < 8) (hq : q < 17) (hl : l < 16) :
    scat g (sumIx k0_pay1515 lab r) v (at2 q l) = ((g (at2 q l) : EReal) + if (lab (lane r)).toNat + 1 = q then (v (lane l) : EReal) else 0 : EReal) := by
  rw [scat_apply _ _ _ hi, at2_val q l hq hl]
  refine congrArg ((g (at2 q l) : EReal) + ·) ?_
  refine (Finset.sum_congr rfl fun x hx => ?_).trans (sum_line q l hl (fun _ => (lab (lane r)).toNat + 1) fun x => (v (lane x) : EReal))
  rw [sumIx_toNat lab r x (Finset.mem_range.1 hx) h]

/-- A block's counts at a place: one, when the place is on the count line of its lane's label. -/
theorem scat_cnt (g : FVec Ideal S272 .f32) (lab : IVec S16 32) (q l : ℕ) (v : FVec Ideal S16 .f32) (hi : InTable (cntIdx (F := Ideal) k0_pay1516 lab))
    (h : ∀ x, (lab x).toNat < 8) (hq : q < 17) (hl : l < 16) :
    scat g (cntIdx (F := Ideal) k0_pay1516 lab) v (at2 q l) = ((g (at2 q l) : EReal) + if (lab (lane l)).toNat + 9 = q then (v (lane l) : EReal) else 0 : EReal) := by
  rw [scat_apply _ _ _ hi, at2_val q l hq hl]
  refine congrArg ((g (at2 q l) : EReal) + ·) ?_
  refine (Finset.sum_congr rfl fun x hx => ?_).trans (sum_line q l hl (fun x => (lab (lane x)).toNat + 9) fun x => (v (lane x) : EReal))
  rw [cntIx_toNat lab x (Finset.mem_range.1 hx) (h _)]

/-! ## The trees -/

/-- The tree of eight vectors is their sum. -/
theorem tree_apply (p : ℕ → FVec Ideal S16 .f32) (x : S16.Idx) :
    tree (p 0) (p 1) (p 2) (p 3) (p 4) (p 5) (p 6) (p 7) x = (∑ k ∈ Finset.range 8, (p k x : EReal) : EReal) := by
  simp only [Finset.sum_range_succ, Finset.sum_range_zero, zero_add]
  show (((p 0 x : EReal) + p 1 x) + (p 2 x + p 3 x) + ((p 4 x + p 5 x) + (p 6 x + p 7 x)) : EReal) = _
  simp only [add_assoc]

/-- The tree of the running sums. -/
def total (a : Acc Ideal) : FVec Ideal S16 .f32 :=
  tree a.1 a.2.1 a.2.2.1 a.2.2.2.1 a.2.2.2.2.1 a.2.2.2.2.2.1 a.2.2.2.2.2.2.1 a.2.2.2.2.2.2.2

/-- The squared difference of two numbers. -/
def sq (x y : EReal) : EReal := (x - y) * (x - y)

/-- One row adds its eight squared differences to the tree of the running sums. -/
theorem total_row (p t : ℕ → FVec Ideal S16 .f32) (a : Acc Ideal) (x : S16.Idx) :
    total (rowAcc p t a) x = ((total a x : EReal) + ∑ k ∈ Finset.range 8, sq (p k x) (t k x) : EReal) := by
  obtain ⟨a0, a1, a2, a3, a4, a5, a6, a7⟩ := a
  simp only [Finset.sum_range_succ, Finset.sum_range_zero, zero_add]
  show ((((a0 x : EReal) + sq (p 0 x) (t 0 x)) + (a1 x + sq (p 1 x) (t 1 x))
      + ((a2 x + sq (p 2 x) (t 2 x)) + (a3 x + sq (p 3 x) (t 3 x)))
      + (((a4 x + sq (p 4 x) (t 4 x)) + (a5 x + sq (p 5 x) (t 5 x)))
        + ((a6 x + sq (p 6 x) (t 6 x)) + (a7 x + sq (p 7 x) (t 7 x)))) : EReal))
      = ((a0 x + a1 x + (a2 x + a3 x) + (a4 x + a5 x + (a6 x + a7 x)) : EReal) + _)
  abel

/-! ## A block, and the tile -/

/-- The rows of a block, folded: the tree of the running sums gains every row's squared differences. -/
theorem rows_total (v22 lab : IVec S16 32) (p t : ℕ → ℕ → FVec Ideal S16 .f32) (x : S16.Idx) (n : ℕ) (s : St Ideal) :
    total ((List.range n).foldl (rowStep v22 lab p t) s).1 x
      = ((total s.1 x : EReal) + ∑ r ∈ Finset.range n, ∑ k ∈ Finset.range 8, sq (p r k x) (t r k x) : EReal) := by
  induction n with
  | zero => simp
  | succ n ih =>
    rw [List.range_succ, List.foldl_append, Finset.sum_range_succ, ← add_assoc, ← ih]
    exact total_row (p n) (t n) _ x

/-- The rows of a block, folded: a place gains the lane sums of the rows whose label's line it is on. -/
theorem rows_table (lab : IVec S16 32) (p t : ℕ → ℕ → FVec Ideal S16 .f32) (hi : ∀ r, InTable (sumIx k0_pay1515 lab r)) (h : ∀ x, (lab x).toNat < 8)
    (q l : ℕ) (hq : q < 17) (hl : l < 16) (n : ℕ) (s : St Ideal) :
    ((List.range n).foldl (rowStep k0_pay1515 lab p t) s).2 (at2 q l)
      = ((s.2 (at2 q l) : EReal) + ∑ r ∈ Finset.range n, if (lab (lane r)).toNat + 1 = q then ∑ k ∈ Finset.range 8, (p r k (lane l) : EReal) else 0 : EReal) := by
  induction n with
  | zero => simp
  | succ n ih =>
    rw [List.range_succ, List.foldl_append, Finset.sum_range_succ, ← add_assoc, ← ih]
    refine (scat_sum _ lab n q l _ (hi n) (h _) hq hl).trans ?_
    rw [tree_apply (p n)]

/-- The squared differences of a tile's first `n` blocks, at lane `l`. -/
theorem st_total (v22 v24 : IVec S16 32) (v25 : FVec Ideal S16 .f32) (p t : FVec Ideal S16384x128 .f32) (lab : IVec S16384 32) (base : ℕ) (s₀ : St Ideal) (x : S16.Idx) (n : ℕ) :
    total (stAt v22 v24 v25 p t lab base s₀ n).1 x
      = ((total s₀.1 x : EReal) + ∑ m ∈ Finset.range n, ∑ r ∈ Finset.range 16, ∑ k ∈ Finset.range 8,
          sq (rowPiece p (base + 16 * m + r) k x) (rowPiece t (base + 16 * m + r) k x) : EReal) := by
  induction n with
  | zero => simp [stAt]
  | succ n ih =>
    rw [Finset.sum_range_succ, ← add_assoc, ← ih]
    rw [stAt, blkStep, rows_total]

/-- What a tile's first `n` blocks add to a place of the table. -/
theorem st_table (p t : FVec Ideal S16384x128 .f32) {lab : IVec S16384 32} (hs : Small lab) (base : ℕ) (s₀ : St Ideal) (q l : ℕ) (hq : q < 17) (hl : l < 16) (n : ℕ) :
    (stAt k0_pay1515 k0_pay1516 (k0_pay1517 (F := Ideal)) p t lab base s₀ n).2 (at2 q l)
      = ((s₀.2 (at2 q l) : EReal) + ∑ m ∈ Finset.range n, ((if (lab (ix1 (base + 16 * m + l))).toNat + 9 = q then (1 : EReal) else 0)
          + ∑ r ∈ Finset.range 16, if (lab (ix1 (base + 16 * m + r))).toNat + 1 = q then ∑ k ∈ Finset.range 8, (p (ix2 (base + 16 * m + r) (16 * k + l)) : EReal) else 0) : EReal) := by
  induction n with
  | zero => simp [stAt]
  | succ n ih =>
    rw [Finset.sum_range_succ, ← add_assoc, ← ih, ← add_assoc]
    rw [stAt, blkStep, rows_table (labAt lab base n) _ _ (inTable_sum hs base n) (fun x => hs _) q l hq hl 16]
    have e1 : (k0_pay1517 (F := Ideal) (lane l) : EReal) = 1 := Ideal.ofBits_one_f32
    refine congrArg₂ (fun a b : EReal => a + b) ?_ (Finset.sum_congr rfl fun r hr => ?_)
    · refine (scat_cnt _ (labAt lab base n) q l _ (inTable_cnt hs base n) (fun x => hs _) hq hl).trans ?_
      rw [e1]
      show _ + (if (lab (ix1 (base + 16 * n + l % 16))).toNat + 9 = q then (1 : EReal) else 0) = _
      rw [Nat.mod_eq_of_lt hl]
    · show (if (lab (ix1 (base + 16 * n + r % 16))).toNat + 1 = q then ∑ k ∈ Finset.range 8, (p (ix2 (base + 16 * n + r) (16 * k + l % 16)) : EReal) else 0) = _
      rw [Nat.mod_eq_of_lt hl, Nat.mod_eq_of_lt (Finset.mem_range.1 hr)]

/-! ## The row a tile writes -/

theorem zero_word (x : S16.Idx) : (k0_pay1514 (F := Ideal) x : EReal) = 0 := Ideal.ofBits_zero_f32

variable (p t : FVec Ideal S16384x128 .f32) {lab : IVec S16384 32} (base : ℕ) {g₀ : FVec Ideal S272 .f32}

/-- The first line: lane `l` is the sum of the squared differences at the columns congruent to `l`. -/
theorem out_sq (l : ℕ) (hl : l < 16) :
    outRow p t lab base g₀ (at2 0 l) = (∑ m ∈ Finset.range 32, ∑ r ∈ Finset.range 16, ∑ k ∈ Finset.range 8,
      sq (p (ix2 (base + 16 * m + r) (16 * k + l))) (t (ix2 (base + 16 * m + r) (16 * k + l))) : EReal) := by
  have hv := at2_val 0 l (by decide) hl
  unfold outRow
  dsimp only
  rw [if_pos (by omega), hv, show 16 * 0 + l = l by omega]
  refine (st_total _ _ _ p t lab base _ (lane l) 32).trans ?_
  have hz : (total (acc₀ (k0_pay1514 (F := Ideal))) (lane l) : EReal) = 0 := by
    refine (tree_apply (fun _ => k0_pay1514 (F := Ideal)) (lane l)).trans ?_
    exact Finset.sum_eq_zero fun k _ => zero_word _
  rw [show ((acc₀ (k0_pay1514 (F := Ideal)), g₀) : St Ideal).1 = acc₀ (k0_pay1514 (F := Ideal)) from rfl, hz, zero_add]
  refine Finset.sum_congr rfl fun m _ => Finset.sum_congr rfl fun r _ => Finset.sum_congr rfl fun k _ => ?_
  show sq (p (ix2 (base + 16 * m + r) (16 * k + l % 16))) (t (ix2 (base + 16 * m + r) (16 * k + l % 16))) = _
  rw [Nat.mod_eq_of_lt hl]

/-- Any later line, before the two kinds of line are told apart. -/
theorem out_line (hs : Small lab) (hg : Cleared g₀) (q l : ℕ) (h1 : 1 ≤ q) (hq : q < 17) (hl : l < 16) :
    outRow p t lab base g₀ (at2 q l) = (∑ m ∈ Finset.range 32, ((if (lab (ix1 (base + 16 * m + l))).toNat + 9 = q then (1 : EReal) else 0)
          + ∑ r ∈ Finset.range 16, if (lab (ix1 (base + 16 * m + r))).toNat + 1 = q then ∑ k ∈ Finset.range 8, (p (ix2 (base + 16 * m + r) (16 * k + l)) : EReal) else 0) : EReal) := by
  have hv := at2_val q l hq hl
  unfold outRow
  dsimp only
  rw [if_neg (by omega)]
  refine (st_table p t hs base _ q l hq hl 32).trans ?_
  rw [show ((acc₀ (k0_pay1514 (F := Ideal)), g₀) : St Ideal).2 (at2 q l) = (0 : EReal) from (hg _ (by omega)).trans (zero_word _), zero_add]

/-- Line `1 + g`: lane `l` is the sum, over the rows labelled `g`, of the columns congruent to `l`. -/
theorem out_sum (hs : Small lab) (hg : Cleared g₀) (g l : ℕ) (h8 : g < 8) (hl : l < 16) :
    outRow p t lab base g₀ (at2 (1 + g) l) = (∑ m ∈ Finset.range 32, ∑ r ∈ Finset.range 16,
      if (lab (ix1 (base + 16 * m + r))).toNat = g then ∑ k ∈ Finset.range 8, (p (ix2 (base + 16 * m + r) (16 * k + l)) : EReal) else 0 : EReal) := by
  rw [out_line p t base hs hg (1 + g) l (by omega) (by omega) hl]
  refine Finset.sum_congr rfl fun m _ => ?_
  rw [if_neg (by omega), zero_add]
  refine Finset.sum_congr rfl fun r _ => ?_
  by_cases h : (lab (ix1 (base + 16 * m + r))).toNat = g
  · rw [if_pos h, if_pos (by omega)]
  · rw [if_neg h, if_neg (by omega)]

/-- Line `9 + g`: lane `l` counts the blocks whose row `l` is labelled `g`. -/
theorem out_cnt (hs : Small lab) (hg : Cleared g₀) (g l : ℕ) (h8 : g < 8) (hl : l < 16) :
    outRow p t lab base g₀ (at2 (9 + g) l) = (∑ m ∈ Finset.range 32, if (lab (ix1 (base + 16 * m + l))).toNat = g then (1 : EReal) else 0 : EReal) := by
  rw [out_line p t base hs hg (9 + g) l (by omega) (by omega) hl]
  refine Finset.sum_congr rfl fun m _ => ?_
  rw [Finset.sum_eq_zero fun r _ => if_neg (by have := hs (ix1 (base + 16 * m + r)); omega), add_zero]
  by_cases h : (lab (ix1 (base + 16 * m + l))).toNat = g
  · rw [if_pos h, if_pos (by omega)]
  · rw [if_neg h, if_neg (by omega)]

end Cert.Sums
-- ==== Proof.Tables.lean ====
/- The table of partial results read element by element, and the three sums @main takes of it. -/
module

public import proofs.«01_k».proof.Proof.Launch
public import proofs.«01_k».proof.Proof.Sums
public import Idealize.ShloMosaic.Lib.Pointwise.Reduce

@[expose] public section

noncomputable section

namespace Cert.Tables

open Cert.KernelIdeal Cert.KernelIdeal.Gen Cert.KernelIdeal.Rows Cert.KernelIdeal.Model Cert.KernelIdeal.Run Cert.Sums
open Idealize.ShloMosaic Idealize.SL.Sem

/-- Element `n` of row `w` of the table. -/
def cell (w n : ℕ) : S32x272.Idx := fun
  | 0 => ⟨w % 32, Nat.mod_lt _ (by decide)⟩
  | 1 => ⟨n % 272, Nat.mod_lt _ (by decide)⟩

/-- Element `n` of the one row of a slice of the table. -/
def cellRow (n : ℕ) : S1x272.Idx := fun
  | 0 => ⟨0, by decide⟩
  | 1 => ⟨n % 272, Nat.mod_lt _ (by decide)⟩

/-- Dropping the slice's unit axis keeps the place in the row. -/
theorem cellRow_eq (h : S272.numel = S1x272.numel) (j : S272.Idx) : Shape.reshapeEquiv h j = cellRow (j 0).val := by
  refine Shape.reshapeEquiv_eq_of_rowMajor h ?_
  rw [Shape.rowMajor_val_two, Shape.rowMajor_val_one]
  have hj : (j 0).val < 272 := (j 0).isLt
  show 0 * 272 + (j 0).val % 272 = (j 0).val
  omega

/-- A tile's row of the table, read. -/
theorem row_read (L : grid0.Coords) (hL : tileNo L < 32) (o : FVec Ideal S32x272 .f32) (j : S272.Idx) :
    ((outOf L).view.read (Elt Ideal) o j : EReal) = o (cell (tileNo L) (j 0).val) := by
  have e : (outOf L).view.emb j = cell (tileNo L) (j 0).val := by
    refine (congrArg (Rect.unit (s := S32x272) (k0_off519 L) S1x272.size (k0_off519_inb L)).emb (cellRow_eq squeezes_S1x272_S272.numel_eq j)).trans ?_
    refine funext fun a => Fin.ext ?_
    match a with
    | 0 =>
      show k0_off519 L 0 + 1 * 0 = tileNo L % 32
      rw [k0_off519_eq]
      show tileNo L + 1 * 0 = tileNo L % 32
      omega
    | 1 =>
      show k0_off519 L 1 + 1 * ((j 0).val % 272) = (j 0).val % 272
      rw [k0_off519_eq]
      show 0 + 1 * ((j 0).val % 272) = (j 0).val % 272
      omega
  exact congrArg o e

/-- The table, when every tile's row is right: row `w` holds the results of the 512 rows from `512 w` on. -/
def Right (P T : FVec Ideal S16384x128 .f32) (lab : IVec S16384 32) (o : FVec Ideal S32x272 .f32) : Prop :=
  ∀ w, w < 32 → ∃ g₀, Cleared (F := Ideal) g₀ ∧ ∀ q l, q < 17 → l < 16 → (o (cell w (16 * q + l)) : EReal) = outRow P T lab (512 * w) g₀ (at2 q l)

/-- The tiles' rows, taken together, make the table right. -/
theorem right_of_rows {P T : FVec Ideal S16384x128 .f32} {lab : IVec S16384 32} {o : FVec Ideal S32x272 .f32}
    (h : ∀ t : Tiles, RowOk (F := Ideal) (tl t) P T lab o) : Right P T lab o := by
  intro w hw
  obtain ⟨g₀, hg, e⟩ := h (⟨w % 2, by omega⟩, ⟨w / 2, by omega⟩)
  have hn : tileNo (tl (⟨w % 2, by omega⟩, ⟨w / 2, by omega⟩)) = w := by
    rw [tileNo_tl]; show 2 * (w / 2) + w % 2 = w; omega
  refine ⟨g₀, hg, fun q l hq hl => ?_⟩
  have e' := congrFun e (at2 q l)
  rw [base_eq, hn] at e'
  refine Eq.trans ?_ e'
  refine Eq.trans ?_ (row_read _ (by omega) o (at2 q l)).symm
  rw [hn, at2_val q l hq hl]

/-! ## The three sums -/

/-- The grouped table, element by element. -/
theorem grp_apply (o : FVec Ideal S32x272 .f32) (i : S32x17x16.Idx) : (grp o i : EReal) = o (cell (i 0).val (16 * (i 1).val + (i 2).val)) := by
  unfold grp shapeCast
  refine congrArg o (Shape.reshapeEquiv_eq_of_rowMajor _ ?_)
  have h0 : (i 0).val < 32 := (i 0).isLt
  have h1 : (i 1).val < 17 := (i 1).isLt
  have h2 : (i 2).val < 16 := (i 2).isLt
  rw [Shape.rowMajor_val_three, Shape.rowMajor_val_two]
  show (i 0).val % 32 * 272 + (16 * (i 1).val + (i 2).val) % 272 = ((i 0).val * 17 + (i 1).val) * 16 + (i 2).val
  omega

/-- The float zero the sums start from. -/
theorem zero_const (i : S_.Idx) : (constant (F := Ideal) S_ .f32 0x00000000#32 i : EReal) = 0 := Ideal.ofBits_zero_f32

/-- The sum of the tables' first lines. -/
theorem sqSum_eq (o : FVec Ideal S32x272 .f32) (i : S_.Idx) :
    (sqSum o i : EReal) = ∑ w ∈ Finset.range 32, ∑ l ∈ Finset.range 16, (o (cell w (16 * 0 + l)) : EReal) := by
  refine (Ideal.hostReduceAdd_r2_a01 reducesTo_S32x16_S_d0_1 _ _ i).trans ?_
  rw [zero_const, zero_add, Finset.sum_range]
  refine Finset.sum_congr rfl fun w _ => ?_
  rw [Finset.sum_range]
  refine Finset.sum_congr rfl fun l _ => ?_
  have hw := w.isLt
  have hl := l.isLt
  let k : S32x1x16.Idx := fun a => match a with
    | 0 => ⟨w.val, hw⟩ | 1 => ⟨0, by decide⟩ | 2 => ⟨l.val, hl⟩
  refine (shapeCast_apply _ shapeCasts_S32x1x16_S32x16 _ k ?_).trans ?_
  · rw [Shape.rowMajor_val_three, Shape.rowMajor_val_two]
    show (w.val * 1 + 0) * 16 + l.val = w.val * 16 + l.val
    omega
  · refine (grp_apply o _).trans (congrArg o ?_)
    show cell (0 + w.val) (16 * (0 + 0) + (0 + l.val)) = _
    congr 1 <;> omega

/-- A sum over the tiles and the lanes, at each of eight lines. -/
theorem line_sum (x : FVec Ideal S32x8x16 .f32) (j : S8.Idx) :
    (Host.reduceAdd x (constant (F := Ideal) S_ .f32 0x00000000#32) reducesTo_S32x8x16_S8_d0_2 h_S_ j : EReal)
      = ∑ w : Fin 32, ∑ l : Fin 16, (x (fun a => match a with | 0 => w | 1 => j 0 | 2 => l) : EReal) := by
  show (constant (F := Ideal) S_ .f32 0x00000000#32 _ : EReal)
    + ∑ i ∈ Finset.univ.filter (fun i => (reducesTo_S32x8x16_S8_d0_2).drop i = j), (x i : EReal) = _
  rw [zero_const, zero_add]
  refine (Finset.sum_filter_eq_sum_of_fiber _
    (fun k : Fin 32 × Fin 16 => ((fun a => match a with | 0 => k.1 | 1 => j 0 | 2 => k.2) : S32x8x16.Idx))
    (fun _ _ e => Prod.ext (congrFun e 0) (congrFun e 2)) (fun i => ⟨fun e => ?_, ?_⟩) _).trans ?_
  · refine ⟨(i 0, i 2), funext fun a => ?_⟩
    match a with
    | 0 => rfl
    | 1 => exact Fin.ext (congrArg Fin.val (congrFun e 0)).symm
    | 2 => rfl
  · rintro ⟨k, rfl⟩
    funext b
    obtain rfl : b = 0 := Fin.eq_zero b
    rfl
  · simp only [Fintype.sum_prod_type]

/-- The sums of lines 1 to 8. -/
theorem labSum_eq (o : FVec Ideal S32x272 .f32) (j : S8.Idx) :
    (labSum o j : EReal) = ∑ w ∈ Finset.range 32, ∑ l ∈ Finset.range 16, (o (cell w (16 * (1 + (j 0).val) + l)) : EReal) := by
  refine (line_sum _ j).trans ?_
  rw [Finset.sum_range]
  refine Finset.sum_congr rfl fun w _ => ?_
  rw [Finset.sum_range]
  refine Finset.sum_congr rfl fun l _ => ?_
  refine (grp_apply o _).trans (congrArg o ?_)
  show cell (0 + w.val) (16 * (1 + (j 0).val) + (0 + l.val)) = _
  congr 1 <;> omega

/-- The sums of lines 9 to 16. -/
theorem labCnt_eq (o : FVec Ideal S32x272 .f32) (j : S8.Idx) :
    (labCnt o j : EReal) = ∑ w ∈ Finset.range 32, ∑ l ∈ Finset.range 16, (o (cell w (16 * (9 + (j 0).val) + l)) : EReal) := by
  refine (line_sum _ j).trans ?_
  rw [Finset.sum_range]
  refine Finset.sum_congr rfl fun w _ => ?_
  rw [Finset.sum_range]
  refine Finset.sum_congr rfl fun l _ => ?_
  refine (grp_apply o _).trans (congrArg o ?_)
  show cell (0 + w.val) (16 * (9 + (j 0).val) + (0 + l.val)) = _
  congr 1 <;> omega

/-! ## The sums regrouped -/

/-- A sum over `a` groups of `b`. -/
theorem range_groups (f : ℕ → EReal) (a b : ℕ) : (∑ i ∈ Finset.range (a * b), f i) = ∑ x ∈ Finset.range a, ∑ y ∈ Finset.range b, f (b * x + y) := by
  induction a with
  | zero => simp
  | succ a ih => rw [Nat.succ_mul, Finset.sum_range_add, ih, Finset.sum_range_succ, Nat.mul_comm a b]

/-- The rows, tile by tile and block by block. -/
theorem rows_groups (f : ℕ → EReal) :
    (∑ i ∈ Finset.range 16384, f i) = ∑ w ∈ Finset.range 32, ∑ m ∈ Finset.range 32, ∑ r ∈ Finset.range 16, f (512 * w + 16 * m + r) := by
  refine (range_groups f 32 512).trans (Finset.sum_congr rfl fun w _ => ?_)
  refine (range_groups (fun y => f (512 * w + y)) 32 16).trans (Finset.sum_congr rfl fun m _ => Finset.sum_congr rfl fun r _ => ?_)
  rw [add_assoc]

/-- The columns, lane by lane. -/
theorem cols_groups (f : ℕ → EReal) :
    (∑ c ∈ Finset.range 128, f c) = ∑ l ∈ Finset.range 16, ∑ k ∈ Finset.range 8, f (16 * k + l) :=
  (range_groups f 8 16).trans Finset.sum_comm

/-- A sum over lanes, blocks and rows, the lanes taken last. -/
theorem lanes_last (h : ℕ → ℕ → ℕ → EReal) :
    (∑ l ∈ Finset.range 16, ∑ m ∈ Finset.range 32, ∑ r ∈ Finset.range 16, h l m r)
      = ∑ m ∈ Finset.range 32, ∑ r ∈ Finset.range 16, ∑ l ∈ Finset.range 16, h l m r :=
  Finset.sum_comm.trans (Finset.sum_congr rfl fun _ _ => Finset.sum_comm)

variable {P T : FVec Ideal S16384x128 .f32} {lab : IVec S16384 32} {o : FVec Ideal S32x272 .f32}

/-- The first lines sum to all the squared differences. -/
theorem sqSum_val (h : Right P T lab o) (i : S_.Idx) :
    (sqSum o i : EReal) = ∑ r ∈ Finset.range 16384, ∑ c ∈ Finset.range 128, sq (P (ix2 r c)) (T (ix2 r c)) := by
  rw [sqSum_eq, rows_groups]
  refine Finset.sum_congr rfl fun w hw => ?_
  obtain ⟨g₀, -, e⟩ := h w (Finset.mem_range.1 hw)
  refine (Finset.sum_congr rfl fun l hl => (e 0 l (by decide) (Finset.mem_range.1 hl)).trans (out_sq P T (512 * w) l (Finset.mem_range.1 hl))).trans ?_
  rw [lanes_last]
  exact Finset.sum_congr rfl fun m _ => Finset.sum_congr rfl fun r _ =>
    (cols_groups fun c => sq (P (ix2 (512 * w + 16 * m + r) c)) (T (ix2 (512 * w + 16 * m + r) c))).symm

/-- The sum lines of a label hold the sum of its rows. -/
theorem labSum_val (hs : Small lab) (h : Right P T lab o) (j : S8.Idx) :
    (labSum o j : EReal) = ∑ r ∈ Finset.range 16384, if (lab (ix1 r)).toNat = (j 0).val then ∑ c ∈ Finset.range 128, (P (ix2 r c) : EReal) else 0 := by
  have hj : (j 0).val < 8 := (j 0).isLt
  rw [labSum_eq, rows_groups]
  refine Finset.sum_congr rfl fun w hw => ?_
  obtain ⟨g₀, hg, e⟩ := h w (Finset.mem_range.1 hw)
  refine (Finset.sum_congr rfl fun l hl => (e _ l (by omega) (Finset.mem_range.1 hl)).trans (out_sum P T (512 * w) hs hg _ l hj (Finset.mem_range.1 hl))).trans ?_
  rw [lanes_last]
  refine Finset.sum_congr rfl fun m _ => Finset.sum_congr rfl fun r _ => ?_
  by_cases hc : (lab (ix1 (512 * w + 16 * m + r))).toNat = (j 0).val
  · simp only [if_pos hc]; exact (cols_groups fun c => (P (ix2 (512 * w + 16 * m + r) c) : EReal)).symm
  · simp only [if_neg hc]; exact Finset.sum_eq_zero fun _ _ => rfl

/-- The count lines of a label hold the number of its rows. -/
theorem labCnt_val (hs : Small lab) (h : Right P T lab o) (j : S8.Idx) :
    (labCnt o j : EReal) = ∑ r ∈ Finset.range 16384, if (lab (ix1 r)).toNat = (j 0).val then (1 : EReal) else 0 := by
  have hj : (j 0).val < 8 := (j 0).isLt
  rw [labCnt_eq, rows_groups]
  refine Finset.sum_congr rfl fun w hw => ?_
  obtain ⟨g₀, hg, e⟩ := h w (Finset.mem_range.1 hw)
  refine (Finset.sum_congr rfl fun l hl => (e _ l (by omega) (Finset.mem_range.1 hl)).trans (out_cnt P T (512 * w) hs hg _ l hj (Finset.mem_range.1 hl))).trans ?_
  exact Finset.sum_comm

end Cert.Tables
-- ==== Proof.Loss.lean ====
/- What the reference's sums are over the extended reals, and that the two programs' results agree. -/
module

public import proofs.«01_k».proof.Proof.Tables
public import proofs.«01_k».proof.Proof.Gen.ReferenceIdeal.Run

@[expose] public section

noncomputable section

namespace Cert.Loss

open Cert.KernelIdeal.Model (ix1 ix2)
open Cert.KernelIdeal.Run (Small sqSum labSum labCnt means dev8 spread resOf)
open Cert.Sums Cert.Tables
open Cert.ReferenceIdeal Cert.ReferenceIdeal.Gen
open Idealize.ShloMosaic

variable (P T : FVec Ideal S16384x128 .f32) (lab : IVec S16384 32)

/-- The float one. -/
theorem one_const (i : S_.Idx) : (constant (F := Ideal) S_ .f32 0x3F800000#32 i : EReal) = 1 := Ideal.ofBits_one_f32

/-- The reference's sum of squared differences. -/
theorem ref_sq (i : S_.Idx) :
    (Host.reduceAdd (F := Ideal) (mulf (subf P T) (subf P T)) (constant S_ .f32 0x00000000#32) reducesTo_S16384x128_S_d0_1 h_S_ i : EReal)
      = ∑ r ∈ Finset.range 16384, ∑ c ∈ Finset.range 128, sq (P (ix2 r c)) (T (ix2 r c)) := by
  refine (Ideal.hostReduceAdd_r2_a01 reducesTo_S16384x128_S_d0_1 _ _ i).trans ?_
  rw [zero_const, zero_add, Finset.sum_range]
  refine Finset.sum_congr rfl fun r _ => ?_
  rw [Finset.sum_range]
  refine Finset.sum_congr rfl fun c _ => ?_
  have e : (Idealize.ShloMosaic.ix2 r c : S16384x128.Idx) = ix2 r.val c.val := funext fun a => Fin.ext (by
    match a with
    | 0 => exact (Nat.mod_eq_of_lt r.isLt).symm
    | 1 => exact (Nat.mod_eq_of_lt c.isLt).symm)
  rw [e]
  rfl

/-- The reference's row sums. -/
theorem ref_row (r : ℕ) (hr : r < 16384) :
    (Host.reduceAdd (F := Ideal) P (constant S_ .f32 0x00000000#32) reducesTo_S16384x128_S16384_d1 h_S_ (ix1 r) : EReal)
      = ∑ c ∈ Finset.range 128, (P (ix2 r c) : EReal) := by
  refine (Ideal.hostReduceAdd_r2_a1 reducesTo_S16384x128_S16384_d1 _ _ (ix1 r)).trans ?_
  rw [zero_const, zero_add, Finset.sum_range]
  refine Finset.sum_congr rfl fun c _ => ?_
  refine congrArg P (funext fun a => Fin.ext ?_)
  match a with
  | 0 => rfl
  | 1 => exact (Nat.mod_eq_of_lt c.isLt).symm

/-- A row's update reads the row's own label. -/
theorem si_row (r : ℕ) (c : Fin scatter_S8_S16384x1_S16384_n_0_0_1.scatterDimsToOperandDims.length) :
    (scatter_S8_S16384x1_S16384_n_0_0_1.siIdx (ix1 r) c (0 : Fin S16384x1.rank)).val = (ix1 r 0).val := by
  unfold ScatterDims.siIdx
  split
  · next h => exact absurd h (by decide)
  · rfl

/-- A row's update lands on a label's element exactly when the row has that label. -/
theorem lands (hs : Small lab) (r : ℕ) (j : S8.Idx) :
    scatter_S8_S16384x1_S16384_n_0_0_1.resultIdx? (ix1 r) (broadcastInDim S16384x1 ![0] bcast_S16384_S16384x1_0 lab) = some j
      ↔ (lab (ix1 r)).toNat = (j 0).val := by
  have hst : scatter_S8_S16384x1_S16384_n_0_0_1.start (ix1 r) (broadcastInDim S16384x1 ![0] bcast_S16384_S16384x1_0 lab) 0 = (lab (ix1 r)).toInt := by
    unfold ScatterDims.start
    rw [dif_pos (by decide)]
    refine congrArg BitVec.toInt (broadcastInDim_apply _ _ _ _ (ix1 r) fun a => ?_)
    obtain rfl : a = 0 := Fin.eq_zero a
    rw [if_neg (by decide)]
    exact (si_row r _).symm
  have hw : scatter_S8_S16384x1_S16384_n_0_0_1.window (ix1 r) 0 = 0 := by rfl
  have hl := hs (ix1 r)
  have hi : (lab (ix1 r)).toInt = (lab (ix1 r)).toNat := by
    have := BitVec.toInt_eq_toNat_cond (lab (ix1 r))
    split at this <;> omega
  unfold ScatterDims.resultIdx?
  rw [dif_pos (fun a => by
    obtain rfl : a = 0 := Fin.eq_zero a
    rw [hst, hw, hi]
    show 0 ≤ ((lab (ix1 r)).toNat : Int) + ((0 : ℕ) : Int) ∧ ((lab (ix1 r)).toNat : Int) + ((0 : ℕ) : Int) < ((8 : ℕ) : Int)
    omega)]
  constructor
  · intro e
    have e0 := congrArg Fin.val (congrFun (Option.some.inj e) 0)
    dsimp only at e0
    rw [hst, hw, hi] at e0
    omega
  · intro e
    refine congrArg some (funext fun a => Fin.ext ?_)
    obtain rfl : a = 0 := Fin.eq_zero a
    dsimp only
    rw [hst, hw, hi]
    omega

/-- The reference's segment sums: at each label, the sum of the updates of the rows that have it. -/
theorem ref_seg (hs : Small lab) (u : FVec Ideal S16384 .f32) (j : S8.Idx) :
    (Host.scatterAdd (F := Ideal) scatter_S8_S16384x1_S16384_n_0_0_1 (broadcastInDim S8 ![] bcast_S_S8 (constant S_ .f32 0x00000000#32))
      (broadcastInDim S16384x1 ![0] bcast_S16384_S16384x1_0 lab) u j : EReal)
      = ∑ r ∈ Finset.range 16384, if (lab (ix1 r)).toNat = (j 0).val then (u (ix1 r) : EReal) else 0 := by
  show (constant (F := Ideal) S_ .f32 0x00000000#32 _ : EReal)
    + ∑ k ∈ Finset.univ.filter (fun k => scatter_S8_S16384x1_S16384_n_0_0_1.resultIdx? k (broadcastInDim S16384x1 ![0] bcast_S16384_S16384x1_0 lab) = some j), (u k : EReal) = _
  rw [zero_const, zero_add, Finset.sum_filter, Finset.sum_range]
  have hb : Function.Bijective (fun r : Fin 16384 => (ix1 r.val : S16384.Idx)) := by
    constructor
    · intro a b e
      have e0 : a.val % 16384 = b.val % 16384 := congrArg Fin.val (congrFun e 0)
      have := a.isLt; have := b.isLt
      exact Fin.ext (by omega)
    · intro k
      have hk : (k 0).val < 16384 := (k 0).isLt
      refine ⟨⟨(k 0).val, hk⟩, funext fun a => Fin.ext ?_⟩
      obtain rfl : a = 0 := Fin.eq_zero a
      exact Nat.mod_eq_of_lt hk
  refine (Function.Bijective.sum_comp hb _).symm.trans (Finset.sum_congr rfl fun r _ => ?_)
  exact if_congr (lands lab hs r.val j) rfl rfl

/-- The reference's result, from its arguments. -/
def lossOf : FVec Ideal S_ .f32 :=
  addf (Host.divf (Host.reduceAdd (mulf (subf P T) (subf P T)) (constant S_ .f32 0x00000000#32) reducesTo_S16384x128_S_d0_1 h_S_) (constant S_ .f32 0x4A000000#32))
    (mulf (constant S_ .f32 0x3F800000#32) (spread (means
      (Host.scatterAdd scatter_S8_S16384x1_S16384_n_0_0_1 (broadcastInDim S8 ![] bcast_S_S8 (constant S_ .f32 0x00000000#32))
        (broadcastInDim S16384x1 ![0] bcast_S16384_S16384x1_0 lab) (Host.reduceAdd P (constant S_ .f32 0x00000000#32) reducesTo_S16384x128_S16384_d1 h_S_))
      (Host.scatterAdd scatter_S8_S16384x1_S16384_n_0_0_1 (broadcastInDim S8 ![] bcast_S_S8 (constant S_ .f32 0x00000000#32))
        (broadcastInDim S16384x1 ![0] bcast_S16384_S16384x1_0 lab) (broadcastInDim S16384 ![] bcast_S_S16384 (constant S_ .f32 0x3F800000#32))))))

/-- From a right table, @main's operations compute the reference's result. -/
theorem res_eq (hs : Small lab) {o : FVec Ideal Cert.KernelIdeal.S32x272 .f32} (h : Right P T lab o) : resOf o = lossOf P T lab := by
  have e1 : sqSum o = Host.reduceAdd (F := Ideal) (mulf (subf P T) (subf P T)) (constant S_ .f32 0x00000000#32) reducesTo_S16384x128_S_d0_1 h_S_ :=
    funext fun i => (sqSum_val h i).trans (ref_sq P T i).symm
  have e2 : labSum o = Host.scatterAdd (F := Ideal) scatter_S8_S16384x1_S16384_n_0_0_1 (broadcastInDim S8 ![] bcast_S_S8 (constant S_ .f32 0x00000000#32))
        (broadcastInDim S16384x1 ![0] bcast_S16384_S16384x1_0 lab) (Host.reduceAdd P (constant S_ .f32 0x00000000#32) reducesTo_S16384x128_S16384_d1 h_S_) :=
    funext fun j => (labSum_val hs h j).trans ((ref_seg lab hs _ j).trans (Finset.sum_congr rfl fun r hr => by
      rw [ref_row P r (Finset.mem_range.1 hr)])).symm
  have e3 : labCnt o = Host.scatterAdd (F := Ideal) scatter_S8_S16384x1_S16384_n_0_0_1 (broadcastInDim S8 ![] bcast_S_S8 (constant S_ .f32 0x00000000#32))
        (broadcastInDim S16384x1 ![0] bcast_S16384_S16384x1_0 lab) (broadcastInDim S16384 ![] bcast_S_S16384 (constant S_ .f32 0x3F800000#32)) :=
    funext fun j => (labCnt_val hs h j).trans ((ref_seg lab hs _ j).trans (Finset.sum_congr rfl fun r _ =>
      if_congr Iff.rfl (one_const _) rfl)).symm
  unfold resOf lossOf
  rw [e1, e2, e3]
  have key : ∀ x : FVec Ideal S_ .f32, x = mulf (constant S_ .f32 0x3F800000#32) x := fun x => funext fun i => by
    show (x i : EReal) = (constant (F := Ideal) S_ .f32 0x3F800000#32 i : EReal) * x i
    rw [one_const, one_mul]
  exact congrArg (addf _) (key _)

end Cert.Loss
-- ==== Proof.Equal.lean ====
/- The kernel and the reference, over the extended reals, end with the same result. -/
module

public import proofs.«01_k».proof.Proof.Frames
public import proofs.«01_k».proof.Proof.Loss

@[expose] public section

noncomputable section

namespace Cert.Frames

open Cert.KernelIdeal.Gen Cert.Pre_labels_in_range.Gen Cert.ReferenceIdeal.Gen
open Cert.KernelIdeal.Run Cert.Tables Cert.Loss
open Idealize.ShloMosaic Idealize.SL.Sem

/-- The reference's frame, for the arguments the precondition admits. -/
theorem frame_reference_pre : Cert.quiescent_ReferenceIdeal_pre_labels_in_range := fun m ρ _ =>
  frame_reference m ρ trivial

/-- The kernel and the reference, from memories that agree on the arguments, both end with the reference's result
    and with their arguments unchanged. -/
theorem same_loss : Cert.algebraic_KernelIdeal_ReferenceIdeal := by
  intro m g m' g' hpre hag
  have hs := fun c => small_of_pre _ _ _ (hpre c)
  refine ⟨fun c => lossOf (m (pLoc c)) (m (tLoc c)) (m (lLoc c)), ?_, ?_⟩
  · refine (θ_run (Cert.KernelIdeal.defs (F := Ideal)) (Cert.KernelIdeal.threads (F := Ideal)) _).mono (fun _ h c => ?_) (run_main (F := Ideal) m g hs)
    obtain ⟨hp, ht, hl, o, ho, hr⟩ := h.1 c
    exact ⟨hr.trans (res_eq _ _ _ (hs c) (right_of_rows ho)), hp, ht, hl⟩
  · refine (θ_run (Cert.ReferenceIdeal.defs (F := Ideal)) _ _).mono (fun _ h c => ⟨(h c).1.trans ?_, (h c).2⟩) (Cert.ReferenceIdeal.Value.run (F := Ideal) m' g')
    obtain ⟨e0, e1, e2⟩ := hag c
    rw [e0, e1, e2]
    rfl

end Cert.Frames
-- ==== Proof.lean ====
module

public import proofs.«01_k».proof.Proof.Equal

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_labels_in_range.Gen.facts,
  Cert.Frames.frame_kernel, Cert.Frames.frame_ideal, Cert.Frames.frame_reference, Cert.Frames.frame_reference_pre, trivial,
  Cert.Frames.same_loss⟩

end Cert.Proof
